-- ==== Defs.lean ====
def Pre_DiscK (m : (ℓ : Loc Cert.DiscK.nD Cert.DiscK.τ Cert.DiscK.sig) → Buf (Elt Bits) ℓ) : Prop :=
  True

def Pre_DiscKIdeal (m : (ℓ : Loc Cert.DiscKIdeal.nD Cert.DiscKIdeal.τ Cert.DiscKIdeal.sig) → Buf (Elt Ideal) ℓ) : Prop :=
  True

def Pre_DiscRIdeal (m : (ℓ : Loc Cert.DiscRIdeal.nD Cert.DiscRIdeal.τ Cert.DiscRIdeal.sig) → Buf (Elt Ideal) ℓ) : Prop :=
  True

def Pre_PreBwd (m : (ℓ : Loc Cert.PreBwd.nD Cert.PreBwd.τ Cert.PreBwd.sig) → Buf (Elt Bits) ℓ) : Prop :=
  True

def Pre_PreBwdIdeal (m : (ℓ : Loc Cert.PreBwdIdeal.nD Cert.PreBwdIdeal.τ Cert.PreBwdIdeal.sig) → Buf (Elt Ideal) ℓ) : Prop :=
  True

def Pre_PreBwdIdeal_pre_finite [hPre_pre_finite : Cert.Pre_pre_finite.Facts] (m : (ℓ : Loc Cert.PreBwdIdeal.nD Cert.PreBwdIdeal.τ Cert.PreBwdIdeal.sig) → Buf (Elt Ideal) ℓ) : Prop :=
  ∀ c : Dev Cert.PreBwdIdeal.nD,
    (Cert.Pre_pre_finite.fn (F := Ideal) (m ((c.tc : Thread Cert.PreBwdIdeal.nD Cert.PreBwdIdeal.τ).loc Cert.PreBwdIdeal.main_arg0)) (m ((c.tc : Thread Cert.PreBwdIdeal.nD Cert.PreBwdIdeal.τ).loc Cert.PreBwdIdeal.main_arg1)) (m ((c.tc : Thread Cert.PreBwdIdeal.nD Cert.PreBwdIdeal.τ).loc Cert.PreBwdIdeal.main_arg2)) (m ((c.tc : Thread Cert.PreBwdIdeal.nD Cert.PreBwdIdeal.τ).loc Cert.PreBwdIdeal.main_arg3)) (m ((c.tc : Thread Cert.PreBwdIdeal.nD Cert.PreBwdIdeal.τ).loc Cert.PreBwdIdeal.main_arg4)) (m ((c.tc : Thread Cert.PreBwdIdeal.nD Cert.PreBwdIdeal.τ).loc Cert.PreBwdIdeal.main_arg5)) (m ((c.tc : Thread Cert.PreBwdIdeal.nD Cert.PreBwdIdeal.τ).loc Cert.PreBwdIdeal.main_arg6)) (m ((c.tc : Thread Cert.PreBwdIdeal.nD Cert.PreBwdIdeal.τ).loc Cert.PreBwdIdeal.main_arg7)) (m ((c.tc : Thread Cert.PreBwdIdeal.nD Cert.PreBwdIdeal.τ).loc Cert.PreBwdIdeal.main_arg8)) (m ((c.tc : Thread Cert.PreBwdIdeal.nD Cert.PreBwdIdeal.τ).loc Cert.PreBwdIdeal.main_arg9)) (m ((c.tc : Thread Cert.PreBwdIdeal.nD Cert.PreBwdIdeal.τ).loc Cert.PreBwdIdeal.main_arg10)) (m ((c.tc : Thread Cert.PreBwdIdeal.nD Cert.PreBwdIdeal.τ).loc Cert.PreBwdIdeal.main_arg11))) = (fun _ => 1#1)

def Pre_PreRefIdeal (m : (ℓ : Loc Cert.PreRefIdeal.nD Cert.PreRefIdeal.τ Cert.PreRefIdeal.sig) → Buf (Elt Ideal) ℓ) : Prop :=
  True

def Pre_PreRefIdeal_pre_finite [hPre_pre_finite : Cert.Pre_pre_finite.Facts] (m : (ℓ : Loc Cert.PreRefIdeal.nD Cert.PreRefIdeal.τ Cert.PreRefIdeal.sig) → Buf (Elt Ideal) ℓ) : Prop :=
  ∀ c : Dev Cert.PreRefIdeal.nD,
    (Cert.Pre_pre_finite.fn (F := Ideal) (m ((c.tc : Thread Cert.PreRefIdeal.nD Cert.PreRefIdeal.τ).loc Cert.PreRefIdeal.main_arg0)) (m ((c.tc : Thread Cert.PreRefIdeal.nD Cert.PreRefIdeal.τ).loc Cert.PreRefIdeal.main_arg1)) (m ((c.tc : Thread Cert.PreRefIdeal.nD Cert.PreRefIdeal.τ).loc Cert.PreRefIdeal.main_arg2)) (m ((c.tc : Thread Cert.PreRefIdeal.nD Cert.PreRefIdeal.τ).loc Cert.PreRefIdeal.main_arg3)) (m ((c.tc : Thread Cert.PreRefIdeal.nD Cert.PreRefIdeal.τ).loc Cert.PreRefIdeal.main_arg4)) (m ((c.tc : Thread Cert.PreRefIdeal.nD Cert.PreRefIdeal.τ).loc Cert.PreRefIdeal.main_arg5)) (m ((c.tc : Thread Cert.PreRefIdeal.nD Cert.PreRefIdeal.τ).loc Cert.PreRefIdeal.main_arg6)) (m ((c.tc : Thread Cert.PreRefIdeal.nD Cert.PreRefIdeal.τ).loc Cert.PreRefIdeal.main_arg7)) (m ((c.tc : Thread Cert.PreRefIdeal.nD Cert.PreRefIdeal.τ).loc Cert.PreRefIdeal.main_arg8)) (m ((c.tc : Thread Cert.PreRefIdeal.nD Cert.PreRefIdeal.τ).loc Cert.PreRefIdeal.main_arg9)) (m ((c.tc : Thread Cert.PreRefIdeal.nD Cert.PreRefIdeal.τ).loc Cert.PreRefIdeal.main_arg10)) (m ((c.tc : Thread Cert.PreRefIdeal.nD Cert.PreRefIdeal.τ).loc Cert.PreRefIdeal.main_arg11))) = (fun _ => 1#1)

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadIdeal_head_finite [hPre_head_finite : Cert.Pre_head_finite.Facts] (m : (ℓ : Loc Cert.HeadIdeal.nD Cert.HeadIdeal.τ Cert.HeadIdeal.sig) → Buf (Elt Ideal) ℓ) : Prop :=
  ∀ c : Dev Cert.HeadIdeal.nD,
    (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6))) = (fun _ => 1#1)

def Pre_HeadRefIdeal (m : (ℓ : Loc Cert.HeadRefIdeal.nD Cert.HeadRefIdeal.τ Cert.HeadRefIdeal.sig) → Buf (Elt Ideal) ℓ) : Prop :=
  True

def Pre_HeadRefIdeal_head_finite [hPre_head_finite : Cert.Pre_head_finite.Facts] (m : (ℓ : Loc Cert.HeadRefIdeal.nD Cert.HeadRefIdeal.τ Cert.HeadRefIdeal.sig) → Buf (Elt Ideal) ℓ) : Prop :=
  ∀ c : Dev Cert.HeadRefIdeal.nD,
    (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6))) = (fun _ => 1#1)

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_ffn_finite [hPre_ffn_finite : Cert.Pre_ffn_finite.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))) = (fun _ => 1#1)

def Pre_GlaBwd (m : (ℓ : Loc Cert.GlaBwd.nD Cert.GlaBwd.τ Cert.GlaBwd.sig) → Buf (Elt Bits) ℓ) : Prop :=
  True

def Pre_GlaBwdIdeal (m : (ℓ : Loc Cert.GlaBwdIdeal.nD Cert.GlaBwdIdeal.τ Cert.GlaBwdIdeal.sig) → Buf (Elt Ideal) ℓ) : Prop :=
  True

def Pre_GlaFwd (m : (ℓ : Loc Cert.GlaFwd.nD Cert.GlaFwd.τ Cert.GlaFwd.sig) → Buf (Elt Bits) ℓ) : Prop :=
  True

def Pre_GlaFwdIdeal (m : (ℓ : Loc Cert.GlaFwdIdeal.nD Cert.GlaFwdIdeal.τ Cert.GlaFwdIdeal.sig) → Buf (Elt Ideal) ℓ) : Prop :=
  True

def Pre_GlaFwdIdeal_gla_finite [hPre_gla_finite : Cert.Pre_gla_finite.Facts] (m : (ℓ : Loc Cert.GlaFwdIdeal.nD Cert.GlaFwdIdeal.τ Cert.GlaFwdIdeal.sig) → Buf (Elt Ideal) ℓ) : Prop :=
  ∀ c : Dev Cert.GlaFwdIdeal.nD,
    (Cert.Pre_gla_finite.fn (F := Ideal) (m ((c.tc : Thread Cert.GlaFwdIdeal.nD Cert.GlaFwdIdeal.τ).loc Cert.GlaFwdIdeal.main_arg0)) (m ((c.tc : Thread Cert.GlaFwdIdeal.nD Cert.GlaFwdIdeal.τ).loc Cert.GlaFwdIdeal.main_arg1)) (m ((c.tc : Thread Cert.GlaFwdIdeal.nD Cert.GlaFwdIdeal.τ).loc Cert.GlaFwdIdeal.main_arg2)) (m ((c.tc : Thread Cert.GlaFwdIdeal.nD Cert.GlaFwdIdeal.τ).loc Cert.GlaFwdIdeal.main_arg3)) (m ((c.tc : Thread Cert.GlaFwdIdeal.nD Cert.GlaFwdIdeal.τ).loc Cert.GlaFwdIdeal.main_arg4)) (m ((c.tc : Thread Cert.GlaFwdIdeal.nD Cert.GlaFwdIdeal.τ).loc Cert.GlaFwdIdeal.main_arg5))) = (fun _ => 1#1)

def Pre_GlaFrefIdeal (m : (ℓ : Loc Cert.GlaFrefIdeal.nD Cert.GlaFrefIdeal.τ Cert.GlaFrefIdeal.sig) → Buf (Elt Ideal) ℓ) : Prop :=
  True

def Pre_GlaFrefIdeal_gla_finite [hPre_gla_finite : Cert.Pre_gla_finite.Facts] (m : (ℓ : Loc Cert.GlaFrefIdeal.nD Cert.GlaFrefIdeal.τ Cert.GlaFrefIdeal.sig) → Buf (Elt Ideal) ℓ) : Prop :=
  ∀ c : Dev Cert.GlaFrefIdeal.nD,
    (Cert.Pre_gla_finite.fn (F := Ideal) (m ((c.tc : Thread Cert.GlaFrefIdeal.nD Cert.GlaFrefIdeal.τ).loc Cert.GlaFrefIdeal.main_arg0)) (m ((c.tc : Thread Cert.GlaFrefIdeal.nD Cert.GlaFrefIdeal.τ).loc Cert.GlaFrefIdeal.main_arg1)) (m ((c.tc : Thread Cert.GlaFrefIdeal.nD Cert.GlaFrefIdeal.τ).loc Cert.GlaFrefIdeal.main_arg2)) (m ((c.tc : Thread Cert.GlaFrefIdeal.nD Cert.GlaFrefIdeal.τ).loc Cert.GlaFrefIdeal.main_arg3)) (m ((c.tc : Thread Cert.GlaFrefIdeal.nD Cert.GlaFrefIdeal.τ).loc Cert.GlaFrefIdeal.main_arg4)) (m ((c.tc : Thread Cert.GlaFrefIdeal.nD Cert.GlaFrefIdeal.τ).loc Cert.GlaFrefIdeal.main_arg5))) = (fun _ => 1#1)

def Pre_S5Disc (m : (ℓ : Loc Cert.S5Disc.nD Cert.S5Disc.τ Cert.S5Disc.sig) → Buf (Elt Bits) ℓ) : Prop :=
  True

def Pre_S5DiscIdeal (m : (ℓ : Loc Cert.S5DiscIdeal.nD Cert.S5DiscIdeal.τ Cert.S5DiscIdeal.sig) → Buf (Elt Ideal) ℓ) : Prop :=
  True

def Pre_S5DiscRefIdeal (m : (ℓ : Loc Cert.S5DiscRefIdeal.nD Cert.S5DiscRefIdeal.τ Cert.S5DiscRefIdeal.sig) → Buf (Elt Ideal) ℓ) : Prop :=
  True

def Pre_PreFwd (m : (ℓ : Loc Cert.PreFwd.nD Cert.PreFwd.τ Cert.PreFwd.sig) → Buf (Elt Bits) ℓ) : Prop :=
  True

def Pre_PreFwdIdeal (m : (ℓ : Loc Cert.PreFwdIdeal.nD Cert.PreFwdIdeal.τ Cert.PreFwdIdeal.sig) → Buf (Elt Ideal) ℓ) : Prop :=
  True

def Pre_PreFrefIdeal (m : (ℓ : Loc Cert.PreFrefIdeal.nD Cert.PreFrefIdeal.τ Cert.PreFrefIdeal.sig) → Buf (Elt Ideal) ℓ) : Prop :=
  True

def Pre_PostFwd (m : (ℓ : Loc Cert.PostFwd.nD Cert.PostFwd.τ Cert.PostFwd.sig) → Buf (Elt Bits) ℓ) : Prop :=
  True

def Pre_PostFwdIdeal (m : (ℓ : Loc Cert.PostFwdIdeal.nD Cert.PostFwdIdeal.τ Cert.PostFwdIdeal.sig) → Buf (Elt Ideal) ℓ) : Prop :=
  True

def Pre_PostFrefIdeal (m : (ℓ : Loc Cert.PostFrefIdeal.nD Cert.PostFrefIdeal.τ Cert.PostFrefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFrefIdeal (m : (ℓ : Loc Cert.FfnFrefIdeal.nD Cert.FfnFrefIdeal.τ Cert.FfnFrefIdeal.sig) → Buf (Elt Ideal) ℓ) : Prop :=
  True

def Pre_Dwin (m : (ℓ : Loc Cert.Dwin.nD Cert.Dwin.τ Cert.Dwin.sig) → Buf (Elt Bits) ℓ) : Prop :=
  True

def Pre_DwinIdeal (m : (ℓ : Loc Cert.DwinIdeal.nD Cert.DwinIdeal.τ Cert.DwinIdeal.sig) → Buf (Elt Ideal) ℓ) : Prop :=
  True

def Pre_DwinRefIdeal (m : (ℓ : Loc Cert.DwinRefIdeal.nD Cert.DwinRefIdeal.τ Cert.DwinRefIdeal.sig) → Buf (Elt Ideal) ℓ) : Prop :=
  True

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Slabs (m : (ℓ : Loc Cert.Slabs.nD Cert.Slabs.τ Cert.Slabs.sig) → Buf (Elt Bits) ℓ) : Prop :=
  True

def Pre_SlabsIdeal (m : (ℓ : Loc Cert.SlabsIdeal.nD Cert.SlabsIdeal.τ Cert.SlabsIdeal.sig) → Buf (Elt Ideal) ℓ) : Prop :=
  True

def Pre_SlabsRefIdeal (m : (ℓ : Loc Cert.SlabsRefIdeal.nD Cert.SlabsRefIdeal.τ Cert.SlabsRefIdeal.sig) → Buf (Elt Ideal) ℓ) : Prop :=
  True

def quiescent_DiscK [hDiscK : Cert.DiscK.Facts] : Prop :=
  ∀ (m : (ℓ : Loc Cert.DiscK.nD Cert.DiscK.τ Cert.DiscK.sig) → Buf (Elt Bits) ℓ) (g : Dev Cert.DiscK.nD → PrngReg), Pre_DiscK m →
    θ_run (Cert.DiscK.defs (F := Bits)) (onTc (τ := Cert.DiscK.τ) (Cert.DiscK.main (F := Bits))) ⟨m, fun _ => 0, g⟩ (fun r => (∀ c : Dev Cert.DiscK.nD,
      r.2.mem ((c.tc : Thread Cert.DiscK.nD Cert.DiscK.τ).loc Cert.DiscK.main_arg0) = m ((c.tc : Thread Cert.DiscK.nD Cert.DiscK.τ).loc Cert.DiscK.main_arg0)
      ∧ r.2.mem ((c.tc : Thread Cert.DiscK.nD Cert.DiscK.τ).loc Cert.DiscK.main_arg1) = m ((c.tc : Thread Cert.DiscK.nD Cert.DiscK.τ).loc Cert.DiscK.main_arg1)
      ∧ r.2.mem ((c.tc : Thread Cert.DiscK.nD Cert.DiscK.τ).loc Cert.DiscK.main_arg2) = m ((c.tc : Thread Cert.DiscK.nD Cert.DiscK.τ).loc Cert.DiscK.main_arg2)
      ∧ r.2.mem ((c.tc : Thread Cert.DiscK.nD Cert.DiscK.τ).loc Cert.DiscK.main_arg3) = m ((c.tc : Thread Cert.DiscK.nD Cert.DiscK.τ).loc Cert.DiscK.main_arg3)
      ∧ r.2.mem ((c.tc : Thread Cert.DiscK.nD Cert.DiscK.τ).loc Cert.DiscK.main_arg4) = m ((c.tc : Thread Cert.DiscK.nD Cert.DiscK.τ).loc Cert.DiscK.main_arg4)
      ∧ r.2.mem ((c.tc : Thread Cert.DiscK.nD Cert.DiscK.τ).loc Cert.DiscK.main_arg5) = m ((c.tc : Thread Cert.DiscK.nD Cert.DiscK.τ).loc Cert.DiscK.main_arg5)
      ∧ r.2.mem ((c.tc : Thread Cert.DiscK.nD Cert.DiscK.τ).loc Cert.DiscK.main_arg6) = m ((c.tc : Thread Cert.DiscK.nD Cert.DiscK.τ).loc Cert.DiscK.main_arg6)
      ∧ r.2.mem ((c.tc : Thread Cert.DiscK.nD Cert.DiscK.τ).loc Cert.DiscK.main_arg7) = m ((c.tc : Thread Cert.DiscK.nD Cert.DiscK.τ).loc Cert.DiscK.main_arg7)
      ∧ r.2.mem ((c.tc : Thread Cert.DiscK.nD Cert.DiscK.τ).loc Cert.DiscK.main_arg8) = m ((c.tc : Thread Cert.DiscK.nD Cert.DiscK.τ).loc Cert.DiscK.main_arg8))
      ∧ r.2.sem = fun _ => 0)

def quiescent_DiscKIdeal [hDiscKIdeal : Cert.DiscKIdeal.Facts] : Prop :=
  ∀ (m : (ℓ : Loc Cert.DiscKIdeal.nD Cert.DiscKIdeal.τ Cert.DiscKIdeal.sig) → Buf (Elt Ideal) ℓ) (g : Dev Cert.DiscKIdeal.nD → PrngReg), Pre_DiscKIdeal m →
    θ_run (Cert.DiscKIdeal.defs (F := Ideal)) (onTc (τ := Cert.DiscKIdeal.τ) (Cert.DiscKIdeal.main (F := Ideal))) ⟨m, fun _ => 0, g⟩ (fun r => (∀ c : Dev Cert.DiscKIdeal.nD,
      r.2.mem ((c.tc : Thread Cert.DiscKIdeal.nD Cert.DiscKIdeal.τ).loc Cert.DiscKIdeal.main_arg0) = m ((c.tc : Thread Cert.DiscKIdeal.nD Cert.DiscKIdeal.τ).loc Cert.DiscKIdeal.main_arg0)
      ∧ r.2.mem ((c.tc : Thread Cert.DiscKIdeal.nD Cert.DiscKIdeal.τ).loc Cert.DiscKIdeal.main_arg1) = m ((c.tc : Thread Cert.DiscKIdeal.nD Cert.DiscKIdeal.τ).loc Cert.DiscKIdeal.main_arg1)
      ∧ r.2.mem ((c.tc : Thread Cert.DiscKIdeal.nD Cert.DiscKIdeal.τ).loc Cert.DiscKIdeal.main_arg2) = m ((c.tc : Thread Cert.DiscKIdeal.nD Cert.DiscKIdeal.τ).loc Cert.DiscKIdeal.main_arg2)
      ∧ r.2.mem ((c.tc : Thread Cert.DiscKIdeal.nD Cert.DiscKIdeal.τ).loc Cert.DiscKIdeal.main_arg3) = m ((c.tc : Thread Cert.DiscKIdeal.nD Cert.DiscKIdeal.τ).loc Cert.DiscKIdeal.main_arg3)
      ∧ r.2.mem ((c.tc : Thread Cert.DiscKIdeal.nD Cert.DiscKIdeal.τ).loc Cert.DiscKIdeal.main_arg4) = m ((c.tc : Thread Cert.DiscKIdeal.nD Cert.DiscKIdeal.τ).loc Cert.DiscKIdeal.main_arg4)
      ∧ r.2.mem ((c.tc : Thread Cert.DiscKIdeal.nD Cert.DiscKIdeal.τ).loc Cert.DiscKIdeal.main_arg5) = m ((c.tc : Thread Cert.DiscKIdeal.nD Cert.DiscKIdeal.τ).loc Cert.DiscKIdeal.main_arg5)
      ∧ r.2.mem ((c.tc : Thread Cert.DiscKIdeal.nD Cert.DiscKIdeal.τ).loc Cert.DiscKIdeal.main_arg6) = m ((c.tc : Thread Cert.DiscKIdeal.nD Cert.DiscKIdeal.τ).loc Cert.DiscKIdeal.main_arg6)
      ∧ r.2.mem ((c.tc : Thread Cert.DiscKIdeal.nD Cert.DiscKIdeal.τ).loc Cert.DiscKIdeal.main_arg7) = m ((c.tc : Thread Cert.DiscKIdeal.nD Cert.DiscKIdeal.τ).loc Cert.DiscKIdeal.main_arg7)
      ∧ r.2.mem ((c.tc : Thread Cert.DiscKIdeal.nD Cert.DiscKIdeal.τ).loc Cert.DiscKIdeal.main_arg8) = m ((c.tc : Thread Cert.DiscKIdeal.nD Cert.DiscKIdeal.τ).loc Cert.DiscKIdeal.main_arg8))
      ∧ r.2.sem = fun _ => 0)

def quiescent_DiscRIdeal [hDiscRIdeal : Cert.DiscRIdeal.Facts] : Prop :=
  ∀ (m : (ℓ : Loc Cert.DiscRIdeal.nD Cert.DiscRIdeal.τ Cert.DiscRIdeal.sig) → Buf (Elt Ideal) ℓ) (g : Dev Cert.DiscRIdeal.nD → PrngReg), Pre_DiscRIdeal m →
    θ_run (Cert.DiscRIdeal.defs (F := Ideal)) (onTc (τ := Cert.DiscRIdeal.τ) (Cert.DiscRIdeal.main (F := Ideal))) ⟨m, fun _ => 0, g⟩ (fun r => (∀ c : Dev Cert.DiscRIdeal.nD,
      r.2.mem ((c.tc : Thread Cert.DiscRIdeal.nD Cert.DiscRIdeal.τ).loc Cert.DiscRIdeal.main_arg0) = m ((c.tc : Thread Cert.DiscRIdeal.nD Cert.DiscRIdeal.τ).loc Cert.DiscRIdeal.main_arg0)
      ∧ r.2.mem ((c.tc : Thread Cert.DiscRIdeal.nD Cert.DiscRIdeal.τ).loc Cert.DiscRIdeal.main_arg1) = m ((c.tc : Thread Cert.DiscRIdeal.nD Cert.DiscRIdeal.τ).loc Cert.DiscRIdeal.main_arg1)
      ∧ r.2.mem ((c.tc : Thread Cert.DiscRIdeal.nD Cert.DiscRIdeal.τ).loc Cert.DiscRIdeal.main_arg2) = m ((c.tc : Thread Cert.DiscRIdeal.nD Cert.DiscRIdeal.τ).loc Cert.DiscRIdeal.main_arg2)
      ∧ r.2.mem ((c.tc : Thread Cert.DiscRIdeal.nD Cert.DiscRIdeal.τ).loc Cert.DiscRIdeal.main_arg3) = m ((c.tc : Thread Cert.DiscRIdeal.nD Cert.DiscRIdeal.τ).loc Cert.DiscRIdeal.main_arg3)
      ∧ r.2.mem ((c.tc : Thread Cert.DiscRIdeal.nD Cert.DiscRIdeal.τ).loc Cert.DiscRIdeal.main_arg4) = m ((c.tc : Thread Cert.DiscRIdeal.nD Cert.DiscRIdeal.τ).loc Cert.DiscRIdeal.main_arg4)
      ∧ r.2.mem ((c.tc : Thread Cert.DiscRIdeal.nD Cert.DiscRIdeal.τ).loc Cert.DiscRIdeal.main_arg5) = m ((c.tc : Thread Cert.DiscRIdeal.nD Cert.DiscRIdeal.τ).loc Cert.DiscRIdeal.main_arg5)
      ∧ r.2.mem ((c.tc : Thread Cert.DiscRIdeal.nD Cert.DiscRIdeal.τ).loc Cert.DiscRIdeal.main_arg6) = m ((c.tc : Thread Cert.DiscRIdeal.nD Cert.DiscRIdeal.τ).loc Cert.DiscRIdeal.main_arg6)
      ∧ r.2.mem ((c.tc : Thread Cert.DiscRIdeal.nD Cert.DiscRIdeal.τ).loc Cert.DiscRIdeal.main_arg7) = m ((c.tc : Thread Cert.DiscRIdeal.nD Cert.DiscRIdeal.τ).loc Cert.DiscRIdeal.main_arg7)
      ∧ r.2.mem ((c.tc : Thread Cert.DiscRIdeal.nD Cert.DiscRIdeal.τ).loc Cert.DiscRIdeal.main_arg8) = m ((c.tc : Thread Cert.DiscRIdeal.nD Cert.DiscRIdeal.τ).loc Cert.DiscRIdeal.main_arg8))
      ∧ r.2.sem = fun _ => 0)

def quiescent_PreBwd [hPreBwd : Cert.PreBwd.Facts] : Prop :=
  ∀ (m : (ℓ : Loc Cert.PreBwd.nD Cert.PreBwd.τ Cert.PreBwd.sig) → Buf (Elt Bits) ℓ) (g : Dev Cert.PreBwd.nD → PrngReg), Pre_PreBwd m →
    θ_run (Cert.PreBwd.defs (F := Bits)) (onTc (τ := Cert.PreBwd.τ) (Cert.PreBwd.main (F := Bits))) ⟨m, fun _ => 0, g⟩ (fun r => (∀ c : Dev Cert.PreBwd.nD,
      r.2.mem ((c.tc : Thread Cert.PreBwd.nD Cert.PreBwd.τ).loc Cert.PreBwd.main_arg0) = m ((c.tc : Thread Cert.PreBwd.nD Cert.PreBwd.τ).loc Cert.PreBwd.main_arg0)
      ∧ r.2.mem ((c.tc : Thread Cert.PreBwd.nD Cert.PreBwd.τ).loc Cert.PreBwd.main_arg1) = m ((c.tc : Thread Cert.PreBwd.nD Cert.PreBwd.τ).loc Cert.PreBwd.main_arg1)
      ∧ r.2.mem ((c.tc : Thread Cert.PreBwd.nD Cert.PreBwd.τ).loc Cert.PreBwd.main_arg2) = m ((c.tc : Thread Cert.PreBwd.nD Cert.PreBwd.τ).loc Cert.PreBwd.main_arg2)
      ∧ r.2.mem ((c.tc : Thread Cert.PreBwd.nD Cert.PreBwd.τ).loc Cert.PreBwd.main_arg3) = m ((c.tc : Thread Cert.PreBwd.nD Cert.PreBwd.τ).loc Cert.PreBwd.main_arg3)
      ∧ r.2.mem ((c.tc : Thread Cert.PreBwd.nD Cert.PreBwd.τ).loc Cert.PreBwd.main_arg4) = m ((c.tc : Thread Cert.PreBwd.nD Cert.PreBwd.τ).loc Cert.PreBwd.main_arg4)
      ∧ r.2.mem ((c.tc : Thread Cert.PreBwd.nD Cert.PreBwd.τ).loc Cert.PreBwd.main_arg5) = m ((c.tc : Thread Cert.PreBwd.nD Cert.PreBwd.τ).loc Cert.PreBwd.main_arg5)
      ∧ r.2.mem ((c.tc : Thread Cert.PreBwd.nD Cert.PreBwd.τ).loc Cert.PreBwd.main_arg6) = m ((c.tc : Thread Cert.PreBwd.nD Cert.PreBwd.τ).loc Cert.PreBwd.main_arg6)
      ∧ r.2.mem ((c.tc : Thread Cert.PreBwd.nD Cert.PreBwd.τ).loc Cert.PreBwd.main_arg7) = m ((c.tc : Thread Cert.PreBwd.nD Cert.PreBwd.τ).loc Cert.PreBwd.main_arg7)
      ∧ r.2.mem ((c.tc : Thread Cert.PreBwd.nD Cert.PreBwd.τ).loc Cert.PreBwd.main_arg8) = m ((c.tc : Thread Cert.PreBwd.nD Cert.PreBwd.τ).loc Cert.PreBwd.main_arg8)
      ∧ r.2.mem ((c.tc : Thread Cert.PreBwd.nD Cert.PreBwd.τ).loc Cert.PreBwd.main_arg9) = m ((c.tc : Thread Cert.PreBwd.nD Cert.PreBwd.τ).loc Cert.PreBwd.main_arg9)
      ∧ r.2.mem ((c.tc : Thread Cert.PreBwd.nD Cert.PreBwd.τ).loc Cert.PreBwd.main_arg10) = m ((c.tc : Thread Cert.PreBwd.nD Cert.PreBwd.τ).loc Cert.PreBwd.main_arg10)
      ∧ r.2.mem ((c.tc : Thread Cert.PreBwd.nD Cert.PreBwd.τ).loc Cert.PreBwd.main_arg11) = m ((c.tc : Thread Cert.PreBwd.nD Cert.PreBwd.τ).loc Cert.PreBwd.main_arg11))
      ∧ r.2.sem = fun _ => 0)

def quiescent_PreBwdIdeal [hPreBwdIdeal : Cert.PreBwdIdeal.Facts] : Prop :=
  ∀ (m : (ℓ : Loc Cert.PreBwdIdeal.nD Cert.PreBwdIdeal.τ Cert.PreBwdIdeal.sig) → Buf (Elt Ideal) ℓ) (g : Dev Cert.PreBwdIdeal.nD → PrngReg), Pre_PreBwdIdeal m →
    θ_run (Cert.PreBwdIdeal.defs (F := Ideal)) (onTc (τ := Cert.PreBwdIdeal.τ) (Cert.PreBwdIdeal.main (F := Ideal))) ⟨m, fun _ => 0, g⟩ (fun r => (∀ c : Dev Cert.PreBwdIdeal.nD,
      r.2.mem ((c.tc : Thread Cert.PreBwdIdeal.nD Cert.PreBwdIdeal.τ).loc Cert.PreBwdIdeal.main_arg0) = m ((c.tc : Thread Cert.PreBwdIdeal.nD Cert.PreBwdIdeal.τ).loc Cert.PreBwdIdeal.main_arg0)
      ∧ r.2.mem ((c.tc : Thread Cert.PreBwdIdeal.nD Cert.PreBwdIdeal.τ).loc Cert.PreBwdIdeal.main_arg1) = m ((c.tc : Thread Cert.PreBwdIdeal.nD Cert.PreBwdIdeal.τ).loc Cert.PreBwdIdeal.main_arg1)
      ∧ r.2.mem ((c.tc : Thread Cert.PreBwdIdeal.nD Cert.PreBwdIdeal.τ).loc Cert.PreBwdIdeal.main_arg2) = m ((c.tc : Thread Cert.PreBwdIdeal.nD Cert.PreBwdIdeal.τ).loc Cert.PreBwdIdeal.main_arg2)
      ∧ r.2.mem ((c.tc : Thread Cert.PreBwdIdeal.nD Cert.PreBwdIdeal.τ).loc Cert.PreBwdIdeal.main_arg3) = m ((c.tc : Thread Cert.PreBwdIdeal.nD Cert.PreBwdIdeal.τ).loc Cert.PreBwdIdeal.main_arg3)
      ∧ r.2.mem ((c.tc : Thread Cert.PreBwdIdeal.nD Cert.PreBwdIdeal.τ).loc Cert.PreBwdIdeal.main_arg4) = m ((c.tc : Thread Cert.PreBwdIdeal.nD Cert.PreBwdIdeal.τ).loc Cert.PreBwdIdeal.main_arg4)
      ∧ r.2.mem ((c.tc : Thread Cert.PreBwdIdeal.nD Cert.PreBwdIdeal.τ).loc Cert.PreBwdIdeal.main_arg5) = m ((c.tc : Thread Cert.PreBwdIdeal.nD Cert.PreBwdIdeal.τ).loc Cert.PreBwdIdeal.main_arg5)
      ∧ r.2.mem ((c.tc : Thread Cert.PreBwdIdeal.nD Cert.PreBwdIdeal.τ).loc Cert.PreBwdIdeal.main_arg6) = m ((c.tc : Thread Cert.PreBwdIdeal.nD Cert.PreBwdIdeal.τ).loc Cert.PreBwdIdeal.main_arg6)
      ∧ r.2.mem ((c.tc : Thread Cert.PreBwdIdeal.nD Cert.PreBwdIdeal.τ).loc Cert.PreBwdIdeal.main_arg7) = m ((c.tc : Thread Cert.PreBwdIdeal.nD Cert.PreBwdIdeal.τ).loc Cert.PreBwdIdeal.main_arg7)
      ∧ r.2.mem ((c.tc : Thread Cert.PreBwdIdeal.nD Cert.PreBwdIdeal.τ).loc Cert.PreBwdIdeal.main_arg8) = m ((c.tc : Thread Cert.PreBwdIdeal.nD Cert.PreBwdIdeal.τ).loc Cert.PreBwdIdeal.main_arg8)
      ∧ r.2.mem ((c.tc : Thread Cert.PreBwdIdeal.nD Cert.PreBwdIdeal.τ).loc Cert.PreBwdIdeal.main_arg9) = m ((c.tc : Thread Cert.PreBwdIdeal.nD Cert.PreBwdIdeal.τ).loc Cert.PreBwdIdeal.main_arg9)
      ∧ r.2.mem ((c.tc : Thread Cert.PreBwdIdeal.nD Cert.PreBwdIdeal.τ).loc Cert.PreBwdIdeal.main_arg10) = m ((c.tc : Thread Cert.PreBwdIdeal.nD Cert.PreBwdIdeal.τ).loc Cert.PreBwdIdeal.main_arg10)
      ∧ r.2.mem ((c.tc : Thread Cert.PreBwdIdeal.nD Cert.PreBwdIdeal.τ).loc Cert.PreBwdIdeal.main_arg11) = m ((c.tc : Thread Cert.PreBwdIdeal.nD Cert.PreBwdIdeal.τ).loc Cert.PreBwdIdeal.main_arg11))
      ∧ r.2.sem = fun _ => 0)

def quiescent_PreBwdIdeal_pre_pre_finite [hPreBwdIdeal : Cert.PreBwdIdeal.Facts] [hPre_pre_finite : Cert.Pre_pre_finite.Facts] : Prop :=
  ∀ (m : (ℓ : Loc Cert.PreBwdIdeal.nD Cert.PreBwdIdeal.τ Cert.PreBwdIdeal.sig) → Buf (Elt Ideal) ℓ) (g : Dev Cert.PreBwdIdeal.nD → PrngReg), Pre_PreBwdIdeal_pre_finite m →
    θ_run (Cert.PreBwdIdeal.defs (F := Ideal)) (onTc (τ := Cert.PreBwdIdeal.τ) (Cert.PreBwdIdeal.main (F := Ideal))) ⟨m, fun _ => 0, g⟩ (fun r => (∀ c : Dev Cert.PreBwdIdeal.nD,
      r.2.mem ((c.tc : Thread Cert.PreBwdIdeal.nD Cert.PreBwdIdeal.τ).loc Cert.PreBwdIdeal.main_arg0) = m ((c.tc : Thread Cert.PreBwdIdeal.nD Cert.PreBwdIdeal.τ).loc Cert.PreBwdIdeal.main_arg0)
      ∧ r.2.mem ((c.tc : Thread Cert.PreBwdIdeal.nD Cert.PreBwdIdeal.τ).loc Cert.PreBwdIdeal.main_arg1) = m ((c.tc : Thread Cert.PreBwdIdeal.nD Cert.PreBwdIdeal.τ).loc Cert.PreBwdIdeal.main_arg1)
      ∧ r.2.mem ((c.tc : Thread Cert.PreBwdIdeal.nD Cert.PreBwdIdeal.τ).loc Cert.PreBwdIdeal.main_arg2) = m ((c.tc : Thread Cert.PreBwdIdeal.nD Cert.PreBwdIdeal.τ).loc Cert.PreBwdIdeal.main_arg2)
      ∧ r.2.mem ((c.tc : Thread Cert.PreBwdIdeal.nD Cert.PreBwdIdeal.τ).loc Cert.PreBwdIdeal.main_arg3) = m ((c.tc : Thread Cert.PreBwdIdeal.nD Cert.PreBwdIdeal.τ).loc Cert.PreBwdIdeal.main_arg3)
      ∧ r.2.mem ((c.tc : Thread Cert.PreBwdIdeal.nD Cert.PreBwdIdeal.τ).loc Cert.PreBwdIdeal.main_arg4) = m ((c.tc : Thread Cert.PreBwdIdeal.nD Cert.PreBwdIdeal.τ).loc Cert.PreBwdIdeal.main_arg4)
      ∧ r.2.mem ((c.tc : Thread Cert.PreBwdIdeal.nD Cert.PreBwdIdeal.τ).loc Cert.PreBwdIdeal.main_arg5) = m ((c.tc : Thread Cert.PreBwdIdeal.nD Cert.PreBwdIdeal.τ).loc Cert.PreBwdIdeal.main_arg5)
      ∧ r.2.mem ((c.tc : Thread Cert.PreBwdIdeal.nD Cert.PreBwdIdeal.τ).loc Cert.PreBwdIdeal.main_arg6) = m ((c.tc : Thread Cert.PreBwdIdeal.nD Cert.PreBwdIdeal.τ).loc Cert.PreBwdIdeal.main_arg6)
      ∧ r.2.mem ((c.tc : Thread Cert.PreBwdIdeal.nD Cert.PreBwdIdeal.τ).loc Cert.PreBwdIdeal.main_arg7) = m ((c.tc : Thread Cert.PreBwdIdeal.nD Cert.PreBwdIdeal.τ).loc Cert.PreBwdIdeal.main_arg7)
      ∧ r.2.mem ((c.tc : Thread Cert.PreBwdIdeal.nD Cert.PreBwdIdeal.τ).loc Cert.PreBwdIdeal.main_arg8) = m ((c.tc : Thread Cert.PreBwdIdeal.nD Cert.PreBwdIdeal.τ).loc Cert.PreBwdIdeal.main_arg8)
      ∧ r.2.mem ((c.tc : Thread Cert.PreBwdIdeal.nD Cert.PreBwdIdeal.τ).loc Cert.PreBwdIdeal.main_arg9) = m ((c.tc : Thread Cert.PreBwdIdeal.nD Cert.PreBwdIdeal.τ).loc Cert.PreBwdIdeal.main_arg9)
      ∧ r.2.mem ((c.tc : Thread Cert.PreBwdIdeal.nD Cert.PreBwdIdeal.τ).loc Cert.PreBwdIdeal.main_arg10) = m ((c.tc : Thread Cert.PreBwdIdeal.nD Cert.PreBwdIdeal.τ).loc Cert.PreBwdIdeal.main_arg10)
      ∧ r.2.mem ((c.tc : Thread Cert.PreBwdIdeal.nD Cert.PreBwdIdeal.τ).loc Cert.PreBwdIdeal.main_arg11) = m ((c.tc : Thread Cert.PreBwdIdeal.nD Cert.PreBwdIdeal.τ).loc Cert.PreBwdIdeal.main_arg11))
      ∧ r.2.sem = fun _ => 0)

def quiescent_PreRefIdeal [hPreRefIdeal : Cert.PreRefIdeal.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2)
      ∧ r.2.mem ((c.tc : Thread Cert.PreRefIdeal.nD Cert.PreRefIdeal.τ).loc Cert.PreRefIdeal.main_arg3) = m ((c.tc : Thread Cert.PreRefIdeal.nD Cert.PreRefIdeal.τ).loc Cert.PreRefIdeal.main_arg3)
      ∧ r.2.mem ((c.tc : Thread Cert.PreRefIdeal.nD Cert.PreRefIdeal.τ).loc Cert.PreRefIdeal.main_arg4) = m ((c.tc : Thread Cert.PreRefIdeal.nD Cert.PreRefIdeal.τ).loc Cert.PreRefIdeal.main_arg4)
      ∧ r.2.mem ((c.tc : Thread Cert.PreRefIdeal.nD Cert.PreRefIdeal.τ).loc Cert.PreRefIdeal.main_arg5) = m ((c.tc : Thread Cert.PreRefIdeal.nD Cert.PreRefIdeal.τ).loc Cert.PreRefIdeal.main_arg5)
      ∧ r.2.mem ((c.tc : Thread Cert.PreRefIdeal.nD Cert.PreRefIdeal.τ).loc Cert.PreRefIdeal.main_arg6) = m ((c.tc : Thread Cert.PreRefIdeal.nD Cert.PreRefIdeal.τ).loc Cert.PreRefIdeal.main_arg6)
      ∧ r.2.mem ((c.tc : Thread Cert.PreRefIdeal.nD Cert.PreRefIdeal.τ).loc Cert.PreRefIdeal.main_arg7) = m ((c.tc : Thread Cert.PreRefIdeal.nD Cert.PreRefIdeal.τ).loc Cert.PreRefIdeal.main_arg7)
      ∧ r.2.mem ((c.tc : Thread Cert.PreRefIdeal.nD Cert.PreRefIdeal.τ).loc Cert.PreRefIdeal.main_arg8) = m ((c.tc : Thread Cert.PreRefIdeal.nD Cert.PreRefIdeal.τ).loc Cert.PreRefIdeal.main_arg8)
      ∧ r.2.mem ((c.tc : Thread Cert.PreRefIdeal.nD Cert.PreRefIdeal.τ).loc Cert.PreRefIdeal.main_arg9) = m ((c.tc : Thread Cert.PreRefIdeal.nD Cert.PreRefIdeal.τ).loc Cert.PreRefIdeal.main_arg9)
      ∧ r.2.mem ((c.tc : Thread Cert.PreRefIdeal.nD Cert.PreRefIdeal.τ).loc Cert.PreRefIdeal.main_arg10) = m ((c.tc : Thread Cert.PreRefIdeal.nD Cert.PreRefIdeal.τ).loc Cert.PreRefIdeal.main_arg10)
      ∧ r.2.mem ((c.tc : Thread Cert.PreRefIdeal.nD Cert.PreRefIdeal.τ).loc Cert.PreRefIdeal.main_arg11) = m ((c.tc : Thread Cert.PreRefIdeal.nD Cert.PreRefIdeal.τ).loc Cert.PreRefIdeal.main_arg11))
      ∧ r.2.sem = fun _ => 0)

def quiescent_PreRefIdeal_pre_pre_finite [hPreRefIdeal : Cert.PreRefIdeal.Facts] [hPre_pre_finite : Cert.Pre_pre_finite.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal_pre_finite m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2)
      ∧ r.2.mem ((c.tc : Thread Cert.PreRefIdeal.nD Cert.PreRefIdeal.τ).loc Cert.PreRefIdeal.main_arg3) = m ((c.tc : Thread Cert.PreRefIdeal.nD Cert.PreRefIdeal.τ).loc Cert.PreRefIdeal.main_arg3)
      ∧ r.2.mem ((c.tc : Thread Cert.PreRefIdeal.nD Cert.PreRefIdeal.τ).loc Cert.PreRefIdeal.main_arg4) = m ((c.tc : Thread Cert.PreRefIdeal.nD Cert.PreRefIdeal.τ).loc Cert.PreRefIdeal.main_arg4)
      ∧ r.2.mem ((c.tc : Thread Cert.PreRefIdeal.nD Cert.PreRefIdeal.τ).loc Cert.PreRefIdeal.main_arg5) = m ((c.tc : Thread Cert.PreRefIdeal.nD Cert.PreRefIdeal.τ).loc Cert.PreRefIdeal.main_arg5)
      ∧ r.2.mem ((c.tc : Thread Cert.PreRefIdeal.nD Cert.PreRefIdeal.τ).loc Cert.PreRefIdeal.main_arg6) = m ((c.tc : Thread Cert.PreRefIdeal.nD Cert.PreRefIdeal.τ).loc Cert.PreRefIdeal.main_arg6)
      ∧ r.2.mem ((c.tc : Thread Cert.PreRefIdeal.nD Cert.PreRefIdeal.τ).loc Cert.PreRefIdeal.main_arg7) = m ((c.tc : Thread Cert.PreRefIdeal.nD Cert.PreRefIdeal.τ).loc Cert.PreRefIdeal.main_arg7)
      ∧ r.2.mem ((c.tc : Thread Cert.PreRefIdeal.nD Cert.PreRefIdeal.τ).loc Cert.PreRefIdeal.main_arg8) = m ((c.tc : Thread Cert.PreRefIdeal.nD Cert.PreRefIdeal.τ).loc Cert.PreRefIdeal.main_arg8)
      ∧ r.2.mem ((c.tc : Thread Cert.PreRefIdeal.nD Cert.PreRefIdeal.τ).loc Cert.PreRefIdeal.main_arg9) = m ((c.tc : Thread Cert.PreRefIdeal.nD Cert.PreRefIdeal.τ).loc Cert.PreRefIdeal.main_arg9)
      ∧ r.2.mem ((c.tc : Thread Cert.PreRefIdeal.nD Cert.PreRefIdeal.τ).loc Cert.PreRefIdeal.main_arg10) = m ((c.tc : Thread Cert.PreRefIdeal.nD Cert.PreRefIdeal.τ).loc Cert.PreRefIdeal.main_arg10)
      ∧ r.2.mem ((c.tc : Thread Cert.PreRefIdeal.nD Cert.PreRefIdeal.τ).loc Cert.PreRefIdeal.main_arg11) = m ((c.tc : Thread Cert.PreRefIdeal.nD Cert.PreRefIdeal.τ).loc Cert.PreRefIdeal.main_arg11))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5)
      ∧ r.2.mem ((c.tc : Thread Cert.Head.nD Cert.Head.τ).loc Cert.Head.main_arg6) = m ((c.tc : Thread Cert.Head.nD Cert.Head.τ).loc Cert.Head.main_arg6))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ r.2.sem = fun _ => 0)

def quiescent_HeadIdeal_pre_head_finite [hHeadIdeal : Cert.HeadIdeal.Facts] [hPre_head_finite : Cert.Pre_head_finite.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal_head_finite m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6))
      ∧ r.2.sem = fun _ => 0)

def quiescent_HeadRefIdeal_pre_head_finite [hHeadRefIdeal : Cert.HeadRefIdeal.Facts] [hPre_head_finite : Cert.Pre_head_finite.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal_head_finite m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdIdeal_pre_ffn_finite [hFfnBwdIdeal : Cert.FfnBwdIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_ffn_finite m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_GlaBwd [hGlaBwd : Cert.GlaBwd.Facts] : Prop :=
  ∀ (m : (ℓ : Loc Cert.GlaBwd.nD Cert.GlaBwd.τ Cert.GlaBwd.sig) → Buf (Elt Bits) ℓ) (g : Dev Cert.GlaBwd.nD → PrngReg), Pre_GlaBwd m →
    θ_run (Cert.GlaBwd.defs (F := Bits)) (onTc (τ := Cert.GlaBwd.τ) (Cert.GlaBwd.main (F := Bits))) ⟨m, fun _ => 0, g⟩ (fun r => (∀ c : Dev Cert.GlaBwd.nD,
      r.2.mem ((c.tc : Thread Cert.GlaBwd.nD Cert.GlaBwd.τ).loc Cert.GlaBwd.main_arg0) = m ((c.tc : Thread Cert.GlaBwd.nD Cert.GlaBwd.τ).loc Cert.GlaBwd.main_arg0)
      ∧ r.2.mem ((c.tc : Thread Cert.GlaBwd.nD Cert.GlaBwd.τ).loc Cert.GlaBwd.main_arg1) = m ((c.tc : Thread Cert.GlaBwd.nD Cert.GlaBwd.τ).loc Cert.GlaBwd.main_arg1)
      ∧ r.2.mem ((c.tc : Thread Cert.GlaBwd.nD Cert.GlaBwd.τ).loc Cert.GlaBwd.main_arg2) = m ((c.tc : Thread Cert.GlaBwd.nD Cert.GlaBwd.τ).loc Cert.GlaBwd.main_arg2)
      ∧ r.2.mem ((c.tc : Thread Cert.GlaBwd.nD Cert.GlaBwd.τ).loc Cert.GlaBwd.main_arg3) = m ((c.tc : Thread Cert.GlaBwd.nD Cert.GlaBwd.τ).loc Cert.GlaBwd.main_arg3)
      ∧ r.2.mem ((c.tc : Thread Cert.GlaBwd.nD Cert.GlaBwd.τ).loc Cert.GlaBwd.main_arg4) = m ((c.tc : Thread Cert.GlaBwd.nD Cert.GlaBwd.τ).loc Cert.GlaBwd.main_arg4)
      ∧ r.2.mem ((c.tc : Thread Cert.GlaBwd.nD Cert.GlaBwd.τ).loc Cert.GlaBwd.main_arg5) = m ((c.tc : Thread Cert.GlaBwd.nD Cert.GlaBwd.τ).loc Cert.GlaBwd.main_arg5)
      ∧ r.2.mem ((c.tc : Thread Cert.GlaBwd.nD Cert.GlaBwd.τ).loc Cert.GlaBwd.main_arg6) = m ((c.tc : Thread Cert.GlaBwd.nD Cert.GlaBwd.τ).loc Cert.GlaBwd.main_arg6)
      ∧ r.2.mem ((c.tc : Thread Cert.GlaBwd.nD Cert.GlaBwd.τ).loc Cert.GlaBwd.main_arg7) = m ((c.tc : Thread Cert.GlaBwd.nD Cert.GlaBwd.τ).loc Cert.GlaBwd.main_arg7))
      ∧ r.2.sem = fun _ => 0)

def quiescent_GlaBwdIdeal [hGlaBwdIdeal : Cert.GlaBwdIdeal.Facts] : Prop :=
  ∀ (m : (ℓ : Loc Cert.GlaBwdIdeal.nD Cert.GlaBwdIdeal.τ Cert.GlaBwdIdeal.sig) → Buf (Elt Ideal) ℓ) (g : Dev Cert.GlaBwdIdeal.nD → PrngReg), Pre_GlaBwdIdeal m →
    θ_run (Cert.GlaBwdIdeal.defs (F := Ideal)) (onTc (τ := Cert.GlaBwdIdeal.τ) (Cert.GlaBwdIdeal.main (F := Ideal))) ⟨m, fun _ => 0, g⟩ (fun r => (∀ c : Dev Cert.GlaBwdIdeal.nD,
      r.2.mem ((c.tc : Thread Cert.GlaBwdIdeal.nD Cert.GlaBwdIdeal.τ).loc Cert.GlaBwdIdeal.main_arg0) = m ((c.tc : Thread Cert.GlaBwdIdeal.nD Cert.GlaBwdIdeal.τ).loc Cert.GlaBwdIdeal.main_arg0)
      ∧ r.2.mem ((c.tc : Thread Cert.GlaBwdIdeal.nD Cert.GlaBwdIdeal.τ).loc Cert.GlaBwdIdeal.main_arg1) = m ((c.tc : Thread Cert.GlaBwdIdeal.nD Cert.GlaBwdIdeal.τ).loc Cert.GlaBwdIdeal.main_arg1)
      ∧ r.2.mem ((c.tc : Thread Cert.GlaBwdIdeal.nD Cert.GlaBwdIdeal.τ).loc Cert.GlaBwdIdeal.main_arg2) = m ((c.tc : Thread Cert.GlaBwdIdeal.nD Cert.GlaBwdIdeal.τ).loc Cert.GlaBwdIdeal.main_arg2)
      ∧ r.2.mem ((c.tc : Thread Cert.GlaBwdIdeal.nD Cert.GlaBwdIdeal.τ).loc Cert.GlaBwdIdeal.main_arg3) = m ((c.tc : Thread Cert.GlaBwdIdeal.nD Cert.GlaBwdIdeal.τ).loc Cert.GlaBwdIdeal.main_arg3)
      ∧ r.2.mem ((c.tc : Thread Cert.GlaBwdIdeal.nD Cert.GlaBwdIdeal.τ).loc Cert.GlaBwdIdeal.main_arg4) = m ((c.tc : Thread Cert.GlaBwdIdeal.nD Cert.GlaBwdIdeal.τ).loc Cert.GlaBwdIdeal.main_arg4)
      ∧ r.2.mem ((c.tc : Thread Cert.GlaBwdIdeal.nD Cert.GlaBwdIdeal.τ).loc Cert.GlaBwdIdeal.main_arg5) = m ((c.tc : Thread Cert.GlaBwdIdeal.nD Cert.GlaBwdIdeal.τ).loc Cert.GlaBwdIdeal.main_arg5)
      ∧ r.2.mem ((c.tc : Thread Cert.GlaBwdIdeal.nD Cert.GlaBwdIdeal.τ).loc Cert.GlaBwdIdeal.main_arg6) = m ((c.tc : Thread Cert.GlaBwdIdeal.nD Cert.GlaBwdIdeal.τ).loc Cert.GlaBwdIdeal.main_arg6)
      ∧ r.2.mem ((c.tc : Thread Cert.GlaBwdIdeal.nD Cert.GlaBwdIdeal.τ).loc Cert.GlaBwdIdeal.main_arg7) = m ((c.tc : Thread Cert.GlaBwdIdeal.nD Cert.GlaBwdIdeal.τ).loc Cert.GlaBwdIdeal.main_arg7))
      ∧ r.2.sem = fun _ => 0)

def quiescent_GlaFwd [hGlaFwd : Cert.GlaFwd.Facts] : Prop :=
  ∀ (m : (ℓ : Loc Cert.GlaFwd.nD Cert.GlaFwd.τ Cert.GlaFwd.sig) → Buf (Elt Bits) ℓ) (g : Dev Cert.GlaFwd.nD → PrngReg), Pre_GlaFwd m →
    θ_run (Cert.GlaFwd.defs (F := Bits)) (onTc (τ := Cert.GlaFwd.τ) (Cert.GlaFwd.main (F := Bits))) ⟨m, fun _ => 0, g⟩ (fun r => (∀ c : Dev Cert.GlaFwd.nD,
      r.2.mem ((c.tc : Thread Cert.GlaFwd.nD Cert.GlaFwd.τ).loc Cert.GlaFwd.main_arg0) = m ((c.tc : Thread Cert.GlaFwd.nD Cert.GlaFwd.τ).loc Cert.GlaFwd.main_arg0)
      ∧ r.2.mem ((c.tc : Thread Cert.GlaFwd.nD Cert.GlaFwd.τ).loc Cert.GlaFwd.main_arg1) = m ((c.tc : Thread Cert.GlaFwd.nD Cert.GlaFwd.τ).loc Cert.GlaFwd.main_arg1)
      ∧ r.2.mem ((c.tc : Thread Cert.GlaFwd.nD Cert.GlaFwd.τ).loc Cert.GlaFwd.main_arg2) = m ((c.tc : Thread Cert.GlaFwd.nD Cert.GlaFwd.τ).loc Cert.GlaFwd.main_arg2)
      ∧ r.2.mem ((c.tc : Thread Cert.GlaFwd.nD Cert.GlaFwd.τ).loc Cert.GlaFwd.main_arg3) = m ((c.tc : Thread Cert.GlaFwd.nD Cert.GlaFwd.τ).loc Cert.GlaFwd.main_arg3)
      ∧ r.2.mem ((c.tc : Thread Cert.GlaFwd.nD Cert.GlaFwd.τ).loc Cert.GlaFwd.main_arg4) = m ((c.tc : Thread Cert.GlaFwd.nD Cert.GlaFwd.τ).loc Cert.GlaFwd.main_arg4)
      ∧ r.2.mem ((c.tc : Thread Cert.GlaFwd.nD Cert.GlaFwd.τ).loc Cert.GlaFwd.main_arg5) = m ((c.tc : Thread Cert.GlaFwd.nD Cert.GlaFwd.τ).loc Cert.GlaFwd.main_arg5))
      ∧ r.2.sem = fun _ => 0)

def quiescent_GlaFwdIdeal [hGlaFwdIdeal : Cert.GlaFwdIdeal.Facts] : Prop :=
  ∀ (m : (ℓ : Loc Cert.GlaFwdIdeal.nD Cert.GlaFwdIdeal.τ Cert.GlaFwdIdeal.sig) → Buf (Elt Ideal) ℓ) (g : Dev Cert.GlaFwdIdeal.nD → PrngReg), Pre_GlaFwdIdeal m →
    θ_run (Cert.GlaFwdIdeal.defs (F := Ideal)) (onTc (τ := Cert.GlaFwdIdeal.τ) (Cert.GlaFwdIdeal.main (F := Ideal))) ⟨m, fun _ => 0, g⟩ (fun r => (∀ c : Dev Cert.GlaFwdIdeal.nD,
      r.2.mem ((c.tc : Thread Cert.GlaFwdIdeal.nD Cert.GlaFwdIdeal.τ).loc Cert.GlaFwdIdeal.main_arg0) = m ((c.tc : Thread Cert.GlaFwdIdeal.nD Cert.GlaFwdIdeal.τ).loc Cert.GlaFwdIdeal.main_arg0)
      ∧ r.2.mem ((c.tc : Thread Cert.GlaFwdIdeal.nD Cert.GlaFwdIdeal.τ).loc Cert.GlaFwdIdeal.main_arg1) = m ((c.tc : Thread Cert.GlaFwdIdeal.nD Cert.GlaFwdIdeal.τ).loc Cert.GlaFwdIdeal.main_arg1)
      ∧ r.2.mem ((c.tc : Thread Cert.GlaFwdIdeal.nD Cert.GlaFwdIdeal.τ).loc Cert.GlaFwdIdeal.main_arg2) = m ((c.tc : Thread Cert.GlaFwdIdeal.nD Cert.GlaFwdIdeal.τ).loc Cert.GlaFwdIdeal.main_arg2)
      ∧ r.2.mem ((c.tc : Thread Cert.GlaFwdIdeal.nD Cert.GlaFwdIdeal.τ).loc Cert.GlaFwdIdeal.main_arg3) = m ((c.tc : Thread Cert.GlaFwdIdeal.nD Cert.GlaFwdIdeal.τ).loc Cert.GlaFwdIdeal.main_arg3)
      ∧ r.2.mem ((c.tc : Thread Cert.GlaFwdIdeal.nD Cert.GlaFwdIdeal.τ).loc Cert.GlaFwdIdeal.main_arg4) = m ((c.tc : Thread Cert.GlaFwdIdeal.nD Cert.GlaFwdIdeal.τ).loc Cert.GlaFwdIdeal.main_arg4)
      ∧ r.2.mem ((c.tc : Thread Cert.GlaFwdIdeal.nD Cert.GlaFwdIdeal.τ).loc Cert.GlaFwdIdeal.main_arg5) = m ((c.tc : Thread Cert.GlaFwdIdeal.nD Cert.GlaFwdIdeal.τ).loc Cert.GlaFwdIdeal.main_arg5))
      ∧ r.2.sem = fun _ => 0)

def quiescent_GlaFwdIdeal_pre_gla_finite [hGlaFwdIdeal : Cert.GlaFwdIdeal.Facts] [hPre_gla_finite : Cert.Pre_gla_finite.Facts] : Prop :=
  ∀ (m : (ℓ : Loc Cert.GlaFwdIdeal.nD Cert.GlaFwdIdeal.τ Cert.GlaFwdIdeal.sig) → Buf (Elt Ideal) ℓ) (g : Dev Cert.GlaFwdIdeal.nD → PrngReg), Pre_GlaFwdIdeal_gla_finite m →
    θ_run (Cert.GlaFwdIdeal.defs (F := Ideal)) (onTc (τ := Cert.GlaFwdIdeal.τ) (Cert.GlaFwdIdeal.main (F := Ideal))) ⟨m, fun _ => 0, g⟩ (fun r => (∀ c : Dev Cert.GlaFwdIdeal.nD,
      r.2.mem ((c.tc : Thread Cert.GlaFwdIdeal.nD Cert.GlaFwdIdeal.τ).loc Cert.GlaFwdIdeal.main_arg0) = m ((c.tc : Thread Cert.GlaFwdIdeal.nD Cert.GlaFwdIdeal.τ).loc Cert.GlaFwdIdeal.main_arg0)
      ∧ r.2.mem ((c.tc : Thread Cert.GlaFwdIdeal.nD Cert.GlaFwdIdeal.τ).loc Cert.GlaFwdIdeal.main_arg1) = m ((c.tc : Thread Cert.GlaFwdIdeal.nD Cert.GlaFwdIdeal.τ).loc Cert.GlaFwdIdeal.main_arg1)
      ∧ r.2.mem ((c.tc : Thread Cert.GlaFwdIdeal.nD Cert.GlaFwdIdeal.τ).loc Cert.GlaFwdIdeal.main_arg2) = m ((c.tc : Thread Cert.GlaFwdIdeal.nD Cert.GlaFwdIdeal.τ).loc Cert.GlaFwdIdeal.main_arg2)
      ∧ r.2.mem ((c.tc : Thread Cert.GlaFwdIdeal.nD Cert.GlaFwdIdeal.τ).loc Cert.GlaFwdIdeal.main_arg3) = m ((c.tc : Thread Cert.GlaFwdIdeal.nD Cert.GlaFwdIdeal.τ).loc Cert.GlaFwdIdeal.main_arg3)
      ∧ r.2.mem ((c.tc : Thread Cert.GlaFwdIdeal.nD Cert.GlaFwdIdeal.τ).loc Cert.GlaFwdIdeal.main_arg4) = m ((c.tc : Thread Cert.GlaFwdIdeal.nD Cert.GlaFwdIdeal.τ).loc Cert.GlaFwdIdeal.main_arg4)
      ∧ r.2.mem ((c.tc : Thread Cert.GlaFwdIdeal.nD Cert.GlaFwdIdeal.τ).loc Cert.GlaFwdIdeal.main_arg5) = m ((c.tc : Thread Cert.GlaFwdIdeal.nD Cert.GlaFwdIdeal.τ).loc Cert.GlaFwdIdeal.main_arg5))
      ∧ r.2.sem = fun _ => 0)

def quiescent_GlaFrefIdeal [hGlaFrefIdeal : Cert.GlaFrefIdeal.Facts] : Prop :=
  ∀ (m : (ℓ : Loc Cert.GlaFrefIdeal.nD Cert.GlaFrefIdeal.τ Cert.GlaFrefIdeal.sig) → Buf (Elt Ideal) ℓ) (g : Dev Cert.GlaFrefIdeal.nD → PrngReg), Pre_GlaFrefIdeal m →
    θ_run (Cert.GlaFrefIdeal.defs (F := Ideal)) (onTc (τ := Cert.GlaFrefIdeal.τ) (Cert.GlaFrefIdeal.main (F := Ideal))) ⟨m, fun _ => 0, g⟩ (fun r => (∀ c : Dev Cert.GlaFrefIdeal.nD,
      r.2.mem ((c.tc : Thread Cert.GlaFrefIdeal.nD Cert.GlaFrefIdeal.τ).loc Cert.GlaFrefIdeal.main_arg0) = m ((c.tc : Thread Cert.GlaFrefIdeal.nD Cert.GlaFrefIdeal.τ).loc Cert.GlaFrefIdeal.main_arg0)
      ∧ r.2.mem ((c.tc : Thread Cert.GlaFrefIdeal.nD Cert.GlaFrefIdeal.τ).loc Cert.GlaFrefIdeal.main_arg1) = m ((c.tc : Thread Cert.GlaFrefIdeal.nD Cert.GlaFrefIdeal.τ).loc Cert.GlaFrefIdeal.main_arg1)
      ∧ r.2.mem ((c.tc : Thread Cert.GlaFrefIdeal.nD Cert.GlaFrefIdeal.τ).loc Cert.GlaFrefIdeal.main_arg2) = m ((c.tc : Thread Cert.GlaFrefIdeal.nD Cert.GlaFrefIdeal.τ).loc Cert.GlaFrefIdeal.main_arg2)
      ∧ r.2.mem ((c.tc : Thread Cert.GlaFrefIdeal.nD Cert.GlaFrefIdeal.τ).loc Cert.GlaFrefIdeal.main_arg3) = m ((c.tc : Thread Cert.GlaFrefIdeal.nD Cert.GlaFrefIdeal.τ).loc Cert.GlaFrefIdeal.main_arg3)
      ∧ r.2.mem ((c.tc : Thread Cert.GlaFrefIdeal.nD Cert.GlaFrefIdeal.τ).loc Cert.GlaFrefIdeal.main_arg4) = m ((c.tc : Thread Cert.GlaFrefIdeal.nD Cert.GlaFrefIdeal.τ).loc Cert.GlaFrefIdeal.main_arg4)
      ∧ r.2.mem ((c.tc : Thread Cert.GlaFrefIdeal.nD Cert.GlaFrefIdeal.τ).loc Cert.GlaFrefIdeal.main_arg5) = m ((c.tc : Thread Cert.GlaFrefIdeal.nD Cert.GlaFrefIdeal.τ).loc Cert.GlaFrefIdeal.main_arg5))
      ∧ r.2.sem = fun _ => 0)

def quiescent_GlaFrefIdeal_pre_gla_finite [hGlaFrefIdeal : Cert.GlaFrefIdeal.Facts] [hPre_gla_finite : Cert.Pre_gla_finite.Facts] : Prop :=
  ∀ (m : (ℓ : Loc Cert.GlaFrefIdeal.nD Cert.GlaFrefIdeal.τ Cert.GlaFrefIdeal.sig) → Buf (Elt Ideal) ℓ) (g : Dev Cert.GlaFrefIdeal.nD → PrngReg), Pre_GlaFrefIdeal_gla_finite m →
    θ_run (Cert.GlaFrefIdeal.defs (F := Ideal)) (onTc (τ := Cert.GlaFrefIdeal.τ) (Cert.GlaFrefIdeal.main (F := Ideal))) ⟨m, fun _ => 0, g⟩ (fun r => (∀ c : Dev Cert.GlaFrefIdeal.nD,
      r.2.mem ((c.tc : Thread Cert.GlaFrefIdeal.nD Cert.GlaFrefIdeal.τ).loc Cert.GlaFrefIdeal.main_arg0) = m ((c.tc : Thread Cert.GlaFrefIdeal.nD Cert.GlaFrefIdeal.τ).loc Cert.GlaFrefIdeal.main_arg0)
      ∧ r.2.mem ((c.tc : Thread Cert.GlaFrefIdeal.nD Cert.GlaFrefIdeal.τ).loc Cert.GlaFrefIdeal.main_arg1) = m ((c.tc : Thread Cert.GlaFrefIdeal.nD Cert.GlaFrefIdeal.τ).loc Cert.GlaFrefIdeal.main_arg1)
      ∧ r.2.mem ((c.tc : Thread Cert.GlaFrefIdeal.nD Cert.GlaFrefIdeal.τ).loc Cert.GlaFrefIdeal.main_arg2) = m ((c.tc : Thread Cert.GlaFrefIdeal.nD Cert.GlaFrefIdeal.τ).loc Cert.GlaFrefIdeal.main_arg2)
      ∧ r.2.mem ((c.tc : Thread Cert.GlaFrefIdeal.nD Cert.GlaFrefIdeal.τ).loc Cert.GlaFrefIdeal.main_arg3) = m ((c.tc : Thread Cert.GlaFrefIdeal.nD Cert.GlaFrefIdeal.τ).loc Cert.GlaFrefIdeal.main_arg3)
      ∧ r.2.mem ((c.tc : Thread Cert.GlaFrefIdeal.nD Cert.GlaFrefIdeal.τ).loc Cert.GlaFrefIdeal.main_arg4) = m ((c.tc : Thread Cert.GlaFrefIdeal.nD Cert.GlaFrefIdeal.τ).loc Cert.GlaFrefIdeal.main_arg4)
      ∧ r.2.mem ((c.tc : Thread Cert.GlaFrefIdeal.nD Cert.GlaFrefIdeal.τ).loc Cert.GlaFrefIdeal.main_arg5) = m ((c.tc : Thread Cert.GlaFrefIdeal.nD Cert.GlaFrefIdeal.τ).loc Cert.GlaFrefIdeal.main_arg5))
      ∧ r.2.sem = fun _ => 0)

def quiescent_S5Disc [hS5Disc : Cert.S5Disc.Facts] : Prop :=
  ∀ (m : (ℓ : Loc Cert.S5Disc.nD Cert.S5Disc.τ Cert.S5Disc.sig) → Buf (Elt Bits) ℓ) (g : Dev Cert.S5Disc.nD → PrngReg), Pre_S5Disc m →
    θ_run (Cert.S5Disc.defs (F := Bits)) (onTc (τ := Cert.S5Disc.τ) (Cert.S5Disc.main (F := Bits))) ⟨m, fun _ => 0, g⟩ (fun r => (∀ c : Dev Cert.S5Disc.nD,
      r.2.mem ((c.tc : Thread Cert.S5Disc.nD Cert.S5Disc.τ).loc Cert.S5Disc.main_arg0) = m ((c.tc : Thread Cert.S5Disc.nD Cert.S5Disc.τ).loc Cert.S5Disc.main_arg0)
      ∧ r.2.mem ((c.tc : Thread Cert.S5Disc.nD Cert.S5Disc.τ).loc Cert.S5Disc.main_arg1) = m ((c.tc : Thread Cert.S5Disc.nD Cert.S5Disc.τ).loc Cert.S5Disc.main_arg1)
      ∧ r.2.mem ((c.tc : Thread Cert.S5Disc.nD Cert.S5Disc.τ).loc Cert.S5Disc.main_arg2) = m ((c.tc : Thread Cert.S5Disc.nD Cert.S5Disc.τ).loc Cert.S5Disc.main_arg2)
      ∧ r.2.mem ((c.tc : Thread Cert.S5Disc.nD Cert.S5Disc.τ).loc Cert.S5Disc.main_arg3) = m ((c.tc : Thread Cert.S5Disc.nD Cert.S5Disc.τ).loc Cert.S5Disc.main_arg3)
      ∧ r.2.mem ((c.tc : Thread Cert.S5Disc.nD Cert.S5Disc.τ).loc Cert.S5Disc.main_arg4) = m ((c.tc : Thread Cert.S5Disc.nD Cert.S5Disc.τ).loc Cert.S5Disc.main_arg4))
      ∧ r.2.sem = fun _ => 0)

def quiescent_S5DiscIdeal [hS5DiscIdeal : Cert.S5DiscIdeal.Facts] : Prop :=
  ∀ (m : (ℓ : Loc Cert.S5DiscIdeal.nD Cert.S5DiscIdeal.τ Cert.S5DiscIdeal.sig) → Buf (Elt Ideal) ℓ) (g : Dev Cert.S5DiscIdeal.nD → PrngReg), Pre_S5DiscIdeal m →
    θ_run (Cert.S5DiscIdeal.defs (F := Ideal)) (onTc (τ := Cert.S5DiscIdeal.τ) (Cert.S5DiscIdeal.main (F := Ideal))) ⟨m, fun _ => 0, g⟩ (fun r => (∀ c : Dev Cert.S5DiscIdeal.nD,
      r.2.mem ((c.tc : Thread Cert.S5DiscIdeal.nD Cert.S5DiscIdeal.τ).loc Cert.S5DiscIdeal.main_arg0) = m ((c.tc : Thread Cert.S5DiscIdeal.nD Cert.S5DiscIdeal.τ).loc Cert.S5DiscIdeal.main_arg0)
      ∧ r.2.mem ((c.tc : Thread Cert.S5DiscIdeal.nD Cert.S5DiscIdeal.τ).loc Cert.S5DiscIdeal.main_arg1) = m ((c.tc : Thread Cert.S5DiscIdeal.nD Cert.S5DiscIdeal.τ).loc Cert.S5DiscIdeal.main_arg1)
      ∧ r.2.mem ((c.tc : Thread Cert.S5DiscIdeal.nD Cert.S5DiscIdeal.τ).loc Cert.S5DiscIdeal.main_arg2) = m ((c.tc : Thread Cert.S5DiscIdeal.nD Cert.S5DiscIdeal.τ).loc Cert.S5DiscIdeal.main_arg2)
      ∧ r.2.mem ((c.tc : Thread Cert.S5DiscIdeal.nD Cert.S5DiscIdeal.τ).loc Cert.S5DiscIdeal.main_arg3) = m ((c.tc : Thread Cert.S5DiscIdeal.nD Cert.S5DiscIdeal.τ).loc Cert.S5DiscIdeal.main_arg3)
      ∧ r.2.mem ((c.tc : Thread Cert.S5DiscIdeal.nD Cert.S5DiscIdeal.τ).loc Cert.S5DiscIdeal.main_arg4) = m ((c.tc : Thread Cert.S5DiscIdeal.nD Cert.S5DiscIdeal.τ).loc Cert.S5DiscIdeal.main_arg4))
      ∧ r.2.sem = fun _ => 0)

def quiescent_S5DiscRefIdeal [hS5DiscRefIdeal : Cert.S5DiscRefIdeal.Facts] : Prop :=
  ∀ (m : (ℓ : Loc Cert.S5DiscRefIdeal.nD Cert.S5DiscRefIdeal.τ Cert.S5DiscRefIdeal.sig) → Buf (Elt Ideal) ℓ) (g : Dev Cert.S5DiscRefIdeal.nD → PrngReg), Pre_S5DiscRefIdeal m →
    θ_run (Cert.S5DiscRefIdeal.defs (F := Ideal)) (onTc (τ := Cert.S5DiscRefIdeal.τ) (Cert.S5DiscRefIdeal.main (F := Ideal))) ⟨m, fun _ => 0, g⟩ (fun r => (∀ c : Dev Cert.S5DiscRefIdeal.nD,
      r.2.mem ((c.tc : Thread Cert.S5DiscRefIdeal.nD Cert.S5DiscRefIdeal.τ).loc Cert.S5DiscRefIdeal.main_arg0) = m ((c.tc : Thread Cert.S5DiscRefIdeal.nD Cert.S5DiscRefIdeal.τ).loc Cert.S5DiscRefIdeal.main_arg0)
      ∧ r.2.mem ((c.tc : Thread Cert.S5DiscRefIdeal.nD Cert.S5DiscRefIdeal.τ).loc Cert.S5DiscRefIdeal.main_arg1) = m ((c.tc : Thread Cert.S5DiscRefIdeal.nD Cert.S5DiscRefIdeal.τ).loc Cert.S5DiscRefIdeal.main_arg1)
      ∧ r.2.mem ((c.tc : Thread Cert.S5DiscRefIdeal.nD Cert.S5DiscRefIdeal.τ).loc Cert.S5DiscRefIdeal.main_arg2) = m ((c.tc : Thread Cert.S5DiscRefIdeal.nD Cert.S5DiscRefIdeal.τ).loc Cert.S5DiscRefIdeal.main_arg2)
      ∧ r.2.mem ((c.tc : Thread Cert.S5DiscRefIdeal.nD Cert.S5DiscRefIdeal.τ).loc Cert.S5DiscRefIdeal.main_arg3) = m ((c.tc : Thread Cert.S5DiscRefIdeal.nD Cert.S5DiscRefIdeal.τ).loc Cert.S5DiscRefIdeal.main_arg3)
      ∧ r.2.mem ((c.tc : Thread Cert.S5DiscRefIdeal.nD Cert.S5DiscRefIdeal.τ).loc Cert.S5DiscRefIdeal.main_arg4) = m ((c.tc : Thread Cert.S5DiscRefIdeal.nD Cert.S5DiscRefIdeal.τ).loc Cert.S5DiscRefIdeal.main_arg4))
      ∧ r.2.sem = fun _ => 0)

def quiescent_PreFwd [hPreFwd : Cert.PreFwd.Facts] : Prop :=
  ∀ (m : (ℓ : Loc Cert.PreFwd.nD Cert.PreFwd.τ Cert.PreFwd.sig) → Buf (Elt Bits) ℓ) (g : Dev Cert.PreFwd.nD → PrngReg), Pre_PreFwd m →
    θ_run (Cert.PreFwd.defs (F := Bits)) (onTc (τ := Cert.PreFwd.τ) (Cert.PreFwd.main (F := Bits))) ⟨m, fun _ => 0, g⟩ (fun r => (∀ c : Dev Cert.PreFwd.nD,
      r.2.mem ((c.tc : Thread Cert.PreFwd.nD Cert.PreFwd.τ).loc Cert.PreFwd.main_arg0) = m ((c.tc : Thread Cert.PreFwd.nD Cert.PreFwd.τ).loc Cert.PreFwd.main_arg0)
      ∧ r.2.mem ((c.tc : Thread Cert.PreFwd.nD Cert.PreFwd.τ).loc Cert.PreFwd.main_arg1) = m ((c.tc : Thread Cert.PreFwd.nD Cert.PreFwd.τ).loc Cert.PreFwd.main_arg1)
      ∧ r.2.mem ((c.tc : Thread Cert.PreFwd.nD Cert.PreFwd.τ).loc Cert.PreFwd.main_arg2) = m ((c.tc : Thread Cert.PreFwd.nD Cert.PreFwd.τ).loc Cert.PreFwd.main_arg2))
      ∧ r.2.sem = fun _ => 0)

def quiescent_PreFwdIdeal [hPreFwdIdeal : Cert.PreFwdIdeal.Facts] : Prop :=
  ∀ (m : (ℓ : Loc Cert.PreFwdIdeal.nD Cert.PreFwdIdeal.τ Cert.PreFwdIdeal.sig) → Buf (Elt Ideal) ℓ) (g : Dev Cert.PreFwdIdeal.nD → PrngReg), Pre_PreFwdIdeal m →
    θ_run (Cert.PreFwdIdeal.defs (F := Ideal)) (onTc (τ := Cert.PreFwdIdeal.τ) (Cert.PreFwdIdeal.main (F := Ideal))) ⟨m, fun _ => 0, g⟩ (fun r => (∀ c : Dev Cert.PreFwdIdeal.nD,
      r.2.mem ((c.tc : Thread Cert.PreFwdIdeal.nD Cert.PreFwdIdeal.τ).loc Cert.PreFwdIdeal.main_arg0) = m ((c.tc : Thread Cert.PreFwdIdeal.nD Cert.PreFwdIdeal.τ).loc Cert.PreFwdIdeal.main_arg0)
      ∧ r.2.mem ((c.tc : Thread Cert.PreFwdIdeal.nD Cert.PreFwdIdeal.τ).loc Cert.PreFwdIdeal.main_arg1) = m ((c.tc : Thread Cert.PreFwdIdeal.nD Cert.PreFwdIdeal.τ).loc Cert.PreFwdIdeal.main_arg1)
      ∧ r.2.mem ((c.tc : Thread Cert.PreFwdIdeal.nD Cert.PreFwdIdeal.τ).loc Cert.PreFwdIdeal.main_arg2) = m ((c.tc : Thread Cert.PreFwdIdeal.nD Cert.PreFwdIdeal.τ).loc Cert.PreFwdIdeal.main_arg2))
      ∧ r.2.sem = fun _ => 0)

def quiescent_PreFrefIdeal [hPreFrefIdeal : Cert.PreFrefIdeal.Facts] : Prop :=
  ∀ (m : (ℓ : Loc Cert.PreFrefIdeal.nD Cert.PreFrefIdeal.τ Cert.PreFrefIdeal.sig) → Buf (Elt Ideal) ℓ) (g : Dev Cert.PreFrefIdeal.nD → PrngReg), Pre_PreFrefIdeal m →
    θ_run (Cert.PreFrefIdeal.defs (F := Ideal)) (onTc (τ := Cert.PreFrefIdeal.τ) (Cert.PreFrefIdeal.main (F := Ideal))) ⟨m, fun _ => 0, g⟩ (fun r => (∀ c : Dev Cert.PreFrefIdeal.nD,
      r.2.mem ((c.tc : Thread Cert.PreFrefIdeal.nD Cert.PreFrefIdeal.τ).loc Cert.PreFrefIdeal.main_arg0) = m ((c.tc : Thread Cert.PreFrefIdeal.nD Cert.PreFrefIdeal.τ).loc Cert.PreFrefIdeal.main_arg0)
      ∧ r.2.mem ((c.tc : Thread Cert.PreFrefIdeal.nD Cert.PreFrefIdeal.τ).loc Cert.PreFrefIdeal.main_arg1) = m ((c.tc : Thread Cert.PreFrefIdeal.nD Cert.PreFrefIdeal.τ).loc Cert.PreFrefIdeal.main_arg1)
      ∧ r.2.mem ((c.tc : Thread Cert.PreFrefIdeal.nD Cert.PreFrefIdeal.τ).loc Cert.PreFrefIdeal.main_arg2) = m ((c.tc : Thread Cert.PreFrefIdeal.nD Cert.PreFrefIdeal.τ).loc Cert.PreFrefIdeal.main_arg2))
      ∧ r.2.sem = fun _ => 0)

def quiescent_PostFwd [hPostFwd : Cert.PostFwd.Facts] : Prop :=
  ∀ (m : (ℓ : Loc Cert.PostFwd.nD Cert.PostFwd.τ Cert.PostFwd.sig) → Buf (Elt Bits) ℓ) (g : Dev Cert.PostFwd.nD → PrngReg), Pre_PostFwd m →
    θ_run (Cert.PostFwd.defs (F := Bits)) (onTc (τ := Cert.PostFwd.τ) (Cert.PostFwd.main (F := Bits))) ⟨m, fun _ => 0, g⟩ (fun r => (∀ c : Dev Cert.PostFwd.nD,
      r.2.mem ((c.tc : Thread Cert.PostFwd.nD Cert.PostFwd.τ).loc Cert.PostFwd.main_arg0) = m ((c.tc : Thread Cert.PostFwd.nD Cert.PostFwd.τ).loc Cert.PostFwd.main_arg0)
      ∧ r.2.mem ((c.tc : Thread Cert.PostFwd.nD Cert.PostFwd.τ).loc Cert.PostFwd.main_arg1) = m ((c.tc : Thread Cert.PostFwd.nD Cert.PostFwd.τ).loc Cert.PostFwd.main_arg1)
      ∧ r.2.mem ((c.tc : Thread Cert.PostFwd.nD Cert.PostFwd.τ).loc Cert.PostFwd.main_arg2) = m ((c.tc : Thread Cert.PostFwd.nD Cert.PostFwd.τ).loc Cert.PostFwd.main_arg2)
      ∧ r.2.mem ((c.tc : Thread Cert.PostFwd.nD Cert.PostFwd.τ).loc Cert.PostFwd.main_arg3) = m ((c.tc : Thread Cert.PostFwd.nD Cert.PostFwd.τ).loc Cert.PostFwd.main_arg3)
      ∧ r.2.mem ((c.tc : Thread Cert.PostFwd.nD Cert.PostFwd.τ).loc Cert.PostFwd.main_arg4) = m ((c.tc : Thread Cert.PostFwd.nD Cert.PostFwd.τ).loc Cert.PostFwd.main_arg4)
      ∧ r.2.mem ((c.tc : Thread Cert.PostFwd.nD Cert.PostFwd.τ).loc Cert.PostFwd.main_arg5) = m ((c.tc : Thread Cert.PostFwd.nD Cert.PostFwd.τ).loc Cert.PostFwd.main_arg5)
      ∧ r.2.mem ((c.tc : Thread Cert.PostFwd.nD Cert.PostFwd.τ).loc Cert.PostFwd.main_arg6) = m ((c.tc : Thread Cert.PostFwd.nD Cert.PostFwd.τ).loc Cert.PostFwd.main_arg6)
      ∧ r.2.mem ((c.tc : Thread Cert.PostFwd.nD Cert.PostFwd.τ).loc Cert.PostFwd.main_arg7) = m ((c.tc : Thread Cert.PostFwd.nD Cert.PostFwd.τ).loc Cert.PostFwd.main_arg7)
      ∧ r.2.mem ((c.tc : Thread Cert.PostFwd.nD Cert.PostFwd.τ).loc Cert.PostFwd.main_arg8) = m ((c.tc : Thread Cert.PostFwd.nD Cert.PostFwd.τ).loc Cert.PostFwd.main_arg8)
      ∧ r.2.mem ((c.tc : Thread Cert.PostFwd.nD Cert.PostFwd.τ).loc Cert.PostFwd.main_arg9) = m ((c.tc : Thread Cert.PostFwd.nD Cert.PostFwd.τ).loc Cert.PostFwd.main_arg9)
      ∧ r.2.mem ((c.tc : Thread Cert.PostFwd.nD Cert.PostFwd.τ).loc Cert.PostFwd.main_arg10) = m ((c.tc : Thread Cert.PostFwd.nD Cert.PostFwd.τ).loc Cert.PostFwd.main_arg10)
      ∧ r.2.mem ((c.tc : Thread Cert.PostFwd.nD Cert.PostFwd.τ).loc Cert.PostFwd.main_arg11) = m ((c.tc : Thread Cert.PostFwd.nD Cert.PostFwd.τ).loc Cert.PostFwd.main_arg11))
      ∧ r.2.sem = fun _ => 0)

def quiescent_PostFwdIdeal [hPostFwdIdeal : Cert.PostFwdIdeal.Facts] : Prop :=
  ∀ (m : (ℓ : Loc Cert.PostFwdIdeal.nD Cert.PostFwdIdeal.τ Cert.PostFwdIdeal.sig) → Buf (Elt Ideal) ℓ) (g : Dev Cert.PostFwdIdeal.nD → PrngReg), Pre_PostFwdIdeal m →
    θ_run (Cert.PostFwdIdeal.defs (F := Ideal)) (onTc (τ := Cert.PostFwdIdeal.τ) (Cert.PostFwdIdeal.main (F := Ideal))) ⟨m, fun _ => 0, g⟩ (fun r => (∀ c : Dev Cert.PostFwdIdeal.nD,
      r.2.mem ((c.tc : Thread Cert.PostFwdIdeal.nD Cert.PostFwdIdeal.τ).loc Cert.PostFwdIdeal.main_arg0) = m ((c.tc : Thread Cert.PostFwdIdeal.nD Cert.PostFwdIdeal.τ).loc Cert.PostFwdIdeal.main_arg0)
      ∧ r.2.mem ((c.tc : Thread Cert.PostFwdIdeal.nD Cert.PostFwdIdeal.τ).loc Cert.PostFwdIdeal.main_arg1) = m ((c.tc : Thread Cert.PostFwdIdeal.nD Cert.PostFwdIdeal.τ).loc Cert.PostFwdIdeal.main_arg1)
      ∧ r.2.mem ((c.tc : Thread Cert.PostFwdIdeal.nD Cert.PostFwdIdeal.τ).loc Cert.PostFwdIdeal.main_arg2) = m ((c.tc : Thread Cert.PostFwdIdeal.nD Cert.PostFwdIdeal.τ).loc Cert.PostFwdIdeal.main_arg2)
      ∧ r.2.mem ((c.tc : Thread Cert.PostFwdIdeal.nD Cert.PostFwdIdeal.τ).loc Cert.PostFwdIdeal.main_arg3) = m ((c.tc : Thread Cert.PostFwdIdeal.nD Cert.PostFwdIdeal.τ).loc Cert.PostFwdIdeal.main_arg3)
      ∧ r.2.mem ((c.tc : Thread Cert.PostFwdIdeal.nD Cert.PostFwdIdeal.τ).loc Cert.PostFwdIdeal.main_arg4) = m ((c.tc : Thread Cert.PostFwdIdeal.nD Cert.PostFwdIdeal.τ).loc Cert.PostFwdIdeal.main_arg4)
      ∧ r.2.mem ((c.tc : Thread Cert.PostFwdIdeal.nD Cert.PostFwdIdeal.τ).loc Cert.PostFwdIdeal.main_arg5) = m ((c.tc : Thread Cert.PostFwdIdeal.nD Cert.PostFwdIdeal.τ).loc Cert.PostFwdIdeal.main_arg5)
      ∧ r.2.mem ((c.tc : Thread Cert.PostFwdIdeal.nD Cert.PostFwdIdeal.τ).loc Cert.PostFwdIdeal.main_arg6) = m ((c.tc : Thread Cert.PostFwdIdeal.nD Cert.PostFwdIdeal.τ).loc Cert.PostFwdIdeal.main_arg6)
      ∧ r.2.mem ((c.tc : Thread Cert.PostFwdIdeal.nD Cert.PostFwdIdeal.τ).loc Cert.PostFwdIdeal.main_arg7) = m ((c.tc : Thread Cert.PostFwdIdeal.nD Cert.PostFwdIdeal.τ).loc Cert.PostFwdIdeal.main_arg7)
      ∧ r.2.mem ((c.tc : Thread Cert.PostFwdIdeal.nD Cert.PostFwdIdeal.τ).loc Cert.PostFwdIdeal.main_arg8) = m ((c.tc : Thread Cert.PostFwdIdeal.nD Cert.PostFwdIdeal.τ).loc Cert.PostFwdIdeal.main_arg8)
      ∧ r.2.mem ((c.tc : Thread Cert.PostFwdIdeal.nD Cert.PostFwdIdeal.τ).loc Cert.PostFwdIdeal.main_arg9) = m ((c.tc : Thread Cert.PostFwdIdeal.nD Cert.PostFwdIdeal.τ).loc Cert.PostFwdIdeal.main_arg9)
      ∧ r.2.mem ((c.tc : Thread Cert.PostFwdIdeal.nD Cert.PostFwdIdeal.τ).loc Cert.PostFwdIdeal.main_arg10) = m ((c.tc : Thread Cert.PostFwdIdeal.nD Cert.PostFwdIdeal.τ).loc Cert.PostFwdIdeal.main_arg10)
      ∧ r.2.mem ((c.tc : Thread Cert.PostFwdIdeal.nD Cert.PostFwdIdeal.τ).loc Cert.PostFwdIdeal.main_arg11) = m ((c.tc : Thread Cert.PostFwdIdeal.nD Cert.PostFwdIdeal.τ).loc Cert.PostFwdIdeal.main_arg11))
      ∧ r.2.sem = fun _ => 0)

def quiescent_PostFrefIdeal [hPostFrefIdeal : Cert.PostFrefIdeal.Facts] : Prop :=
  ∀ (m : (ℓ : Loc Cert.PostFrefIdeal.nD Cert.PostFrefIdeal.τ Cert.PostFrefIdeal.sig) → Buf (Elt Ideal) ℓ) (g : Dev Cert.PostFrefIdeal.nD → PrngReg), Pre_PostFrefIdeal m →
    θ_run (Cert.PostFrefIdeal.defs (F := Ideal)) (onTc (τ := Cert.PostFrefIdeal.τ) (Cert.PostFrefIdeal.main (F := Ideal))) ⟨m, fun _ => 0, g⟩ (fun r => (∀ c : Dev Cert.PostFrefIdeal.nD,
      r.2.mem ((c.tc : Thread Cert.PostFrefIdeal.nD Cert.PostFrefIdeal.τ).loc Cert.PostFrefIdeal.main_arg0) = m ((c.tc : Thread Cert.PostFrefIdeal.nD Cert.PostFrefIdeal.τ).loc Cert.PostFrefIdeal.main_arg0)
      ∧ r.2.mem ((c.tc : Thread Cert.PostFrefIdeal.nD Cert.PostFrefIdeal.τ).loc Cert.PostFrefIdeal.main_arg1) = m ((c.tc : Thread Cert.PostFrefIdeal.nD Cert.PostFrefIdeal.τ).loc Cert.PostFrefIdeal.main_arg1)
      ∧ r.2.mem ((c.tc : Thread Cert.PostFrefIdeal.nD Cert.PostFrefIdeal.τ).loc Cert.PostFrefIdeal.main_arg2) = m ((c.tc : Thread Cert.PostFrefIdeal.nD Cert.PostFrefIdeal.τ).loc Cert.PostFrefIdeal.main_arg2)
      ∧ r.2.mem ((c.tc : Thread Cert.PostFrefIdeal.nD Cert.PostFrefIdeal.τ).loc Cert.PostFrefIdeal.main_arg3) = m ((c.tc : Thread Cert.PostFrefIdeal.nD Cert.PostFrefIdeal.τ).loc Cert.PostFrefIdeal.main_arg3)
      ∧ r.2.mem ((c.tc : Thread Cert.PostFrefIdeal.nD Cert.PostFrefIdeal.τ).loc Cert.PostFrefIdeal.main_arg4) = m ((c.tc : Thread Cert.PostFrefIdeal.nD Cert.PostFrefIdeal.τ).loc Cert.PostFrefIdeal.main_arg4)
      ∧ r.2.mem ((c.tc : Thread Cert.PostFrefIdeal.nD Cert.PostFrefIdeal.τ).loc Cert.PostFrefIdeal.main_arg5) = m ((c.tc : Thread Cert.PostFrefIdeal.nD Cert.PostFrefIdeal.τ).loc Cert.PostFrefIdeal.main_arg5)
      ∧ r.2.mem ((c.tc : Thread Cert.PostFrefIdeal.nD Cert.PostFrefIdeal.τ).loc Cert.PostFrefIdeal.main_arg6) = m ((c.tc : Thread Cert.PostFrefIdeal.nD Cert.PostFrefIdeal.τ).loc Cert.PostFrefIdeal.main_arg6)
      ∧ r.2.mem ((c.tc : Thread Cert.PostFrefIdeal.nD Cert.PostFrefIdeal.τ).loc Cert.PostFrefIdeal.main_arg7) = m ((c.tc : Thread Cert.PostFrefIdeal.nD Cert.PostFrefIdeal.τ).loc Cert.PostFrefIdeal.main_arg7)
      ∧ r.2.mem ((c.tc : Thread Cert.PostFrefIdeal.nD Cert.PostFrefIdeal.τ).loc Cert.PostFrefIdeal.main_arg8) = m ((c.tc : Thread Cert.PostFrefIdeal.nD Cert.PostFrefIdeal.τ).loc Cert.PostFrefIdeal.main_arg8)
      ∧ r.2.mem ((c.tc : Thread Cert.PostFrefIdeal.nD Cert.PostFrefIdeal.τ).loc Cert.PostFrefIdeal.main_arg9) = m ((c.tc : Thread Cert.PostFrefIdeal.nD Cert.PostFrefIdeal.τ).loc Cert.PostFrefIdeal.main_arg9)
      ∧ r.2.mem ((c.tc : Thread Cert.PostFrefIdeal.nD Cert.PostFrefIdeal.τ).loc Cert.PostFrefIdeal.main_arg10) = m ((c.tc : Thread Cert.PostFrefIdeal.nD Cert.PostFrefIdeal.τ).loc Cert.PostFrefIdeal.main_arg10)
      ∧ r.2.mem ((c.tc : Thread Cert.PostFrefIdeal.nD Cert.PostFrefIdeal.τ).loc Cert.PostFrefIdeal.main_arg11) = m ((c.tc : Thread Cert.PostFrefIdeal.nD Cert.PostFrefIdeal.τ).loc Cert.PostFrefIdeal.main_arg11))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ r.2.sem = fun _ => 0)

def quiescent_FfnFrefIdeal [hFfnFrefIdeal : Cert.FfnFrefIdeal.Facts] : Prop :=
  ∀ (m : (ℓ : Loc Cert.FfnFrefIdeal.nD Cert.FfnFrefIdeal.τ Cert.FfnFrefIdeal.sig) → Buf (Elt Ideal) ℓ) (g : Dev Cert.FfnFrefIdeal.nD → PrngReg), Pre_FfnFrefIdeal m →
    θ_run (Cert.FfnFrefIdeal.defs (F := Ideal)) (onTc (τ := Cert.FfnFrefIdeal.τ) (Cert.FfnFrefIdeal.main (F := Ideal))) ⟨m, fun _ => 0, g⟩ (fun r => (∀ c : Dev Cert.FfnFrefIdeal.nD,
      r.2.mem ((c.tc : Thread Cert.FfnFrefIdeal.nD Cert.FfnFrefIdeal.τ).loc Cert.FfnFrefIdeal.main_arg0) = m ((c.tc : Thread Cert.FfnFrefIdeal.nD Cert.FfnFrefIdeal.τ).loc Cert.FfnFrefIdeal.main_arg0)
      ∧ r.2.mem ((c.tc : Thread Cert.FfnFrefIdeal.nD Cert.FfnFrefIdeal.τ).loc Cert.FfnFrefIdeal.main_arg1) = m ((c.tc : Thread Cert.FfnFrefIdeal.nD Cert.FfnFrefIdeal.τ).loc Cert.FfnFrefIdeal.main_arg1)
      ∧ r.2.mem ((c.tc : Thread Cert.FfnFrefIdeal.nD Cert.FfnFrefIdeal.τ).loc Cert.FfnFrefIdeal.main_arg2) = m ((c.tc : Thread Cert.FfnFrefIdeal.nD Cert.FfnFrefIdeal.τ).loc Cert.FfnFrefIdeal.main_arg2)
      ∧ r.2.mem ((c.tc : Thread Cert.FfnFrefIdeal.nD Cert.FfnFrefIdeal.τ).loc Cert.FfnFrefIdeal.main_arg3) = m ((c.tc : Thread Cert.FfnFrefIdeal.nD Cert.FfnFrefIdeal.τ).loc Cert.FfnFrefIdeal.main_arg3)
      ∧ r.2.mem ((c.tc : Thread Cert.FfnFrefIdeal.nD Cert.FfnFrefIdeal.τ).loc Cert.FfnFrefIdeal.main_arg4) = m ((c.tc : Thread Cert.FfnFrefIdeal.nD Cert.FfnFrefIdeal.τ).loc Cert.FfnFrefIdeal.main_arg4))
      ∧ r.2.sem = fun _ => 0)

def quiescent_Dwin [hDwin : Cert.Dwin.Facts] : Prop :=
  ∀ (m : (ℓ : Loc Cert.Dwin.nD Cert.Dwin.τ Cert.Dwin.sig) → Buf (Elt Bits) ℓ) (g : Dev Cert.Dwin.nD → PrngReg), Pre_Dwin m →
    θ_run (Cert.Dwin.defs (F := Bits)) (onTc (τ := Cert.Dwin.τ) (Cert.Dwin.main (F := Bits))) ⟨m, fun _ => 0, g⟩ (fun r => (∀ c : Dev Cert.Dwin.nD,
      r.2.mem ((c.tc : Thread Cert.Dwin.nD Cert.Dwin.τ).loc Cert.Dwin.main_arg0) = m ((c.tc : Thread Cert.Dwin.nD Cert.Dwin.τ).loc Cert.Dwin.main_arg0)
      ∧ r.2.mem ((c.tc : Thread Cert.Dwin.nD Cert.Dwin.τ).loc Cert.Dwin.main_arg1) = m ((c.tc : Thread Cert.Dwin.nD Cert.Dwin.τ).loc Cert.Dwin.main_arg1)
      ∧ r.2.mem ((c.tc : Thread Cert.Dwin.nD Cert.Dwin.τ).loc Cert.Dwin.main_arg2) = m ((c.tc : Thread Cert.Dwin.nD Cert.Dwin.τ).loc Cert.Dwin.main_arg2)
      ∧ r.2.mem ((c.tc : Thread Cert.Dwin.nD Cert.Dwin.τ).loc Cert.Dwin.main_arg3) = m ((c.tc : Thread Cert.Dwin.nD Cert.Dwin.τ).loc Cert.Dwin.main_arg3)
      ∧ r.2.mem ((c.tc : Thread Cert.Dwin.nD Cert.Dwin.τ).loc Cert.Dwin.main_arg4) = m ((c.tc : Thread Cert.Dwin.nD Cert.Dwin.τ).loc Cert.Dwin.main_arg4)
      ∧ r.2.mem ((c.tc : Thread Cert.Dwin.nD Cert.Dwin.τ).loc Cert.Dwin.main_arg5) = m ((c.tc : Thread Cert.Dwin.nD Cert.Dwin.τ).loc Cert.Dwin.main_arg5)
      ∧ r.2.mem ((c.tc : Thread Cert.Dwin.nD Cert.Dwin.τ).loc Cert.Dwin.main_arg6) = m ((c.tc : Thread Cert.Dwin.nD Cert.Dwin.τ).loc Cert.Dwin.main_arg6)
      ∧ r.2.mem ((c.tc : Thread Cert.Dwin.nD Cert.Dwin.τ).loc Cert.Dwin.main_arg7) = m ((c.tc : Thread Cert.Dwin.nD Cert.Dwin.τ).loc Cert.Dwin.main_arg7))
      ∧ r.2.sem = fun _ => 0)

def quiescent_DwinIdeal [hDwinIdeal : Cert.DwinIdeal.Facts] : Prop :=
  ∀ (m : (ℓ : Loc Cert.DwinIdeal.nD Cert.DwinIdeal.τ Cert.DwinIdeal.sig) → Buf (Elt Ideal) ℓ) (g : Dev Cert.DwinIdeal.nD → PrngReg), Pre_DwinIdeal m →
    θ_run (Cert.DwinIdeal.defs (F := Ideal)) (onTc (τ := Cert.DwinIdeal.τ) (Cert.DwinIdeal.main (F := Ideal))) ⟨m, fun _ => 0, g⟩ (fun r => (∀ c : Dev Cert.DwinIdeal.nD,
      r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
      ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1)
      ∧ r.2.mem ((c.tc : Thread Cert.DwinIdeal.nD Cert.DwinIdeal.τ).loc Cert.DwinIdeal.main_arg2) = m ((c.tc : Thread Cert.DwinIdeal.nD Cert.DwinIdeal.τ).loc Cert.DwinIdeal.main_arg2)
      ∧ r.2.mem ((c.tc : Thread Cert.DwinIdeal.nD Cert.DwinIdeal.τ).loc Cert.DwinIdeal.main_arg3) = m ((c.tc : Thread Cert.DwinIdeal.nD Cert.DwinIdeal.τ).loc Cert.DwinIdeal.main_arg3)
      ∧ r.2.mem ((c.tc : Thread Cert.DwinIdeal.nD Cert.DwinIdeal.τ).loc Cert.DwinIdeal.main_arg4) = m ((c.tc : Thread Cert.DwinIdeal.nD Cert.DwinIdeal.τ).loc Cert.DwinIdeal.main_arg4)
      ∧ r.2.mem ((c.tc : Thread Cert.DwinIdeal.nD Cert.DwinIdeal.τ).loc Cert.DwinIdeal.main_arg5) = m ((c.tc : Thread Cert.DwinIdeal.nD Cert.DwinIdeal.τ).loc Cert.DwinIdeal.main_arg5)
      ∧ r.2.mem ((c.tc : Thread Cert.DwinIdeal.nD Cert.DwinIdeal.τ).loc Cert.DwinIdeal.main_arg6) = m ((c.tc : Thread Cert.DwinIdeal.nD Cert.DwinIdeal.τ).loc Cert.DwinIdeal.main_arg6)
      ∧ r.2.mem ((c.tc : Thread Cert.DwinIdeal.nD Cert.DwinIdeal.τ).loc Cert.DwinIdeal.main_arg7) = m ((c.tc : Thread Cert.DwinIdeal.nD Cert.DwinIdeal.τ).loc Cert.DwinIdeal.main_arg7))
      ∧ r.2.sem = fun _ => 0)

def quiescent_DwinRefIdeal [hDwinRefIdeal : Cert.DwinRefIdeal.Facts] : Prop :=
  ∀ (m : (ℓ : Loc Cert.DwinRefIdeal.nD Cert.DwinRefIdeal.τ Cert.DwinRefIdeal.sig) → Buf (Elt Ideal) ℓ) (g : Dev Cert.DwinRefIdeal.nD → PrngReg), Pre_DwinRefIdeal m →
    θ_run (Cert.DwinRefIdeal.defs (F := Ideal)) (onTc (τ := Cert.DwinRefIdeal.τ) (Cert.DwinRefIdeal.main (F := Ideal))) ⟨m, fun _ => 0, g⟩ (fun r => (∀ c : Dev Cert.DwinRefIdeal.nD,
      r.2.mem ((c.tc : Thread Cert.DwinRefIdeal.nD Cert.DwinRefIdeal.τ).loc Cert.DwinRefIdeal.main_arg0) = m ((c.tc : Thread Cert.DwinRefIdeal.nD Cert.DwinRefIdeal.τ).loc Cert.DwinRefIdeal.main_arg0)
      ∧ r.2.mem ((c.tc : Thread Cert.DwinRefIdeal.nD Cert.DwinRefIdeal.τ).loc Cert.DwinRefIdeal.main_arg1) = m ((c.tc : Thread Cert.DwinRefIdeal.nD Cert.DwinRefIdeal.τ).loc Cert.DwinRefIdeal.main_arg1)
      ∧ r.2.mem ((c.tc : Thread Cert.DwinRefIdeal.nD Cert.DwinRefIdeal.τ).loc Cert.DwinRefIdeal.main_arg2) = m ((c.tc : Thread Cert.DwinRefIdeal.nD Cert.DwinRefIdeal.τ).loc Cert.DwinRefIdeal.main_arg2)
      ∧ r.2.mem ((c.tc : Thread Cert.DwinRefIdeal.nD Cert.DwinRefIdeal.τ).loc Cert.DwinRefIdeal.main_arg3) = m ((c.tc : Thread Cert.DwinRefIdeal.nD Cert.DwinRefIdeal.τ).loc Cert.DwinRefIdeal.main_arg3)
      ∧ r.2.mem ((c.tc : Thread Cert.DwinRefIdeal.nD Cert.DwinRefIdeal.τ).loc Cert.DwinRefIdeal.main_arg4) = m ((c.tc : Thread Cert.DwinRefIdeal.nD Cert.DwinRefIdeal.τ).loc Cert.DwinRefIdeal.main_arg4)
      ∧ r.2.mem ((c.tc : Thread Cert.DwinRefIdeal.nD Cert.DwinRefIdeal.τ).loc Cert.DwinRefIdeal.main_arg5) = m ((c.tc : Thread Cert.DwinRefIdeal.nD Cert.DwinRefIdeal.τ).loc Cert.DwinRefIdeal.main_arg5)
      ∧ r.2.mem ((c.tc : Thread Cert.DwinRefIdeal.nD Cert.DwinRefIdeal.τ).loc Cert.DwinRefIdeal.main_arg6) = m ((c.tc : Thread Cert.DwinRefIdeal.nD Cert.DwinRefIdeal.τ).loc Cert.DwinRefIdeal.main_arg6)
      ∧ r.2.mem ((c.tc : Thread Cert.DwinRefIdeal.nD Cert.DwinRefIdeal.τ).loc Cert.DwinRefIdeal.main_arg7) = m ((c.tc : Thread Cert.DwinRefIdeal.nD Cert.DwinRefIdeal.τ).loc Cert.DwinRefIdeal.main_arg7))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Slabs [hSlabs : Cert.Slabs.Facts] : Prop :=
  ∀ (m : (ℓ : Loc Cert.Slabs.nD Cert.Slabs.τ Cert.Slabs.sig) → Buf (Elt Bits) ℓ) (g : Dev Cert.Slabs.nD → PrngReg), Pre_Slabs m →
    θ_run (Cert.Slabs.defs (F := Bits)) (onTc (τ := Cert.Slabs.τ) (Cert.Slabs.main (F := Bits))) ⟨m, fun _ => 0, g⟩ (fun r => (∀ c : Dev Cert.Slabs.nD,
      r.2.mem ((c.tc : Thread Cert.Slabs.nD Cert.Slabs.τ).loc Cert.Slabs.main_arg0) = m ((c.tc : Thread Cert.Slabs.nD Cert.Slabs.τ).loc Cert.Slabs.main_arg0))
      ∧ r.2.sem = fun _ => 0)

def quiescent_SlabsIdeal [hSlabsIdeal : Cert.SlabsIdeal.Facts] : Prop :=
  ∀ (m : (ℓ : Loc Cert.SlabsIdeal.nD Cert.SlabsIdeal.τ Cert.SlabsIdeal.sig) → Buf (Elt Ideal) ℓ) (g : Dev Cert.SlabsIdeal.nD → PrngReg), Pre_SlabsIdeal m →
    θ_run (Cert.SlabsIdeal.defs (F := Ideal)) (onTc (τ := Cert.SlabsIdeal.τ) (Cert.SlabsIdeal.main (F := Ideal))) ⟨m, fun _ => 0, g⟩ (fun r => (∀ c : Dev Cert.SlabsIdeal.nD,
      r.2.mem ((c.tc : Thread Cert.SlabsIdeal.nD Cert.SlabsIdeal.τ).loc Cert.SlabsIdeal.main_arg0) = m ((c.tc : Thread Cert.SlabsIdeal.nD Cert.SlabsIdeal.τ).loc Cert.SlabsIdeal.main_arg0))
      ∧ r.2.sem = fun _ => 0)

def quiescent_SlabsRefIdeal [hSlabsRefIdeal : Cert.SlabsRefIdeal.Facts] : Prop :=
  ∀ (m : (ℓ : Loc Cert.SlabsRefIdeal.nD Cert.SlabsRefIdeal.τ Cert.SlabsRefIdeal.sig) → Buf (Elt Ideal) ℓ) (g : Dev Cert.SlabsRefIdeal.nD → PrngReg), Pre_SlabsRefIdeal m →
    θ_run (Cert.SlabsRefIdeal.defs (F := Ideal)) (onTc (τ := Cert.SlabsRefIdeal.τ) (Cert.SlabsRefIdeal.main (F := Ideal))) ⟨m, fun _ => 0, g⟩ (fun r => (∀ c : Dev Cert.SlabsRefIdeal.nD,
      r.2.mem ((c.tc : Thread Cert.SlabsRefIdeal.nD Cert.SlabsRefIdeal.τ).loc Cert.SlabsRefIdeal.main_arg0) = m ((c.tc : Thread Cert.SlabsRefIdeal.nD Cert.SlabsRefIdeal.τ).loc Cert.SlabsRefIdeal.main_arg0))
      ∧ r.2.sem = fun _ => 0)

def preserves_DiscK_DiscKIdeal : Prop :=
  True

def algebraic_DiscKIdeal_DiscRIdeal [hDiscKIdeal : Cert.DiscKIdeal.Facts] [hDiscRIdeal : Cert.DiscRIdeal.Facts] : Prop :=
  ∀ (m : (ℓ : Loc Cert.DiscKIdeal.nD Cert.DiscKIdeal.τ Cert.DiscKIdeal.sig) → Buf (Elt Ideal) ℓ) (g : Dev Cert.DiscKIdeal.nD → PrngReg)
    (m' : (ℓ : Loc Cert.DiscRIdeal.nD Cert.DiscRIdeal.τ Cert.DiscRIdeal.sig) → Buf (Elt Ideal) ℓ) (g' : Dev Cert.DiscRIdeal.nD → PrngReg), Pre_DiscKIdeal m →
    (∀ c : Dev Cert.DiscKIdeal.nD,
      m' ((c.tc : Thread Cert.DiscRIdeal.nD Cert.DiscRIdeal.τ).loc Cert.DiscRIdeal.main_arg0) = m ((c.tc : Thread Cert.DiscKIdeal.nD Cert.DiscKIdeal.τ).loc Cert.DiscKIdeal.main_arg0)
      ∧ m' ((c.tc : Thread Cert.DiscRIdeal.nD Cert.DiscRIdeal.τ).loc Cert.DiscRIdeal.main_arg1) = m ((c.tc : Thread Cert.DiscKIdeal.nD Cert.DiscKIdeal.τ).loc Cert.DiscKIdeal.main_arg1)
      ∧ m' ((c.tc : Thread Cert.DiscRIdeal.nD Cert.DiscRIdeal.τ).loc Cert.DiscRIdeal.main_arg2) = m ((c.tc : Thread Cert.DiscKIdeal.nD Cert.DiscKIdeal.τ).loc Cert.DiscKIdeal.main_arg2)
      ∧ m' ((c.tc : Thread Cert.DiscRIdeal.nD Cert.DiscRIdeal.τ).loc Cert.DiscRIdeal.main_arg3) = m ((c.tc : Thread Cert.DiscKIdeal.nD Cert.DiscKIdeal.τ).loc Cert.DiscKIdeal.main_arg3)
      ∧ m' ((c.tc : Thread Cert.DiscRIdeal.nD Cert.DiscRIdeal.τ).loc Cert.DiscRIdeal.main_arg4) = m ((c.tc : Thread Cert.DiscKIdeal.nD Cert.DiscKIdeal.τ).loc Cert.DiscKIdeal.main_arg4)
      ∧ m' ((c.tc : Thread Cert.DiscRIdeal.nD Cert.DiscRIdeal.τ).loc Cert.DiscRIdeal.main_arg5) = m ((c.tc : Thread Cert.DiscKIdeal.nD Cert.DiscKIdeal.τ).loc Cert.DiscKIdeal.main_arg5)
      ∧ m' ((c.tc : Thread Cert.DiscRIdeal.nD Cert.DiscRIdeal.τ).loc Cert.DiscRIdeal.main_arg6) = m ((c.tc : Thread Cert.DiscKIdeal.nD Cert.DiscKIdeal.τ).loc Cert.DiscKIdeal.main_arg6)
      ∧ m' ((c.tc : Thread Cert.DiscRIdeal.nD Cert.DiscRIdeal.τ).loc Cert.DiscRIdeal.main_arg7) = m ((c.tc : Thread Cert.DiscKIdeal.nD Cert.DiscKIdeal.τ).loc Cert.DiscKIdeal.main_arg7)
      ∧ m' ((c.tc : Thread Cert.DiscRIdeal.nD Cert.DiscRIdeal.τ).loc Cert.DiscRIdeal.main_arg8) = m ((c.tc : Thread Cert.DiscKIdeal.nD Cert.DiscKIdeal.τ).loc Cert.DiscKIdeal.main_arg8)) →
    ∃ (v0 : (c : Dev Cert.DiscKIdeal.nD) → Buf (Elt Ideal) ((c.tc : Thread Cert.DiscKIdeal.nD Cert.DiscKIdeal.τ).loc Cert.DiscKIdeal.main_v8_0)) (v1 : (c : Dev Cert.DiscKIdeal.nD) → Buf (Elt Ideal) ((c.tc : Thread Cert.DiscKIdeal.nD Cert.DiscKIdeal.τ).loc Cert.DiscKIdeal.main_v8_1)) (v2 : (c : Dev Cert.DiscKIdeal.nD) → Buf (Elt Ideal) ((c.tc : Thread Cert.DiscKIdeal.nD Cert.DiscKIdeal.τ).loc Cert.DiscKIdeal.main_v8_2)) (v3 : (c : Dev Cert.DiscKIdeal.nD) → Buf (Elt Ideal) ((c.tc : Thread Cert.DiscKIdeal.nD Cert.DiscKIdeal.τ).loc Cert.DiscKIdeal.main_v8_3)) (v4 : (c : Dev Cert.DiscKIdeal.nD) → Buf (Elt Ideal) ((c.tc : Thread Cert.DiscKIdeal.nD Cert.DiscKIdeal.τ).loc Cert.DiscKIdeal.main_v8_4)),
      θ_run (Cert.DiscKIdeal.defs (F := Ideal)) (onTc (τ := Cert.DiscKIdeal.τ) (Cert.DiscKIdeal.main (F := Ideal))) ⟨m, fun _ => 0, g⟩ (fun r => ∀ c : Dev Cert.DiscKIdeal.nD,
          r.2.mem ((c.tc : Thread Cert.DiscKIdeal.nD Cert.DiscKIdeal.τ).loc Cert.DiscKIdeal.main_v8_0) = v0 c
          ∧ r.2.mem ((c.tc : Thread Cert.DiscKIdeal.nD Cert.DiscKIdeal.τ).loc Cert.DiscKIdeal.main_v8_1) = v1 c
          ∧ r.2.mem ((c.tc : Thread Cert.DiscKIdeal.nD Cert.DiscKIdeal.τ).loc Cert.DiscKIdeal.main_v8_2) = v2 c
          ∧ r.2.mem ((c.tc : Thread Cert.DiscKIdeal.nD Cert.DiscKIdeal.τ).loc Cert.DiscKIdeal.main_v8_3) = v3 c
          ∧ r.2.mem ((c.tc : Thread Cert.DiscKIdeal.nD Cert.DiscKIdeal.τ).loc Cert.DiscKIdeal.main_v8_4) = v4 c
          ∧ r.2.mem ((c.tc : Thread Cert.DiscKIdeal.nD Cert.DiscKIdeal.τ).loc Cert.DiscKIdeal.main_arg0) = m ((c.tc : Thread Cert.DiscKIdeal.nD Cert.DiscKIdeal.τ).loc Cert.DiscKIdeal.main_arg0)
          ∧ r.2.mem ((c.tc : Thread Cert.DiscKIdeal.nD Cert.DiscKIdeal.τ).loc Cert.DiscKIdeal.main_arg1) = m ((c.tc : Thread Cert.DiscKIdeal.nD Cert.DiscKIdeal.τ).loc Cert.DiscKIdeal.main_arg1)
          ∧ r.2.mem ((c.tc : Thread Cert.DiscKIdeal.nD Cert.DiscKIdeal.τ).loc Cert.DiscKIdeal.main_arg2) = m ((c.tc : Thread Cert.DiscKIdeal.nD Cert.DiscKIdeal.τ).loc Cert.DiscKIdeal.main_arg2)
          ∧ r.2.mem ((c.tc : Thread Cert.DiscKIdeal.nD Cert.DiscKIdeal.τ).loc Cert.DiscKIdeal.main_arg3) = m ((c.tc : Thread Cert.DiscKIdeal.nD Cert.DiscKIdeal.τ).loc Cert.DiscKIdeal.main_arg3)
          ∧ r.2.mem ((c.tc : Thread Cert.DiscKIdeal.nD Cert.DiscKIdeal.τ).loc Cert.DiscKIdeal.main_arg4) = m ((c.tc : Thread Cert.DiscKIdeal.nD Cert.DiscKIdeal.τ).loc Cert.DiscKIdeal.main_arg4)
          ∧ r.2.mem ((c.tc : Thread Cert.DiscKIdeal.nD Cert.DiscKIdeal.τ).loc Cert.DiscKIdeal.main_arg5) = m ((c.tc : Thread Cert.DiscKIdeal.nD Cert.DiscKIdeal.τ).loc Cert.DiscKIdeal.main_arg5)
          ∧ r.2.mem ((c.tc : Thread Cert.DiscKIdeal.nD Cert.DiscKIdeal.τ).loc Cert.DiscKIdeal.main_arg6) = m ((c.tc : Thread Cert.DiscKIdeal.nD Cert.DiscKIdeal.τ).loc Cert.DiscKIdeal.main_arg6)
          ∧ r.2.mem ((c.tc : Thread Cert.DiscKIdeal.nD Cert.DiscKIdeal.τ).loc Cert.DiscKIdeal.main_arg7) = m ((c.tc : Thread Cert.DiscKIdeal.nD Cert.DiscKIdeal.τ).loc Cert.DiscKIdeal.main_arg7)
          ∧ r.2.mem ((c.tc : Thread Cert.DiscKIdeal.nD Cert.DiscKIdeal.τ).loc Cert.DiscKIdeal.main_arg8) = m ((c.tc : Thread Cert.DiscKIdeal.nD Cert.DiscKIdeal.τ).loc Cert.DiscKIdeal.main_arg8))
      ∧ θ_run (Cert.DiscRIdeal.defs (F := Ideal)) (onTc (τ := Cert.DiscRIdeal.τ) (Cert.DiscRIdeal.main (F := Ideal))) ⟨m', fun _ => 0, g'⟩ (fun r => ∀ c : Dev Cert.DiscRIdeal.nD,
          r.2.mem ((c.tc : Thread Cert.DiscRIdeal.nD Cert.DiscRIdeal.τ).loc Cert.DiscRIdeal.main_v144) = v0 c
          ∧ r.2.mem ((c.tc : Thread Cert.DiscRIdeal.nD Cert.DiscRIdeal.τ).loc Cert.DiscRIdeal.main_v136) = v1 c
          ∧ r.2.mem ((c.tc : Thread Cert.DiscRIdeal.nD Cert.DiscRIdeal.τ).loc Cert.DiscRIdeal.main_v147) = v2 c
          ∧ r.2.mem ((c.tc : Thread Cert.DiscRIdeal.nD Cert.DiscRIdeal.τ).loc Cert.DiscRIdeal.main_v148) = v3 c
          ∧ r.2.mem ((c.tc : Thread Cert.DiscRIdeal.nD Cert.DiscRIdeal.τ).loc Cert.DiscRIdeal.main_v149) = v4 c
          ∧ r.2.mem ((c.tc : Thread Cert.DiscRIdeal.nD Cert.DiscRIdeal.τ).loc Cert.DiscRIdeal.main_arg0) = m' ((c.tc : Thread Cert.DiscRIdeal.nD Cert.DiscRIdeal.τ).loc Cert.DiscRIdeal.main_arg0)
          ∧ r.2.mem ((c.tc : Thread Cert.DiscRIdeal.nD Cert.DiscRIdeal.τ).loc Cert.DiscRIdeal.main_arg1) = m' ((c.tc : Thread Cert.DiscRIdeal.nD Cert.DiscRIdeal.τ).loc Cert.DiscRIdeal.main_arg1)
          ∧ r.2.mem ((c.tc : Thread Cert.DiscRIdeal.nD Cert.DiscRIdeal.τ).loc Cert.DiscRIdeal.main_arg2) = m' ((c.tc : Thread Cert.DiscRIdeal.nD Cert.DiscRIdeal.τ).loc Cert.DiscRIdeal.main_arg2)
          ∧ r.2.mem ((c.tc : Thread Cert.DiscRIdeal.nD Cert.DiscRIdeal.τ).loc Cert.DiscRIdeal.main_arg3) = m' ((c.tc : Thread Cert.DiscRIdeal.nD Cert.DiscRIdeal.τ).loc Cert.DiscRIdeal.main_arg3)
          ∧ r.2.mem ((c.tc : Thread Cert.DiscRIdeal.nD Cert.DiscRIdeal.τ).loc Cert.DiscRIdeal.main_arg4) = m' ((c.tc : Thread Cert.DiscRIdeal.nD Cert.DiscRIdeal.τ).loc Cert.DiscRIdeal.main_arg4)
          ∧ r.2.mem ((c.tc : Thread Cert.DiscRIdeal.nD Cert.DiscRIdeal.τ).loc Cert.DiscRIdeal.main_arg5) = m' ((c.tc : Thread Cert.DiscRIdeal.nD Cert.DiscRIdeal.τ).loc Cert.DiscRIdeal.main_arg5)
          ∧ r.2.mem ((c.tc : Thread Cert.DiscRIdeal.nD Cert.DiscRIdeal.τ).loc Cert.DiscRIdeal.main_arg6) = m' ((c.tc : Thread Cert.DiscRIdeal.nD Cert.DiscRIdeal.τ).loc Cert.DiscRIdeal.main_arg6)
          ∧ r.2.mem ((c.tc : Thread Cert.DiscRIdeal.nD Cert.DiscRIdeal.τ).loc Cert.DiscRIdeal.main_arg7) = m' ((c.tc : Thread Cert.DiscRIdeal.nD Cert.DiscRIdeal.τ).loc Cert.DiscRIdeal.main_arg7)
          ∧ r.2.mem ((c.tc : Thread Cert.DiscRIdeal.nD Cert.DiscRIdeal.τ).loc Cert.DiscRIdeal.main_arg8) = m' ((c.tc : Thread Cert.DiscRIdeal.nD Cert.DiscRIdeal.τ).loc Cert.DiscRIdeal.main_arg8))

def preserves_PreBwd_PreBwdIdeal : Prop :=
  True

def algebraic_PreBwdIdeal_PreRefIdeal_pre_pre_finite [hPreBwdIdeal : Cert.PreBwdIdeal.Facts] [hPreRefIdeal : Cert.PreRefIdeal.Facts] [hPre_pre_finite : Cert.Pre_pre_finite.Facts] : Prop :=
  ∀ (m : (ℓ : Loc Cert.PreBwdIdeal.nD Cert.PreBwdIdeal.τ Cert.PreBwdIdeal.sig) → Buf (Elt Ideal) ℓ) (g : Dev Cert.PreBwdIdeal.nD → PrngReg)
    (m' : (ℓ : Loc Cert.PreRefIdeal.nD Cert.PreRefIdeal.τ Cert.PreRefIdeal.sig) → Buf (Elt Ideal) ℓ) (g' : Dev Cert.PreRefIdeal.nD → PrngReg), Pre_PreBwdIdeal_pre_finite m →
    (∀ c : Dev Cert.PreBwdIdeal.nD,
      m' ((c.tc : Thread Cert.PreRefIdeal.nD Cert.PreRefIdeal.τ).loc Cert.PreRefIdeal.main_arg0) = m ((c.tc : Thread Cert.PreBwdIdeal.nD Cert.PreBwdIdeal.τ).loc Cert.PreBwdIdeal.main_arg0)
      ∧ m' ((c.tc : Thread Cert.PreRefIdeal.nD Cert.PreRefIdeal.τ).loc Cert.PreRefIdeal.main_arg1) = m ((c.tc : Thread Cert.PreBwdIdeal.nD Cert.PreBwdIdeal.τ).loc Cert.PreBwdIdeal.main_arg1)
      ∧ m' ((c.tc : Thread Cert.PreRefIdeal.nD Cert.PreRefIdeal.τ).loc Cert.PreRefIdeal.main_arg2) = m ((c.tc : Thread Cert.PreBwdIdeal.nD Cert.PreBwdIdeal.τ).loc Cert.PreBwdIdeal.main_arg2)
      ∧ m' ((c.tc : Thread Cert.PreRefIdeal.nD Cert.PreRefIdeal.τ).loc Cert.PreRefIdeal.main_arg3) = m ((c.tc : Thread Cert.PreBwdIdeal.nD Cert.PreBwdIdeal.τ).loc Cert.PreBwdIdeal.main_arg3)
      ∧ m' ((c.tc : Thread Cert.PreRefIdeal.nD Cert.PreRefIdeal.τ).loc Cert.PreRefIdeal.main_arg4) = m ((c.tc : Thread Cert.PreBwdIdeal.nD Cert.PreBwdIdeal.τ).loc Cert.PreBwdIdeal.main_arg4)
      ∧ m' ((c.tc : Thread Cert.PreRefIdeal.nD Cert.PreRefIdeal.τ).loc Cert.PreRefIdeal.main_arg5) = m ((c.tc : Thread Cert.PreBwdIdeal.nD Cert.PreBwdIdeal.τ).loc Cert.PreBwdIdeal.main_arg5)
      ∧ m' ((c.tc : Thread Cert.PreRefIdeal.nD Cert.PreRefIdeal.τ).loc Cert.PreRefIdeal.main_arg6) = m ((c.tc : Thread Cert.PreBwdIdeal.nD Cert.PreBwdIdeal.τ).loc Cert.PreBwdIdeal.main_arg6)
      ∧ m' ((c.tc : Thread Cert.PreRefIdeal.nD Cert.PreRefIdeal.τ).loc Cert.PreRefIdeal.main_arg7) = m ((c.tc : Thread Cert.PreBwdIdeal.nD Cert.PreBwdIdeal.τ).loc Cert.PreBwdIdeal.main_arg7)
      ∧ m' ((c.tc : Thread Cert.PreRefIdeal.nD Cert.PreRefIdeal.τ).loc Cert.PreRefIdeal.main_arg8) = m ((c.tc : Thread Cert.PreBwdIdeal.nD Cert.PreBwdIdeal.τ).loc Cert.PreBwdIdeal.main_arg8)
      ∧ m' ((c.tc : Thread Cert.PreRefIdeal.nD Cert.PreRefIdeal.τ).loc Cert.PreRefIdeal.main_arg9) = m ((c.tc : Thread Cert.PreBwdIdeal.nD Cert.PreBwdIdeal.τ).loc Cert.PreBwdIdeal.main_arg9)
      ∧ m' ((c.tc : Thread Cert.PreRefIdeal.nD Cert.PreRefIdeal.τ).loc Cert.PreRefIdeal.main_arg10) = m ((c.tc : Thread Cert.PreBwdIdeal.nD Cert.PreBwdIdeal.τ).loc Cert.PreBwdIdeal.main_arg10)
      ∧ m' ((c.tc : Thread Cert.PreRefIdeal.nD Cert.PreRefIdeal.τ).loc Cert.PreRefIdeal.main_arg11) = m ((c.tc : Thread Cert.PreBwdIdeal.nD Cert.PreBwdIdeal.τ).loc Cert.PreBwdIdeal.main_arg11)) →
    ∃ (v0 : (c : Dev Cert.PreBwdIdeal.nD) → Buf (Elt Ideal) ((c.tc : Thread Cert.PreBwdIdeal.nD Cert.PreBwdIdeal.τ).loc Cert.PreBwdIdeal.main_v2_0)) (v1 : (c : Dev Cert.PreBwdIdeal.nD) → Buf (Elt Ideal) ((c.tc : Thread Cert.PreBwdIdeal.nD Cert.PreBwdIdeal.τ).loc Cert.PreBwdIdeal.main_v2_1)),
      θ_run (Cert.PreBwdIdeal.defs (F := Ideal)) (onTc (τ := Cert.PreBwdIdeal.τ) (Cert.PreBwdIdeal.main (F := Ideal))) ⟨m, fun _ => 0, g⟩ (fun r => ∀ c : Dev Cert.PreBwdIdeal.nD,
          r.2.mem ((c.tc : Thread Cert.PreBwdIdeal.nD Cert.PreBwdIdeal.τ).loc Cert.PreBwdIdeal.main_v2_0) = v0 c
          ∧ r.2.mem ((c.tc : Thread Cert.PreBwdIdeal.nD Cert.PreBwdIdeal.τ).loc Cert.PreBwdIdeal.main_v2_1) = v1 c
          ∧ r.2.mem ((c.tc : Thread Cert.PreBwdIdeal.nD Cert.PreBwdIdeal.τ).loc Cert.PreBwdIdeal.main_arg0) = m ((c.tc : Thread Cert.PreBwdIdeal.nD Cert.PreBwdIdeal.τ).loc Cert.PreBwdIdeal.main_arg0)
          ∧ r.2.mem ((c.tc : Thread Cert.PreBwdIdeal.nD Cert.PreBwdIdeal.τ).loc Cert.PreBwdIdeal.main_arg1) = m ((c.tc : Thread Cert.PreBwdIdeal.nD Cert.PreBwdIdeal.τ).loc Cert.PreBwdIdeal.main_arg1)
          ∧ r.2.mem ((c.tc : Thread Cert.PreBwdIdeal.nD Cert.PreBwdIdeal.τ).loc Cert.PreBwdIdeal.main_arg2) = m ((c.tc : Thread Cert.PreBwdIdeal.nD Cert.PreBwdIdeal.τ).loc Cert.PreBwdIdeal.main_arg2)
          ∧ r.2.mem ((c.tc : Thread Cert.PreBwdIdeal.nD Cert.PreBwdIdeal.τ).loc Cert.PreBwdIdeal.main_arg3) = m ((c.tc : Thread Cert.PreBwdIdeal.nD Cert.PreBwdIdeal.τ).loc Cert.PreBwdIdeal.main_arg3)
          ∧ r.2.mem ((c.tc : Thread Cert.PreBwdIdeal.nD Cert.PreBwdIdeal.τ).loc Cert.PreBwdIdeal.main_arg4) = m ((c.tc : Thread Cert.PreBwdIdeal.nD Cert.PreBwdIdeal.τ).loc Cert.PreBwdIdeal.main_arg4)
          ∧ r.2.mem ((c.tc : Thread Cert.PreBwdIdeal.nD Cert.PreBwdIdeal.τ).loc Cert.PreBwdIdeal.main_arg5) = m ((c.tc : Thread Cert.PreBwdIdeal.nD Cert.PreBwdIdeal.τ).loc Cert.PreBwdIdeal.main_arg5)
          ∧ r.2.mem ((c.tc : Thread Cert.PreBwdIdeal.nD Cert.PreBwdIdeal.τ).loc Cert.PreBwdIdeal.main_arg6) = m ((c.tc : Thread Cert.PreBwdIdeal.nD Cert.PreBwdIdeal.τ).loc Cert.PreBwdIdeal.main_arg6)
          ∧ r.2.mem ((c.tc : Thread Cert.PreBwdIdeal.nD Cert.PreBwdIdeal.τ).loc Cert.PreBwdIdeal.main_arg7) = m ((c.tc : Thread Cert.PreBwdIdeal.nD Cert.PreBwdIdeal.τ).loc Cert.PreBwdIdeal.main_arg7)
          ∧ r.2.mem ((c.tc : Thread Cert.PreBwdIdeal.nD Cert.PreBwdIdeal.τ).loc Cert.PreBwdIdeal.main_arg8) = m ((c.tc : Thread Cert.PreBwdIdeal.nD Cert.PreBwdIdeal.τ).loc Cert.PreBwdIdeal.main_arg8)
          ∧ r.2.mem ((c.tc : Thread Cert.PreBwdIdeal.nD Cert.PreBwdIdeal.τ).loc Cert.PreBwdIdeal.main_arg9) = m ((c.tc : Thread Cert.PreBwdIdeal.nD Cert.PreBwdIdeal.τ).loc Cert.PreBwdIdeal.main_arg9)
          ∧ r.2.mem ((c.tc : Thread Cert.PreBwdIdeal.nD Cert.PreBwdIdeal.τ).loc Cert.PreBwdIdeal.main_arg10) = m ((c.tc : Thread Cert.PreBwdIdeal.nD Cert.PreBwdIdeal.τ).loc Cert.PreBwdIdeal.main_arg10)
          ∧ r.2.mem ((c.tc : Thread Cert.PreBwdIdeal.nD Cert.PreBwdIdeal.τ).loc Cert.PreBwdIdeal.main_arg11) = m ((c.tc : Thread Cert.PreBwdIdeal.nD Cert.PreBwdIdeal.τ).loc Cert.PreBwdIdeal.main_arg11))
      ∧ θ_run (Cert.PreRefIdeal.defs (F := Ideal)) (onTc (τ := Cert.PreRefIdeal.τ) (Cert.PreRefIdeal.main (F := Ideal))) ⟨m', fun _ => 0, g'⟩ (fun r => ∀ c : Dev Cert.PreRefIdeal.nD,
          r.2.mem ((c.tc : Thread Cert.PreRefIdeal.nD Cert.PreRefIdeal.τ).loc Cert.PreRefIdeal.main_v52) = v0 c
          ∧ r.2.mem ((c.tc : Thread Cert.PreRefIdeal.nD Cert.PreRefIdeal.τ).loc Cert.PreRefIdeal.main_v35) = v1 c
          ∧ r.2.mem ((c.tc : Thread Cert.PreRefIdeal.nD Cert.PreRefIdeal.τ).loc Cert.PreRefIdeal.main_arg0) = m' ((c.tc : Thread Cert.PreRefIdeal.nD Cert.PreRefIdeal.τ).loc Cert.PreRefIdeal.main_arg0)
          ∧ r.2.mem ((c.tc : Thread Cert.PreRefIdeal.nD Cert.PreRefIdeal.τ).loc Cert.PreRefIdeal.main_arg1) = m' ((c.tc : Thread Cert.PreRefIdeal.nD Cert.PreRefIdeal.τ).loc Cert.PreRefIdeal.main_arg1)
          ∧ r.2.mem ((c.tc : Thread Cert.PreRefIdeal.nD Cert.PreRefIdeal.τ).loc Cert.PreRefIdeal.main_arg2) = m' ((c.tc : Thread Cert.PreRefIdeal.nD Cert.PreRefIdeal.τ).loc Cert.PreRefIdeal.main_arg2)
          ∧ r.2.mem ((c.tc : Thread Cert.PreRefIdeal.nD Cert.PreRefIdeal.τ).loc Cert.PreRefIdeal.main_arg3) = m' ((c.tc : Thread Cert.PreRefIdeal.nD Cert.PreRefIdeal.τ).loc Cert.PreRefIdeal.main_arg3)
          ∧ r.2.mem ((c.tc : Thread Cert.PreRefIdeal.nD Cert.PreRefIdeal.τ).loc Cert.PreRefIdeal.main_arg4) = m' ((c.tc : Thread Cert.PreRefIdeal.nD Cert.PreRefIdeal.τ).loc Cert.PreRefIdeal.main_arg4)
          ∧ r.2.mem ((c.tc : Thread Cert.PreRefIdeal.nD Cert.PreRefIdeal.τ).loc Cert.PreRefIdeal.main_arg5) = m' ((c.tc : Thread Cert.PreRefIdeal.nD Cert.PreRefIdeal.τ).loc Cert.PreRefIdeal.main_arg5)
          ∧ r.2.mem ((c.tc : Thread Cert.PreRefIdeal.nD Cert.PreRefIdeal.τ).loc Cert.PreRefIdeal.main_arg6) = m' ((c.tc : Thread Cert.PreRefIdeal.nD Cert.PreRefIdeal.τ).loc Cert.PreRefIdeal.main_arg6)
          ∧ r.2.mem ((c.tc : Thread Cert.PreRefIdeal.nD Cert.PreRefIdeal.τ).loc Cert.PreRefIdeal.main_arg7) = m' ((c.tc : Thread Cert.PreRefIdeal.nD Cert.PreRefIdeal.τ).loc Cert.PreRefIdeal.main_arg7)
          ∧ r.2.mem ((c.tc : Thread Cert.PreRefIdeal.nD Cert.PreRefIdeal.τ).loc Cert.PreRefIdeal.main_arg8) = m' ((c.tc : Thread Cert.PreRefIdeal.nD Cert.PreRefIdeal.τ).loc Cert.PreRefIdeal.main_arg8)
          ∧ r.2.mem ((c.tc : Thread Cert.PreRefIdeal.nD Cert.PreRefIdeal.τ).loc Cert.PreRefIdeal.main_arg9) = m' ((c.tc : Thread Cert.PreRefIdeal.nD Cert.PreRefIdeal.τ).loc Cert.PreRefIdeal.main_arg9)
          ∧ r.2.mem ((c.tc : Thread Cert.PreRefIdeal.nD Cert.PreRefIdeal.τ).loc Cert.PreRefIdeal.main_arg10) = m' ((c.tc : Thread Cert.PreRefIdeal.nD Cert.PreRefIdeal.τ).loc Cert.PreRefIdeal.main_arg10)
          ∧ r.2.mem ((c.tc : Thread Cert.PreRefIdeal.nD Cert.PreRefIdeal.τ).loc Cert.PreRefIdeal.main_arg11) = m' ((c.tc : Thread Cert.PreRefIdeal.nD Cert.PreRefIdeal.τ).loc Cert.PreRefIdeal.main_arg11))

def preserves_Head_HeadIdeal : Prop :=
  True

def algebraic_HeadIdeal_HeadRefIdeal_pre_head_finite [hHeadIdeal : Cert.HeadIdeal.Facts] [hHeadRefIdeal : Cert.HeadRefIdeal.Facts] [hPre_head_finite : Cert.Pre_head_finite.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal_head_finite m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)
      ∧ m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)
      ∧ m' ((c.tc : Thread Cert.HeadRefIdeal.nD Cert.HeadRefIdeal.τ).loc Cert.HeadRefIdeal.main_arg6) = m ((c.tc : Thread Cert.HeadIdeal.nD Cert.HeadIdeal.τ).loc Cert.HeadIdeal.main_arg6)) →
    ∃ (v0 : (c : Dev Cert.HeadIdeal.nD) → Buf (Elt Ideal) ((c.tc : Thread Cert.HeadIdeal.nD Cert.HeadIdeal.τ).loc Cert.HeadIdeal.main_v6_0)) (v1 : (c : Dev Cert.HeadIdeal.nD) → Buf (Elt Ideal) ((c.tc : Thread Cert.HeadIdeal.nD Cert.HeadIdeal.τ).loc Cert.HeadIdeal.main_v6_1)) (v2 : (c : Dev Cert.HeadIdeal.nD) → Buf (Elt Ideal) ((c.tc : Thread Cert.HeadIdeal.nD Cert.HeadIdeal.τ).loc Cert.HeadIdeal.main_v6_2)) (v3 : (c : Dev Cert.HeadIdeal.nD) → Buf (Elt Ideal) ((c.tc : Thread Cert.HeadIdeal.nD Cert.HeadIdeal.τ).loc Cert.HeadIdeal.main_v6_3)) (v4 : (c : Dev Cert.HeadIdeal.nD) → Buf (Elt Ideal) ((c.tc : Thread Cert.HeadIdeal.nD Cert.HeadIdeal.τ).loc Cert.HeadIdeal.main_v6_4)) (v5 : (c : Dev Cert.HeadIdeal.nD) → Buf (Elt Ideal) ((c.tc : Thread Cert.HeadIdeal.nD Cert.HeadIdeal.τ).loc Cert.HeadIdeal.main_v6_5)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v6_0) = v0 c
          ∧ r.2.mem ((c.tc : Thread Cert.HeadIdeal.nD Cert.HeadIdeal.τ).loc Cert.HeadIdeal.main_v6_1) = v1 c
          ∧ r.2.mem ((c.tc : Thread Cert.HeadIdeal.nD Cert.HeadIdeal.τ).loc Cert.HeadIdeal.main_v6_2) = v2 c
          ∧ r.2.mem ((c.tc : Thread Cert.HeadIdeal.nD Cert.HeadIdeal.τ).loc Cert.HeadIdeal.main_v6_3) = v3 c
          ∧ r.2.mem ((c.tc : Thread Cert.HeadIdeal.nD Cert.HeadIdeal.τ).loc Cert.HeadIdeal.main_v6_4) = v4 c
          ∧ r.2.mem ((c.tc : Thread Cert.HeadIdeal.nD Cert.HeadIdeal.τ).loc Cert.HeadIdeal.main_v6_5) = v5 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
          ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v71) = v0 c
          ∧ r.2.mem ((c.tc : Thread Cert.HeadRefIdeal.nD Cert.HeadRefIdeal.τ).loc Cert.HeadRefIdeal.main_v70) = v1 c
          ∧ r.2.mem ((c.tc : Thread Cert.HeadRefIdeal.nD Cert.HeadRefIdeal.τ).loc Cert.HeadRefIdeal.main_v72) = v2 c
          ∧ r.2.mem ((c.tc : Thread Cert.HeadRefIdeal.nD Cert.HeadRefIdeal.τ).loc Cert.HeadRefIdeal.main_v75) = v3 c
          ∧ r.2.mem ((c.tc : Thread Cert.HeadRefIdeal.nD Cert.HeadRefIdeal.τ).loc Cert.HeadRefIdeal.main_v78) = v4 c
          ∧ r.2.mem ((c.tc : Thread Cert.HeadRefIdeal.nD Cert.HeadRefIdeal.τ).loc Cert.HeadRefIdeal.main_v79) = v5 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5)
          ∧ r.2.mem ((c.tc : Thread Cert.HeadRefIdeal.nD Cert.HeadRefIdeal.τ).loc Cert.HeadRefIdeal.main_arg6) = m' ((c.tc : Thread Cert.HeadRefIdeal.nD Cert.HeadRefIdeal.τ).loc Cert.HeadRefIdeal.main_arg6))

def preserves_FfnBwd_FfnBwdIdeal : Prop :=
  True

def algebraic_FfnBwdIdeal_FfnRefIdeal_pre_ffn_finite [hFfnBwdIdeal : Cert.FfnBwdIdeal.Facts] [hFfnRefIdeal : Cert.FfnRefIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnBwdIdeal_ffn_finite m →
    (∀ c : Dev Cert.FfnBwdIdeal.nD,
      m' ((c.tc : Thread Cert.FfnRefIdeal.nD Cert.FfnRefIdeal.τ).loc Cert.FfnRefIdeal.main_arg0) = m ((c.tc : Thread Cert.FfnBwdIdeal.nD Cert.FfnBwdIdeal.τ).loc Cert.FfnBwdIdeal.main_arg0)
      ∧ m' ((c.tc : Thread Cert.FfnRefIdeal.nD Cert.FfnRefIdeal.τ).loc Cert.FfnRefIdeal.main_arg1) = m ((c.tc : Thread Cert.FfnBwdIdeal.nD Cert.FfnBwdIdeal.τ).loc Cert.FfnBwdIdeal.main_arg1)
      ∧ m' ((c.tc : Thread Cert.FfnRefIdeal.nD Cert.FfnRefIdeal.τ).loc Cert.FfnRefIdeal.main_arg2) = m ((c.tc : Thread Cert.FfnBwdIdeal.nD Cert.FfnBwdIdeal.τ).loc Cert.FfnBwdIdeal.main_arg2)
      ∧ m' ((c.tc : Thread Cert.FfnRefIdeal.nD Cert.FfnRefIdeal.τ).loc Cert.FfnRefIdeal.main_arg3) = m ((c.tc : Thread Cert.FfnBwdIdeal.nD Cert.FfnBwdIdeal.τ).loc Cert.FfnBwdIdeal.main_arg3)
      ∧ m' ((c.tc : Thread Cert.FfnRefIdeal.nD Cert.FfnRefIdeal.τ).loc Cert.FfnRefIdeal.main_arg4) = m ((c.tc : Thread Cert.FfnBwdIdeal.nD Cert.FfnBwdIdeal.τ).loc Cert.FfnBwdIdeal.main_arg4)
      ∧ m' ((c.tc : Thread Cert.FfnRefIdeal.nD Cert.FfnRefIdeal.τ).loc Cert.FfnRefIdeal.main_arg5) = m ((c.tc : Thread Cert.FfnBwdIdeal.nD Cert.FfnBwdIdeal.τ).loc Cert.FfnBwdIdeal.main_arg5)) →
    ∃ (v0 : (c : Dev Cert.FfnBwdIdeal.nD) → Buf (Elt Ideal) ((c.tc : Thread Cert.FfnBwdIdeal.nD Cert.FfnBwdIdeal.τ).loc Cert.FfnBwdIdeal.main_v25_0)) (v1 : (c : Dev Cert.FfnBwdIdeal.nD) → Buf (Elt Ideal) ((c.tc : Thread Cert.FfnBwdIdeal.nD Cert.FfnBwdIdeal.τ).loc Cert.FfnBwdIdeal.main_v25_1)) (v2 : (c : Dev Cert.FfnBwdIdeal.nD) → Buf (Elt Ideal) ((c.tc : Thread Cert.FfnBwdIdeal.nD Cert.FfnBwdIdeal.τ).loc Cert.FfnBwdIdeal.main_v25_2)) (v3 : (c : Dev Cert.FfnBwdIdeal.nD) → Buf (Elt Ideal) ((c.tc : Thread Cert.FfnBwdIdeal.nD Cert.FfnBwdIdeal.τ).loc Cert.FfnBwdIdeal.main_v25_3)) (v4 : (c : Dev Cert.FfnBwdIdeal.nD) → Buf (Elt Ideal) ((c.tc : Thread Cert.FfnBwdIdeal.nD Cert.FfnBwdIdeal.τ).loc Cert.FfnBwdIdeal.main_v25_4)) (v5 : (c : Dev Cert.FfnBwdIdeal.nD) → Buf (Elt Ideal) ((c.tc : Thread Cert.FfnBwdIdeal.nD Cert.FfnBwdIdeal.τ).loc Cert.FfnBwdIdeal.main_v25_5)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v25_0) = v0 c
          ∧ r.2.mem ((c.tc : Thread Cert.FfnBwdIdeal.nD Cert.FfnBwdIdeal.τ).loc Cert.FfnBwdIdeal.main_v25_1) = v1 c
          ∧ r.2.mem ((c.tc : Thread Cert.FfnBwdIdeal.nD Cert.FfnBwdIdeal.τ).loc Cert.FfnBwdIdeal.main_v25_2) = v2 c
          ∧ r.2.mem ((c.tc : Thread Cert.FfnBwdIdeal.nD Cert.FfnBwdIdeal.τ).loc Cert.FfnBwdIdeal.main_v25_3) = v3 c
          ∧ r.2.mem ((c.tc : Thread Cert.FfnBwdIdeal.nD Cert.FfnBwdIdeal.τ).loc Cert.FfnBwdIdeal.main_v25_4) = v4 c
          ∧ r.2.mem ((c.tc : Thread Cert.FfnBwdIdeal.nD Cert.FfnBwdIdeal.τ).loc Cert.FfnBwdIdeal.main_v25_5) = v5 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v57) = v0 c
          ∧ r.2.mem ((c.tc : Thread Cert.FfnRefIdeal.nD Cert.FfnRefIdeal.τ).loc Cert.FfnRefIdeal.main_v40) = v1 c
          ∧ r.2.mem ((c.tc : Thread Cert.FfnRefIdeal.nD Cert.FfnRefIdeal.τ).loc Cert.FfnRefIdeal.main_v60) = v2 c
          ∧ r.2.mem ((c.tc : Thread Cert.FfnRefIdeal.nD Cert.FfnRefIdeal.τ).loc Cert.FfnRefIdeal.main_v63) = v3 c
          ∧ r.2.mem ((c.tc : Thread Cert.FfnRefIdeal.nD Cert.FfnRefIdeal.τ).loc Cert.FfnRefIdeal.main_v66) = v4 c
          ∧ r.2.mem ((c.tc : Thread Cert.FfnRefIdeal.nD Cert.FfnRefIdeal.τ).loc Cert.FfnRefIdeal.main_v67) = v5 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_GlaBwd_GlaBwdIdeal : Prop :=
  True

def preserves_GlaFwd_GlaFwdIdeal : Prop :=
  True

def algebraic_GlaFwdIdeal_GlaFrefIdeal_pre_gla_finite [hGlaFwdIdeal : Cert.GlaFwdIdeal.Facts] [hGlaFrefIdeal : Cert.GlaFrefIdeal.Facts] [hPre_gla_finite : Cert.Pre_gla_finite.Facts] : Prop :=
  ∀ (m : (ℓ : Loc Cert.GlaFwdIdeal.nD Cert.GlaFwdIdeal.τ Cert.GlaFwdIdeal.sig) → Buf (Elt Ideal) ℓ) (g : Dev Cert.GlaFwdIdeal.nD → PrngReg)
    (m' : (ℓ : Loc Cert.GlaFrefIdeal.nD Cert.GlaFrefIdeal.τ Cert.GlaFrefIdeal.sig) → Buf (Elt Ideal) ℓ) (g' : Dev Cert.GlaFrefIdeal.nD → PrngReg), Pre_GlaFwdIdeal_gla_finite m →
    (∀ c : Dev Cert.GlaFwdIdeal.nD,
      m' ((c.tc : Thread Cert.GlaFrefIdeal.nD Cert.GlaFrefIdeal.τ).loc Cert.GlaFrefIdeal.main_arg0) = m ((c.tc : Thread Cert.GlaFwdIdeal.nD Cert.GlaFwdIdeal.τ).loc Cert.GlaFwdIdeal.main_arg0)
      ∧ m' ((c.tc : Thread Cert.GlaFrefIdeal.nD Cert.GlaFrefIdeal.τ).loc Cert.GlaFrefIdeal.main_arg1) = m ((c.tc : Thread Cert.GlaFwdIdeal.nD Cert.GlaFwdIdeal.τ).loc Cert.GlaFwdIdeal.main_arg1)
      ∧ m' ((c.tc : Thread Cert.GlaFrefIdeal.nD Cert.GlaFrefIdeal.τ).loc Cert.GlaFrefIdeal.main_arg2) = m ((c.tc : Thread Cert.GlaFwdIdeal.nD Cert.GlaFwdIdeal.τ).loc Cert.GlaFwdIdeal.main_arg2)
      ∧ m' ((c.tc : Thread Cert.GlaFrefIdeal.nD Cert.GlaFrefIdeal.τ).loc Cert.GlaFrefIdeal.main_arg3) = m ((c.tc : Thread Cert.GlaFwdIdeal.nD Cert.GlaFwdIdeal.τ).loc Cert.GlaFwdIdeal.main_arg3)
      ∧ m' ((c.tc : Thread Cert.GlaFrefIdeal.nD Cert.GlaFrefIdeal.τ).loc Cert.GlaFrefIdeal.main_arg4) = m ((c.tc : Thread Cert.GlaFwdIdeal.nD Cert.GlaFwdIdeal.τ).loc Cert.GlaFwdIdeal.main_arg4)
      ∧ m' ((c.tc : Thread Cert.GlaFrefIdeal.nD Cert.GlaFrefIdeal.τ).loc Cert.GlaFrefIdeal.main_arg5) = m ((c.tc : Thread Cert.GlaFwdIdeal.nD Cert.GlaFwdIdeal.τ).loc Cert.GlaFwdIdeal.main_arg5)) →
    ∃ (v0 : (c : Dev Cert.GlaFwdIdeal.nD) → Buf (Elt Ideal) ((c.tc : Thread Cert.GlaFwdIdeal.nD Cert.GlaFwdIdeal.τ).loc Cert.GlaFwdIdeal.main_v0_0)) (v1 : (c : Dev Cert.GlaFwdIdeal.nD) → Buf (Elt Ideal) ((c.tc : Thread Cert.GlaFwdIdeal.nD Cert.GlaFwdIdeal.τ).loc Cert.GlaFwdIdeal.main_v0_1)),
      θ_run (Cert.GlaFwdIdeal.defs (F := Ideal)) (onTc (τ := Cert.GlaFwdIdeal.τ) (Cert.GlaFwdIdeal.main (F := Ideal))) ⟨m, fun _ => 0, g⟩ (fun r => ∀ c : Dev Cert.GlaFwdIdeal.nD,
          r.2.mem ((c.tc : Thread Cert.GlaFwdIdeal.nD Cert.GlaFwdIdeal.τ).loc Cert.GlaFwdIdeal.main_v0_0) = v0 c
          ∧ r.2.mem ((c.tc : Thread Cert.GlaFwdIdeal.nD Cert.GlaFwdIdeal.τ).loc Cert.GlaFwdIdeal.main_v0_1) = v1 c
          ∧ r.2.mem ((c.tc : Thread Cert.GlaFwdIdeal.nD Cert.GlaFwdIdeal.τ).loc Cert.GlaFwdIdeal.main_arg0) = m ((c.tc : Thread Cert.GlaFwdIdeal.nD Cert.GlaFwdIdeal.τ).loc Cert.GlaFwdIdeal.main_arg0)
          ∧ r.2.mem ((c.tc : Thread Cert.GlaFwdIdeal.nD Cert.GlaFwdIdeal.τ).loc Cert.GlaFwdIdeal.main_arg1) = m ((c.tc : Thread Cert.GlaFwdIdeal.nD Cert.GlaFwdIdeal.τ).loc Cert.GlaFwdIdeal.main_arg1)
          ∧ r.2.mem ((c.tc : Thread Cert.GlaFwdIdeal.nD Cert.GlaFwdIdeal.τ).loc Cert.GlaFwdIdeal.main_arg2) = m ((c.tc : Thread Cert.GlaFwdIdeal.nD Cert.GlaFwdIdeal.τ).loc Cert.GlaFwdIdeal.main_arg2)
          ∧ r.2.mem ((c.tc : Thread Cert.GlaFwdIdeal.nD Cert.GlaFwdIdeal.τ).loc Cert.GlaFwdIdeal.main_arg3) = m ((c.tc : Thread Cert.GlaFwdIdeal.nD Cert.GlaFwdIdeal.τ).loc Cert.GlaFwdIdeal.main_arg3)
          ∧ r.2.mem ((c.tc : Thread Cert.GlaFwdIdeal.nD Cert.GlaFwdIdeal.τ).loc Cert.GlaFwdIdeal.main_arg4) = m ((c.tc : Thread Cert.GlaFwdIdeal.nD Cert.GlaFwdIdeal.τ).loc Cert.GlaFwdIdeal.main_arg4)
          ∧ r.2.mem ((c.tc : Thread Cert.GlaFwdIdeal.nD Cert.GlaFwdIdeal.τ).loc Cert.GlaFwdIdeal.main_arg5) = m ((c.tc : Thread Cert.GlaFwdIdeal.nD Cert.GlaFwdIdeal.τ).loc Cert.GlaFwdIdeal.main_arg5))
      ∧ θ_run (Cert.GlaFrefIdeal.defs (F := Ideal)) (onTc (τ := Cert.GlaFrefIdeal.τ) (Cert.GlaFrefIdeal.main (F := Ideal))) ⟨m', fun _ => 0, g'⟩ (fun r => ∀ c : Dev Cert.GlaFrefIdeal.nD,
          r.2.mem ((c.tc : Thread Cert.GlaFrefIdeal.nD Cert.GlaFrefIdeal.τ).loc Cert.GlaFrefIdeal.main_v60) = v0 c
          ∧ r.2.mem ((c.tc : Thread Cert.GlaFrefIdeal.nD Cert.GlaFrefIdeal.τ).loc Cert.GlaFrefIdeal.main_v59) = v1 c
          ∧ r.2.mem ((c.tc : Thread Cert.GlaFrefIdeal.nD Cert.GlaFrefIdeal.τ).loc Cert.GlaFrefIdeal.main_arg0) = m' ((c.tc : Thread Cert.GlaFrefIdeal.nD Cert.GlaFrefIdeal.τ).loc Cert.GlaFrefIdeal.main_arg0)
          ∧ r.2.mem ((c.tc : Thread Cert.GlaFrefIdeal.nD Cert.GlaFrefIdeal.τ).loc Cert.GlaFrefIdeal.main_arg1) = m' ((c.tc : Thread Cert.GlaFrefIdeal.nD Cert.GlaFrefIdeal.τ).loc Cert.GlaFrefIdeal.main_arg1)
          ∧ r.2.mem ((c.tc : Thread Cert.GlaFrefIdeal.nD Cert.GlaFrefIdeal.τ).loc Cert.GlaFrefIdeal.main_arg2) = m' ((c.tc : Thread Cert.GlaFrefIdeal.nD Cert.GlaFrefIdeal.τ).loc Cert.GlaFrefIdeal.main_arg2)
          ∧ r.2.mem ((c.tc : Thread Cert.GlaFrefIdeal.nD Cert.GlaFrefIdeal.τ).loc Cert.GlaFrefIdeal.main_arg3) = m' ((c.tc : Thread Cert.GlaFrefIdeal.nD Cert.GlaFrefIdeal.τ).loc Cert.GlaFrefIdeal.main_arg3)
          ∧ r.2.mem ((c.tc : Thread Cert.GlaFrefIdeal.nD Cert.GlaFrefIdeal.τ).loc Cert.GlaFrefIdeal.main_arg4) = m' ((c.tc : Thread Cert.GlaFrefIdeal.nD Cert.GlaFrefIdeal.τ).loc Cert.GlaFrefIdeal.main_arg4)
          ∧ r.2.mem ((c.tc : Thread Cert.GlaFrefIdeal.nD Cert.GlaFrefIdeal.τ).loc Cert.GlaFrefIdeal.main_arg5) = m' ((c.tc : Thread Cert.GlaFrefIdeal.nD Cert.GlaFrefIdeal.τ).loc Cert.GlaFrefIdeal.main_arg5))

def preserves_S5Disc_S5DiscIdeal : Prop :=
  True

def algebraic_S5DiscIdeal_S5DiscRefIdeal [hS5DiscIdeal : Cert.S5DiscIdeal.Facts] [hS5DiscRefIdeal : Cert.S5DiscRefIdeal.Facts] : Prop :=
  ∀ (m : (ℓ : Loc Cert.S5DiscIdeal.nD Cert.S5DiscIdeal.τ Cert.S5DiscIdeal.sig) → Buf (Elt Ideal) ℓ) (g : Dev Cert.S5DiscIdeal.nD → PrngReg)
    (m' : (ℓ : Loc Cert.S5DiscRefIdeal.nD Cert.S5DiscRefIdeal.τ Cert.S5DiscRefIdeal.sig) → Buf (Elt Ideal) ℓ) (g' : Dev Cert.S5DiscRefIdeal.nD → PrngReg), Pre_S5DiscIdeal m →
    (∀ c : Dev Cert.S5DiscIdeal.nD,
      m' ((c.tc : Thread Cert.S5DiscRefIdeal.nD Cert.S5DiscRefIdeal.τ).loc Cert.S5DiscRefIdeal.main_arg0) = m ((c.tc : Thread Cert.S5DiscIdeal.nD Cert.S5DiscIdeal.τ).loc Cert.S5DiscIdeal.main_arg0)
      ∧ m' ((c.tc : Thread Cert.S5DiscRefIdeal.nD Cert.S5DiscRefIdeal.τ).loc Cert.S5DiscRefIdeal.main_arg1) = m ((c.tc : Thread Cert.S5DiscIdeal.nD Cert.S5DiscIdeal.τ).loc Cert.S5DiscIdeal.main_arg1)
      ∧ m' ((c.tc : Thread Cert.S5DiscRefIdeal.nD Cert.S5DiscRefIdeal.τ).loc Cert.S5DiscRefIdeal.main_arg2) = m ((c.tc : Thread Cert.S5DiscIdeal.nD Cert.S5DiscIdeal.τ).loc Cert.S5DiscIdeal.main_arg2)
      ∧ m' ((c.tc : Thread Cert.S5DiscRefIdeal.nD Cert.S5DiscRefIdeal.τ).loc Cert.S5DiscRefIdeal.main_arg3) = m ((c.tc : Thread Cert.S5DiscIdeal.nD Cert.S5DiscIdeal.τ).loc Cert.S5DiscIdeal.main_arg3)
      ∧ m' ((c.tc : Thread Cert.S5DiscRefIdeal.nD Cert.S5DiscRefIdeal.τ).loc Cert.S5DiscRefIdeal.main_arg4) = m ((c.tc : Thread Cert.S5DiscIdeal.nD Cert.S5DiscIdeal.τ).loc Cert.S5DiscIdeal.main_arg4)) →
    ∃ (v0 : (c : Dev Cert.S5DiscIdeal.nD) → Buf (Elt Ideal) ((c.tc : Thread Cert.S5DiscIdeal.nD Cert.S5DiscIdeal.τ).loc Cert.S5DiscIdeal.main_v8_0)) (v1 : (c : Dev Cert.S5DiscIdeal.nD) → Buf (Elt Ideal) ((c.tc : Thread Cert.S5DiscIdeal.nD Cert.S5DiscIdeal.τ).loc Cert.S5DiscIdeal.main_v8_1)) (v2 : (c : Dev Cert.S5DiscIdeal.nD) → Buf (Elt Ideal) ((c.tc : Thread Cert.S5DiscIdeal.nD Cert.S5DiscIdeal.τ).loc Cert.S5DiscIdeal.main_v8_2)) (v3 : (c : Dev Cert.S5DiscIdeal.nD) → Buf (Elt Ideal) ((c.tc : Thread Cert.S5DiscIdeal.nD Cert.S5DiscIdeal.τ).loc Cert.S5DiscIdeal.main_v8_3)),
      θ_run (Cert.S5DiscIdeal.defs (F := Ideal)) (onTc (τ := Cert.S5DiscIdeal.τ) (Cert.S5DiscIdeal.main (F := Ideal))) ⟨m, fun _ => 0, g⟩ (fun r => ∀ c : Dev Cert.S5DiscIdeal.nD,
          r.2.mem ((c.tc : Thread Cert.S5DiscIdeal.nD Cert.S5DiscIdeal.τ).loc Cert.S5DiscIdeal.main_v8_0) = v0 c
          ∧ r.2.mem ((c.tc : Thread Cert.S5DiscIdeal.nD Cert.S5DiscIdeal.τ).loc Cert.S5DiscIdeal.main_v8_1) = v1 c
          ∧ r.2.mem ((c.tc : Thread Cert.S5DiscIdeal.nD Cert.S5DiscIdeal.τ).loc Cert.S5DiscIdeal.main_v8_2) = v2 c
          ∧ r.2.mem ((c.tc : Thread Cert.S5DiscIdeal.nD Cert.S5DiscIdeal.τ).loc Cert.S5DiscIdeal.main_v8_3) = v3 c
          ∧ r.2.mem ((c.tc : Thread Cert.S5DiscIdeal.nD Cert.S5DiscIdeal.τ).loc Cert.S5DiscIdeal.main_arg0) = m ((c.tc : Thread Cert.S5DiscIdeal.nD Cert.S5DiscIdeal.τ).loc Cert.S5DiscIdeal.main_arg0)
          ∧ r.2.mem ((c.tc : Thread Cert.S5DiscIdeal.nD Cert.S5DiscIdeal.τ).loc Cert.S5DiscIdeal.main_arg1) = m ((c.tc : Thread Cert.S5DiscIdeal.nD Cert.S5DiscIdeal.τ).loc Cert.S5DiscIdeal.main_arg1)
          ∧ r.2.mem ((c.tc : Thread Cert.S5DiscIdeal.nD Cert.S5DiscIdeal.τ).loc Cert.S5DiscIdeal.main_arg2) = m ((c.tc : Thread Cert.S5DiscIdeal.nD Cert.S5DiscIdeal.τ).loc Cert.S5DiscIdeal.main_arg2)
          ∧ r.2.mem ((c.tc : Thread Cert.S5DiscIdeal.nD Cert.S5DiscIdeal.τ).loc Cert.S5DiscIdeal.main_arg3) = m ((c.tc : Thread Cert.S5DiscIdeal.nD Cert.S5DiscIdeal.τ).loc Cert.S5DiscIdeal.main_arg3)
          ∧ r.2.mem ((c.tc : Thread Cert.S5DiscIdeal.nD Cert.S5DiscIdeal.τ).loc Cert.S5DiscIdeal.main_arg4) = m ((c.tc : Thread Cert.S5DiscIdeal.nD Cert.S5DiscIdeal.τ).loc Cert.S5DiscIdeal.main_arg4))
      ∧ θ_run (Cert.S5DiscRefIdeal.defs (F := Ideal)) (onTc (τ := Cert.S5DiscRefIdeal.τ) (Cert.S5DiscRefIdeal.main (F := Ideal))) ⟨m', fun _ => 0, g'⟩ (fun r => ∀ c : Dev Cert.S5DiscRefIdeal.nD,
          r.2.mem ((c.tc : Thread Cert.S5DiscRefIdeal.nD Cert.S5DiscRefIdeal.τ).loc Cert.S5DiscRefIdeal.main_v13) = v0 c
          ∧ r.2.mem ((c.tc : Thread Cert.S5DiscRefIdeal.nD Cert.S5DiscRefIdeal.τ).loc Cert.S5DiscRefIdeal.main_v17) = v1 c
          ∧ r.2.mem ((c.tc : Thread Cert.S5DiscRefIdeal.nD Cert.S5DiscRefIdeal.τ).loc Cert.S5DiscRefIdeal.main_v45) = v2 c
          ∧ r.2.mem ((c.tc : Thread Cert.S5DiscRefIdeal.nD Cert.S5DiscRefIdeal.τ).loc Cert.S5DiscRefIdeal.main_v46) = v3 c
          ∧ r.2.mem ((c.tc : Thread Cert.S5DiscRefIdeal.nD Cert.S5DiscRefIdeal.τ).loc Cert.S5DiscRefIdeal.main_arg0) = m' ((c.tc : Thread Cert.S5DiscRefIdeal.nD Cert.S5DiscRefIdeal.τ).loc Cert.S5DiscRefIdeal.main_arg0)
          ∧ r.2.mem ((c.tc : Thread Cert.S5DiscRefIdeal.nD Cert.S5DiscRefIdeal.τ).loc Cert.S5DiscRefIdeal.main_arg1) = m' ((c.tc : Thread Cert.S5DiscRefIdeal.nD Cert.S5DiscRefIdeal.τ).loc Cert.S5DiscRefIdeal.main_arg1)
          ∧ r.2.mem ((c.tc : Thread Cert.S5DiscRefIdeal.nD Cert.S5DiscRefIdeal.τ).loc Cert.S5DiscRefIdeal.main_arg2) = m' ((c.tc : Thread Cert.S5DiscRefIdeal.nD Cert.S5DiscRefIdeal.τ).loc Cert.S5DiscRefIdeal.main_arg2)
          ∧ r.2.mem ((c.tc : Thread Cert.S5DiscRefIdeal.nD Cert.S5DiscRefIdeal.τ).loc Cert.S5DiscRefIdeal.main_arg3) = m' ((c.tc : Thread Cert.S5DiscRefIdeal.nD Cert.S5DiscRefIdeal.τ).loc Cert.S5DiscRefIdeal.main_arg3)
          ∧ r.2.mem ((c.tc : Thread Cert.S5DiscRefIdeal.nD Cert.S5DiscRefIdeal.τ).loc Cert.S5DiscRefIdeal.main_arg4) = m' ((c.tc : Thread Cert.S5DiscRefIdeal.nD Cert.S5DiscRefIdeal.τ).loc Cert.S5DiscRefIdeal.main_arg4))

def preserves_PreFwd_PreFwdIdeal : Prop :=
  True

def algebraic_PreFwdIdeal_PreFrefIdeal [hPreFwdIdeal : Cert.PreFwdIdeal.Facts] [hPreFrefIdeal : Cert.PreFrefIdeal.Facts] : Prop :=
  ∀ (m : (ℓ : Loc Cert.PreFwdIdeal.nD Cert.PreFwdIdeal.τ Cert.PreFwdIdeal.sig) → Buf (Elt Ideal) ℓ) (g : Dev Cert.PreFwdIdeal.nD → PrngReg)
    (m' : (ℓ : Loc Cert.PreFrefIdeal.nD Cert.PreFrefIdeal.τ Cert.PreFrefIdeal.sig) → Buf (Elt Ideal) ℓ) (g' : Dev Cert.PreFrefIdeal.nD → PrngReg), Pre_PreFwdIdeal m →
    (∀ c : Dev Cert.PreFwdIdeal.nD,
      m' ((c.tc : Thread Cert.PreFrefIdeal.nD Cert.PreFrefIdeal.τ).loc Cert.PreFrefIdeal.main_arg0) = m ((c.tc : Thread Cert.PreFwdIdeal.nD Cert.PreFwdIdeal.τ).loc Cert.PreFwdIdeal.main_arg0)
      ∧ m' ((c.tc : Thread Cert.PreFrefIdeal.nD Cert.PreFrefIdeal.τ).loc Cert.PreFrefIdeal.main_arg1) = m ((c.tc : Thread Cert.PreFwdIdeal.nD Cert.PreFwdIdeal.τ).loc Cert.PreFwdIdeal.main_arg1)
      ∧ m' ((c.tc : Thread Cert.PreFrefIdeal.nD Cert.PreFrefIdeal.τ).loc Cert.PreFrefIdeal.main_arg2) = m ((c.tc : Thread Cert.PreFwdIdeal.nD Cert.PreFwdIdeal.τ).loc Cert.PreFwdIdeal.main_arg2)) →
    ∃ (v0 : (c : Dev Cert.PreFwdIdeal.nD) → Buf (Elt Ideal) ((c.tc : Thread Cert.PreFwdIdeal.nD Cert.PreFwdIdeal.τ).loc Cert.PreFwdIdeal.main_v2_0)) (v1 : (c : Dev Cert.PreFwdIdeal.nD) → Buf (Elt Ideal) ((c.tc : Thread Cert.PreFwdIdeal.nD Cert.PreFwdIdeal.τ).loc Cert.PreFwdIdeal.main_v2_1)) (v2 : (c : Dev Cert.PreFwdIdeal.nD) → Buf (Elt Ideal) ((c.tc : Thread Cert.PreFwdIdeal.nD Cert.PreFwdIdeal.τ).loc Cert.PreFwdIdeal.main_v2_2)) (v3 : (c : Dev Cert.PreFwdIdeal.nD) → Buf (Elt Ideal) ((c.tc : Thread Cert.PreFwdIdeal.nD Cert.PreFwdIdeal.τ).loc Cert.PreFwdIdeal.main_v2_3)) (v4 : (c : Dev Cert.PreFwdIdeal.nD) → Buf (Elt Ideal) ((c.tc : Thread Cert.PreFwdIdeal.nD Cert.PreFwdIdeal.τ).loc Cert.PreFwdIdeal.main_v2_4)) (v5 : (c : Dev Cert.PreFwdIdeal.nD) → Buf (Elt Ideal) ((c.tc : Thread Cert.PreFwdIdeal.nD Cert.PreFwdIdeal.τ).loc Cert.PreFwdIdeal.main_v2_5)) (v6 : (c : Dev Cert.PreFwdIdeal.nD) → Buf (Elt Ideal) ((c.tc : Thread Cert.PreFwdIdeal.nD Cert.PreFwdIdeal.τ).loc Cert.PreFwdIdeal.main_v2_6)) (v7 : (c : Dev Cert.PreFwdIdeal.nD) → Buf (Elt Ideal) ((c.tc : Thread Cert.PreFwdIdeal.nD Cert.PreFwdIdeal.τ).loc Cert.PreFwdIdeal.main_v2_7)) (v8 : (c : Dev Cert.PreFwdIdeal.nD) → Buf (Elt Ideal) ((c.tc : Thread Cert.PreFwdIdeal.nD Cert.PreFwdIdeal.τ).loc Cert.PreFwdIdeal.main_v2_8)),
      θ_run (Cert.PreFwdIdeal.defs (F := Ideal)) (onTc (τ := Cert.PreFwdIdeal.τ) (Cert.PreFwdIdeal.main (F := Ideal))) ⟨m, fun _ => 0, g⟩ (fun r => ∀ c : Dev Cert.PreFwdIdeal.nD,
          r.2.mem ((c.tc : Thread Cert.PreFwdIdeal.nD Cert.PreFwdIdeal.τ).loc Cert.PreFwdIdeal.main_v2_0) = v0 c
          ∧ r.2.mem ((c.tc : Thread Cert.PreFwdIdeal.nD Cert.PreFwdIdeal.τ).loc Cert.PreFwdIdeal.main_v2_1) = v1 c
          ∧ r.2.mem ((c.tc : Thread Cert.PreFwdIdeal.nD Cert.PreFwdIdeal.τ).loc Cert.PreFwdIdeal.main_v2_2) = v2 c
          ∧ r.2.mem ((c.tc : Thread Cert.PreFwdIdeal.nD Cert.PreFwdIdeal.τ).loc Cert.PreFwdIdeal.main_v2_3) = v3 c
          ∧ r.2.mem ((c.tc : Thread Cert.PreFwdIdeal.nD Cert.PreFwdIdeal.τ).loc Cert.PreFwdIdeal.main_v2_4) = v4 c
          ∧ r.2.mem ((c.tc : Thread Cert.PreFwdIdeal.nD Cert.PreFwdIdeal.τ).loc Cert.PreFwdIdeal.main_v2_5) = v5 c
          ∧ r.2.mem ((c.tc : Thread Cert.PreFwdIdeal.nD Cert.PreFwdIdeal.τ).loc Cert.PreFwdIdeal.main_v2_6) = v6 c
          ∧ r.2.mem ((c.tc : Thread Cert.PreFwdIdeal.nD Cert.PreFwdIdeal.τ).loc Cert.PreFwdIdeal.main_v2_7) = v7 c
          ∧ r.2.mem ((c.tc : Thread Cert.PreFwdIdeal.nD Cert.PreFwdIdeal.τ).loc Cert.PreFwdIdeal.main_v2_8) = v8 c
          ∧ r.2.mem ((c.tc : Thread Cert.PreFwdIdeal.nD Cert.PreFwdIdeal.τ).loc Cert.PreFwdIdeal.main_arg0) = m ((c.tc : Thread Cert.PreFwdIdeal.nD Cert.PreFwdIdeal.τ).loc Cert.PreFwdIdeal.main_arg0)
          ∧ r.2.mem ((c.tc : Thread Cert.PreFwdIdeal.nD Cert.PreFwdIdeal.τ).loc Cert.PreFwdIdeal.main_arg1) = m ((c.tc : Thread Cert.PreFwdIdeal.nD Cert.PreFwdIdeal.τ).loc Cert.PreFwdIdeal.main_arg1)
          ∧ r.2.mem ((c.tc : Thread Cert.PreFwdIdeal.nD Cert.PreFwdIdeal.τ).loc Cert.PreFwdIdeal.main_arg2) = m ((c.tc : Thread Cert.PreFwdIdeal.nD Cert.PreFwdIdeal.τ).loc Cert.PreFwdIdeal.main_arg2))
      ∧ θ_run (Cert.PreFrefIdeal.defs (F := Ideal)) (onTc (τ := Cert.PreFrefIdeal.τ) (Cert.PreFrefIdeal.main (F := Ideal))) ⟨m', fun _ => 0, g'⟩ (fun r => ∀ c : Dev Cert.PreFrefIdeal.nD,
          r.2.mem ((c.tc : Thread Cert.PreFrefIdeal.nD Cert.PreFrefIdeal.τ).loc Cert.PreFrefIdeal.main_v12) = v0 c
          ∧ r.2.mem ((c.tc : Thread Cert.PreFrefIdeal.nD Cert.PreFrefIdeal.τ).loc Cert.PreFrefIdeal.main_v14) = v1 c
          ∧ r.2.mem ((c.tc : Thread Cert.PreFrefIdeal.nD Cert.PreFrefIdeal.τ).loc Cert.PreFrefIdeal.main_v15) = v2 c
          ∧ r.2.mem ((c.tc : Thread Cert.PreFrefIdeal.nD Cert.PreFrefIdeal.τ).loc Cert.PreFrefIdeal.main_v16) = v3 c
          ∧ r.2.mem ((c.tc : Thread Cert.PreFrefIdeal.nD Cert.PreFrefIdeal.τ).loc Cert.PreFrefIdeal.main_v17) = v4 c
          ∧ r.2.mem ((c.tc : Thread Cert.PreFrefIdeal.nD Cert.PreFrefIdeal.τ).loc Cert.PreFrefIdeal.main_v18) = v5 c
          ∧ r.2.mem ((c.tc : Thread Cert.PreFrefIdeal.nD Cert.PreFrefIdeal.τ).loc Cert.PreFrefIdeal.main_v19) = v6 c
          ∧ r.2.mem ((c.tc : Thread Cert.PreFrefIdeal.nD Cert.PreFrefIdeal.τ).loc Cert.PreFrefIdeal.main_v20) = v7 c
          ∧ r.2.mem ((c.tc : Thread Cert.PreFrefIdeal.nD Cert.PreFrefIdeal.τ).loc Cert.PreFrefIdeal.main_v21) = v8 c
          ∧ r.2.mem ((c.tc : Thread Cert.PreFrefIdeal.nD Cert.PreFrefIdeal.τ).loc Cert.PreFrefIdeal.main_arg0) = m' ((c.tc : Thread Cert.PreFrefIdeal.nD Cert.PreFrefIdeal.τ).loc Cert.PreFrefIdeal.main_arg0)
          ∧ r.2.mem ((c.tc : Thread Cert.PreFrefIdeal.nD Cert.PreFrefIdeal.τ).loc Cert.PreFrefIdeal.main_arg1) = m' ((c.tc : Thread Cert.PreFrefIdeal.nD Cert.PreFrefIdeal.τ).loc Cert.PreFrefIdeal.main_arg1)
          ∧ r.2.mem ((c.tc : Thread Cert.PreFrefIdeal.nD Cert.PreFrefIdeal.τ).loc Cert.PreFrefIdeal.main_arg2) = m' ((c.tc : Thread Cert.PreFrefIdeal.nD Cert.PreFrefIdeal.τ).loc Cert.PreFrefIdeal.main_arg2))

def preserves_PostFwd_PostFwdIdeal : Prop :=
  True

def algebraic_PostFwdIdeal_PostFrefIdeal [hPostFwdIdeal : Cert.PostFwdIdeal.Facts] [hPostFrefIdeal : Cert.PostFrefIdeal.Facts] : Prop :=
  ∀ (m : (ℓ : Loc Cert.PostFwdIdeal.nD Cert.PostFwdIdeal.τ Cert.PostFwdIdeal.sig) → Buf (Elt Ideal) ℓ) (g : Dev Cert.PostFwdIdeal.nD → PrngReg)
    (m' : (ℓ : Loc Cert.PostFrefIdeal.nD Cert.PostFrefIdeal.τ Cert.PostFrefIdeal.sig) → Buf (Elt Ideal) ℓ) (g' : Dev Cert.PostFrefIdeal.nD → PrngReg), Pre_PostFwdIdeal m →
    (∀ c : Dev Cert.PostFwdIdeal.nD,
      m' ((c.tc : Thread Cert.PostFrefIdeal.nD Cert.PostFrefIdeal.τ).loc Cert.PostFrefIdeal.main_arg0) = m ((c.tc : Thread Cert.PostFwdIdeal.nD Cert.PostFwdIdeal.τ).loc Cert.PostFwdIdeal.main_arg0)
      ∧ m' ((c.tc : Thread Cert.PostFrefIdeal.nD Cert.PostFrefIdeal.τ).loc Cert.PostFrefIdeal.main_arg1) = m ((c.tc : Thread Cert.PostFwdIdeal.nD Cert.PostFwdIdeal.τ).loc Cert.PostFwdIdeal.main_arg1)
      ∧ m' ((c.tc : Thread Cert.PostFrefIdeal.nD Cert.PostFrefIdeal.τ).loc Cert.PostFrefIdeal.main_arg2) = m ((c.tc : Thread Cert.PostFwdIdeal.nD Cert.PostFwdIdeal.τ).loc Cert.PostFwdIdeal.main_arg2)
      ∧ m' ((c.tc : Thread Cert.PostFrefIdeal.nD Cert.PostFrefIdeal.τ).loc Cert.PostFrefIdeal.main_arg3) = m ((c.tc : Thread Cert.PostFwdIdeal.nD Cert.PostFwdIdeal.τ).loc Cert.PostFwdIdeal.main_arg3)
      ∧ m' ((c.tc : Thread Cert.PostFrefIdeal.nD Cert.PostFrefIdeal.τ).loc Cert.PostFrefIdeal.main_arg4) = m ((c.tc : Thread Cert.PostFwdIdeal.nD Cert.PostFwdIdeal.τ).loc Cert.PostFwdIdeal.main_arg4)
      ∧ m' ((c.tc : Thread Cert.PostFrefIdeal.nD Cert.PostFrefIdeal.τ).loc Cert.PostFrefIdeal.main_arg5) = m ((c.tc : Thread Cert.PostFwdIdeal.nD Cert.PostFwdIdeal.τ).loc Cert.PostFwdIdeal.main_arg5)
      ∧ m' ((c.tc : Thread Cert.PostFrefIdeal.nD Cert.PostFrefIdeal.τ).loc Cert.PostFrefIdeal.main_arg6) = m ((c.tc : Thread Cert.PostFwdIdeal.nD Cert.PostFwdIdeal.τ).loc Cert.PostFwdIdeal.main_arg6)
      ∧ m' ((c.tc : Thread Cert.PostFrefIdeal.nD Cert.PostFrefIdeal.τ).loc Cert.PostFrefIdeal.main_arg7) = m ((c.tc : Thread Cert.PostFwdIdeal.nD Cert.PostFwdIdeal.τ).loc Cert.PostFwdIdeal.main_arg7)
      ∧ m' ((c.tc : Thread Cert.PostFrefIdeal.nD Cert.PostFrefIdeal.τ).loc Cert.PostFrefIdeal.main_arg8) = m ((c.tc : Thread Cert.PostFwdIdeal.nD Cert.PostFwdIdeal.τ).loc Cert.PostFwdIdeal.main_arg8)
      ∧ m' ((c.tc : Thread Cert.PostFrefIdeal.nD Cert.PostFrefIdeal.τ).loc Cert.PostFrefIdeal.main_arg9) = m ((c.tc : Thread Cert.PostFwdIdeal.nD Cert.PostFwdIdeal.τ).loc Cert.PostFwdIdeal.main_arg9)
      ∧ m' ((c.tc : Thread Cert.PostFrefIdeal.nD Cert.PostFrefIdeal.τ).loc Cert.PostFrefIdeal.main_arg10) = m ((c.tc : Thread Cert.PostFwdIdeal.nD Cert.PostFwdIdeal.τ).loc Cert.PostFwdIdeal.main_arg10)
      ∧ m' ((c.tc : Thread Cert.PostFrefIdeal.nD Cert.PostFrefIdeal.τ).loc Cert.PostFrefIdeal.main_arg11) = m ((c.tc : Thread Cert.PostFwdIdeal.nD Cert.PostFwdIdeal.τ).loc Cert.PostFwdIdeal.main_arg11)) →
    ∃ (v0 : (c : Dev Cert.PostFwdIdeal.nD) → Buf (Elt Ideal) ((c.tc : Thread Cert.PostFwdIdeal.nD Cert.PostFwdIdeal.τ).loc Cert.PostFwdIdeal.main_v6)),
      θ_run (Cert.PostFwdIdeal.defs (F := Ideal)) (onTc (τ := Cert.PostFwdIdeal.τ) (Cert.PostFwdIdeal.main (F := Ideal))) ⟨m, fun _ => 0, g⟩ (fun r => ∀ c : Dev Cert.PostFwdIdeal.nD,
          r.2.mem ((c.tc : Thread Cert.PostFwdIdeal.nD Cert.PostFwdIdeal.τ).loc Cert.PostFwdIdeal.main_v6) = v0 c
          ∧ r.2.mem ((c.tc : Thread Cert.PostFwdIdeal.nD Cert.PostFwdIdeal.τ).loc Cert.PostFwdIdeal.main_arg0) = m ((c.tc : Thread Cert.PostFwdIdeal.nD Cert.PostFwdIdeal.τ).loc Cert.PostFwdIdeal.main_arg0)
          ∧ r.2.mem ((c.tc : Thread Cert.PostFwdIdeal.nD Cert.PostFwdIdeal.τ).loc Cert.PostFwdIdeal.main_arg1) = m ((c.tc : Thread Cert.PostFwdIdeal.nD Cert.PostFwdIdeal.τ).loc Cert.PostFwdIdeal.main_arg1)
          ∧ r.2.mem ((c.tc : Thread Cert.PostFwdIdeal.nD Cert.PostFwdIdeal.τ).loc Cert.PostFwdIdeal.main_arg2) = m ((c.tc : Thread Cert.PostFwdIdeal.nD Cert.PostFwdIdeal.τ).loc Cert.PostFwdIdeal.main_arg2)
          ∧ r.2.mem ((c.tc : Thread Cert.PostFwdIdeal.nD Cert.PostFwdIdeal.τ).loc Cert.PostFwdIdeal.main_arg3) = m ((c.tc : Thread Cert.PostFwdIdeal.nD Cert.PostFwdIdeal.τ).loc Cert.PostFwdIdeal.main_arg3)
          ∧ r.2.mem ((c.tc : Thread Cert.PostFwdIdeal.nD Cert.PostFwdIdeal.τ).loc Cert.PostFwdIdeal.main_arg4) = m ((c.tc : Thread Cert.PostFwdIdeal.nD Cert.PostFwdIdeal.τ).loc Cert.PostFwdIdeal.main_arg4)
          ∧ r.2.mem ((c.tc : Thread Cert.PostFwdIdeal.nD Cert.PostFwdIdeal.τ).loc Cert.PostFwdIdeal.main_arg5) = m ((c.tc : Thread Cert.PostFwdIdeal.nD Cert.PostFwdIdeal.τ).loc Cert.PostFwdIdeal.main_arg5)
          ∧ r.2.mem ((c.tc : Thread Cert.PostFwdIdeal.nD Cert.PostFwdIdeal.τ).loc Cert.PostFwdIdeal.main_arg6) = m ((c.tc : Thread Cert.PostFwdIdeal.nD Cert.PostFwdIdeal.τ).loc Cert.PostFwdIdeal.main_arg6)
          ∧ r.2.mem ((c.tc : Thread Cert.PostFwdIdeal.nD Cert.PostFwdIdeal.τ).loc Cert.PostFwdIdeal.main_arg7) = m ((c.tc : Thread Cert.PostFwdIdeal.nD Cert.PostFwdIdeal.τ).loc Cert.PostFwdIdeal.main_arg7)
          ∧ r.2.mem ((c.tc : Thread Cert.PostFwdIdeal.nD Cert.PostFwdIdeal.τ).loc Cert.PostFwdIdeal.main_arg8) = m ((c.tc : Thread Cert.PostFwdIdeal.nD Cert.PostFwdIdeal.τ).loc Cert.PostFwdIdeal.main_arg8)
          ∧ r.2.mem ((c.tc : Thread Cert.PostFwdIdeal.nD Cert.PostFwdIdeal.τ).loc Cert.PostFwdIdeal.main_arg9) = m ((c.tc : Thread Cert.PostFwdIdeal.nD Cert.PostFwdIdeal.τ).loc Cert.PostFwdIdeal.main_arg9)
          ∧ r.2.mem ((c.tc : Thread Cert.PostFwdIdeal.nD Cert.PostFwdIdeal.τ).loc Cert.PostFwdIdeal.main_arg10) = m ((c.tc : Thread Cert.PostFwdIdeal.nD Cert.PostFwdIdeal.τ).loc Cert.PostFwdIdeal.main_arg10)
          ∧ r.2.mem ((c.tc : Thread Cert.PostFwdIdeal.nD Cert.PostFwdIdeal.τ).loc Cert.PostFwdIdeal.main_arg11) = m ((c.tc : Thread Cert.PostFwdIdeal.nD Cert.PostFwdIdeal.τ).loc Cert.PostFwdIdeal.main_arg11))
      ∧ θ_run (Cert.PostFrefIdeal.defs (F := Ideal)) (onTc (τ := Cert.PostFrefIdeal.τ) (Cert.PostFrefIdeal.main (F := Ideal))) ⟨m', fun _ => 0, g'⟩ (fun r => ∀ c : Dev Cert.PostFrefIdeal.nD,
          r.2.mem ((c.tc : Thread Cert.PostFrefIdeal.nD Cert.PostFrefIdeal.τ).loc Cert.PostFrefIdeal.main_v57) = v0 c
          ∧ r.2.mem ((c.tc : Thread Cert.PostFrefIdeal.nD Cert.PostFrefIdeal.τ).loc Cert.PostFrefIdeal.main_arg0) = m' ((c.tc : Thread Cert.PostFrefIdeal.nD Cert.PostFrefIdeal.τ).loc Cert.PostFrefIdeal.main_arg0)
          ∧ r.2.mem ((c.tc : Thread Cert.PostFrefIdeal.nD Cert.PostFrefIdeal.τ).loc Cert.PostFrefIdeal.main_arg1) = m' ((c.tc : Thread Cert.PostFrefIdeal.nD Cert.PostFrefIdeal.τ).loc Cert.PostFrefIdeal.main_arg1)
          ∧ r.2.mem ((c.tc : Thread Cert.PostFrefIdeal.nD Cert.PostFrefIdeal.τ).loc Cert.PostFrefIdeal.main_arg2) = m' ((c.tc : Thread Cert.PostFrefIdeal.nD Cert.PostFrefIdeal.τ).loc Cert.PostFrefIdeal.main_arg2)
          ∧ r.2.mem ((c.tc : Thread Cert.PostFrefIdeal.nD Cert.PostFrefIdeal.τ).loc Cert.PostFrefIdeal.main_arg3) = m' ((c.tc : Thread Cert.PostFrefIdeal.nD Cert.PostFrefIdeal.τ).loc Cert.PostFrefIdeal.main_arg3)
          ∧ r.2.mem ((c.tc : Thread Cert.PostFrefIdeal.nD Cert.PostFrefIdeal.τ).loc Cert.PostFrefIdeal.main_arg4) = m' ((c.tc : Thread Cert.PostFrefIdeal.nD Cert.PostFrefIdeal.τ).loc Cert.PostFrefIdeal.main_arg4)
          ∧ r.2.mem ((c.tc : Thread Cert.PostFrefIdeal.nD Cert.PostFrefIdeal.τ).loc Cert.PostFrefIdeal.main_arg5) = m' ((c.tc : Thread Cert.PostFrefIdeal.nD Cert.PostFrefIdeal.τ).loc Cert.PostFrefIdeal.main_arg5)
          ∧ r.2.mem ((c.tc : Thread Cert.PostFrefIdeal.nD Cert.PostFrefIdeal.τ).loc Cert.PostFrefIdeal.main_arg6) = m' ((c.tc : Thread Cert.PostFrefIdeal.nD Cert.PostFrefIdeal.τ).loc Cert.PostFrefIdeal.main_arg6)
          ∧ r.2.mem ((c.tc : Thread Cert.PostFrefIdeal.nD Cert.PostFrefIdeal.τ).loc Cert.PostFrefIdeal.main_arg7) = m' ((c.tc : Thread Cert.PostFrefIdeal.nD Cert.PostFrefIdeal.τ).loc Cert.PostFrefIdeal.main_arg7)
          ∧ r.2.mem ((c.tc : Thread Cert.PostFrefIdeal.nD Cert.PostFrefIdeal.τ).loc Cert.PostFrefIdeal.main_arg8) = m' ((c.tc : Thread Cert.PostFrefIdeal.nD Cert.PostFrefIdeal.τ).loc Cert.PostFrefIdeal.main_arg8)
          ∧ r.2.mem ((c.tc : Thread Cert.PostFrefIdeal.nD Cert.PostFrefIdeal.τ).loc Cert.PostFrefIdeal.main_arg9) = m' ((c.tc : Thread Cert.PostFrefIdeal.nD Cert.PostFrefIdeal.τ).loc Cert.PostFrefIdeal.main_arg9)
          ∧ r.2.mem ((c.tc : Thread Cert.PostFrefIdeal.nD Cert.PostFrefIdeal.τ).loc Cert.PostFrefIdeal.main_arg10) = m' ((c.tc : Thread Cert.PostFrefIdeal.nD Cert.PostFrefIdeal.τ).loc Cert.PostFrefIdeal.main_arg10)
          ∧ r.2.mem ((c.tc : Thread Cert.PostFrefIdeal.nD Cert.PostFrefIdeal.τ).loc Cert.PostFrefIdeal.main_arg11) = m' ((c.tc : Thread Cert.PostFrefIdeal.nD Cert.PostFrefIdeal.τ).loc Cert.PostFrefIdeal.main_arg11))

def preserves_FfnFwd_FfnFwdIdeal : Prop :=
  True

def algebraic_FfnFwdIdeal_FfnFrefIdeal [hFfnFwdIdeal : Cert.FfnFwdIdeal.Facts] [hFfnFrefIdeal : Cert.FfnFrefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFrefIdeal.nD Cert.FfnFrefIdeal.τ Cert.FfnFrefIdeal.sig) → Buf (Elt Ideal) ℓ) (g' : Dev Cert.FfnFrefIdeal.nD → PrngReg), Pre_FfnFwdIdeal m →
    (∀ c : Dev Cert.FfnFwdIdeal.nD,
      m' ((c.tc : Thread Cert.FfnFrefIdeal.nD Cert.FfnFrefIdeal.τ).loc Cert.FfnFrefIdeal.main_arg0) = m ((c.tc : Thread Cert.FfnFwdIdeal.nD Cert.FfnFwdIdeal.τ).loc Cert.FfnFwdIdeal.main_arg0)
      ∧ m' ((c.tc : Thread Cert.FfnFrefIdeal.nD Cert.FfnFrefIdeal.τ).loc Cert.FfnFrefIdeal.main_arg1) = m ((c.tc : Thread Cert.FfnFwdIdeal.nD Cert.FfnFwdIdeal.τ).loc Cert.FfnFwdIdeal.main_arg1)
      ∧ m' ((c.tc : Thread Cert.FfnFrefIdeal.nD Cert.FfnFrefIdeal.τ).loc Cert.FfnFrefIdeal.main_arg2) = m ((c.tc : Thread Cert.FfnFwdIdeal.nD Cert.FfnFwdIdeal.τ).loc Cert.FfnFwdIdeal.main_arg2)
      ∧ m' ((c.tc : Thread Cert.FfnFrefIdeal.nD Cert.FfnFrefIdeal.τ).loc Cert.FfnFrefIdeal.main_arg3) = m ((c.tc : Thread Cert.FfnFwdIdeal.nD Cert.FfnFwdIdeal.τ).loc Cert.FfnFwdIdeal.main_arg3)
      ∧ m' ((c.tc : Thread Cert.FfnFrefIdeal.nD Cert.FfnFrefIdeal.τ).loc Cert.FfnFrefIdeal.main_arg4) = m ((c.tc : Thread Cert.FfnFwdIdeal.nD Cert.FfnFwdIdeal.τ).loc Cert.FfnFwdIdeal.main_arg4)) →
    ∃ (v0 : (c : Dev Cert.FfnFwdIdeal.nD) → Buf (Elt Ideal) ((c.tc : Thread Cert.FfnFwdIdeal.nD Cert.FfnFwdIdeal.τ).loc Cert.FfnFwdIdeal.main_v5_0)) (v1 : (c : Dev Cert.FfnFwdIdeal.nD) → Buf (Elt Ideal) ((c.tc : Thread Cert.FfnFwdIdeal.nD Cert.FfnFwdIdeal.τ).loc Cert.FfnFwdIdeal.main_v5_1)) (v2 : (c : Dev Cert.FfnFwdIdeal.nD) → Buf (Elt Ideal) ((c.tc : Thread Cert.FfnFwdIdeal.nD Cert.FfnFwdIdeal.τ).loc Cert.FfnFwdIdeal.main_v5_2)) (v3 : (c : Dev Cert.FfnFwdIdeal.nD) → Buf (Elt Ideal) ((c.tc : Thread Cert.FfnFwdIdeal.nD Cert.FfnFwdIdeal.τ).loc Cert.FfnFwdIdeal.main_v5_3)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v5_0) = v0 c
          ∧ r.2.mem ((c.tc : Thread Cert.FfnFwdIdeal.nD Cert.FfnFwdIdeal.τ).loc Cert.FfnFwdIdeal.main_v5_1) = v1 c
          ∧ r.2.mem ((c.tc : Thread Cert.FfnFwdIdeal.nD Cert.FfnFwdIdeal.τ).loc Cert.FfnFwdIdeal.main_v5_2) = v2 c
          ∧ r.2.mem ((c.tc : Thread Cert.FfnFwdIdeal.nD Cert.FfnFwdIdeal.τ).loc Cert.FfnFwdIdeal.main_v5_3) = v3 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ θ_run (Cert.FfnFrefIdeal.defs (F := Ideal)) (onTc (τ := Cert.FfnFrefIdeal.τ) (Cert.FfnFrefIdeal.main (F := Ideal))) ⟨m', fun _ => 0, g'⟩ (fun r => ∀ c : Dev Cert.FfnFrefIdeal.nD,
          r.2.mem ((c.tc : Thread Cert.FfnFrefIdeal.nD Cert.FfnFrefIdeal.τ).loc Cert.FfnFrefIdeal.main_v19) = v0 c
          ∧ r.2.mem ((c.tc : Thread Cert.FfnFrefIdeal.nD Cert.FfnFrefIdeal.τ).loc Cert.FfnFrefIdeal.main_v22) = v1 c
          ∧ r.2.mem ((c.tc : Thread Cert.FfnFrefIdeal.nD Cert.FfnFrefIdeal.τ).loc Cert.FfnFrefIdeal.main_v25) = v2 c
          ∧ r.2.mem ((c.tc : Thread Cert.FfnFrefIdeal.nD Cert.FfnFrefIdeal.τ).loc Cert.FfnFrefIdeal.main_v26) = v3 c
          ∧ r.2.mem ((c.tc : Thread Cert.FfnFrefIdeal.nD Cert.FfnFrefIdeal.τ).loc Cert.FfnFrefIdeal.main_arg0) = m' ((c.tc : Thread Cert.FfnFrefIdeal.nD Cert.FfnFrefIdeal.τ).loc Cert.FfnFrefIdeal.main_arg0)
          ∧ r.2.mem ((c.tc : Thread Cert.FfnFrefIdeal.nD Cert.FfnFrefIdeal.τ).loc Cert.FfnFrefIdeal.main_arg1) = m' ((c.tc : Thread Cert.FfnFrefIdeal.nD Cert.FfnFrefIdeal.τ).loc Cert.FfnFrefIdeal.main_arg1)
          ∧ r.2.mem ((c.tc : Thread Cert.FfnFrefIdeal.nD Cert.FfnFrefIdeal.τ).loc Cert.FfnFrefIdeal.main_arg2) = m' ((c.tc : Thread Cert.FfnFrefIdeal.nD Cert.FfnFrefIdeal.τ).loc Cert.FfnFrefIdeal.main_arg2)
          ∧ r.2.mem ((c.tc : Thread Cert.FfnFrefIdeal.nD Cert.FfnFrefIdeal.τ).loc Cert.FfnFrefIdeal.main_arg3) = m' ((c.tc : Thread Cert.FfnFrefIdeal.nD Cert.FfnFrefIdeal.τ).loc Cert.FfnFrefIdeal.main_arg3)
          ∧ r.2.mem ((c.tc : Thread Cert.FfnFrefIdeal.nD Cert.FfnFrefIdeal.τ).loc Cert.FfnFrefIdeal.main_arg4) = m' ((c.tc : Thread Cert.FfnFrefIdeal.nD Cert.FfnFrefIdeal.τ).loc Cert.FfnFrefIdeal.main_arg4))

def preserves_Dwin_DwinIdeal : Prop :=
  True

def algebraic_DwinIdeal_DwinRefIdeal [hDwinIdeal : Cert.DwinIdeal.Facts] [hDwinRefIdeal : Cert.DwinRefIdeal.Facts] : Prop :=
  ∀ (m : (ℓ : Loc Cert.DwinIdeal.nD Cert.DwinIdeal.τ Cert.DwinIdeal.sig) → Buf (Elt Ideal) ℓ) (g : Dev Cert.DwinIdeal.nD → PrngReg)
    (m' : (ℓ : Loc Cert.DwinRefIdeal.nD Cert.DwinRefIdeal.τ Cert.DwinRefIdeal.sig) → Buf (Elt Ideal) ℓ) (g' : Dev Cert.DwinRefIdeal.nD → PrngReg), Pre_DwinIdeal m →
    (∀ c : Dev Cert.DwinIdeal.nD,
      m' ((c.tc : Thread Cert.DwinRefIdeal.nD Cert.DwinRefIdeal.τ).loc Cert.DwinRefIdeal.main_arg0) = m ((c.tc : Thread Cert.DwinIdeal.nD Cert.DwinIdeal.τ).loc Cert.DwinIdeal.main_arg0)
      ∧ m' ((c.tc : Thread Cert.DwinRefIdeal.nD Cert.DwinRefIdeal.τ).loc Cert.DwinRefIdeal.main_arg1) = m ((c.tc : Thread Cert.DwinIdeal.nD Cert.DwinIdeal.τ).loc Cert.DwinIdeal.main_arg1)
      ∧ m' ((c.tc : Thread Cert.DwinRefIdeal.nD Cert.DwinRefIdeal.τ).loc Cert.DwinRefIdeal.main_arg2) = m ((c.tc : Thread Cert.DwinIdeal.nD Cert.DwinIdeal.τ).loc Cert.DwinIdeal.main_arg2)
      ∧ m' ((c.tc : Thread Cert.DwinRefIdeal.nD Cert.DwinRefIdeal.τ).loc Cert.DwinRefIdeal.main_arg3) = m ((c.tc : Thread Cert.DwinIdeal.nD Cert.DwinIdeal.τ).loc Cert.DwinIdeal.main_arg3)
      ∧ m' ((c.tc : Thread Cert.DwinRefIdeal.nD Cert.DwinRefIdeal.τ).loc Cert.DwinRefIdeal.main_arg4) = m ((c.tc : Thread Cert.DwinIdeal.nD Cert.DwinIdeal.τ).loc Cert.DwinIdeal.main_arg4)
      ∧ m' ((c.tc : Thread Cert.DwinRefIdeal.nD Cert.DwinRefIdeal.τ).loc Cert.DwinRefIdeal.main_arg5) = m ((c.tc : Thread Cert.DwinIdeal.nD Cert.DwinIdeal.τ).loc Cert.DwinIdeal.main_arg5)
      ∧ m' ((c.tc : Thread Cert.DwinRefIdeal.nD Cert.DwinRefIdeal.τ).loc Cert.DwinRefIdeal.main_arg6) = m ((c.tc : Thread Cert.DwinIdeal.nD Cert.DwinIdeal.τ).loc Cert.DwinIdeal.main_arg6)
      ∧ m' ((c.tc : Thread Cert.DwinRefIdeal.nD Cert.DwinRefIdeal.τ).loc Cert.DwinRefIdeal.main_arg7) = m ((c.tc : Thread Cert.DwinIdeal.nD Cert.DwinIdeal.τ).loc Cert.DwinIdeal.main_arg7)) →
    ∃ (v0 : (c : Dev Cert.DwinIdeal.nD) → Buf (Elt Ideal) ((c.tc : Thread Cert.DwinIdeal.nD Cert.DwinIdeal.τ).loc Cert.DwinIdeal.main_v1)),
      θ_run (Cert.DwinIdeal.defs (F := Ideal)) (onTc (τ := Cert.DwinIdeal.τ) (Cert.DwinIdeal.main (F := Ideal))) ⟨m, fun _ => 0, g⟩ (fun r => ∀ c : Dev Cert.DwinIdeal.nD,
          r.2.mem ((c.tc : Thread Cert.DwinIdeal.nD Cert.DwinIdeal.τ).loc Cert.DwinIdeal.main_v1) = v0 c
          ∧ r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
          ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1)
          ∧ r.2.mem ((c.tc : Thread Cert.DwinIdeal.nD Cert.DwinIdeal.τ).loc Cert.DwinIdeal.main_arg2) = m ((c.tc : Thread Cert.DwinIdeal.nD Cert.DwinIdeal.τ).loc Cert.DwinIdeal.main_arg2)
          ∧ r.2.mem ((c.tc : Thread Cert.DwinIdeal.nD Cert.DwinIdeal.τ).loc Cert.DwinIdeal.main_arg3) = m ((c.tc : Thread Cert.DwinIdeal.nD Cert.DwinIdeal.τ).loc Cert.DwinIdeal.main_arg3)
          ∧ r.2.mem ((c.tc : Thread Cert.DwinIdeal.nD Cert.DwinIdeal.τ).loc Cert.DwinIdeal.main_arg4) = m ((c.tc : Thread Cert.DwinIdeal.nD Cert.DwinIdeal.τ).loc Cert.DwinIdeal.main_arg4)
          ∧ r.2.mem ((c.tc : Thread Cert.DwinIdeal.nD Cert.DwinIdeal.τ).loc Cert.DwinIdeal.main_arg5) = m ((c.tc : Thread Cert.DwinIdeal.nD Cert.DwinIdeal.τ).loc Cert.DwinIdeal.main_arg5)
          ∧ r.2.mem ((c.tc : Thread Cert.DwinIdeal.nD Cert.DwinIdeal.τ).loc Cert.DwinIdeal.main_arg6) = m ((c.tc : Thread Cert.DwinIdeal.nD Cert.DwinIdeal.τ).loc Cert.DwinIdeal.main_arg6)
          ∧ r.2.mem ((c.tc : Thread Cert.DwinIdeal.nD Cert.DwinIdeal.τ).loc Cert.DwinIdeal.main_arg7) = m ((c.tc : Thread Cert.DwinIdeal.nD Cert.DwinIdeal.τ).loc Cert.DwinIdeal.main_arg7))
      ∧ θ_run (Cert.DwinRefIdeal.defs (F := Ideal)) (onTc (τ := Cert.DwinRefIdeal.τ) (Cert.DwinRefIdeal.main (F := Ideal))) ⟨m', fun _ => 0, g'⟩ (fun r => ∀ c : Dev Cert.DwinRefIdeal.nD,
          r.2.mem ((c.tc : Thread Cert.DwinRefIdeal.nD Cert.DwinRefIdeal.τ).loc Cert.DwinRefIdeal.main_v12) = v0 c
          ∧ r.2.mem ((c.tc : Thread Cert.DwinRefIdeal.nD Cert.DwinRefIdeal.τ).loc Cert.DwinRefIdeal.main_arg0) = m' ((c.tc : Thread Cert.DwinRefIdeal.nD Cert.DwinRefIdeal.τ).loc Cert.DwinRefIdeal.main_arg0)
          ∧ r.2.mem ((c.tc : Thread Cert.DwinRefIdeal.nD Cert.DwinRefIdeal.τ).loc Cert.DwinRefIdeal.main_arg1) = m' ((c.tc : Thread Cert.DwinRefIdeal.nD Cert.DwinRefIdeal.τ).loc Cert.DwinRefIdeal.main_arg1)
          ∧ r.2.mem ((c.tc : Thread Cert.DwinRefIdeal.nD Cert.DwinRefIdeal.τ).loc Cert.DwinRefIdeal.main_arg2) = m' ((c.tc : Thread Cert.DwinRefIdeal.nD Cert.DwinRefIdeal.τ).loc Cert.DwinRefIdeal.main_arg2)
          ∧ r.2.mem ((c.tc : Thread Cert.DwinRefIdeal.nD Cert.DwinRefIdeal.τ).loc Cert.DwinRefIdeal.main_arg3) = m' ((c.tc : Thread Cert.DwinRefIdeal.nD Cert.DwinRefIdeal.τ).loc Cert.DwinRefIdeal.main_arg3)
          ∧ r.2.mem ((c.tc : Thread Cert.DwinRefIdeal.nD Cert.DwinRefIdeal.τ).loc Cert.DwinRefIdeal.main_arg4) = m' ((c.tc : Thread Cert.DwinRefIdeal.nD Cert.DwinRefIdeal.τ).loc Cert.DwinRefIdeal.main_arg4)
          ∧ r.2.mem ((c.tc : Thread Cert.DwinRefIdeal.nD Cert.DwinRefIdeal.τ).loc Cert.DwinRefIdeal.main_arg5) = m' ((c.tc : Thread Cert.DwinRefIdeal.nD Cert.DwinRefIdeal.τ).loc Cert.DwinRefIdeal.main_arg5)
          ∧ r.2.mem ((c.tc : Thread Cert.DwinRefIdeal.nD Cert.DwinRefIdeal.τ).loc Cert.DwinRefIdeal.main_arg6) = m' ((c.tc : Thread Cert.DwinRefIdeal.nD Cert.DwinRefIdeal.τ).loc Cert.DwinRefIdeal.main_arg6)
          ∧ r.2.mem ((c.tc : Thread Cert.DwinRefIdeal.nD Cert.DwinRefIdeal.τ).loc Cert.DwinRefIdeal.main_arg7) = m' ((c.tc : Thread Cert.DwinRefIdeal.nD Cert.DwinRefIdeal.τ).loc Cert.DwinRefIdeal.main_arg7))

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)) →
    ∃ (v0 : (c : Dev Cert.DwIdeal.nD) → Buf (Elt Ideal) ((c.tc : Thread Cert.DwIdeal.nD Cert.DwIdeal.τ).loc Cert.DwIdeal.main_v4)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v4) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v5) = v0 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v1) = v0 c
          ∧ r.2.mem ((c.tc : Thread Cert.AdamRefIdeal.nD Cert.AdamRefIdeal.τ).loc Cert.AdamRefIdeal.main_v25) = v1 c
          ∧ r.2.mem ((c.tc : Thread Cert.AdamRefIdeal.nD Cert.AdamRefIdeal.τ).loc Cert.AdamRefIdeal.main_v6) = v2 c
          ∧ r.2.mem ((c.tc : Thread Cert.AdamRefIdeal.nD Cert.AdamRefIdeal.τ).loc Cert.AdamRefIdeal.main_v12) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Slabs_SlabsIdeal : Prop :=
  True

def algebraic_SlabsIdeal_SlabsRefIdeal [hSlabsIdeal : Cert.SlabsIdeal.Facts] [hSlabsRefIdeal : Cert.SlabsRefIdeal.Facts] : Prop :=
  ∀ (m : (ℓ : Loc Cert.SlabsIdeal.nD Cert.SlabsIdeal.τ Cert.SlabsIdeal.sig) → Buf (Elt Ideal) ℓ) (g : Dev Cert.SlabsIdeal.nD → PrngReg)
    (m' : (ℓ : Loc Cert.SlabsRefIdeal.nD Cert.SlabsRefIdeal.τ Cert.SlabsRefIdeal.sig) → Buf (Elt Ideal) ℓ) (g' : Dev Cert.SlabsRefIdeal.nD → PrngReg), Pre_SlabsIdeal m →
    (∀ c : Dev Cert.SlabsIdeal.nD,
      m' ((c.tc : Thread Cert.SlabsRefIdeal.nD Cert.SlabsRefIdeal.τ).loc Cert.SlabsRefIdeal.main_arg0) = m ((c.tc : Thread Cert.SlabsIdeal.nD Cert.SlabsIdeal.τ).loc Cert.SlabsIdeal.main_arg0)) →
    ∃ (v0 : (c : Dev Cert.SlabsIdeal.nD) → Buf (Elt Ideal) ((c.tc : Thread Cert.SlabsIdeal.nD Cert.SlabsIdeal.τ).loc Cert.SlabsIdeal.main_v0)),
      θ_run (Cert.SlabsIdeal.defs (F := Ideal)) (onTc (τ := Cert.SlabsIdeal.τ) (Cert.SlabsIdeal.main (F := Ideal))) ⟨m, fun _ => 0, g⟩ (fun r => ∀ c : Dev Cert.SlabsIdeal.nD,
          r.2.mem ((c.tc : Thread Cert.SlabsIdeal.nD Cert.SlabsIdeal.τ).loc Cert.SlabsIdeal.main_v0) = v0 c
          ∧ r.2.mem ((c.tc : Thread Cert.SlabsIdeal.nD Cert.SlabsIdeal.τ).loc Cert.SlabsIdeal.main_arg0) = m ((c.tc : Thread Cert.SlabsIdeal.nD Cert.SlabsIdeal.τ).loc Cert.SlabsIdeal.main_arg0))
      ∧ θ_run (Cert.SlabsRefIdeal.defs (F := Ideal)) (onTc (τ := Cert.SlabsRefIdeal.τ) (Cert.SlabsRefIdeal.main (F := Ideal))) ⟨m', fun _ => 0, g'⟩ (fun r => ∀ c : Dev Cert.SlabsRefIdeal.nD,
          r.2.mem ((c.tc : Thread Cert.SlabsRefIdeal.nD Cert.SlabsRefIdeal.τ).loc Cert.SlabsRefIdeal.main_v1) = v0 c
          ∧ r.2.mem ((c.tc : Thread Cert.SlabsRefIdeal.nD Cert.SlabsRefIdeal.τ).loc Cert.SlabsRefIdeal.main_arg0) = m' ((c.tc : Thread Cert.SlabsRefIdeal.nD Cert.SlabsRefIdeal.τ).loc Cert.SlabsRefIdeal.main_arg0))

def Claim : Prop :=
  ∃ (hDiscK : Cert.DiscK.Facts) (hDiscKIdeal : Cert.DiscKIdeal.Facts) (hDiscRIdeal : Cert.DiscRIdeal.Facts) (hPreBwd : Cert.PreBwd.Facts) (hPreBwdIdeal : Cert.PreBwdIdeal.Facts) (hPreRefIdeal : Cert.PreRefIdeal.Facts) (hHead : Cert.Head.Facts) (hHeadIdeal : Cert.HeadIdeal.Facts) (hHeadRefIdeal : Cert.HeadRefIdeal.Facts) (hFfnBwd : Cert.FfnBwd.Facts) (hFfnBwdIdeal : Cert.FfnBwdIdeal.Facts) (hFfnRefIdeal : Cert.FfnRefIdeal.Facts) (hGlaBwd : Cert.GlaBwd.Facts) (hGlaBwdIdeal : Cert.GlaBwdIdeal.Facts) (hGlaFwd : Cert.GlaFwd.Facts) (hGlaFwdIdeal : Cert.GlaFwdIdeal.Facts) (hGlaFrefIdeal : Cert.GlaFrefIdeal.Facts) (hS5Disc : Cert.S5Disc.Facts) (hS5DiscIdeal : Cert.S5DiscIdeal.Facts) (hS5DiscRefIdeal : Cert.S5DiscRefIdeal.Facts) (hPreFwd : Cert.PreFwd.Facts) (hPreFwdIdeal : Cert.PreFwdIdeal.Facts) (hPreFrefIdeal : Cert.PreFrefIdeal.Facts) (hPostFwd : Cert.PostFwd.Facts) (hPostFwdIdeal : Cert.PostFwdIdeal.Facts) (hPostFrefIdeal : Cert.PostFrefIdeal.Facts) (hFfnFwd : Cert.FfnFwd.Facts) (hFfnFwdIdeal : Cert.FfnFwdIdeal.Facts) (hFfnFrefIdeal : Cert.FfnFrefIdeal.Facts) (hDwin : Cert.Dwin.Facts) (hDwinIdeal : Cert.DwinIdeal.Facts) (hDwinRefIdeal : Cert.DwinRefIdeal.Facts) (hDw : Cert.Dw.Facts) (hDwIdeal : Cert.DwIdeal.Facts) (hDwRefIdeal : Cert.DwRefIdeal.Facts) (hAdam : Cert.Adam.Facts) (hAdamIdeal : Cert.AdamIdeal.Facts) (hAdamRefIdeal : Cert.AdamRefIdeal.Facts) (hSlabs : Cert.Slabs.Facts) (hSlabsIdeal : Cert.SlabsIdeal.Facts) (hSlabsRefIdeal : Cert.SlabsRefIdeal.Facts) (hPre_pre_finite : Cert.Pre_pre_finite.Facts) (hPre_head_finite : Cert.Pre_head_finite.Facts) (hPre_ffn_finite : Cert.Pre_ffn_finite.Facts) (hPre_gla_finite : Cert.Pre_gla_finite.Facts),
    quiescent_DiscK (hDiscK := hDiscK)
    ∧ quiescent_DiscKIdeal (hDiscKIdeal := hDiscKIdeal)
    ∧ quiescent_DiscRIdeal (hDiscRIdeal := hDiscRIdeal)
    ∧ quiescent_PreBwd (hPreBwd := hPreBwd)
    ∧ quiescent_PreBwdIdeal (hPreBwdIdeal := hPreBwdIdeal)
    ∧ quiescent_PreBwdIdeal_pre_pre_finite (hPreBwdIdeal := hPreBwdIdeal) (hPre_pre_finite := hPre_pre_finite)
    ∧ quiescent_PreRefIdeal (hPreRefIdeal := hPreRefIdeal)
    ∧ quiescent_PreRefIdeal_pre_pre_finite (hPreRefIdeal := hPreRefIdeal) (hPre_pre_finite := hPre_pre_finite)
    ∧ quiescent_Head (hHead := hHead)
    ∧ quiescent_HeadIdeal (hHeadIdeal := hHeadIdeal)
    ∧ quiescent_HeadIdeal_pre_head_finite (hHeadIdeal := hHeadIdeal) (hPre_head_finite := hPre_head_finite)
    ∧ quiescent_HeadRefIdeal (hHeadRefIdeal := hHeadRefIdeal)
    ∧ quiescent_HeadRefIdeal_pre_head_finite (hHeadRefIdeal := hHeadRefIdeal) (hPre_head_finite := hPre_head_finite)
    ∧ quiescent_FfnBwd (hFfnBwd := hFfnBwd)
    ∧ quiescent_FfnBwdIdeal (hFfnBwdIdeal := hFfnBwdIdeal)
    ∧ quiescent_FfnBwdIdeal_pre_ffn_finite (hFfnBwdIdeal := hFfnBwdIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_GlaBwd (hGlaBwd := hGlaBwd)
    ∧ quiescent_GlaBwdIdeal (hGlaBwdIdeal := hGlaBwdIdeal)
    ∧ quiescent_GlaFwd (hGlaFwd := hGlaFwd)
    ∧ quiescent_GlaFwdIdeal (hGlaFwdIdeal := hGlaFwdIdeal)
    ∧ quiescent_GlaFwdIdeal_pre_gla_finite (hGlaFwdIdeal := hGlaFwdIdeal) (hPre_gla_finite := hPre_gla_finite)
    ∧ quiescent_GlaFrefIdeal (hGlaFrefIdeal := hGlaFrefIdeal)
    ∧ quiescent_GlaFrefIdeal_pre_gla_finite (hGlaFrefIdeal := hGlaFrefIdeal) (hPre_gla_finite := hPre_gla_finite)
    ∧ quiescent_S5Disc (hS5Disc := hS5Disc)
    ∧ quiescent_S5DiscIdeal (hS5DiscIdeal := hS5DiscIdeal)
    ∧ quiescent_S5DiscRefIdeal (hS5DiscRefIdeal := hS5DiscRefIdeal)
    ∧ quiescent_PreFwd (hPreFwd := hPreFwd)
    ∧ quiescent_PreFwdIdeal (hPreFwdIdeal := hPreFwdIdeal)
    ∧ quiescent_PreFrefIdeal (hPreFrefIdeal := hPreFrefIdeal)
    ∧ quiescent_PostFwd (hPostFwd := hPostFwd)
    ∧ quiescent_PostFwdIdeal (hPostFwdIdeal := hPostFwdIdeal)
    ∧ quiescent_PostFrefIdeal (hPostFrefIdeal := hPostFrefIdeal)
    ∧ quiescent_FfnFwd (hFfnFwd := hFfnFwd)
    ∧ quiescent_FfnFwdIdeal (hFfnFwdIdeal := hFfnFwdIdeal)
    ∧ quiescent_FfnFrefIdeal (hFfnFrefIdeal := hFfnFrefIdeal)
    ∧ quiescent_Dwin (hDwin := hDwin)
    ∧ quiescent_DwinIdeal (hDwinIdeal := hDwinIdeal)
    ∧ quiescent_DwinRefIdeal (hDwinRefIdeal := hDwinRefIdeal)
    ∧ quiescent_Dw (hDw := hDw)
    ∧ quiescent_DwIdeal (hDwIdeal := hDwIdeal)
    ∧ quiescent_DwRefIdeal (hDwRefIdeal := hDwRefIdeal)
    ∧ quiescent_Adam (hAdam := hAdam)
    ∧ quiescent_AdamIdeal (hAdamIdeal := hAdamIdeal)
    ∧ quiescent_AdamRefIdeal (hAdamRefIdeal := hAdamRefIdeal)
    ∧ quiescent_Slabs (hSlabs := hSlabs)
    ∧ quiescent_SlabsIdeal (hSlabsIdeal := hSlabsIdeal)
    ∧ quiescent_SlabsRefIdeal (hSlabsRefIdeal := hSlabsRefIdeal)
    ∧ preserves_DiscK_DiscKIdeal
    ∧ algebraic_DiscKIdeal_DiscRIdeal (hDiscKIdeal := hDiscKIdeal) (hDiscRIdeal := hDiscRIdeal)
    ∧ preserves_PreBwd_PreBwdIdeal
    ∧ algebraic_PreBwdIdeal_PreRefIdeal_pre_pre_finite (hPreBwdIdeal := hPreBwdIdeal) (hPreRefIdeal := hPreRefIdeal) (hPre_pre_finite := hPre_pre_finite)
    ∧ preserves_Head_HeadIdeal
    ∧ algebraic_HeadIdeal_HeadRefIdeal_pre_head_finite (hHeadIdeal := hHeadIdeal) (hHeadRefIdeal := hHeadRefIdeal) (hPre_head_finite := hPre_head_finite)
    ∧ preserves_FfnBwd_FfnBwdIdeal
    ∧ algebraic_FfnBwdIdeal_FfnRefIdeal_pre_ffn_finite (hFfnBwdIdeal := hFfnBwdIdeal) (hFfnRefIdeal := hFfnRefIdeal) (hPre_ffn_finite := hPre_ffn_finite)
    ∧ preserves_GlaBwd_GlaBwdIdeal
    ∧ preserves_GlaFwd_GlaFwdIdeal
    ∧ algebraic_GlaFwdIdeal_GlaFrefIdeal_pre_gla_finite (hGlaFwdIdeal := hGlaFwdIdeal) (hGlaFrefIdeal := hGlaFrefIdeal) (hPre_gla_finite := hPre_gla_finite)
    ∧ preserves_S5Disc_S5DiscIdeal
    ∧ algebraic_S5DiscIdeal_S5DiscRefIdeal (hS5DiscIdeal := hS5DiscIdeal) (hS5DiscRefIdeal := hS5DiscRefIdeal)
    ∧ preserves_PreFwd_PreFwdIdeal
    ∧ algebraic_PreFwdIdeal_PreFrefIdeal (hPreFwdIdeal := hPreFwdIdeal) (hPreFrefIdeal := hPreFrefIdeal)
    ∧ preserves_PostFwd_PostFwdIdeal
    ∧ algebraic_PostFwdIdeal_PostFrefIdeal (hPostFwdIdeal := hPostFwdIdeal) (hPostFrefIdeal := hPostFrefIdeal)
    ∧ preserves_FfnFwd_FfnFwdIdeal
    ∧ algebraic_FfnFwdIdeal_FfnFrefIdeal (hFfnFwdIdeal := hFfnFwdIdeal) (hFfnFrefIdeal := hFfnFrefIdeal)
    ∧ preserves_Dwin_DwinIdeal
    ∧ algebraic_DwinIdeal_DwinRefIdeal (hDwinIdeal := hDwinIdeal) (hDwinRefIdeal := hDwinRefIdeal)
    ∧ preserves_Dw_DwIdeal
    ∧ algebraic_DwIdeal_DwRefIdeal (hDwIdeal := hDwIdeal) (hDwRefIdeal := hDwRefIdeal)
    ∧ preserves_Adam_AdamIdeal
    ∧ algebraic_AdamIdeal_AdamRefIdeal (hAdamIdeal := hAdamIdeal) (hAdamRefIdeal := hAdamRefIdeal)
    ∧ preserves_Slabs_SlabsIdeal
    ∧ algebraic_SlabsIdeal_SlabsRefIdeal (hSlabsIdeal := hSlabsIdeal) (hSlabsRefIdeal := hSlabsRefIdeal)
-- ==== Pre_ffn_finite.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S4096x1024 .f32) (main_v3 : IVec S_ 1) (main_v7 : IVec S_ 1) (main_v11 : IVec S_ 1) (main_v15 : IVec S_ 1) : IVec S_ 1 :=
  let main_v16 : FVec F S2816x1024 .f32 := Host.absf main_arg4
  let main_cst_6 : FVec F S_ .f32 := constant S_ .f32 0x7F800000#32
  let main_v17 : FVec F S2816x1024 .f32 := broadcastInDim S2816x1024 ![] bcast_S_S2816x1024 main_cst_6
  let main_v18 : IVec S2816x1024 1 := cmpf .olt main_v16 main_v17
  let main_c_7 : IVec S_ 1 := constantI S_ 1 1#1
  let main_v19 : IVec S_ 1 := (fun x v => Host.reduce IntOp.andi x v reducesTo_S2816x1024_S_d0_1 h_S_) main_v18 main_c_7
  let main_v20 : FVec F S4096x1024 .f32 := Host.absf main_arg5
  let main_cst_8 : FVec F S_ .f32 := constant S_ .f32 0x7F800000#32
  let main_v21 : FVec F S4096x1024 .f32 := broadcastInDim S4096x1024 ![] bcast_S_S4096x1024 main_cst_8
  let main_v22 : IVec S4096x1024 1 := cmpf .olt main_v20 main_v21
  let main_c_9 : IVec S_ 1 := constantI S_ 1 1#1
  let main_v23 : IVec S_ 1 := (fun x v => Host.reduce IntOp.andi x v reducesTo_S4096x1024_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S4096x1024 .f32) (main_arg1 : FVec F S1x1024 .f32) (main_arg2 : FVec F S1024x2816 .f32) (main_arg3 : FVec F S1024x2816 .f32) (main_arg4 : FVec F S2816x1024 .f32) (main_arg5 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1024x2816 .f32 := Host.absf main_arg2
  let main_cst_2 : FVec F S_ .f32 := constant S_ .f32 0x7F800000#32
  let main_v9 : FVec F S1024x2816 .f32 := broadcastInDim S1024x2816 ![] bcast_S_S1024x2816 main_cst_2
  let main_v10 : IVec S1024x2816 1 := cmpf .olt main_v8 main_v9
  let main_c_3 : IVec S_ 1 := constantI S_ 1 1#1
  let main_v11 : IVec S_ 1 := (fun x v => Host.reduce IntOp.andi x v reducesTo_S1024x2816_S_d0_1 h_S_) main_v10 main_c_3
  let main_v12 : FVec F S1024x2816 .f32 := Host.absf main_arg3
  let main_cst_4 : FVec F S_ .f32 := constant S_ .f32 0x7F800000#32
  let main_v13 : FVec F S1024x2816 .f32 := broadcastInDim S1024x2816 ![] bcast_S_S1024x2816 main_cst_4
  let main_v14 : IVec S1024x2816 1 := cmpf .olt main_v12 main_v13
  let main_c_5 : IVec S_ 1 := constantI S_ 1 1#1
  let main_v15 : IVec S_ 1 := (fun x v => Host.reduce IntOp.andi x v reducesTo_S1024x2816_S_d0_1 h_S_) main_v14 main_c_5
  fn_part1 (F := F) main_arg4 main_arg5 main_v3 main_v7 main_v11 main_v15
-- ==== Pre_gla_finite.lean ====
abbrev S4096x256 : Shape := ⟨2, ![4096, 256]⟩
abbrev S4096x512 : Shape := ⟨2, ![4096, 512]⟩
abbrev S4096x16 : Shape := ⟨2, ![4096, 16]⟩
abbrev S16x256 : Shape := ⟨2, ![16, 256]⟩
abbrev S1x256 : Shape := ⟨2, ![1, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S4096x16 : S_.BroadcastsInDim S4096x16 (![] : Fin 0 → Fin S4096x16.rank)
  reducesTo_S4096x16_S_d0_1 : S4096x16.ReducesTo [0, 1] S_
  bcast_S_S16x256 : S_.BroadcastsInDim S16x256 (![] : Fin 0 → Fin S16x256.rank)
  reducesTo_S16x256_S_d0_1 : S16x256.ReducesTo [0, 1] S_
  bcast_S_S1x256 : S_.BroadcastsInDim S1x256 (![] : Fin 0 → Fin S1x256.rank)
  reducesTo_S1x256_S_d0_1 : S1x256.ReducesTo [0, 1] S_

variable [Facts]

def fn_part1 {F : FTy → Type} [FloatOps F] (main_arg4 : FVec F S16x256 .f32) (main_arg5 : FVec F S1x256 .f32) (main_v3 : IVec S_ 1) (main_v7 : IVec S_ 1) (main_v11 : IVec S_ 1) (main_v15 : IVec S_ 1) : IVec S_ 1 :=
  let main_v16 : FVec F S16x256 .f32 := Host.absf main_arg4
  let main_cst_6 : FVec F S_ .f32 := constant S_ .f32 0x7F800000#32
  let main_v17 : FVec F S16x256 .f32 := broadcastInDim S16x256 ![] bcast_S_S16x256 main_cst_6
  let main_v18 : IVec S16x256 1 := cmpf .olt main_v16 main_v17
  let main_c_7 : IVec S_ 1 := constantI S_ 1 1#1
  let main_v19 : IVec S_ 1 := (fun x v => Host.reduce IntOp.andi x v reducesTo_S16x256_S_d0_1 h_S_) main_v18 main_c_7
  let main_v20 : FVec F S1x256 .f32 := Host.absf main_arg5
  let main_cst_8 : FVec F S_ .f32 := constant S_ .f32 0x7F800000#32
  let main_v21 : FVec F S1x256 .f32 := broadcastInDim S1x256 ![] bcast_S_S1x256 main_cst_8
  let main_v22 : IVec S1x256 1 := cmpf .olt main_v20 main_v21
  let main_c_9 : IVec S_ 1 := constantI S_ 1 1#1
  let main_v23 : IVec S_ 1 := (fun x v => Host.reduce IntOp.andi x v reducesTo_S1x256_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S4096x256 .f32) (main_arg1 : FVec F S4096x256 .f32) (main_arg2 : FVec F S4096x512 .f32) (main_arg3 : FVec F S4096x16 .f32) (main_arg4 : FVec F S16x256 .f32) (main_arg5 : FVec F S1x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : FVec F S4096x512 .f32 := Host.absf main_arg2
  let main_cst_2 : FVec F S_ .f32 := constant S_ .f32 0x7F800000#32
  let main_v9 : FVec F S4096x512 .f32 := broadcastInDim S4096x512 ![] bcast_S_S4096x512 main_cst_2
  let main_v10 : IVec S4096x512 1 := cmpf .olt main_v8 main_v9
  let main_c_3 : IVec S_ 1 := constantI S_ 1 1#1
  let main_v11 : IVec S_ 1 := (fun x v => Host.reduce IntOp.andi x v reducesTo_S4096x512_S_d0_1 h_S_) main_v10 main_c_3
  let main_v12 : FVec F S4096x16 .f32 := Host.absf main_arg3
  let main_cst_4 : FVec F S_ .f32 := constant S_ .f32 0x7F800000#32
  let main_v13 : FVec F S4096x16 .f32 := broadcastInDim S4096x16 ![] bcast_S_S4096x16 main_cst_4
  let main_v14 : IVec S4096x16 1 := cmpf .olt main_v12 main_v13
  let main_c_5 : IVec S_ 1 := constantI S_ 1 1#1
  let main_v15 : IVec S_ 1 := (fun x v => Host.reduce IntOp.andi x v reducesTo_S4096x16_S_d0_1 h_S_) main_v14 main_c_5
  fn_part1 (F := F) main_arg4 main_arg5 main_v3 main_v7 main_v11 main_v15
-- ==== Pre_head_finite.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S2816x1024 .f32) (main_arg5 : FVec F S1024 .f32) (main_arg6 : FVec F S4096x1024 .f32) (main_v3 : IVec S_ 1) (main_v7 : IVec S_ 1) (main_v11 : IVec S_ 1) (main_v15 : IVec S_ 1) : IVec S_ 1 :=
  let main_v16 : FVec F S2816x1024 .f32 := Host.absf main_arg4
  let main_cst_6 : FVec F S_ .f32 := constant S_ .f32 0x7F800000#32
  let main_v17 : FVec F S2816x1024 .f32 := broadcastInDim S2816x1024 ![] bcast_S_S2816x1024 main_cst_6
  let main_v18 : IVec S2816x1024 1 := cmpf .olt main_v16 main_v17
  let main_c_7 : IVec S_ 1 := constantI S_ 1 1#1
  let main_v19 : IVec S_ 1 := (fun x v => Host.reduce IntOp.andi x v reducesTo_S2816x1024_S_d0_1 h_S_) main_v18 main_c_7
  let main_v20 : FVec F S1024 .f32 := Host.absf main_arg5
  let main_cst_8 : FVec F S_ .f32 := constant S_ .f32 0x7F800000#32
  let main_v21 : FVec F S1024 .f32 := broadcastInDim S1024 ![] bcast_S_S1024 main_cst_8
  let main_v22 : IVec S1024 1 := cmpf .olt main_v20 main_v21
  let main_c_9 : IVec S_ 1 := constantI S_ 1 1#1
  let main_v23 : IVec S_ 1 := (fun x v => Host.reduce IntOp.andi x v reducesTo_S1024_S_d0 h_S_) main_v22 main_c_9
  let main_v24 : FVec F S4096x1024 .f32 := Host.absf main_arg6
  let main_cst_10 : FVec F S_ .f32 := constant S_ .f32 0x7F800000#32
  let main_v25 : FVec F S4096x1024 .f32 := broadcastInDim S4096x1024 ![] bcast_S_S4096x1024 main_cst_10
  let main_v26 : IVec S4096x1024 1 := cmpf .olt main_v24 main_v25
  let main_c_11 : IVec S_ 1 := constantI S_ 1 1#1
  let main_v27 : IVec S_ 1 := (fun x v => Host.reduce IntOp.andi x v reducesTo_S4096x1024_S_d0_1 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S4096x1024 .f32) (main_arg1 : FVec F S1x1024 .f32) (main_arg2 : FVec F S1024x2816 .f32) (main_arg3 : FVec F S1024x2816 .f32) (main_arg4 : FVec F S2816x1024 .f32) (main_arg5 : FVec F S1024 .f32) (main_arg6 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1024x2816 .f32 := Host.absf main_arg2
  let main_cst_2 : FVec F S_ .f32 := constant S_ .f32 0x7F800000#32
  let main_v9 : FVec F S1024x2816 .f32 := broadcastInDim S1024x2816 ![] bcast_S_S1024x2816 main_cst_2
  let main_v10 : IVec S1024x2816 1 := cmpf .olt main_v8 main_v9
  let main_c_3 : IVec S_ 1 := constantI S_ 1 1#1
  let main_v11 : IVec S_ 1 := (fun x v => Host.reduce IntOp.andi x v reducesTo_S1024x2816_S_d0_1 h_S_) main_v10 main_c_3
  let main_v12 : FVec F S1024x2816 .f32 := Host.absf main_arg3
  let main_cst_4 : FVec F S_ .f32 := constant S_ .f32 0x7F800000#32
  let main_v13 : FVec F S1024x2816 .f32 := broadcastInDim S1024x2816 ![] bcast_S_S1024x2816 main_cst_4
  let main_v14 : IVec S1024x2816 1 := cmpf .olt main_v12 main_v13
  let main_c_5 : IVec S_ 1 := constantI S_ 1 1#1
  let main_v15 : IVec S_ 1 := (fun x v => Host.reduce IntOp.andi x v reducesTo_S1024x2816_S_d0_1 h_S_) main_v14 main_c_5
  fn_part1 (F := F) main_arg4 main_arg5 main_arg6 main_v3 main_v7 main_v11 main_v15
-- ==== Pre_pre_finite.lean ====
abbrev S4096x1024 : Shape := ⟨2, ![4096, 1024]⟩
abbrev S1x1024 : Shape := ⟨2, ![1, 1024]⟩
abbrev S1024x4112 : Shape := ⟨2, ![1024, 4112]⟩
abbrev S4096x512 : Shape := ⟨2, ![4096, 512]⟩
abbrev S4096x256 : Shape := ⟨2, ![4096, 256]⟩
abbrev S4096x16 : Shape := ⟨2, ![4096, 16]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x4112 : S_.BroadcastsInDim S1024x4112 (![] : Fin 0 → Fin S1024x4112.rank)
  reducesTo_S1024x4112_S_d0_1 : S1024x4112.ReducesTo [0, 1] S_
  bcast_S_S4096x512 : S_.BroadcastsInDim S4096x512 (![] : Fin 0 → Fin S4096x512.rank)
  reducesTo_S4096x512_S_d0_1 : S4096x512.ReducesTo [0, 1] S_
  bitsLt_bf16_f32 : FTy.bits .bf16 < FTy.bits .f32
  bcast_S_S4096x256 : S_.BroadcastsInDim S4096x256 (![] : Fin 0 → Fin S4096x256.rank)
  reducesTo_S4096x256_S_d0_1 : S4096x256.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part3 {F : FTy → Type} [FloatOps F] (main_v3 : IVec S_ 1) (main_v7 : IVec S_ 1) (main_v11 : IVec S_ 1) (main_v15 : IVec S_ 1) (main_v20 : IVec S_ 1) (main_v25 : IVec S_ 1) (main_v30 : IVec S_ 1) (main_v35 : IVec S_ 1) (main_v40 : IVec S_ 1) (main_v45 : IVec S_ 1) (main_v49 : IVec S4096x1024 1) (main_c_19 : IVec S_ 1) : IVec S_ 1 :=
  let main_v50 : IVec S_ 1 := (fun x v => Host.reduce IntOp.andi x v reducesTo_S4096x1024_S_d0_1 h_S_) main_v49 main_c_19
  let main_v51 : IVec S_ 1 := andi main_v3 main_v7
  let main_v52 : IVec S_ 1 := andi main_v51 main_v11
  let main_v53 : IVec S_ 1 := andi main_v52 main_v15
  let main_v54 : IVec S_ 1 := andi main_v53 main_v20
  let main_v55 : IVec S_ 1 := andi main_v54 main_v25
  let main_v56 : IVec S_ 1 := andi main_v55 main_v30
  let main_v57 : IVec S_ 1 := andi main_v56 main_v35
  let main_v58 : IVec S_ 1 := andi main_v57 main_v40
  let main_v59 : IVec S_ 1 := andi main_v58 main_v45
  let main_v60 : IVec S_ 1 := andi main_v59 main_v50
  main_v60

def fn_part2 {F : FTy → Type} [FloatOps F] (main_arg9 : FVec F S4096x16 .bf16) (main_arg10 : FVec F S4096x1024 .bf16) (main_arg11 : FVec F S4096x1024 .bf16) (main_v3 : IVec S_ 1) (main_v7 : IVec S_ 1) (main_v11 : IVec S_ 1) (main_v15 : IVec S_ 1) (main_v20 : IVec S_ 1) (main_v25 : IVec S_ 1) (main_v30 : IVec S_ 1) (main_v32 : FVec F S4096x512 .f32) (main_cst_12 : FVec F S_ .f32) : IVec S_ 1 :=
  let main_v33 : FVec F S4096x512 .f32 := broadcastInDim S4096x512 ![] bcast_S_S4096x512 main_cst_12
  let main_v34 : IVec S4096x512 1 := cmpf .olt main_v32 main_v33
  let main_c_13 : IVec S_ 1 := constantI S_ 1 1#1
  let main_v35 : IVec S_ 1 := (fun x v => Host.reduce IntOp.andi x v reducesTo_S4096x512_S_d0_1 h_S_) main_v34 main_c_13
  let main_v36 : FVec F S4096x16 .f32 := (extf .f32 · bitsLt_bf16_f32) main_arg9
  let main_v37 : FVec F S4096x16 .f32 := Host.absf main_v36
  let main_cst_14 : FVec F S_ .f32 := constant S_ .f32 0x7F800000#32
  let main_v38 : FVec F S4096x16 .f32 := broadcastInDim S4096x16 ![] bcast_S_S4096x16 main_cst_14
  let main_v39 : IVec S4096x16 1 := cmpf .olt main_v37 main_v38
  let main_c_15 : IVec S_ 1 := constantI S_ 1 1#1
  let main_v40 : IVec S_ 1 := (fun x v => Host.reduce IntOp.andi x v reducesTo_S4096x16_S_d0_1 h_S_) main_v39 main_c_15
  let main_v41 : FVec F S4096x1024 .f32 := (extf .f32 · bitsLt_bf16_f32) main_arg10
  let main_v42 : FVec F S4096x1024 .f32 := Host.absf main_v41
  let main_cst_16 : FVec F S_ .f32 := constant S_ .f32 0x7F800000#32
  let main_v43 : FVec F S4096x1024 .f32 := broadcastInDim S4096x1024 ![] bcast_S_S4096x1024 main_cst_16
  let main_v44 : IVec S4096x1024 1 := cmpf .olt main_v42 main_v43
  let main_c_17 : IVec S_ 1 := constantI S_ 1 1#1
  let main_v45 : IVec S_ 1 := (fun x v => Host.reduce IntOp.andi x v reducesTo_S4096x1024_S_d0_1 h_S_) main_v44 main_c_17
  let main_v46 : FVec F S4096x1024 .f32 := (extf .f32 · bitsLt_bf16_f32) main_arg11
  let main_v47 : FVec F S4096x1024 .f32 := Host.absf main_v46
  let main_cst_18 : FVec F S_ .f32 := constant S_ .f32 0x7F800000#32
  let main_v48 : FVec F S4096x1024 .f32 := broadcastInDim S4096x1024 ![] bcast_S_S4096x1024 main_cst_18
  let main_v49 : IVec S4096x1024 1 := cmpf .olt main_v47 main_v48
  let main_c_19 : IVec S_ 1 := constantI S_ 1 1#1
  fn_part3 (F := F) main_v3 main_v7 main_v11 main_v15 main_v20 main_v25 main_v30 main_v35 main_v40 main_v45 main_v49 main_c_19

def fn_part1 {F : FTy → Type} [FloatOps F] (main_arg5 : FVec F S4096x256 .bf16) (main_arg6 : FVec F S4096x256 .bf16) (main_arg7 : FVec F S4096x512 .bf16) (main_arg8 : FVec F S4096x512 .bf16) (main_arg9 : FVec F S4096x16 .bf16) (main_arg10 : FVec F S4096x1024 .bf16) (main_arg11 : FVec F S4096x1024 .bf16) (main_v3 : IVec S_ 1) (main_v7 : IVec S_ 1) (main_v11 : IVec S_ 1) (main_v15 : IVec S_ 1) : IVec S_ 1 :=
  let main_v16 : FVec F S4096x256 .f32 := (extf .f32 · bitsLt_bf16_f32) main_arg5
  let main_v17 : FVec F S4096x256 .f32 := Host.absf main_v16
  let main_cst_6 : FVec F S_ .f32 := constant S_ .f32 0x7F800000#32
  let main_v18 : FVec F S4096x256 .f32 := broadcastInDim S4096x256 ![] bcast_S_S4096x256 main_cst_6
  let main_v19 : IVec S4096x256 1 := cmpf .olt main_v17 main_v18
  let main_c_7 : IVec S_ 1 := constantI S_ 1 1#1
  let main_v20 : IVec S_ 1 := (fun x v => Host.reduce IntOp.andi x v reducesTo_S4096x256_S_d0_1 h_S_) main_v19 main_c_7
  let main_v21 : FVec F S4096x256 .f32 := (extf .f32 · bitsLt_bf16_f32) main_arg6
  let main_v22 : FVec F S4096x256 .f32 := Host.absf main_v21
  let main_cst_8 : FVec F S_ .f32 := constant S_ .f32 0x7F800000#32
  let main_v23 : FVec F S4096x256 .f32 := broadcastInDim S4096x256 ![] bcast_S_S4096x256 main_cst_8
  let main_v24 : IVec S4096x256 1 := cmpf .olt main_v22 main_v23
  let main_c_9 : IVec S_ 1 := constantI S_ 1 1#1
  let main_v25 : IVec S_ 1 := (fun x v => Host.reduce IntOp.andi x v reducesTo_S4096x256_S_d0_1 h_S_) main_v24 main_c_9
  let main_v26 : FVec F S4096x512 .f32 := (extf .f32 · bitsLt_bf16_f32) main_arg7
  let main_v27 : FVec F S4096x512 .f32 := Host.absf main_v26
  let main_cst_10 : FVec F S_ .f32 := constant S_ .f32 0x7F800000#32
  let main_v28 : FVec F S4096x512 .f32 := broadcastInDim S4096x512 ![] bcast_S_S4096x512 main_cst_10
  let main_v29 : IVec S4096x512 1 := cmpf .olt main_v27 main_v28
  let main_c_11 : IVec S_ 1 := constantI S_ 1 1#1
  let main_v30 : IVec S_ 1 := (fun x v => Host.reduce IntOp.andi x v reducesTo_S4096x512_S_d0_1 h_S_) main_v29 main_c_11
  let main_v31 : FVec F S4096x512 .f32 := (extf .f32 · bitsLt_bf16_f32) main_arg8
  let main_v32 : FVec F S4096x512 .f32 := Host.absf main_v31
  let main_cst_12 : FVec F S_ .f32 := constant S_ .f32 0x7F800000#32
  fn_part2 (F := F) main_arg9 main_arg10 main_arg11 main_v3 main_v7 main_v11 main_v15 main_v20 main_v25 main_v30 main_v32 main_cst_12

def fn {F : FTy → Type} [FloatOps F] (main_arg0 : FVec F S4096x1024 .f32) (main_arg1 : FVec F S1x1024 .f32) (main_arg2 : FVec F S1024x4112 .f32) (main_arg3 : FVec F S4096x1024 .f32) (main_arg4 : FVec F S4096x512 .f32) (main_arg5 : FVec F S4096x256 .bf16) (main_arg6 : FVec F S4096x256 .bf16) (main_arg7 : FVec F S4096x512 .bf16) (main_arg8 : FVec F S4096x512 .bf16) (main_arg9 : FVec F S4096x16 .bf16) (main_arg10 : FVec F S4096x1024 .bf16) (main_arg11 : FVec F S4096x1024 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1024x4112 .f32 := Host.absf main_arg2
  let main_cst_2 : FVec F S_ .f32 := constant S_ .f32 0x7F800000#32
  let main_v9 : FVec F S1024x4112 .f32 := broadcastInDim S1024x4112 ![] bcast_S_S1024x4112 main_cst_2
  let main_v10 : IVec S1024x4112 1 := cmpf .olt main_v8 main_v9
  let main_c_3 : IVec S_ 1 := constantI S_ 1 1#1
  let main_v11 : IVec S_ 1 := (fun x v => Host.reduce IntOp.andi x v reducesTo_S1024x4112_S_d0_1 h_S_) main_v10 main_c_3
  let main_v12 : FVec F S4096x512 .f32 := Host.absf main_arg4
  let main_cst_4 : FVec F S_ .f32 := constant S_ .f32 0x7F800000#32
  let main_v13 : FVec F S4096x512 .f32 := broadcastInDim S4096x512 ![] bcast_S_S4096x512 main_cst_4
  let main_v14 : IVec S4096x512 1 := cmpf .olt main_v12 main_v13
  let main_c_5 : IVec S_ 1 := constantI S_ 1 1#1
  let main_v15 : IVec S_ 1 := (fun x v => Host.reduce IntOp.andi x v reducesTo_S4096x512_S_d0_1 h_S_) main_v14 main_c_5
  fn_part1 (F := F) main_arg5 main_arg6 main_arg7 main_arg8 main_arg9 main_arg10 main_arg11 main_v3 main_v7 main_v11 main_v15
-- ==== DiscK.lean ====
abbrev S1x32x64 : Shape := ⟨3, ![1, 32, 64]⟩
abbrev S1x32 : Shape := ⟨2, ![1, 32]⟩
abbrev S1x32x64x16 : Shape := ⟨4, ![1, 32, 64, 16]⟩
abbrev S32x64 : Shape := ⟨2, ![32, 64]⟩
abbrev S32x16x64 : Shape := ⟨3, ![32, 16, 64]⟩
abbrev S32 : Shape := ⟨1, ![32]⟩
abbrev S32x1 : Shape := ⟨2, ![32, 1]⟩
abbrev S32x64x16 : Shape := ⟨3, ![32, 64, 16]⟩
abbrev S32x1x64 : Shape := ⟨3, ![32, 1, 64]⟩

abbrev nBuf : Space → Nat
  | .hbm => 22
  | .vmem => 14
  | .smem => 0
  | _ => 0

abbrev bufTy : (tb : Table) → Fin (tcTables nBuf tb) → BufTy
  | .hbm, ⟨0, _⟩ => ⟨S1x32x64, .f32⟩
  | .hbm, ⟨1, _⟩ => ⟨S1x32x64, .f32⟩
  | .hbm, ⟨2, _⟩ => ⟨S1x32, .f32⟩
  | .hbm, ⟨3, _⟩ => ⟨S1x32x64x16, .f32⟩
  | .hbm, ⟨4, _⟩ => ⟨S1x32x64x16, .f32⟩
  | .hbm, ⟨5, _⟩ => ⟨S32x64, .f32⟩
  | .hbm, ⟨6, _⟩ => ⟨S32x64, .f32⟩
  | .hbm, ⟨7, _⟩ => ⟨S32x16x64, .f32⟩
  | .hbm, ⟨8, _⟩ => ⟨S32x16x64, .f32⟩
  | .hbm, ⟨9, _⟩ => ⟨S32x64, .f32⟩
  | .hbm, ⟨10, _⟩ => ⟨S32x64, .f32⟩
  | .hbm, ⟨11, _⟩ => ⟨S32, .f32⟩
  | .hbm, ⟨12, _⟩ => ⟨S32x1, .f32⟩
  | .hbm, ⟨13, _⟩ => ⟨S32x64x16, .f32⟩
  | .hbm, ⟨14, _⟩ => ⟨S32x16x64, .f32⟩
  | .hbm, ⟨15, _⟩ => ⟨S32x64x16, .f32⟩
  | .hbm, ⟨16, _⟩ => ⟨S32x16x64, .f32⟩
  | .hbm, ⟨17, _⟩ => ⟨S32x64, .f32⟩
  | .hbm, ⟨18, _⟩ => ⟨S32x64, .f32⟩
  | .hbm, ⟨19, _⟩ => ⟨S32x1, .f32⟩
  | .hbm, ⟨20, _⟩ => ⟨S32x16x64, .f32⟩
  | .hbm, ⟨21, _⟩ => ⟨S32x16x64, .f32⟩
  | .local _ .vmem, ⟨0, _⟩ => ⟨S32x64, .f32⟩
  | .local _ .vmem, ⟨1, _⟩ => ⟨S32x64, .f32⟩
  | .local _ .vmem, ⟨2, _⟩ => ⟨S32x1, .f32⟩
  | .local _ .vmem, ⟨3, _⟩ => ⟨S32x16x64, .f32⟩
  | .local _ .vmem, ⟨4, _⟩ => ⟨S32x16x64, .f32⟩
  | .local _ .vmem, ⟨5, _⟩ => ⟨S32x64, .f32⟩
  | .local _ .vmem, ⟨6, _⟩ => ⟨S32x64, .f32⟩
  | .local _ .vmem, ⟨7, _⟩ => ⟨S32x16x64, .f32⟩
  | .local _ .vmem, ⟨8, _⟩ => ⟨S32x16x64, .f32⟩
  | .local _ .vmem, ⟨9, _⟩ => ⟨S32x64, .f32⟩
  | .local _ .vmem, ⟨10, _⟩ => ⟨S32x64, .f32⟩
  | .local _ .vmem, ⟨11, _⟩ => ⟨S32x1, .f32⟩
  | .local _ .vmem, ⟨12, _⟩ => ⟨S32x16x64, .f32⟩
  | .local _ .vmem, ⟨13, _⟩ => ⟨S32x16x64, .f32⟩
  | _, _ => ⟨S1x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_v8_4 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S32x16x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S32x16x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== DiscRIdeal.lean ====
abbrev S1x32x64 : Shape := ⟨3, ![1, 32, 64]⟩
abbrev S1x32 : Shape := ⟨2, ![1, 32]⟩
abbrev S1x32x64x16 : Shape := ⟨4, ![1, 32, 64, 16]⟩
abbrev S32x64 : Shape := ⟨2, ![32, 64]⟩
abbrev S32x16x64 : Shape := ⟨3, ![32, 16, 64]⟩
abbrev S32x64x16 : Shape := ⟨3, ![32, 64, 16]⟩
abbrev S32 : Shape := ⟨1, ![32]⟩
abbrev S32x1 : Shape := ⟨2, ![32, 1]⟩
abbrev S_ : Shape := ⟨0, ![]⟩
abbrev S32x64x1 : Shape := ⟨3, ![32, 64, 1]⟩

abbrev nBuf : Space → Nat
  | .hbm => 174
  | .vmem => 0
  | .smem => 0
  | _ => 0

abbrev hbmTy0_0 (i : Nat) : BufTy := match i % 128 with
  | 0 => ⟨S1x32x64, .f32⟩
  | 1 => ⟨S1x32x64, .f32⟩
  | 2 => ⟨S1x32, .f32⟩
  | 3 => ⟨S1x32x64x16, .f32⟩
  | 4 => ⟨S1x32x64x16, .f32⟩
  | 5 => ⟨S32x64, .f32⟩
  | 6 => ⟨S32x64, .f32⟩
  | 7 => ⟨S32x16x64, .f32⟩
  | 8 => ⟨S32x16x64, .f32⟩
  | 9 => ⟨S32x64x16, .f32⟩
  | 10 => ⟨S32x64x16, .f32⟩
  | 11 => ⟨S32x64, .f32⟩
  | 12 => ⟨S32x64, .f32⟩
  | 13 => ⟨S32, .f32⟩
  | 14 => ⟨S32x64x16, .f32⟩
  | 15 => ⟨S32x64x16, .f32⟩
  | 16 => ⟨S32, .f32⟩
  | 17 => ⟨S32x1, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S_, .f32⟩
  | 35 => ⟨S32x64, .f32⟩
  | 36 => ⟨S32x64, .f32⟩
  | 37 => ⟨S32x64, .f32⟩
  | 38 => ⟨S32x64, .f32⟩
  | 39 => ⟨S32x64, .f32⟩
  | 40 => ⟨S32x64, .f32⟩
  | 41 => ⟨S32x64, .f32⟩
  | 42 => ⟨S_, .f32⟩
  | 43 => ⟨S32x64, .f32⟩
  | 44 => ⟨S32x64, .f32⟩
  | 45 => ⟨S32x64, .f32⟩
  | 46 => ⟨S32x64, .f32⟩
  | 47 => ⟨S32x64, .f32⟩
  | 48 => ⟨S32x64, .f32⟩
  | 49 => ⟨S32x64, .f32⟩
  | 50 => ⟨S_, .f32⟩
  | 51 => ⟨S32x64, .f32⟩
  | 52 => ⟨S32x64, .f32⟩
  | 53 => ⟨S32x64x1, .f32⟩
  | 54 => ⟨S32x64x16, .f32⟩
  | 55 => ⟨S32x64x16, .f32⟩
  | 56 => ⟨S32x64x1, .f32⟩
  | 57 => ⟨S32x64x16, .f32⟩
  | 58 => ⟨S32x64x16, .f32⟩
  | 59 => ⟨S32x64x16, .f32⟩
  | 60 => ⟨S32x64x1, .f32⟩
  | 61 => ⟨S32x64x16, .f32⟩
  | 62 => ⟨S32x64x16, .f32⟩
  | 63 => ⟨S32x64x1, .f32⟩
  | 64 => ⟨S32x64x16, .f32⟩
  | 65 => ⟨S32x64x16, .f32⟩
  | 66 => ⟨S32x64x16, .f32⟩
  | 67 => ⟨S32x64x16, .f32⟩
  | 68 => ⟨S32x64x16, .f32⟩
  | 69 => ⟨S32x64x16, .f32⟩
  | 70 => ⟨S_, .f32⟩
  | 71 => ⟨S32x64, .f32⟩
  | 72 => ⟨S32x64x1, .f32⟩
  | 73 => ⟨S_, .f32⟩
  | 74 => ⟨S32x64, .f32⟩
  | 75 => ⟨S32x64x16, .f32⟩
  | 76 => ⟨S32x64x16, .f32⟩
  | 77 => ⟨S32x64x16, .f32⟩
  | 78 => ⟨S_, .f32⟩
  | 79 => ⟨S32x64, .f32⟩
  | 80 => ⟨S32x64x1, .f32⟩
  | 81 => ⟨S_, .f32⟩
  | 82 => ⟨S32x64, .f32⟩
  | 83 => ⟨S32x64x16, .f32⟩
  | 84 => ⟨S32x64x16, .f32⟩
  | 85 => ⟨S32x64x16, .f32⟩
  | 86 => ⟨S32x64x16, .f32⟩
  | 87 => ⟨S32x64x16, .f32⟩
  | 88 => ⟨S_, .f32⟩
  | 89 => ⟨S32x64, .f32⟩
  | 90 => ⟨S32x64x1, .f32⟩
  | 91 => ⟨S_, .f32⟩
  | 92 => ⟨S32x64, .f32⟩
  | 93 => ⟨S32x64, .f32⟩
  | 94 => ⟨S32x64x16, .f32⟩
  | 95 => ⟨S32x64x16, .f32⟩
  | 96 => ⟨S32x64x16, .f32⟩
  | 97 => ⟨S32x64x16, .f32⟩
  | 98 => ⟨S_, .f32⟩
  | 99 => ⟨S32x64, .f32⟩
  | 100 => ⟨S32x64x1, .f32⟩
  | 101 => ⟨S_, .f32⟩
  | 102 => ⟨S32x64, .f32⟩
  | 103 => ⟨S32x64, .f32⟩
  | 104 => ⟨S32x64, .f32⟩
  | 105 => ⟨S32x64, .f32⟩
  | 106 => ⟨S32x64, .f32⟩
  | 107 => ⟨S32x64, .f32⟩
  | 108 => ⟨S32x64, .f32⟩
  | 109 => ⟨S32x64, .f32⟩
  | 110 => ⟨S32x64, .f32⟩
  | 111 => ⟨S32x64, .f32⟩
  | 112 => ⟨S32x64, .f32⟩
  | 113 => ⟨S32x64, .f32⟩
  | 114 => ⟨S32x64, .f32⟩
  | 115 => ⟨S32x64, .f32⟩
  | 116 => ⟨S32x64, .f32⟩
  | 117 => ⟨S32x64, .f32⟩
  | 118 => ⟨S32x64, .f32⟩
  | 119 => ⟨S32x64, .f32⟩
  | 120 => ⟨S32x64, .f32⟩
  | 121 => ⟨S32x64, .f32⟩
  | 122 => ⟨S32x64, .f32⟩
  | 123 => ⟨S32x64, .f32⟩
  | 124 => ⟨S32x64, .f32⟩
  | 125 => ⟨S32x64, .f32⟩
  | 126 => ⟨S32x64, .f32⟩
  | 127 => ⟨S32x64, .f32⟩
  | _ => ⟨S1x32x64, .f32⟩

abbrev hbmTy0_1 (i : Nat) : BufTy := match i % 128 with
  | 0 => ⟨S32x64, .f32⟩
  | 1 => ⟨S32x64, .f32⟩
  | 2 => ⟨S32x64, .f32⟩
  | 3 => ⟨S32x64, .f32⟩
  | 4 => ⟨S32x64, .f32⟩
  | 5 => ⟨S32x64, .f32⟩
  | 6 => ⟨S32x64, .f32⟩
  | 7 => ⟨S32x64, .f32⟩
  | 8 => ⟨S32x64, .f32⟩
  | 9 => ⟨S32x64, .f32⟩
  | 10 => ⟨S32x64, .f32⟩
  | 11 => ⟨S32x64, .f32⟩
  | 12 => ⟨S_, .f32⟩
  | 13 => ⟨S32, .f32⟩
  | 14 => ⟨S32x1, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S_, .f32⟩
  | 25 => ⟨S32, .f32⟩
  | 26 => ⟨S32x1, .f32⟩
  | 27 => ⟨S32x1, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S_, .f32⟩
  | 34 => ⟨S32, .f32⟩
  | 35 => ⟨S32x1, .f32⟩
  | 36 => ⟨S32x1, .f32⟩
  | 37 => ⟨S32x64, .f32⟩
  | 38 => ⟨S32x64, .f32⟩
  | 39 => ⟨S32x64, .f32⟩
  | 40 => ⟨S_, .f32⟩
  | 41 => ⟨S32, .f32⟩
  | 42 => ⟨S32, .f32⟩
  | 43 => ⟨S32x1, .f32⟩
  | 44 => ⟨S32x16x64, .f32⟩
  | 45 => ⟨S32x16x64, .f32⟩
  | _ => ⟨S1x32x64, .f32⟩

abbrev hbmTy (i : Nat) : BufTy := match i / 128 with
  | 0 => hbmTy0_0 i
  | 1 => hbmTy0_1 i
  | _ => ⟨S1x32x64, .f32⟩

abbrev bufTy : (tb : Table) → Fin (tcTables nBuf tb) → BufTy
  | .hbm, ⟨i, _⟩ => hbmTy i
  | _, _ => ⟨S1x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_0 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_1 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_2 : Ref sig .tc := ⟨.hbm, 70, rfl⟩
abbrev main_v58 : Ref sig .tc := ⟨.hbm, 71, rfl⟩
abbrev main_v59 : Ref sig .tc := ⟨.hbm, 72, rfl⟩
abbrev main_cst_3 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_4 : Ref sig .tc := ⟨.hbm, 78, rfl⟩
abbrev main_v64 : Ref sig .tc := ⟨.hbm, 79, rfl⟩
abbrev main_v65 : Ref sig .tc := ⟨.hbm, 80, rfl⟩
abbrev main_cst_5 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_cst_6 : Ref sig .tc := ⟨.hbm, 88, rfl⟩
abbrev main_v72 : Ref sig .tc := ⟨.hbm, 89, rfl⟩
abbrev main_v73 : Ref sig .tc := ⟨.hbm, 90, rfl⟩
abbrev main_cst_7 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_cst_8 : Ref sig .tc := ⟨.hbm, 98, rfl⟩
abbrev main_v80 : Ref sig .tc := ⟨.hbm, 99, rfl⟩
abbrev main_v81 : Ref sig .tc := ⟨.hbm, 100, rfl⟩
abbrev main_cst_9 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_cst_10 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_cst_11 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_cst_12 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_cst_13 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩

abbrev nD : Nat := 1
abbrev τ : Topo := Topo.v7x

variable {F : FTy → Type} [FloatOps F]
-- ==== PreBwd.lean ====
abbrev S4096x1024 : Shape := ⟨2, ![4096, 1024]⟩
abbrev S1x1024 : Shape := ⟨2, ![1, 1024]⟩
abbrev S1024x4112 : Shape := ⟨2, ![1024, 4112]⟩
abbrev S4096x512 : Shape := ⟨2, ![4096, 512]⟩
abbrev S4096x256 : Shape := ⟨2, ![4096, 256]⟩
abbrev S4096x16 : Shape := ⟨2, ![4096, 16]⟩
abbrev S4112x1024 : Shape := ⟨2, ![4112, 1024]⟩
abbrev S512x1024 : Shape := ⟨2, ![512, 1024]⟩
abbrev S512x512 : Shape := ⟨2, ![512, 512]⟩
abbrev S512x256 : Shape := ⟨2, ![512, 256]⟩
abbrev S512x16 : Shape := ⟨2, ![512, 16]⟩
abbrev S512 : Shape := ⟨1, ![512]⟩
abbrev S512x1 : Shape := ⟨2, ![512, 1]⟩
abbrev S256x1024 : Shape := ⟨2, ![256, 1024]⟩
abbrev S16x1024 : Shape := ⟨2, ![16, 1024]⟩
abbrev S1024x1024 : Shape := ⟨2, ![1024, 1024]⟩
abbrev S1024 : Shape := ⟨1, ![1024]⟩

abbrev nBuf : Space → Nat
  | .hbm => 16
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4112, .f32⟩
  | .hbm, ⟨3, _⟩ => ⟨S4096x1024, .f32⟩
  | .hbm, ⟨4, _⟩ => ⟨S4096x512, .f32⟩
  | .hbm, ⟨5, _⟩ => ⟨S4096x256, .bf16⟩
  | .hbm, ⟨6, _⟩ => ⟨S4096x256, .bf16⟩
  | .hbm, ⟨7, _⟩ => ⟨S4096x512, .bf16⟩
  | .hbm, ⟨8, _⟩ => ⟨S4096x512, .bf16⟩
  | .hbm, ⟨9, _⟩ => ⟨S4096x16, .bf16⟩
  | .hbm, ⟨10, _⟩ => ⟨S4096x1024, .bf16⟩
  | .hbm, ⟨11, _⟩ => ⟨S4096x1024, .bf16⟩
  | .hbm, ⟨12, _⟩ => ⟨S1024x4112, .bf16⟩
  | .hbm, ⟨13, _⟩ => ⟨S4112x1024, .bf16⟩
  | .hbm, ⟨14, _⟩ => ⟨S4096x1024, .f32⟩
  | .hbm, ⟨15, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4112x1024, .bf16⟩
  | .local _ .vmem, ⟨4, _⟩ => ⟨S512x1024, .f32⟩
  | .local _ .vmem, ⟨5, _⟩ => ⟨S512x1024, .f32⟩
  | .local _ .vmem, ⟨6, _⟩ => ⟨S512x512, .f32⟩
  | .local _ .vmem, ⟨7, _⟩ => ⟨S512x512, .f32⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x16, .bf16⟩
  | .local _ .vmem, ⟨17, _⟩ => ⟨S512x16, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .f32⟩
  | .local _ .vmem, ⟨23, _⟩ => ⟨S512x1024, .f32⟩
  | .local _ .vmem, ⟨24, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2_0 : Ref sig .tc := ⟨.hbm, 14, rfl⟩
abbrev main_v2_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4112x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x16 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== PreRefIdeal.lean ====
abbrev S4096x1024 : Shape := ⟨2, ![4096, 1024]⟩
abbrev S1x1024 : Shape := ⟨2, ![1, 1024]⟩
abbrev S1024x4112 : Shape := ⟨2, ![1024, 4112]⟩
abbrev S4096x512 : Shape := ⟨2, ![4096, 512]⟩
abbrev S4096x256 : Shape := ⟨2, ![4096, 256]⟩
abbrev S4096x16 : Shape := ⟨2, ![4096, 16]⟩
abbrev S_ : Shape := ⟨0, ![]⟩
abbrev S4096 : Shape := ⟨1, ![4096]⟩
abbrev S4096x1 : Shape := ⟨2, ![4096, 1]⟩
abbrev S4096x4112 : Shape := ⟨2, ![4096, 4112]⟩
abbrev S1024 : Shape := ⟨1, ![1024]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4112, .f32⟩
  | .hbm, ⟨3, _⟩ => ⟨S4096x1024, .f32⟩
  | .hbm, ⟨4, _⟩ => ⟨S4096x512, .f32⟩
  | .hbm, ⟨5, _⟩ => ⟨S4096x256, .bf16⟩
  | .hbm, ⟨6, _⟩ => ⟨S4096x256, .bf16⟩
  | .hbm, ⟨7, _⟩ => ⟨S4096x512, .bf16⟩
  | .hbm, ⟨8, _⟩ => ⟨S4096x512, .bf16⟩
  | .hbm, ⟨9, _⟩ => ⟨S4096x16, .bf16⟩
  | .hbm, ⟨10, _⟩ => ⟨S4096x1024, .bf16⟩
  | .hbm, ⟨11, _⟩ => ⟨S4096x1024, .bf16⟩
  | .hbm, ⟨12, _⟩ => ⟨S4096x256, .f32⟩
  | .hbm, ⟨13, _⟩ => ⟨S4096x256, .f32⟩
  | .hbm, ⟨14, _⟩ => ⟨S4096x512, .f32⟩
  | .hbm, ⟨15, _⟩ => ⟨S4096x512, .f32⟩
  | .hbm, ⟨16, _⟩ => ⟨S4096x16, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x4112, .f32⟩
  | .hbm, ⟨39, _⟩ => ⟨S4096x512, .f32⟩
  | .hbm, ⟨40, _⟩ => ⟨S4096x256, .f32⟩
  | .hbm, ⟨41, _⟩ => ⟨S4096x256, .f32⟩
  | .hbm, ⟨42, _⟩ => ⟨S4096x512, .f32⟩
  | .hbm, ⟨43, _⟩ => ⟨S4096x512, .f32⟩
  | .hbm, ⟨44, _⟩ => ⟨S4096x16, .f32⟩
  | .hbm, ⟨45, _⟩ => ⟨S4096x1024, .f32⟩
  | .hbm, ⟨46, _⟩ => ⟨S4096x1024, .f32⟩
  | .hbm, ⟨47, _⟩ => ⟨S4096x4112, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_3 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_4 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_5 : Ref sig .tc := ⟨.hbm, 63, rfl⟩
abbrev main_v45 : Ref sig .tc := ⟨.hbm, 64, rfl⟩
abbrev main_v46 : Ref sig .tc := ⟨.hbm, 65, rfl⟩
abbrev main_cst_6 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Head.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S1x1 : Shape := ⟨2, ![1, 1]⟩
abbrev S11x4096x256 : Shape := ⟨3, ![11, 4096, 256]⟩
abbrev S512x1024 : Shape := ⟨2, ![512, 1024]⟩
abbrev S11x512x256 : Shape := ⟨3, ![11, 512, 256]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩
abbrev S1x512x256 : Shape := ⟨3, ![1, 512, 256]⟩
abbrev S1 : Shape := ⟨1, ![1]⟩

abbrev nBuf : Space → Nat
  | .hbm => 19
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S4096x1024, .f32⟩
  | .hbm, ⟨7, _⟩ => ⟨S1024x2816, .bf16⟩
  | .hbm, ⟨8, _⟩ => ⟨S2816x1024, .bf16⟩
  | .hbm, ⟨9, _⟩ => ⟨S1024x2816, .bf16⟩
  | .hbm, ⟨10, _⟩ => ⟨S2816x1024, .bf16⟩
  | .hbm, ⟨11, _⟩ => ⟨S2816x1024, .bf16⟩
  | .hbm, ⟨12, _⟩ => ⟨S1x1024, .f32⟩
  | .hbm, ⟨13, _⟩ => ⟨S1x1, .f32⟩
  | .hbm, ⟨14, _⟩ => ⟨S4096x1024, .f32⟩
  | .hbm, ⟨15, _⟩ => ⟨S1x1024, .f32⟩
  | .hbm, ⟨16, _⟩ => ⟨S11x4096x256, .bf16⟩
  | .hbm, ⟨17, _⟩ => ⟨S11x4096x256, .bf16⟩
  | .hbm, ⟨18, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S11x512x256, .bf16⟩
  | .local _ .vmem, ⟨14, _⟩ => ⟨S11x512x256, .bf16⟩
  | .local _ .vmem, ⟨15, _⟩ => ⟨S11x512x256, .bf16⟩
  | .local _ .vmem, ⟨16, _⟩ => ⟨S11x512x256, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev main_v6_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  let c256_i32 : BitVec 32 := 256#32
  let v19 : BitVec 32 := Scalar.muli c0_i32 c256_i32
  v19
def k0_off1 (c0_i32 : BitVec 32) : Fin 2 → Nat :=
  let c256_i32 : BitVec 32 := 256#32
  let v19 : BitVec 32 := Scalar.muli c0_i32 c256_i32
  let v20 : BitVec 32 := v19
  let v21 : Index := Scalar.indexCast v20
  let c0_9 : Index := 0#32
  ![v21.toNat, 0]
def k0_mult2 : BitVec 32 :=
  let c1_i32 : BitVec 32 := 1#32
  let c256_i32_24 : BitVec 32 := 256#32
  let v54 : BitVec 32 := Scalar.muli c1_i32 c256_i32_24
  v54
def k0_mult3 : BitVec 32 :=
  let c2_i32 : BitVec 32 := 2#32
  let c256_i32_40 : BitVec 32 := 256#32
  let v89 : BitVec 32 := Scalar.muli c2_i32 c256_i32_40
  v89
def k0_mult4 : BitVec 32 :=
  let c3_i32 : BitVec 32 := 3#32
  let c256_i32_56 : BitVec 32 := 256#32
  let v124 : BitVec 32 := Scalar.muli c3_i32 c256_i32_56
  v124
def k0_mult5 : BitVec 32 :=
  let c4_i32 : BitVec 32 := 4#32
  let c256_i32_72 : BitVec 32 := 256#32
  let v159 : BitVec 32 := Scalar.muli c4_i32 c256_i32_72
  v159
def k0_mult6 : BitVec 32 :=
  let c5_i32 : BitVec 32 := 5#32
  let c256_i32_88 : BitVec 32 := 256#32
  let v194 : BitVec 32 := Scalar.muli c5_i32 c256_i32_88
  v194
def k0_mult7 : BitVec 32 :=
  let c6_i32 : BitVec 32 := 6#32
  let c256_i32_104 : BitVec 32 := 256#32
  let v229 : BitVec 32 := Scalar.muli c6_i32 c256_i32_104
  v229
def k0_mult8 : BitVec 32 :=
  let c7_i32 : BitVec 32 := 7#32
  let c256_i32_120 : BitVec 32 := 256#32
  let v264 : BitVec 32 := Scalar.muli c7_i32 c256_i32_120
  v264
def k0_mult9 : BitVec 32 :=
  let c8_i32 : BitVec 32 := 8#32
  let c256_i32_136 : BitVec 32 := 256#32
  let v299 : BitVec 32 := Scalar.muli c8_i32 c256_i32_136
  v299
def k0_mult10 : BitVec 32 :=
  let c9_i32 : BitVec 32 := 9#32
  let c256_i32_152 : BitVec 32 := 256#32
  let v334 : BitVec 32 := Scalar.muli c9_i32 c256_i32_152
  v334
def k0_mult11 : BitVec 32 :=
  let c10_i32 : BitVec 32 := 10#32
  let c256_i32_168 : BitVec 32 := 256#32
  let v369 : BitVec 32 := Scalar.muli c10_i32 c256_i32_168
  v369
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S11x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S11x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== HeadRefIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1x1 : Shape := ⟨2, ![1, 1]⟩
abbrev S4096x11x256 : Shape := ⟨3, ![4096, 11, 256]⟩
abbrev S11x4096x256 : Shape := ⟨3, ![11, 4096, 256]⟩

abbrev nBuf : Space → Nat
  | .hbm => 116
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x1024, .f32⟩
  | .hbm, ⟨55, _⟩ => ⟨S4096x1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S4096, .f32⟩
  | .hbm, ⟨66, _⟩ => ⟨S_, .f32⟩
  | .hbm, ⟨67, _⟩ => ⟨S4096, .f32⟩
  | .hbm, ⟨68, _⟩ => ⟨S4096, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S4096, .f32⟩
  | .hbm, ⟨77, _⟩ => ⟨S_, .f32⟩
  | .hbm, ⟨78, _⟩ => ⟨S4096, .f32⟩
  | .hbm, ⟨79, _⟩ => ⟨S4096, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S4096x1024, .f32⟩
  | .hbm, ⟨87, _⟩ => ⟨S4096x1024, .f32⟩
  | .hbm, ⟨88, _⟩ => ⟨S_, .f32⟩
  | .hbm, ⟨89, _⟩ => ⟨S1024, .f32⟩
  | .hbm, ⟨90, _⟩ => ⟨S4096x1024, .f32⟩
  | .hbm, ⟨91, _⟩ => ⟨S_, .f32⟩
  | .hbm, ⟨92, _⟩ => ⟨S4096, .f32⟩
  | .hbm, ⟨93, _⟩ => ⟨S4096x1, .f32⟩
  | .hbm, ⟨94, _⟩ => ⟨S4096x1024, .f32⟩
  | .hbm, ⟨95, _⟩ => ⟨S4096x1024, .f32⟩
  | .hbm, ⟨96, _⟩ => ⟨S4096x1, .f32⟩
  | .hbm, ⟨97, _⟩ => ⟨S_, .f32⟩
  | .hbm, ⟨98, _⟩ => ⟨S4096x1, .f32⟩
  | .hbm, ⟨99, _⟩ => ⟨S4096x1, .f32⟩
  | .hbm, ⟨100, _⟩ => ⟨S_, .f32⟩
  | .hbm, ⟨101, _⟩ => ⟨S4096, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S4096x1024, .f32⟩
  | .hbm, ⟨106, _⟩ => ⟨S4096x1024, .f32⟩
  | .hbm, ⟨107, _⟩ => ⟨S1x1, .f32⟩
  | .hbm, ⟨108, _⟩ => ⟨S1x1024, .f32⟩
  | .hbm, ⟨109, _⟩ => ⟨S4096x2816, .bf16⟩
  | .hbm, ⟨110, _⟩ => ⟨S4096x11x256, .bf16⟩
  | .hbm, ⟨111, _⟩ => ⟨S11x4096x256, .bf16⟩
  | .hbm, ⟨112, _⟩ => ⟨S4096x2816, .bf16⟩
  | .hbm, ⟨113, _⟩ => ⟨S4096x11x256, .bf16⟩
  | .hbm, ⟨114, _⟩ => ⟨S11x4096x256, .bf16⟩
  | .hbm, ⟨115, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_cst_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_cst_9 : Ref sig .tc := ⟨.hbm, 66, rfl⟩
abbrev main_v41 : Ref sig .tc := ⟨.hbm, 67, rfl⟩
abbrev main_v42 : Ref sig .tc := ⟨.hbm, 68, rfl⟩
abbrev main_cst_10 : Ref sig .tc := ⟨.hbm, 69, rfl⟩
abbrev main_v43 : Ref sig .tc := ⟨.hbm, 70, rfl⟩
abbrev main_cst_11 : Ref sig .tc := ⟨.hbm, 71, rfl⟩
abbrev main_v44 : Ref sig .tc := ⟨.hbm, 72, rfl⟩
abbrev main_cst_12 : Ref sig .tc := ⟨.hbm, 73, rfl⟩
abbrev main_cst_13 : Ref sig .tc := ⟨.hbm, 74, rfl⟩
abbrev main_v45 : Ref sig .tc := ⟨.hbm, 75, rfl⟩
abbrev main_v46 : Ref sig .tc := ⟨.hbm, 76, rfl⟩
abbrev main_cst_14 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_15 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_16 : Ref sig .tc := ⟨.hbm, 88, rfl⟩
abbrev main_v56 : Ref sig .tc := ⟨.hbm, 89, rfl⟩
abbrev main_v57 : Ref sig .tc := ⟨.hbm, 90, rfl⟩
abbrev main_cst_17 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_18 : Ref sig .tc := ⟨.hbm, 97, rfl⟩
abbrev main_v63 : Ref sig .tc := ⟨.hbm, 98, rfl⟩
abbrev main_v64 : Ref sig .tc := ⟨.hbm, 99, rfl⟩
abbrev main_cst_19 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩

abbrev nD : Nat := 1
abbrev τ : Topo := Topo.v7x

variable {F : FTy → Type} [FloatOps F]
-- ==== FfnBwd.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S4096x11x256 : Shape := ⟨3, ![4096, 11, 256]⟩
abbrev S11x4096x256 : Shape := ⟨3, ![11, 4096, 256]⟩
abbrev S256x1024 : Shape := ⟨2, ![256, 1024]⟩
abbrev S11x256x256 : Shape := ⟨3, ![11, 256, 256]⟩
abbrev S256 : Shape := ⟨1, ![256]⟩
abbrev S256x1 : Shape := ⟨2, ![256, 1]⟩
abbrev S1x256x256 : Shape := ⟨3, ![1, 256, 256]⟩
abbrev S256x256 : Shape := ⟨2, ![256, 256]⟩
abbrev S1024 : Shape := ⟨1, ![1024]⟩

abbrev nBuf : Space → Nat
  | .hbm => 40
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x2816, .f32⟩
  | .hbm, ⟨22, _⟩ => ⟨S4096x2816, .f32⟩
  | .hbm, ⟨23, _⟩ => ⟨S4096x2816, .bf16⟩
  | .hbm, ⟨24, _⟩ => ⟨S4096x11x256, .bf16⟩
  | .hbm, ⟨25, _⟩ => ⟨S11x4096x256, .bf16⟩
  | .hbm, ⟨26, _⟩ => ⟨S4096x2816, .bf16⟩
  | .hbm, ⟨27, _⟩ => ⟨S4096x11x256, .bf16⟩
  | .hbm, ⟨28, _⟩ => ⟨S11x4096x256, .bf16⟩
  | .hbm, ⟨29, _⟩ => ⟨S1024x2816, .bf16⟩
  | .hbm, ⟨30, _⟩ => ⟨S2816x1024, .bf16⟩
  | .hbm, ⟨31, _⟩ => ⟨S1024x2816, .bf16⟩
  | .hbm, ⟨32, _⟩ => ⟨S2816x1024, .bf16⟩
  | .hbm, ⟨33, _⟩ => ⟨S2816x1024, .bf16⟩
  | .hbm, ⟨34, _⟩ => ⟨S4096x1024, .f32⟩
  | .hbm, ⟨35, _⟩ => ⟨S1x1024, .f32⟩
  | .hbm, ⟨36, _⟩ => ⟨S11x4096x256, .bf16⟩
  | .hbm, ⟨37, _⟩ => ⟨S11x4096x256, .bf16⟩
  | .hbm, ⟨38, _⟩ => ⟨S11x4096x256, .bf16⟩
  | .hbm, ⟨39, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S11x256x256, .bf16⟩
  | .local _ .vmem, ⟨6, _⟩ => ⟨S11x256x256, .bf16⟩
  | .local _ .vmem, ⟨7, _⟩ => ⟨S11x256x256, .bf16⟩
  | .local _ .vmem, ⟨8, _⟩ => ⟨S11x256x256, .bf16⟩
  | .local _ .vmem, ⟨9, _⟩ => ⟨S2816x1024, .bf16⟩
  | .local _ .vmem, ⟨10, _⟩ => ⟨S2816x1024, .bf16⟩
  | .local _ .vmem, ⟨11, _⟩ => ⟨S2816x1024, .bf16⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S11x256x256, .bf16⟩
  | .local _ .vmem, ⟨16, _⟩ => ⟨S11x256x256, .bf16⟩
  | .local _ .vmem, ⟨17, _⟩ => ⟨S11x256x256, .bf16⟩
  | .local _ .vmem, ⟨18, _⟩ => ⟨S11x256x256, .bf16⟩
  | .local _ .vmem, ⟨19, _⟩ => ⟨S11x256x256, .bf16⟩
  | .local _ .vmem, ⟨20, _⟩ => ⟨S11x256x256, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25_0 : Ref sig .tc := ⟨.hbm, 34, rfl⟩
abbrev main_v25_1 : Ref sig .tc := ⟨.hbm, 35, rfl⟩
abbrev main_v25_2 : Ref sig .tc := ⟨.hbm, 36, rfl⟩
abbrev main_v25_3 : Ref sig .tc := ⟨.hbm, 37, rfl⟩
abbrev main_v25_4 : Ref sig .tc := ⟨.hbm, 38, rfl⟩
abbrev main_v25_5 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S11x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S11x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S11x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S11x256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S11x256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== FfnRefIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096x2816 : Shape := ⟨2, ![4096, 2816]⟩
abbrev S4096 : Shape := ⟨1, ![4096]⟩
abbrev S4096x1 : Shape := ⟨2, ![4096, 1]⟩
abbrev S1024 : Shape := ⟨1, ![1024]⟩
abbrev S4096x11x256 : Shape := ⟨3, ![4096, 11, 256]⟩
abbrev S11x4096x256 : Shape := ⟨3, ![11, 4096, 256]⟩

abbrev nBuf : Space → Nat
  | .hbm => 101
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096x2816, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S_, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096x1024, .f32⟩
  | .hbm, ⟨56, _⟩ => ⟨S4096x1024, .f32⟩
  | .hbm, ⟨57, _⟩ => ⟨S4096x2816, .f32⟩
  | .hbm, ⟨58, _⟩ => ⟨S4096x2816, .f32⟩
  | .hbm, ⟨59, _⟩ => ⟨S4096x2816, .f32⟩
  | .hbm, ⟨60, _⟩ => ⟨S4096x2816, .f32⟩
  | .hbm, ⟨61, _⟩ => ⟨S4096x2816, .f32⟩
  | .hbm, ⟨62, _⟩ => ⟨S4096x2816, .f32⟩
  | .hbm, ⟨63, _⟩ => ⟨S4096x2816, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1, .f32⟩
  | .hbm, ⟨81, _⟩ => ⟨S_, .f32⟩
  | .hbm, ⟨82, _⟩ => ⟨S4096x1, .f32⟩
  | .hbm, ⟨83, _⟩ => ⟨S4096x1, .f32⟩
  | .hbm, ⟨84, _⟩ => ⟨S_, .f32⟩
  | .hbm, ⟨85, _⟩ => ⟨S4096, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x2816, .bf16⟩
  | .hbm, ⟨92, _⟩ => ⟨S4096x11x256, .bf16⟩
  | .hbm, ⟨93, _⟩ => ⟨S11x4096x256, .bf16⟩
  | .hbm, ⟨94, _⟩ => ⟨S4096x2816, .bf16⟩
  | .hbm, ⟨95, _⟩ => ⟨S4096x11x256, .bf16⟩
  | .hbm, ⟨96, _⟩ => ⟨S11x4096x256, .bf16⟩
  | .hbm, ⟨97, _⟩ => ⟨S4096x2816, .bf16⟩
  | .hbm, ⟨98, _⟩ => ⟨S4096x11x256, .bf16⟩
  | .hbm, ⟨99, _⟩ => ⟨S11x4096x256, .bf16⟩
  | .hbm, ⟨100, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v20_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v20_1 : Ref sig .tc := ⟨.hbm, 43, rfl⟩
abbrev main_v20_0 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_5 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_6 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_7 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_8 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_9 : Ref sig .tc := ⟨.hbm, 81, rfl⟩
abbrev main_v50 : Ref sig .tc := ⟨.hbm, 82, rfl⟩
abbrev main_v51 : Ref sig .tc := ⟨.hbm, 83, rfl⟩
abbrev main_cst_10 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩

abbrev nD : Nat := 1
abbrev τ : Topo := Topo.v7x

variable {F : FTy → Type} [FloatOps F]
-- ==== GlaBwd.lean ====
abbrev S4096x256 : Shape := ⟨2, ![4096, 256]⟩
abbrev S4096x512 : Shape := ⟨2, ![4096, 512]⟩
abbrev S4096x16 : Shape := ⟨2, ![4096, 16]⟩
abbrev S16x256 : Shape := ⟨2, ![16, 256]⟩
abbrev S1x256 : Shape := ⟨2, ![1, 256]⟩
abbrev S64x128x256 : Shape := ⟨3, ![64, 128, 256]⟩
abbrev S256x256 : Shape := ⟨2, ![256, 256]⟩
abbrev S256x512 : Shape := ⟨2, ![256, 512]⟩
abbrev S256x16 : Shape := ⟨2, ![256, 16]⟩
abbrev S4x128x256 : Shape := ⟨3, ![4, 128, 256]⟩
abbrev S128x256 : Shape := ⟨2, ![128, 256]⟩
abbrev S64x16 : Shape := ⟨2, ![64, 16]⟩
abbrev S64x256 : Shape := ⟨2, ![64, 256]⟩
abbrev S64x64 : Shape := ⟨2, ![64, 64]⟩
abbrev S1x128x256 : Shape := ⟨3, ![1, 128, 256]⟩
abbrev S64x128 : Shape := ⟨2, ![64, 128]⟩
abbrev S256 : Shape := ⟨1, ![256]⟩
abbrev S64x1 : Shape := ⟨2, ![64, 1]⟩

abbrev nBuf : Space → Nat
  | .hbm => 14
  | .vmem => 25
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x512, .f32⟩
  | .hbm, ⟨3, _⟩ => ⟨S4096x16, .f32⟩
  | .hbm, ⟨4, _⟩ => ⟨S16x256, .f32⟩
  | .hbm, ⟨5, _⟩ => ⟨S1x256, .f32⟩
  | .hbm, ⟨6, _⟩ => ⟨S64x128x256, .f32⟩
  | .hbm, ⟨7, _⟩ => ⟨S4096x512, .bf16⟩
  | .hbm, ⟨8, _⟩ => ⟨S4096x256, .bf16⟩
  | .hbm, ⟨9, _⟩ => ⟨S4096x256, .bf16⟩
  | .hbm, ⟨10, _⟩ => ⟨S4096x512, .bf16⟩
  | .hbm, ⟨11, _⟩ => ⟨S4096x16, .bf16⟩
  | .hbm, ⟨12, _⟩ => ⟨S16x256, .f32⟩
  | .hbm, ⟨13, _⟩ => ⟨S1x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x512, .f32⟩
  | .local _ .vmem, ⟨5, _⟩ => ⟨S256x512, .f32⟩
  | .local _ .vmem, ⟨6, _⟩ => ⟨S256x16, .f32⟩
  | .local _ .vmem, ⟨7, _⟩ => ⟨S256x16, .f32⟩
  | .local _ .vmem, ⟨8, _⟩ => ⟨S16x256, .f32⟩
  | .local _ .vmem, ⟨9, _⟩ => ⟨S1x256, .f32⟩
  | .local _ .vmem, ⟨10, _⟩ => ⟨S4x128x256, .f32⟩
  | .local _ .vmem, ⟨11, _⟩ => ⟨S4x128x256, .f32⟩
  | .local _ .vmem, ⟨12, _⟩ => ⟨S256x512, .bf16⟩
  | .local _ .vmem, ⟨13, _⟩ => ⟨S256x512, .bf16⟩
  | .local _ .vmem, ⟨14, _⟩ => ⟨S256x256, .bf16⟩
  | .local _ .vmem, ⟨15, _⟩ => ⟨S256x256, .bf16⟩
  | .local _ .vmem, ⟨16, _⟩ => ⟨S256x256, .bf16⟩
  | .local _ .vmem, ⟨17, _⟩ => ⟨S256x256, .bf16⟩
  | .local _ .vmem, ⟨18, _⟩ => ⟨S256x512, .bf16⟩
  | .local _ .vmem, ⟨19, _⟩ => ⟨S256x512, .bf16⟩
  | .local _ .vmem, ⟨20, _⟩ => ⟨S256x16, .bf16⟩
  | .local _ .vmem, ⟨21, _⟩ => ⟨S256x16, .bf16⟩
  | .local _ .vmem, ⟨22, _⟩ => ⟨S16x256, .f32⟩
  | .local _ .vmem, ⟨23, _⟩ => ⟨S1x256, .f32⟩
  | .local _ .vmem, ⟨24, _⟩ => ⟨S128x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x16 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S16x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== GlaFwd.lean ====
abbrev S4096x256 : Shape := ⟨2, ![4096, 256]⟩
abbrev S4096x512 : Shape := ⟨2, ![4096, 512]⟩
abbrev S4096x16 : Shape := ⟨2, ![4096, 16]⟩
abbrev S16x256 : Shape := ⟨2, ![16, 256]⟩
abbrev S1x256 : Shape := ⟨2, ![1, 256]⟩
abbrev S64x128x256 : Shape := ⟨3, ![64, 128, 256]⟩
abbrev S256x256 : Shape := ⟨2, ![256, 256]⟩
abbrev S256x512 : Shape := ⟨2, ![256, 512]⟩
abbrev S256x16 : Shape := ⟨2, ![256, 16]⟩
abbrev S4x128x256 : Shape := ⟨3, ![4, 128, 256]⟩
abbrev S128x256 : Shape := ⟨2, ![128, 256]⟩
abbrev S64x256 : Shape := ⟨2, ![64, 256]⟩
abbrev S64x16 : Shape := ⟨2, ![64, 16]⟩
abbrev S64x64 : Shape := ⟨2, ![64, 64]⟩
abbrev S1x128x256 : Shape := ⟨3, ![1, 128, 256]⟩
abbrev S64x128 : Shape := ⟨2, ![64, 128]⟩

abbrev nBuf : Space → Nat
  | .hbm => 8
  | .vmem => 15
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x512, .f32⟩
  | .hbm, ⟨3, _⟩ => ⟨S4096x16, .f32⟩
  | .hbm, ⟨4, _⟩ => ⟨S16x256, .f32⟩
  | .hbm, ⟨5, _⟩ => ⟨S1x256, .f32⟩
  | .hbm, ⟨6, _⟩ => ⟨S4096x512, .f32⟩
  | .hbm, ⟨7, _⟩ => ⟨S64x128x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x512, .f32⟩
  | .local _ .vmem, ⟨5, _⟩ => ⟨S256x512, .f32⟩
  | .local _ .vmem, ⟨6, _⟩ => ⟨S256x16, .f32⟩
  | .local _ .vmem, ⟨7, _⟩ => ⟨S256x16, .f32⟩
  | .local _ .vmem, ⟨8, _⟩ => ⟨S16x256, .f32⟩
  | .local _ .vmem, ⟨9, _⟩ => ⟨S1x256, .f32⟩
  | .local _ .vmem, ⟨10, _⟩ => ⟨S256x512, .f32⟩
  | .local _ .vmem, ⟨11, _⟩ => ⟨S256x512, .f32⟩
  | .local _ .vmem, ⟨12, _⟩ => ⟨S4x128x256, .f32⟩
  | .local _ .vmem, ⟨13, _⟩ => ⟨S4x128x256, .f32⟩
  | .local _ .vmem, ⟨14, _⟩ => ⟨S128x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GlaFrefIdeal.lean ====
abbrev S4096x256 : Shape := ⟨2, ![4096, 256]⟩
abbrev S4096x512 : Shape := ⟨2, ![4096, 512]⟩
abbrev S4096x16 : Shape := ⟨2, ![4096, 16]⟩
abbrev S16x256 : Shape := ⟨2, ![16, 256]⟩
abbrev S1x256 : Shape := ⟨2, ![1, 256]⟩
abbrev S4096 : Shape := ⟨1, ![4096]⟩
abbrev S64 : Shape := ⟨1, ![64]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S64x1 : Shape := ⟨2, ![64, 1]⟩
abbrev S64x4096 : Shape := ⟨2, ![64, 4096]⟩
abbrev S64x256 : Shape := ⟨2, ![64, 256]⟩
abbrev S4096x4x64 : Shape := ⟨3, ![4096, 4, 64]⟩
abbrev S4096x4x128 : Shape := ⟨3, ![4096, 4, 128]⟩
abbrev S4x4096x4096 : Shape := ⟨3, ![4, 4096, 4096]⟩
abbrev S1x4096x4096 : Shape := ⟨3, ![1, 4096, 4096]⟩
abbrev S4x128x4096 : Shape := ⟨3, ![4, 128, 4096]⟩
abbrev S64x4096x1x1 : Shape := ⟨4, ![64, 4096, 1, 1]⟩
abbrev S1x4096x4x64 : Shape := ⟨4, ![1, 4096, 4, 64]⟩
abbrev S64x4096x4x64 : Shape := ⟨4, ![64, 4096, 4, 64]⟩
abbrev S64x4x64x4096 : Shape := ⟨4, ![64, 4, 64, 4096]⟩
abbrev S4x128x64x64 : Shape := ⟨4, ![4, 128, 64, 64]⟩
abbrev S64x128x4x64 : Shape := ⟨4, ![64, 128, 4, 64]⟩
abbrev S64x128x256 : Shape := ⟨3, ![64, 128, 256]⟩
abbrev S64x1x256 : Shape := ⟨3, ![64, 1, 256]⟩

abbrev nBuf : Space → Nat
  | .hbm => 72
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x512, .f32⟩
  | .hbm, ⟨3, _⟩ => ⟨S4096x16, .f32⟩
  | .hbm, ⟨4, _⟩ => ⟨S16x256, .f32⟩
  | .hbm, ⟨5, _⟩ => ⟨S1x256, .f32⟩
  | .hbm, ⟨6, _⟩ => ⟨S4096, .i32⟩
  | .hbm, ⟨7, _⟩ => ⟨S64, .i32⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S_, .i32⟩
  | .hbm, ⟨12, _⟩ => ⟨S64, .i32⟩
  | .hbm, ⟨13, _⟩ => ⟨S64, .i32⟩
  | .hbm, ⟨14, _⟩ => ⟨S4096x1, .i32⟩
  | .hbm, ⟨15, _⟩ => ⟨S1x4096, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S4096x4096, .f32⟩
  | .hbm, ⟨20, _⟩ => ⟨S64x1, .i32⟩
  | .hbm, ⟨21, _⟩ => ⟨S1x4096, .i32⟩
  | .hbm, ⟨22, _⟩ => ⟨S64x4096, .i32⟩
  | .hbm, ⟨23, _⟩ => ⟨S64x4096, .i32⟩
  | .hbm, ⟨24, _⟩ => ⟨S64x4096, .i1⟩
  | .hbm, ⟨25, _⟩ => ⟨S64x4096, .f32⟩
  | .hbm, ⟨26, _⟩ => ⟨S4096x256, .f32⟩
  | .hbm, ⟨27, _⟩ => ⟨S4096x256, .f32⟩
  | .hbm, ⟨28, _⟩ => ⟨S4096x256, .f32⟩
  | .hbm, ⟨29, _⟩ => ⟨S4096x256, .f32⟩
  | .hbm, ⟨30, _⟩ => ⟨S4096x256, .f32⟩
  | .hbm, ⟨31, _⟩ => ⟨S_, .f32⟩
  | .hbm, ⟨32, _⟩ => ⟨S4096x256, .f32⟩
  | .hbm, ⟨33, _⟩ => ⟨S4096x256, .f32⟩
  | .hbm, ⟨34, _⟩ => ⟨S4096x256, .f32⟩
  | .hbm, ⟨35, _⟩ => ⟨S4096x256, .f32⟩
  | .hbm, ⟨36, _⟩ => ⟨S_, .f32⟩
  | .hbm, ⟨37, _⟩ => ⟨S4096x256, .f32⟩
  | .hbm, ⟨38, _⟩ => ⟨S4096x256, .f32⟩
  | .hbm, ⟨39, _⟩ => ⟨S4096x256, .f32⟩
  | .hbm, ⟨40, _⟩ => ⟨S64x256, .f32⟩
  | .hbm, ⟨41, _⟩ => ⟨S_, .f32⟩
  | .hbm, ⟨42, _⟩ => ⟨S4096x256, .f32⟩
  | .hbm, ⟨43, _⟩ => ⟨S4096x256, .f32⟩
  | .hbm, ⟨44, _⟩ => ⟨S4096x256, .f32⟩
  | .hbm, ⟨45, _⟩ => ⟨S4096x256, .f32⟩
  | .hbm, ⟨46, _⟩ => ⟨S4096x4x64, .f32⟩
  | .hbm, ⟨47, _⟩ => ⟨S4096x256, .f32⟩
  | .hbm, ⟨48, _⟩ => ⟨S4096x256, .f32⟩
  | .hbm, ⟨49, _⟩ => ⟨S4096x256, .f32⟩
  | .hbm, ⟨50, _⟩ => ⟨S4096x4x64, .f32⟩
  | .hbm, ⟨51, _⟩ => ⟨S4096x4x128, .f32⟩
  | .hbm, ⟨52, _⟩ => ⟨S4x4096x4096, .f32⟩
  | .hbm, ⟨53, _⟩ => ⟨S1x4096x4096, .f32⟩
  | .hbm, ⟨54, _⟩ => ⟨S4x4096x4096, .f32⟩
  | .hbm, ⟨55, _⟩ => ⟨S4x4096x4096, .f32⟩
  | .hbm, ⟨56, _⟩ => ⟨S4x128x4096, .f32⟩
  | .hbm, ⟨57, _⟩ => ⟨S4096x4x128, .f32⟩
  | .hbm, ⟨58, _⟩ => ⟨S64x4096x1x1, .f32⟩
  | .hbm, ⟨59, _⟩ => ⟨S1x4096x4x64, .f32⟩
  | .hbm, ⟨60, _⟩ => ⟨S64x4096x4x64, .f32⟩
  | .hbm, ⟨61, _⟩ => ⟨S64x4096x4x64, .f32⟩
  | .hbm, ⟨62, _⟩ => ⟨S64x4096x4x64, .f32⟩
  | .hbm, ⟨63, _⟩ => ⟨S64x4x64x4096, .f32⟩
  | .hbm, ⟨64, _⟩ => ⟨S4x128x64x64, .f32⟩
  | .hbm, ⟨65, _⟩ => ⟨S64x128x4x64, .f32⟩
  | .hbm, ⟨66, _⟩ => ⟨S64x128x256, .f32⟩
  | .hbm, ⟨67, _⟩ => ⟨S64x256, .f32⟩
  | .hbm, ⟨68, _⟩ => ⟨S64x1x256, .f32⟩
  | .hbm, ⟨69, _⟩ => ⟨S64x128x256, .f32⟩
  | .hbm, ⟨70, _⟩ => ⟨S64x128x256, .f32⟩
  | .hbm, ⟨71, _⟩ => ⟨S4096x512, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩

abbrev nD : Nat := 1
abbrev τ : Topo := Topo.v7x

variable {F : FTy → Type} [FloatOps F]
-- ==== S5Disc.lean ====
abbrev S1x32x64 : Shape := ⟨3, ![1, 32, 64]⟩
abbrev S1x32 : Shape := ⟨2, ![1, 32]⟩
abbrev S1x32x64x16 : Shape := ⟨4, ![1, 32, 64, 16]⟩
abbrev S32x64 : Shape := ⟨2, ![32, 64]⟩
abbrev S32 : Shape := ⟨1, ![32]⟩
abbrev S32x1 : Shape := ⟨2, ![32, 1]⟩
abbrev S32x64x16 : Shape := ⟨3, ![32, 64, 16]⟩
abbrev S32x16x64 : Shape := ⟨3, ![32, 16, 64]⟩
abbrev S32x1x64 : Shape := ⟨3, ![32, 1, 64]⟩

abbrev nBuf : Space → Nat
  | .hbm => 17
  | .vmem => 9
  | .smem => 0
  | _ => 0

abbrev bufTy : (tb : Table) → Fin (tcTables nBuf tb) → BufTy
  | .hbm, ⟨0, _⟩ => ⟨S1x32x64, .f32⟩
  | .hbm, ⟨1, _⟩ => ⟨S1x32x64, .f32⟩
  | .hbm, ⟨2, _⟩ => ⟨S1x32, .f32⟩
  | .hbm, ⟨3, _⟩ => ⟨S1x32x64x16, .f32⟩
  | .hbm, ⟨4, _⟩ => ⟨S1x32x64x16, .f32⟩
  | .hbm, ⟨5, _⟩ => ⟨S32x64, .f32⟩
  | .hbm, ⟨6, _⟩ => ⟨S32x64, .f32⟩
  | .hbm, ⟨7, _⟩ => ⟨S32, .f32⟩
  | .hbm, ⟨8, _⟩ => ⟨S32x1, .f32⟩
  | .hbm, ⟨9, _⟩ => ⟨S32x64x16, .f32⟩
  | .hbm, ⟨10, _⟩ => ⟨S32x16x64, .f32⟩
  | .hbm, ⟨11, _⟩ => ⟨S32x64x16, .f32⟩
  | .hbm, ⟨12, _⟩ => ⟨S32x16x64, .f32⟩
  | .hbm, ⟨13, _⟩ => ⟨S32x64, .f32⟩
  | .hbm, ⟨14, _⟩ => ⟨S32x64, .f32⟩
  | .hbm, ⟨15, _⟩ => ⟨S32x16x64, .f32⟩
  | .hbm, ⟨16, _⟩ => ⟨S32x16x64, .f32⟩
  | .local _ .vmem, ⟨0, _⟩ => ⟨S32x64, .f32⟩
  | .local _ .vmem, ⟨1, _⟩ => ⟨S32x64, .f32⟩
  | .local _ .vmem, ⟨2, _⟩ => ⟨S32x1, .f32⟩
  | .local _ .vmem, ⟨3, _⟩ => ⟨S32x16x64, .f32⟩
  | .local _ .vmem, ⟨4, _⟩ => ⟨S32x16x64, .f32⟩
  | .local _ .vmem, ⟨5, _⟩ => ⟨S32x64, .f32⟩
  | .local _ .vmem, ⟨6, _⟩ => ⟨S32x64, .f32⟩
  | .local _ .vmem, ⟨7, _⟩ => ⟨S32x16x64, .f32⟩
  | .local _ .vmem, ⟨8, _⟩ => ⟨S32x16x64, .f32⟩
  | _, _ => ⟨S1x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== S5DiscRefIdeal.lean ====
abbrev S1x32x64 : Shape := ⟨3, ![1, 32, 64]⟩
abbrev S1x32 : Shape := ⟨2, ![1, 32]⟩
abbrev S1x32x64x16 : Shape := ⟨4, ![1, 32, 64, 16]⟩
abbrev S32x64 : Shape := ⟨2, ![32, 64]⟩
abbrev S32 : Shape := ⟨1, ![32]⟩
abbrev S32x64x16 : Shape := ⟨3, ![32, 64, 16]⟩
abbrev S32x1 : Shape := ⟨2, ![32, 1]⟩
abbrev S_ : Shape := ⟨0, ![]⟩
abbrev S32x64x1 : Shape := ⟨3, ![32, 64, 1]⟩
abbrev S32x16x64 : Shape := ⟨3, ![32, 16, 64]⟩

abbrev nBuf : Space → Nat
  | .hbm => 53
  | .vmem => 0
  | .smem => 0
  | _ => 0

abbrev bufTy : (tb : Table) → Fin (tcTables nBuf tb) → BufTy
  | .hbm, ⟨0, _⟩ => ⟨S1x32x64, .f32⟩
  | .hbm, ⟨1, _⟩ => ⟨S1x32x64, .f32⟩
  | .hbm, ⟨2, _⟩ => ⟨S1x32, .f32⟩
  | .hbm, ⟨3, _⟩ => ⟨S1x32x64x16, .f32⟩
  | .hbm, ⟨4, _⟩ => ⟨S1x32x64x16, .f32⟩
  | .hbm, ⟨5, _⟩ => ⟨S32x64, .f32⟩
  | .hbm, ⟨6, _⟩ => ⟨S32x64, .f32⟩
  | .hbm, ⟨7, _⟩ => ⟨S32, .f32⟩
  | .hbm, ⟨8, _⟩ => ⟨S32x64x16, .f32⟩
  | .hbm, ⟨9, _⟩ => ⟨S32x64x16, .f32⟩
  | .hbm, ⟨10, _⟩ => ⟨S32, .f32⟩
  | .hbm, ⟨11, _⟩ => ⟨S32x1, .f32⟩
  | .hbm, ⟨12, _⟩ => ⟨S32x64, .f32⟩
  | .hbm, ⟨13, _⟩ => ⟨S32x64, .f32⟩
  | .hbm, ⟨14, _⟩ => ⟨S32x64, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S32x64, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S_, .f32⟩
  | .hbm, ⟨27, _⟩ => ⟨S32x64, .f32⟩
  | .hbm, ⟨28, _⟩ => ⟨S32x64, .f32⟩
  | .hbm, ⟨29, _⟩ => ⟨S32x64, .f32⟩
  | .hbm, ⟨30, _⟩ => ⟨S32x64, .f32⟩
  | .hbm, ⟨31, _⟩ => ⟨S32x64, .f32⟩
  | .hbm, ⟨32, _⟩ => ⟨S32x64, .f32⟩
  | .hbm, ⟨33, _⟩ => ⟨S32x64, .f32⟩
  | .hbm, ⟨34, _⟩ => ⟨S32x64, .f32⟩
  | .hbm, ⟨35, _⟩ => ⟨S32x64, .f32⟩
  | .hbm, ⟨36, _⟩ => ⟨S32x64, .f32⟩
  | .hbm, ⟨37, _⟩ => ⟨S32x64x1, .f32⟩
  | .hbm, ⟨38, _⟩ => ⟨S32x64x16, .f32⟩
  | .hbm, ⟨39, _⟩ => ⟨S32x64x16, .f32⟩
  | .hbm, ⟨40, _⟩ => ⟨S32x64x1, .f32⟩
  | .hbm, ⟨41, _⟩ => ⟨S32x64x16, .f32⟩
  | .hbm, ⟨42, _⟩ => ⟨S32x64x16, .f32⟩
  | .hbm, ⟨43, _⟩ => ⟨S32x64x16, .f32⟩
  | .hbm, ⟨44, _⟩ => ⟨S32x64x1, .f32⟩
  | .hbm, ⟨45, _⟩ => ⟨S32x64x16, .f32⟩
  | .hbm, ⟨46, _⟩ => ⟨S32x64x16, .f32⟩
  | .hbm, ⟨47, _⟩ => ⟨S32x64x1, .f32⟩
  | .hbm, ⟨48, _⟩ => ⟨S32x64x16, .f32⟩
  | .hbm, ⟨49, _⟩ => ⟨S32x64x16, .f32⟩
  | .hbm, ⟨50, _⟩ => ⟨S32x64x16, .f32⟩
  | .hbm, ⟨51, _⟩ => ⟨S32x16x64, .f32⟩
  | .hbm, ⟨52, _⟩ => ⟨S32x16x64, .f32⟩
  | _, _ => ⟨S1x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩

abbrev nD : Nat := 1
abbrev τ : Topo := Topo.v7x

variable {F : FTy → Type} [FloatOps F]
-- ==== PreFwd.lean ====
abbrev S4096x1024 : Shape := ⟨2, ![4096, 1024]⟩
abbrev S1x1024 : Shape := ⟨2, ![1, 1024]⟩
abbrev S1024x4112 : Shape := ⟨2, ![1024, 4112]⟩
abbrev S4112x1024 : Shape := ⟨2, ![4112, 1024]⟩
abbrev S4096x512 : Shape := ⟨2, ![4096, 512]⟩
abbrev S4096x256 : Shape := ⟨2, ![4096, 256]⟩
abbrev S4096x16 : Shape := ⟨2, ![4096, 16]⟩
abbrev S512x1024 : Shape := ⟨2, ![512, 1024]⟩
abbrev S512x512 : Shape := ⟨2, ![512, 512]⟩
abbrev S512x256 : Shape := ⟨2, ![512, 256]⟩
abbrev S512x16 : Shape := ⟨2, ![512, 16]⟩
abbrev S512 : Shape := ⟨1, ![512]⟩
abbrev S512x1 : Shape := ⟨2, ![512, 1]⟩
abbrev S256x1024 : Shape := ⟨2, ![256, 1024]⟩
abbrev S16x1024 : Shape := ⟨2, ![16, 1024]⟩
abbrev S1024x1024 : Shape := ⟨2, ![1024, 1024]⟩

abbrev nBuf : Space → Nat
  | .hbm => 14
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4112, .f32⟩
  | .hbm, ⟨3, _⟩ => ⟨S1024x4112, .bf16⟩
  | .hbm, ⟨4, _⟩ => ⟨S4112x1024, .bf16⟩
  | .hbm, ⟨5, _⟩ => ⟨S4096x1024, .bf16⟩
  | .hbm, ⟨6, _⟩ => ⟨S4096x512, .f32⟩
  | .hbm, ⟨7, _⟩ => ⟨S4096x256, .f32⟩
  | .hbm, ⟨8, _⟩ => ⟨S4096x256, .f32⟩
  | .hbm, ⟨9, _⟩ => ⟨S4096x512, .f32⟩
  | .hbm, ⟨10, _⟩ => ⟨S4096x512, .f32⟩
  | .hbm, ⟨11, _⟩ => ⟨S4096x16, .f32⟩
  | .hbm, ⟨12, _⟩ => ⟨S4096x1024, .f32⟩
  | .hbm, ⟨13, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4112x1024, .bf16⟩
  | .local _ .vmem, ⟨4, _⟩ => ⟨S512x1024, .bf16⟩
  | .local _ .vmem, ⟨5, _⟩ => ⟨S512x1024, .bf16⟩
  | .local _ .vmem, ⟨6, _⟩ => ⟨S512x512, .f32⟩
  | .local _ .vmem, ⟨7, _⟩ => ⟨S512x512, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x16, .f32⟩
  | .local _ .vmem, ⟨17, _⟩ => ⟨S512x16, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev main_v2_6 : Ref sig .tc := ⟨.hbm, 11, rfl⟩
abbrev main_v2_7 : Ref sig .tc := ⟨.hbm, 12, rfl⟩
abbrev main_v2_8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4112x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== PreFrefIdeal.lean ====
abbrev S4096x1024 : Shape := ⟨2, ![4096, 1024]⟩
abbrev S1x1024 : Shape := ⟨2, ![1, 1024]⟩
abbrev S1024x4112 : Shape := ⟨2, ![1024, 4112]⟩
abbrev S_ : Shape := ⟨0, ![]⟩
abbrev S4096 : Shape := ⟨1, ![4096]⟩
abbrev S4096x1 : Shape := ⟨2, ![4096, 1]⟩
abbrev S4096x4112 : Shape := ⟨2, ![4096, 4112]⟩
abbrev S4096x512 : Shape := ⟨2, ![4096, 512]⟩
abbrev S4096x256 : Shape := ⟨2, ![4096, 256]⟩
abbrev S4096x16 : Shape := ⟨2, ![4096, 16]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4112, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S4096x4112, .f32⟩
  | .hbm, ⟨20, _⟩ => ⟨S4096x512, .f32⟩
  | .hbm, ⟨21, _⟩ => ⟨S4096x256, .f32⟩
  | .hbm, ⟨22, _⟩ => ⟨S4096x256, .f32⟩
  | .hbm, ⟨23, _⟩ => ⟨S4096x512, .f32⟩
  | .hbm, ⟨24, _⟩ => ⟨S4096x512, .f32⟩
  | .hbm, ⟨25, _⟩ => ⟨S4096x16, .f32⟩
  | .hbm, ⟨26, _⟩ => ⟨S4096x1024, .f32⟩
  | .hbm, ⟨27, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== PostFwd.lean ====
abbrev S4096x512 : Shape := ⟨2, ![4096, 512]⟩
abbrev S4096x1024 : Shape := ⟨2, ![4096, 1024]⟩
abbrev S512x512 : Shape := ⟨2, ![512, 512]⟩
abbrev S1x512 : Shape := ⟨2, ![1, 512]⟩
abbrev S512x1024 : Shape := ⟨2, ![512, 1024]⟩
abbrev S1024x1024 : Shape := ⟨2, ![1024, 1024]⟩
abbrev S1024x512 : Shape := ⟨2, ![1024, 512]⟩
abbrev S512x128 : Shape := ⟨2, ![512, 128]⟩
abbrev S512 : Shape := ⟨1, ![512]⟩
abbrev S512x1 : Shape := ⟨2, ![512, 1]⟩

abbrev nBuf : Space → Nat
  | .hbm => 19
  | .vmem => 20
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S512x512, .f32⟩
  | .hbm, ⟨7, _⟩ => ⟨S1x512, .f32⟩
  | .hbm, ⟨8, _⟩ => ⟨S1x512, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S512x512, .bf16⟩
  | .hbm, ⟨13, _⟩ => ⟨S512x1024, .bf16⟩
  | .hbm, ⟨14, _⟩ => ⟨S1024x512, .bf16⟩
  | .hbm, ⟨15, _⟩ => ⟨S512x1024, .bf16⟩
  | .hbm, ⟨16, _⟩ => ⟨S1024x512, .bf16⟩
  | .hbm, ⟨17, _⟩ => ⟨S1024x1024, .bf16⟩
  | .hbm, ⟨18, _⟩ => ⟨S4096x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x512, .bf16⟩
  | .local _ .vmem, ⟨13, _⟩ => ⟨S1x512, .f32⟩
  | .local _ .vmem, ⟨14, _⟩ => ⟨S1x512, .f32⟩
  | .local _ .vmem, ⟨15, _⟩ => ⟨S1024x512, .bf16⟩
  | .local _ .vmem, ⟨16, _⟩ => ⟨S1024x512, .bf16⟩
  | .local _ .vmem, ⟨17, _⟩ => ⟨S1024x1024, .bf16⟩
  | .local _ .vmem, ⟨18, _⟩ => ⟨S512x1024, .f32⟩
  | .local _ .vmem, ⟨19, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== PostFrefIdeal.lean ====
abbrev S4096x512 : Shape := ⟨2, ![4096, 512]⟩
abbrev S4096x1024 : Shape := ⟨2, ![4096, 1024]⟩
abbrev S512x512 : Shape := ⟨2, ![512, 512]⟩
abbrev S1x512 : Shape := ⟨2, ![1, 512]⟩
abbrev S512x1024 : Shape := ⟨2, ![512, 1024]⟩
abbrev S1024x1024 : Shape := ⟨2, ![1024, 1024]⟩
abbrev S_ : Shape := ⟨0, ![]⟩
abbrev S4096x4x128 : Shape := ⟨3, ![4096, 4, 128]⟩
abbrev S4096x4 : Shape := ⟨2, ![4096, 4]⟩
abbrev S4096x4x1 : Shape := ⟨3, ![4096, 4, 1]⟩

abbrev nBuf : Space → Nat
  | .hbm => 91
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S512x512, .f32⟩
  | .hbm, ⟨7, _⟩ => ⟨S1x512, .f32⟩
  | .hbm, ⟨8, _⟩ => ⟨S1x512, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S_, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S4096x512, .f32⟩
  | .hbm, ⟨24, _⟩ => ⟨S4096x512, .f32⟩
  | .hbm, ⟨25, _⟩ => ⟨S_, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S4096x512, .f32⟩
  | .hbm, ⟨36, _⟩ => ⟨S4096x512, .f32⟩
  | .hbm, ⟨37, _⟩ => ⟨S_, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S4096x4x128, .f32⟩
  | .hbm, ⟨42, _⟩ => ⟨S4096x4x128, .f32⟩
  | .hbm, ⟨43, _⟩ => ⟨S_, .f32⟩
  | .hbm, ⟨44, _⟩ => ⟨S4096x4, .f32⟩
  | .hbm, ⟨45, _⟩ => ⟨S4096x4x1, .f32⟩
  | .hbm, ⟨46, _⟩ => ⟨S_, .f32⟩
  | .hbm, ⟨47, _⟩ => ⟨S4096x4x1, .f32⟩
  | .hbm, ⟨48, _⟩ => ⟨S4096x4x1, .f32⟩
  | .hbm, ⟨49, _⟩ => ⟨S_, .f32⟩
  | .hbm, ⟨50, _⟩ => ⟨S4096x4x1, .f32⟩
  | .hbm, ⟨51, _⟩ => ⟨S4096x4x1, .f32⟩
  | .hbm, ⟨52, _⟩ => ⟨S4096x4x1, .f32⟩
  | .hbm, ⟨53, _⟩ => ⟨S4096x4x128, .f32⟩
  | .hbm, ⟨54, _⟩ => ⟨S4096x4x128, .f32⟩
  | .hbm, ⟨55, _⟩ => ⟨S4096x512, .f32⟩
  | .hbm, ⟨56, _⟩ => ⟨S4096x512, .f32⟩
  | .hbm, ⟨57, _⟩ => ⟨S4096x512, .f32⟩
  | .hbm, ⟨58, _⟩ => ⟨S4096x512, .f32⟩
  | .hbm, ⟨59, _⟩ => ⟨S4096x512, .f32⟩
  | .hbm, ⟨60, _⟩ => ⟨S_, .f32⟩
  | .hbm, ⟨61, _⟩ => ⟨S4096x512, .f32⟩
  | .hbm, ⟨62, _⟩ => ⟨S4096x512, .f32⟩
  | .hbm, ⟨63, _⟩ => ⟨S_, .f32⟩
  | .hbm, ⟨64, _⟩ => ⟨S4096x512, .f32⟩
  | .hbm, ⟨65, _⟩ => ⟨S4096x512, .f32⟩
  | .hbm, ⟨66, _⟩ => ⟨S4096x512, .f32⟩
  | .hbm, ⟨67, _⟩ => ⟨S4096x512, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_5 : Ref sig .tc := ⟨.hbm, 43, rfl⟩
abbrev main_v25 : Ref sig .tc := ⟨.hbm, 44, rfl⟩
abbrev main_v26 : Ref sig .tc := ⟨.hbm, 45, rfl⟩
abbrev main_cst_6 : Ref sig .tc := ⟨.hbm, 46, rfl⟩
abbrev main_v27 : Ref sig .tc := ⟨.hbm, 47, rfl⟩
abbrev main_v28 : Ref sig .tc := ⟨.hbm, 48, rfl⟩
abbrev main_cst_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_cst_9 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_10 : Ref sig .tc := ⟨.hbm, 80, rfl⟩
abbrev main_v49 : Ref sig .tc := ⟨.hbm, 81, rfl⟩
abbrev main_v50 : Ref sig .tc := ⟨.hbm, 82, rfl⟩
abbrev main_cst_11 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩

abbrev nD : Nat := 1
abbrev τ : Topo := Topo.v7x

variable {F : FTy → Type} [FloatOps F]
-- ==== FfnFwd.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S11x4096x256 : Shape := ⟨3, ![11, 4096, 256]⟩
abbrev S512x1024 : Shape := ⟨2, ![512, 1024]⟩
abbrev S11x512x256 : Shape := ⟨3, ![11, 512, 256]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩
abbrev S1x512x256 : Shape := ⟨3, ![1, 512, 256]⟩

abbrev nBuf : Space → Nat
  | .hbm => 14
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x2816, .bf16⟩
  | .hbm, ⟨6, _⟩ => ⟨S2816x1024, .bf16⟩
  | .hbm, ⟨7, _⟩ => ⟨S1024x2816, .bf16⟩
  | .hbm, ⟨8, _⟩ => ⟨S2816x1024, .bf16⟩
  | .hbm, ⟨9, _⟩ => ⟨S2816x1024, .bf16⟩
  | .hbm, ⟨10, _⟩ => ⟨S4096x1024, .f32⟩
  | .hbm, ⟨11, _⟩ => ⟨S11x4096x256, .bf16⟩
  | .hbm, ⟨12, _⟩ => ⟨S11x4096x256, .bf16⟩
  | .hbm, ⟨13, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S11x512x256, .bf16⟩
  | .local _ .vmem, ⟨9, _⟩ => ⟨S11x512x256, .bf16⟩
  | .local _ .vmem, ⟨10, _⟩ => ⟨S11x512x256, .bf16⟩
  | .local _ .vmem, ⟨11, _⟩ => ⟨S11x512x256, .bf16⟩
  | .local _ .vmem, ⟨12, _⟩ => ⟨S512x1024, .bf16⟩
  | .local _ .vmem, ⟨13, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  let c256_i32 : BitVec 32 := 256#32
  let v17 : BitVec 32 := Scalar.muli c0_i32 c256_i32
  v17
def k0_off1 (c0_i32 : BitVec 32) : Fin 2 → Nat :=
  let c256_i32 : BitVec 32 := 256#32
  let v17 : BitVec 32 := Scalar.muli c0_i32 c256_i32
  let v18 : BitVec 32 := v17
  let v19 : Index := Scalar.indexCast v18
  let c0_9 : Index := 0#32
  ![v19.toNat, 0]
def k0_mult2 : BitVec 32 :=
  let c1_i32 : BitVec 32 := 1#32
  let c256_i32_24 : BitVec 32 := 256#32
  let v51 : BitVec 32 := Scalar.muli c1_i32 c256_i32_24
  v51
def k0_mult3 : BitVec 32 :=
  let c2_i32 : BitVec 32 := 2#32
  let c256_i32_40 : BitVec 32 := 256#32
  let v85 : BitVec 32 := Scalar.muli c2_i32 c256_i32_40
  v85
def k0_mult4 : BitVec 32 :=
  let c3_i32 : BitVec 32 := 3#32
  let c256_i32_56 : BitVec 32 := 256#32
  let v119 : BitVec 32 := Scalar.muli c3_i32 c256_i32_56
  v119
def k0_mult5 : BitVec 32 :=
  let c4_i32 : BitVec 32 := 4#32
  let c256_i32_72 : BitVec 32 := 256#32
  let v153 : BitVec 32 := Scalar.muli c4_i32 c256_i32_72
  v153
def k0_mult6 : BitVec 32 :=
  let c5_i32 : BitVec 32 := 5#32
  let c256_i32_88 : BitVec 32 := 256#32
  let v187 : BitVec 32 := Scalar.muli c5_i32 c256_i32_88
  v187
def k0_mult7 : BitVec 32 :=
  let c6_i32 : BitVec 32 := 6#32
  let c256_i32_104 : BitVec 32 := 256#32
  let v221 : BitVec 32 := Scalar.muli c6_i32 c256_i32_104
  v221
def k0_mult8 : BitVec 32 :=
  let c7_i32 : BitVec 32 := 7#32
  let c256_i32_120 : BitVec 32 := 256#32
  let v255 : BitVec 32 := Scalar.muli c7_i32 c256_i32_120
  v255
def k0_mult9 : BitVec 32 :=
  let c8_i32 : BitVec 32 := 8#32
  let c256_i32_136 : BitVec 32 := 256#32
  let v289 : BitVec 32 := Scalar.muli c8_i32 c256_i32_136
  v289
def k0_mult10 : BitVec 32 :=
  let c9_i32 : BitVec 32 := 9#32
  let c256_i32_152 : BitVec 32 := 256#32
  let v323 : BitVec 32 := Scalar.muli c9_i32 c256_i32_152
  v323
def k0_mult11 : BitVec 32 :=
  let c10_i32 : BitVec 32 := 10#32
  let c256_i32_168 : BitVec 32 := 256#32
  let v357 : BitVec 32 := Scalar.muli c10_i32 c256_i32_168
  v357
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S11x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S11x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnFrefIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S4096x11x256 : Shape := ⟨3, ![4096, 11, 256]⟩
abbrev S11x4096x256 : Shape := ⟨3, ![11, 4096, 256]⟩

abbrev nBuf : Space → Nat
  | .hbm => 44
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S_, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x2816, .bf16⟩
  | .hbm, ⟨38, _⟩ => ⟨S4096x11x256, .bf16⟩
  | .hbm, ⟨39, _⟩ => ⟨S11x4096x256, .bf16⟩
  | .hbm, ⟨40, _⟩ => ⟨S4096x2816, .bf16⟩
  | .hbm, ⟨41, _⟩ => ⟨S4096x11x256, .bf16⟩
  | .hbm, ⟨42, _⟩ => ⟨S11x4096x256, .bf16⟩
  | .hbm, ⟨43, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]
-- ==== Dwin.lean ====
abbrev S4096x1024 : Shape := ⟨2, ![4096, 1024]⟩
abbrev S4096x512 : Shape := ⟨2, ![4096, 512]⟩
abbrev S4096x256 : Shape := ⟨2, ![4096, 256]⟩
abbrev S256x1024 : Shape := ⟨2, ![256, 1024]⟩
abbrev S512x256 : Shape := ⟨2, ![512, 256]⟩
abbrev S512x1024 : Shape := ⟨2, ![512, 1024]⟩

abbrev nBuf : Space → Nat
  | .hbm => 10
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x256, .bf16⟩
  | .hbm, ⟨3, _⟩ => ⟨S4096x256, .bf16⟩
  | .hbm, ⟨4, _⟩ => ⟨S4096x512, .bf16⟩
  | .hbm, ⟨5, _⟩ => ⟨S4096x512, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .local _ .vmem, ⟨0, _⟩ => ⟨S4096x256, .f32⟩
  | .local _ .vmem, ⟨1, _⟩ => ⟨S4096x256, .f32⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | .local _ .vmem, ⟨11, _⟩ => ⟨S4096x256, .bf16⟩
  | .local _ .vmem, ⟨12, _⟩ => ⟨S4096x256, .bf16⟩
  | .local _ .vmem, ⟨13, _⟩ => ⟨S4096x256, .bf16⟩
  | .local _ .vmem, ⟨14, _⟩ => ⟨S4096x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c2_i32 : BitVec 32 := 2#32
  let v1 : BitVec 1 := Scalar.cmpi .slt arg0 c2_i32
  let v2 : BitVec 1 := Scalar.andi v0 v1
  let v3 : BitVec 32 := Scalar.extui v2
  let c0_i32_0 : BitVec 32 := 0#32
  let v4 : BitVec 1 := Scalar.cmpi .ne v3 c0_i32_0
  v4

def k0_mult1 : BitVec 32 :=
  let c0_i32_14 : BitVec 32 := 0#32
  let c512_i32 : BitVec 32 := 512#32
  let v39 : BitVec 32 := Scalar.muli c0_i32_14 c512_i32
  v39
def k0_off1 (c0_i32_14 : BitVec 32) : Fin 2 → Nat :=
  let c512_i32 : BitVec 32 := 512#32
  let v39 : BitVec 32 := Scalar.muli c0_i32_14 c512_i32
  let v40 : BitVec 32 := v39
  let v42 : Index := Scalar.indexCast v40
  let c0_17 : Index := 0#32
  ![v42.toNat, 0]
def k0_off2 (c0_i32_14 : BitVec 32) : Fin 2 → Nat :=
  let c512_i32 : BitVec 32 := 512#32
  let v39 : BitVec 32 := Scalar.muli c0_i32_14 c512_i32
  let v40 : BitVec 32 := v39
  let v45 : Index := Scalar.indexCast v40
  let c0_18 : Index := 0#32
  ![v45.toNat, 0]
def k0_mult2 : BitVec 32 :=
  let c1_i32 : BitVec 32 := 1#32
  let c512_i32_22 : BitVec 32 := 512#32
  let v53 : BitVec 32 := Scalar.muli c1_i32 c512_i32_22
  v53
def k0_mult3 : BitVec 32 :=
  let c2_i32_30 : BitVec 32 := 2#32
  let c512_i32_31 : BitVec 32 := 512#32
  let v67 : BitVec 32 := Scalar.muli c2_i32_30 c512_i32_31
  v67
def k0_mult4 : BitVec 32 :=
  let c3_i32_39 : BitVec 32 := 3#32
  let c512_i32_40 : BitVec 32 := 512#32
  let v81 : BitVec 32 := Scalar.muli c3_i32_39 c512_i32_40
  v81
def k0_mult5 : BitVec 32 :=
  let c4_i32_48 : BitVec 32 := 4#32
  let c512_i32_49 : BitVec 32 := 512#32
  let v95 : BitVec 32 := Scalar.muli c4_i32_48 c512_i32_49
  v95
def k0_mult6 : BitVec 32 :=
  let c5_i32 : BitVec 32 := 5#32
  let c512_i32_57 : BitVec 32 := 512#32
  let v109 : BitVec 32 := Scalar.muli c5_i32 c512_i32_57
  v109
def k0_mult7 : BitVec 32 :=
  let c6_i32_65 : BitVec 32 := 6#32
  let c512_i32_66 : BitVec 32 := 512#32
  let v123 : BitVec 32 := Scalar.muli c6_i32_65 c512_i32_66
  v123
def k0_mult8 : BitVec 32 :=
  let c7_i32 : BitVec 32 := 7#32
  let c512_i32_74 : BitVec 32 := 512#32
  let v137 : BitVec 32 := Scalar.muli c7_i32 c512_i32_74
  v137
def k0_cond2 (i : grid0.Coords) : BitVec 1 :=
  let arg0 : BitVec 32 := BitVec.ofNat 32 (i 0).val
  let c2_i32_1 : BitVec 32 := 2#32
  let v5 : BitVec 1 := Scalar.cmpi .sge arg0 c2_i32_1
  let c3_i32 : BitVec 32 := 3#32
  let v6 : BitVec 1 := Scalar.cmpi .slt arg0 c3_i32
  let v7 : BitVec 1 := Scalar.andi v5 v6
  let v8 : BitVec 32 := Scalar.extui v7
  let c0_i32_2 : BitVec 32 := 0#32
  let v9 : BitVec 1 := Scalar.cmpi .ne v8 c0_i32_2
  v9

def k0_mult9 : BitVec 32 :=
  let c0_i32_14 : BitVec 32 := 0#32
  let c512_i32 : BitVec 32 := 512#32
  let v39 : BitVec 32 := Scalar.muli c0_i32_14 c512_i32
  v39
def k0_off3 (c0_i32_14 : BitVec 32) : Fin 2 → Nat :=
  let c512_i32 : BitVec 32 := 512#32
  let v39 : BitVec 32 := Scalar.muli c0_i32_14 c512_i32
  let v40 : BitVec 32 := v39
  let v42 : Index := Scalar.indexCast v40
  let c0_17 : Index := 0#32
  ![v42.toNat, 0]
def k0_off4 (c0_i32_14 : BitVec 32) : Fin 2 → Nat :=
  let c512_i32 : BitVec 32 := 512#32
  let v39 : BitVec 32 := Scalar.muli c0_i32_14 c512_i32
  let v40 : BitVec 32 := v39
  let v44 : Index := Scalar.indexCast v40
  let c0_18 : Index := 0#32
  ![v44.toNat, 0]
def k0_mult10 : BitVec 32 :=
  let c1_i32 : BitVec 32 := 1#32
  let c512_i32_22 : BitVec 32 := 512#32
  let v52 : BitVec 32 := Scalar.muli c1_i32 c512_i32_22
  v52
def k0_mult11 : BitVec 32 :=
  let c2_i32_30 : BitVec 32 := 2#32
  let c512_i32_31 : BitVec 32 := 512#32
  let v65 : BitVec 32 := Scalar.muli c2_i32_30 c512_i32_31
  v65
def k0_mult12 : BitVec 32 :=
  let c3_i32_39 : BitVec 32 := 3#32
  let c512_i32_40 : BitVec 32 := 512#32
  let v78 : BitVec 32 := Scalar.muli c3_i32_39 c512_i32_40
  v78
def k0_mult13 : BitVec 32 :=
  let c4_i32_48 : BitVec 32 := 4#32
  let c512_i32_49 : BitVec 32 := 512#32
  let v91 : BitVec 32 := Scalar.muli c4_i32_48 c512_i32_49
  v91
def k0_mult14 : BitVec 32 :=
  let c5_i32 : BitVec 32 := 5#32
  let c512_i32_57 : BitVec 32 := 512#32
  let v104 : BitVec 32 := Scalar.muli c5_i32 c512_i32_57
  v104
def k0_mult15 : BitVec 32 :=
  let c6_i32_65 : BitVec 32 := 6#32
  let c512_i32_66 : BitVec 32 := 512#32
  let v117 : BitVec 32 := Scalar.muli c6_i32_65 c512_i32_66
  v117
def k0_mult16 : BitVec 32 :=
  let c7_i32 : BitVec 32 := 7#32
  let c512_i32_74 : BitVec 32 := 512#32
  let v130 : BitVec 32 := Scalar.muli c7_i32 c512_i32_74
  v130
def k0_cond3 (i : grid0.Coords) : BitVec 1 :=
  let arg0 : BitVec 32 := BitVec.ofNat 32 (i 0).val
  let c3_i32_3 : BitVec 32 := 3#32
  let v10 : BitVec 1 := Scalar.cmpi .sge arg0 c3_i32_3
  let c4_i32 : BitVec 32 := 4#32
  let v11 : BitVec 1 := Scalar.cmpi .slt arg0 c4_i32
  let v12 : BitVec 1 := Scalar.andi v10 v11
  let v13 : BitVec 32 := Scalar.extui v12
  let c0_i32_4 : BitVec 32 := 0#32
  let v14 : BitVec 1 := Scalar.cmpi .ne v13 c0_i32_4
  v14

def k0_mult17 : BitVec 32 :=
  let c0_i32_14 : BitVec 32 := 0#32
  let c512_i32 : BitVec 32 := 512#32
  let v39 : BitVec 32 := Scalar.muli c0_i32_14 c512_i32
  v39
def k0_off5 (c0_i32_14 : BitVec 32) : Fin 2 → Nat :=
  let c512_i32 : BitVec 32 := 512#32
  let v39 : BitVec 32 := Scalar.muli c0_i32_14 c512_i32
  let v40 : BitVec 32 := v39
  let v42 : Index := Scalar.indexCast v40
  let c0_17 : Index := 0#32
  ![v42.toNat, 0]
def k0_off6 (c0_i32_14 : BitVec 32) : Fin 2 → Nat :=
  let c512_i32 : BitVec 32 := 512#32
  let v39 : BitVec 32 := Scalar.muli c0_i32_14 c512_i32
  let v40 : BitVec 32 := v39
  let v44 : Index := Scalar.indexCast v40
  let c0_18 : Index := 0#32
  ![v44.toNat, 0]
def k0_mult18 : BitVec 32 :=
  let c1_i32 : BitVec 32 := 1#32
  let c512_i32_22 : BitVec 32 := 512#32
  let v52 : BitVec 32 := Scalar.muli c1_i32 c512_i32_22
  v52
def k0_mult19 : BitVec 32 :=
  let c2_i32_30 : BitVec 32 := 2#32
  let c512_i32_31 : BitVec 32 := 512#32
  let v65 : BitVec 32 := Scalar.muli c2_i32_30 c512_i32_31
  v65
def k0_mult20 : BitVec 32 :=
  let c3_i32_39 : BitVec 32 := 3#32
  let c512_i32_40 : BitVec 32 := 512#32
  let v78 : BitVec 32 := Scalar.muli c3_i32_39 c512_i32_40
  v78
def k0_mult21 : BitVec 32 :=
  let c4_i32_48 : BitVec 32 := 4#32
  let c512_i32_49 : BitVec 32 := 512#32
  let v91 : BitVec 32 := Scalar.muli c4_i32_48 c512_i32_49
  v91
def k0_mult22 : BitVec 32 :=
  let c5_i32 : BitVec 32 := 5#32
  let c512_i32_57 : BitVec 32 := 512#32
  let v104 : BitVec 32 := Scalar.muli c5_i32 c512_i32_57
  v104
def k0_mult23 : BitVec 32 :=
  let c6_i32_65 : BitVec 32 := 6#32
  let c512_i32_66 : BitVec 32 := 512#32
  let v117 : BitVec 32 := Scalar.muli c6_i32_65 c512_i32_66
  v117
def k0_mult24 : BitVec 32 :=
  let c7_i32 : BitVec 32 := 7#32
  let c512_i32_74 : BitVec 32 := 512#32
  let v130 : BitVec 32 := Scalar.muli c7_i32 c512_i32_74
  v130
def k0_cond4 (i : grid0.Coords) : BitVec 1 :=
  let arg0 : BitVec 32 := BitVec.ofNat 32 (i 0).val
  let c4_i32_5 : BitVec 32 := 4#32
  let v15 : BitVec 1 := Scalar.cmpi .sge arg0 c4_i32_5
  let c6_i32 : BitVec 32 := 6#32
  let v16 : BitVec 1 := Scalar.cmpi .slt arg0 c6_i32
  let v17 : BitVec 1 := Scalar.andi v15 v16
  let v18 : BitVec 32 := Scalar.extui v17
  let c0_i32_6 : BitVec 32 := 0#32
  let v19 : BitVec 1 := Scalar.cmpi .ne v18 c0_i32_6
  v19

def k0_mult25 : BitVec 32 :=
  let c0_i32_14 : BitVec 32 := 0#32
  let c512_i32 : BitVec 32 := 512#32
  let v39 : BitVec 32 := Scalar.muli c0_i32_14 c512_i32
  v39
def k0_off7 (c0_i32_14 : BitVec 32) : Fin 2 → Nat :=
  let c512_i32 : BitVec 32 := 512#32
  let v39 : BitVec 32 := Scalar.muli c0_i32_14 c512_i32
  let v40 : BitVec 32 := v39
  let v42 : Index := Scalar.indexCast v40
  let c0_17 : Index := 0#32
  ![v42.toNat, 0]
def k0_off8 (c0_i32_14 : BitVec 32) : Fin 2 → Nat :=
  let c512_i32 : BitVec 32 := 512#32
  let v39 : BitVec 32 := Scalar.muli c0_i32_14 c512_i32
  let v40 : BitVec 32 := v39
  let v44 : Index := Scalar.indexCast v40
  let c0_18 : Index := 0#32
  ![v44.toNat, 0]
def k0_mult26 : BitVec 32 :=
  let c1_i32 : BitVec 32 := 1#32
  let c512_i32_22 : BitVec 32 := 512#32
  let v52 : BitVec 32 := Scalar.muli c1_i32 c512_i32_22
  v52
def k0_mult27 : BitVec 32 :=
  let c2_i32_30 : BitVec 32 := 2#32
  let c512_i32_31 : BitVec 32 := 512#32
  let v65 : BitVec 32 := Scalar.muli c2_i32_30 c512_i32_31
  v65
def k0_mult28 : BitVec 32 :=
  let c3_i32_39 : BitVec 32 := 3#32
  let c512_i32_40 : BitVec 32 := 512#32
  let v78 : BitVec 32 := Scalar.muli c3_i32_39 c512_i32_40
  v78
def k0_mult29 : BitVec 32 :=
  let c4_i32_48 : BitVec 32 := 4#32
  let c512_i32_49 : BitVec 32 := 512#32
  let v91 : BitVec 32 := Scalar.muli c4_i32_48 c512_i32_49
  v91
def k0_mult30 : BitVec 32 :=
  let c5_i32 : BitVec 32 := 5#32
  let c512_i32_57 : BitVec 32 := 512#32
  let v104 : BitVec 32 := Scalar.muli c5_i32 c512_i32_57
  v104
def k0_mult31 : BitVec 32 :=
  let c6_i32_65 : BitVec 32 := 6#32
  let c512_i32_66 : BitVec 32 := 512#32
  let v117 : BitVec 32 := Scalar.muli c6_i32_65 c512_i32_66
  v117
def k0_mult32 : BitVec 32 :=
  let c7_i32 : BitVec 32 := 7#32
  let c512_i32_74 : BitVec 32 := 512#32
  let v130 : BitVec 32 := Scalar.muli c7_i32 c512_i32_74
  v130
def k0_cond5 (i : grid0.Coords) : BitVec 1 :=
  let arg0 : BitVec 32 := BitVec.ofNat 32 (i 0).val
  let c6_i32_7 : BitVec 32 := 6#32
  let v20 : BitVec 1 := Scalar.cmpi .sge arg0 c6_i32_7
  let c8_i32 : BitVec 32 := 8#32
  let v21 : BitVec 1 := Scalar.cmpi .slt arg0 c8_i32
  let v22 : BitVec 1 := Scalar.andi v20 v21
  let v23 : BitVec 32 := Scalar.extui v22
  let c0_i32_8 : BitVec 32 := 0#32
  let v24 : BitVec 1 := Scalar.cmpi .ne v23 c0_i32_8
  v24

def k0_mult33 : BitVec 32 :=
  let c0_i32_14 : BitVec 32 := 0#32
  let c512_i32 : BitVec 32 := 512#32
  let v39 : BitVec 32 := Scalar.muli c0_i32_14 c512_i32
  v39
def k0_off9 (c0_i32_14 : BitVec 32) : Fin 2 → Nat :=
  let c512_i32 : BitVec 32 := 512#32
  let v39 : BitVec 32 := Scalar.muli c0_i32_14 c512_i32
  let v40 : BitVec 32 := v39
  let v42 : Index := Scalar.indexCast v40
  let c0_17 : Index := 0#32
  ![v42.toNat, 0]
def k0_off10 (c0_i32_14 : BitVec 32) : Fin 2 → Nat :=
  let c512_i32 : BitVec 32 := 512#32
  let v39 : BitVec 32 := Scalar.muli c0_i32_14 c512_i32
  let v40 : BitVec 32 := v39
  let v44 : Index := Scalar.indexCast v40
  let c0_18 : Index := 0#32
  ![v44.toNat, 0]
def k0_mult34 : BitVec 32 :=
  let c1_i32 : BitVec 32 := 1#32
  let c512_i32_22 : BitVec 32 := 512#32
  let v52 : BitVec 32 := Scalar.muli c1_i32 c512_i32_22
  v52
def k0_mult35 : BitVec 32 :=
  let c2_i32_30 : BitVec 32 := 2#32
  let c512_i32_31 : BitVec 32 := 512#32
  let v65 : BitVec 32 := Scalar.muli c2_i32_30 c512_i32_31
  v65
def k0_mult36 : BitVec 32 :=
  let c3_i32_39 : BitVec 32 := 3#32
  let c512_i32_40 : BitVec 32 := 512#32
  let v78 : BitVec 32 := Scalar.muli c3_i32_39 c512_i32_40
  v78
def k0_mult37 : BitVec 32 :=
  let c4_i32_48 : BitVec 32 := 4#32
  let c512_i32_49 : BitVec 32 := 512#32
  let v91 : BitVec 32 := Scalar.muli c4_i32_48 c512_i32_49
  v91
def k0_mult38 : BitVec 32 :=
  let c5_i32 : BitVec 32 := 5#32
  let c512_i32_57 : BitVec 32 := 512#32
  let v104 : BitVec 32 := Scalar.muli c5_i32 c512_i32_57
  v104
def k0_mult39 : BitVec 32 :=
  let c6_i32_65 : BitVec 32 := 6#32
  let c512_i32_66 : BitVec 32 := 512#32
  let v117 : BitVec 32 := Scalar.muli c6_i32_65 c512_i32_66
  v117
def k0_mult40 : BitVec 32 :=
  let c7_i32 : BitVec 32 := 7#32
  let c512_i32_74 : BitVec 32 := 512#32
  let v130 : BitVec 32 := Scalar.muli c7_i32 c512_i32_74
  v130
def k0_cond6 (i : grid0.Coords) : BitVec 1 :=
  let arg0 : BitVec 32 := BitVec.ofNat 32 (i 0).val
  let c8_i32_9 : BitVec 32 := 8#32
  let v25 : BitVec 1 := Scalar.cmpi .sge arg0 c8_i32_9
  let c12_i32 : BitVec 32 := 12#32
  let v26 : BitVec 1 := Scalar.cmpi .slt arg0 c12_i32
  let v27 : BitVec 1 := Scalar.andi v25 v26
  let v28 : BitVec 32 := Scalar.extui v27
  let c0_i32_10 : BitVec 32 := 0#32
  let v29 : BitVec 1 := Scalar.cmpi .ne v28 c0_i32_10
  v29

def k0_mult41 : BitVec 32 :=
  let c0_i32_14 : BitVec 32 := 0#32
  let c512_i32 : BitVec 32 := 512#32
  let v39 : BitVec 32 := Scalar.muli c0_i32_14 c512_i32
  v39
def k0_off11 (c0_i32_14 : BitVec 32) : Fin 2 → Nat :=
  let c512_i32 : BitVec 32 := 512#32
  let v39 : BitVec 32 := Scalar.muli c0_i32_14 c512_i32
  let v40 : BitVec 32 := v39
  let v42 : Index := Scalar.indexCast v40
  let c0_17 : Index := 0#32
  ![v42.toNat, 0]
def k0_off12 (c0_i32_14 : BitVec 32) : Fin 2 → Nat :=
  let c512_i32 : BitVec 32 := 512#32
  let v39 : BitVec 32 := Scalar.muli c0_i32_14 c512_i32
  let v40 : BitVec 32 := v39
  let v44 : Index := Scalar.indexCast v40
  let c0_18 : Index := 0#32
  ![v44.toNat, 0]
def k0_mult42 : BitVec 32 :=
  let c1_i32 : BitVec 32 := 1#32
  let c512_i32_22 : BitVec 32 := 512#32
  let v52 : BitVec 32 := Scalar.muli c1_i32 c512_i32_22
  v52
def k0_mult43 : BitVec 32 :=
  let c2_i32_30 : BitVec 32 := 2#32
  let c512_i32_31 : BitVec 32 := 512#32
  let v65 : BitVec 32 := Scalar.muli c2_i32_30 c512_i32_31
  v65
def k0_mult44 : BitVec 32 :=
  let c3_i32_39 : BitVec 32 := 3#32
  let c512_i32_40 : BitVec 32 := 512#32
  let v78 : BitVec 32 := Scalar.muli c3_i32_39 c512_i32_40
  v78
def k0_mult45 : BitVec 32 :=
  let c4_i32_48 : BitVec 32 := 4#32
  let c512_i32_49 : BitVec 32 := 512#32
  let v91 : BitVec 32 := Scalar.muli c4_i32_48 c512_i32_49
  v91
def k0_mult46 : BitVec 32 :=
  let c5_i32 : BitVec 32 := 5#32
  let c512_i32_57 : BitVec 32 := 512#32
  let v104 : BitVec 32 := Scalar.muli c5_i32 c512_i32_57
  v104
def k0_mult47 : BitVec 32 :=
  let c6_i32_65 : BitVec 32 := 6#32
  let c512_i32_66 : BitVec 32 := 512#32
  let v117 : BitVec 32 := Scalar.muli c6_i32_65 c512_i32_66
  v117
def k0_mult48 : BitVec 32 :=
  let c7_i32 : BitVec 32 := 7#32
  let c512_i32_74 : BitVec 32 := 512#32
  let v130 : BitVec 32 := Scalar.muli c7_i32 c512_i32_74
  v130
def k0_cond7 (i : grid0.Coords) : BitVec 1 :=
  let arg0 : BitVec 32 := BitVec.ofNat 32 (i 0).val
  let c12_i32_11 : BitVec 32 := 12#32
  let v30 : BitVec 1 := Scalar.cmpi .sge arg0 c12_i32_11
  let c16_i32 : BitVec 32 := 16#32
  let v31 : BitVec 1 := Scalar.cmpi .slt arg0 c16_i32
  let v32 : BitVec 1 := Scalar.andi v30 v31
  let v33 : BitVec 32 := Scalar.extui v32
  let c0_i32_12 : BitVec 32 := 0#32
  let v34 : BitVec 1 := Scalar.cmpi .ne v33 c0_i32_12
  v34

def k0_mult49 : BitVec 32 :=
  let c0_i32_14 : BitVec 32 := 0#32
  let c512_i32 : BitVec 32 := 512#32
  let v39 : BitVec 32 := Scalar.muli c0_i32_14 c512_i32
  v39
def k0_off13 (c0_i32_14 : BitVec 32) : Fin 2 → Nat :=
  let c512_i32 : BitVec 32 := 512#32
  let v39 : BitVec 32 := Scalar.muli c0_i32_14 c512_i32
  let v40 : BitVec 32 := v39
  let v42 : Index := Scalar.indexCast v40
  let c0_17 : Index := 0#32
  ![v42.toNat, 0]
def k0_off14 (c0_i32_14 : BitVec 32) : Fin 2 → Nat :=
  let c512_i32 : BitVec 32 := 512#32
  let v39 : BitVec 32 := Scalar.muli c0_i32_14 c512_i32
  let v40 : BitVec 32 := v39
  let v44 : Index := Scalar.indexCast v40
  let c0_18 : Index := 0#32
  ![v44.toNat, 0]
def k0_mult50 : BitVec 32 :=
  let c1_i32 : BitVec 32 := 1#32
  let c512_i32_22 : BitVec 32 := 512#32
  let v52 : BitVec 32 := Scalar.muli c1_i32 c512_i32_22
  v52
def k0_mult51 : BitVec 32 :=
  let c2_i32_30 : BitVec 32 := 2#32
  let c512_i32_31 : BitVec 32 := 512#32
  let v65 : BitVec 32 := Scalar.muli c2_i32_30 c512_i32_31
  v65
def k0_mult52 : BitVec 32 :=
  let c3_i32_39 : BitVec 32 := 3#32
  let c512_i32_40 : BitVec 32 := 512#32
  let v78 : BitVec 32 := Scalar.muli c3_i32_39 c512_i32_40
  v78
def k0_mult53 : BitVec 32 :=
  let c4_i32_48 : BitVec 32 := 4#32
  let c512_i32_49 : BitVec 32 := 512#32
  let v91 : BitVec 32 := Scalar.muli c4_i32_48 c512_i32_49
  v91
def k0_mult54 : BitVec 32 :=
  let c5_i32 : BitVec 32 := 5#32
  let c512_i32_57 : BitVec 32 := 512#32
  let v104 : BitVec 32 := Scalar.muli c5_i32 c512_i32_57
  v104
def k0_mult55 : BitVec 32 :=
  let c6_i32_65 : BitVec 32 := 6#32
  let c512_i32_66 : BitVec 32 := 512#32
  let v117 : BitVec 32 := Scalar.muli c6_i32_65 c512_i32_66
  v117
def k0_mult56 : BitVec 32 :=
  let c7_i32 : BitVec 32 := 7#32
  let c512_i32_74 : BitVec 32 := 512#32
  let v130 : BitVec 32 := Scalar.muli c7_i32 c512_i32_74
  v130
def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let c3_i32 : BitVec 32 := 3#32
  let v0 : BitVec 32 := Scalar.subi arg0 c3_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![c0_i32_1.toNat, v2.toNat]

def cc0_transform_3 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let c6_i32 : BitVec 32 := 6#32
  let v0 : BitVec 32 := Scalar.subi arg0 c6_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_6 (i : grid0.Coords) : Fin 2 → Nat :=
  let arg0 : BitVec 32 := BitVec.ofNat 32 (i 0).val
  let c12_i32 : BitVec 32 := 12#32
  let v0 : BitVec 32 := Scalar.subi arg0 c12_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== DwinRefIdeal.lean ====
abbrev S4096x1024 : Shape := ⟨2, ![4096, 1024]⟩
abbrev S4096x512 : Shape := ⟨2, ![4096, 512]⟩
abbrev S4096x256 : Shape := ⟨2, ![4096, 256]⟩
abbrev S4096x4096 : Shape := ⟨2, ![4096, 4096]⟩
abbrev S_ : Shape := ⟨0, ![]⟩
abbrev S1024x4096 : Shape := ⟨2, ![1024, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x256, .bf16⟩
  | .hbm, ⟨3, _⟩ => ⟨S4096x256, .bf16⟩
  | .hbm, ⟨4, _⟩ => ⟨S4096x512, .bf16⟩
  | .hbm, ⟨5, _⟩ => ⟨S4096x512, .bf16⟩
  | .hbm, ⟨6, _⟩ => ⟨S4096x1024, .bf16⟩
  | .hbm, ⟨7, _⟩ => ⟨S4096x1024, .bf16⟩
  | .hbm, ⟨8, _⟩ => ⟨S4096x256, .f32⟩
  | .hbm, ⟨9, _⟩ => ⟨S4096x256, .f32⟩
  | .hbm, ⟨10, _⟩ => ⟨S4096x512, .f32⟩
  | .hbm, ⟨11, _⟩ => ⟨S4096x512, .f32⟩
  | .hbm, ⟨12, _⟩ => ⟨S4096x1024, .f32⟩
  | .hbm, ⟨13, _⟩ => ⟨S4096x1024, .f32⟩
  | .hbm, ⟨14, _⟩ => ⟨S4096x4096, .f32⟩
  | .hbm, ⟨15, _⟩ => ⟨S_, .f32⟩
  | .hbm, ⟨16, _⟩ => ⟨S1024x4096, .f32⟩
  | .hbm, ⟨17, _⟩ => ⟨S4096x4096, .f32⟩
  | .hbm, ⟨18, _⟩ => ⟨S4096x1024, .f32⟩
  | .hbm, ⟨19, _⟩ => ⟨S1024x4096, .f32⟩
  | .hbm, ⟨20, _⟩ => ⟨S4096x1024, .f32⟩
  | .hbm, ⟨21, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Dw.lean ====
abbrev S4096x1024 : Shape := ⟨2, ![4096, 1024]⟩
abbrev S4096x2816 : Shape := ⟨2, ![4096, 2816]⟩
abbrev S4096x11x256 : Shape := ⟨3, ![4096, 11, 256]⟩
abbrev S11x4096x256 : Shape := ⟨3, ![11, 4096, 256]⟩
abbrev S2816x1024 : Shape := ⟨2, ![2816, 1024]⟩
abbrev S1x4096x256 : Shape := ⟨3, ![1, 4096, 256]⟩
abbrev S256x1024 : Shape := ⟨2, ![256, 1024]⟩
abbrev S1x512x256 : Shape := ⟨3, ![1, 512, 256]⟩
abbrev S512x256 : Shape := ⟨2, ![512, 256]⟩
abbrev S512x1024 : Shape := ⟨2, ![512, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x2816, .bf16⟩
  | .hbm, ⟨3, _⟩ => ⟨S4096x11x256, .bf16⟩
  | .hbm, ⟨4, _⟩ => ⟨S11x4096x256, .bf16⟩
  | .hbm, ⟨5, _⟩ => ⟨S4096x1024, .bf16⟩
  | .hbm, ⟨6, _⟩ => ⟨S2816x1024, .bf16⟩
  | .local _ .vmem, ⟨0, _⟩ => ⟨S1x4096x256, .bf16⟩
  | .local _ .vmem, ⟨1, _⟩ => ⟨S1x4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def k0_mult1 : BitVec 32 :=
  let c0_i32 : BitVec 32 := 0#32
  let c512_i32 : BitVec 32 := 512#32
  let v4 : BitVec 32 := Scalar.muli c0_i32 c512_i32
  v4
def k0_off1 (c0_i32 : BitVec 32) : Fin 3 → Nat :=
  let c0_1 : Index := 0#32
  let c512_i32 : BitVec 32 := 512#32
  let v4 : BitVec 32 := Scalar.muli c0_i32 c512_i32
  let v5 : BitVec 32 := v4
  let v6 : Index := Scalar.indexCast v5
  let c0_2 : Index := 0#32
  ![0, v6.toNat, 0]
def k0_off2 (c0_i32 : BitVec 32) : Fin 2 → Nat :=
  let c512_i32 : BitVec 32 := 512#32
  let v4 : BitVec 32 := Scalar.muli c0_i32 c512_i32
  let v5 : BitVec 32 := v4
  let v10 : Index := Scalar.indexCast v5
  let c0_5 : Index := 0#32
  ![v10.toNat, 0]
def k0_mult2 : BitVec 32 :=
  let c1_i32 : BitVec 32 := 1#32
  let c512_i32_9 : BitVec 32 := 512#32
  let v18 : BitVec 32 := Scalar.muli c1_i32 c512_i32_9
  v18
def k0_mult3 : BitVec 32 :=
  let c2_i32 : BitVec 32 := 2#32
  let c512_i32_18 : BitVec 32 := 512#32
  let v32 : BitVec 32 := Scalar.muli c2_i32 c512_i32_18
  v32
def k0_mult4 : BitVec 32 :=
  let c3_i32 : BitVec 32 := 3#32
  let c512_i32_27 : BitVec 32 := 512#32
  let v46 : BitVec 32 := Scalar.muli c3_i32 c512_i32_27
  v46
def k0_mult5 : BitVec 32 :=
  let c4_i32 : BitVec 32 := 4#32
  let c512_i32_36 : BitVec 32 := 512#32
  let v60 : BitVec 32 := Scalar.muli c4_i32 c512_i32_36
  v60
def k0_mult6 : BitVec 32 :=
  let c5_i32 : BitVec 32 := 5#32
  let c512_i32_45 : BitVec 32 := 512#32
  let v74 : BitVec 32 := Scalar.muli c5_i32 c512_i32_45
  v74
def k0_mult7 : BitVec 32 :=
  let c6_i32 : BitVec 32 := 6#32
  let c512_i32_54 : BitVec 32 := 512#32
  let v88 : BitVec 32 := Scalar.muli c6_i32 c512_i32_54
  v88
def k0_mult8 : BitVec 32 :=
  let c7_i32 : BitVec 32 := 7#32
  let c512_i32_63 : BitVec 32 := 512#32
  let v102 : BitVec 32 := Scalar.muli c7_i32 c512_i32_63
  v102
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DwRefIdeal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S_, .f32⟩
  | .hbm, ⟨3, _⟩ => ⟨S1024x2816, .f32⟩
  | .hbm, ⟨4, _⟩ => ⟨S4096x2816, .f32⟩
  | .hbm, ⟨5, _⟩ => ⟨S2816x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Adam.lean ====
abbrev S4x352x1024 : Shape := ⟨3, ![4, 352, 1024]⟩
abbrev S352x1024 : Shape := ⟨2, ![352, 1024]⟩
abbrev S4x32x1024 : Shape := ⟨3, ![4, 32, 1024]⟩
abbrev S32x1024 : Shape := ⟨2, ![32, 1024]⟩
abbrev S1x32x1024 : Shape := ⟨3, ![1, 32, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S4x32x1024, .bf16⟩
  | .local _ .vmem, ⟨1, _⟩ => ⟨S4x32x1024, .bf16⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | _, _ => ⟨S4x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRefIdeal.lean ====
abbrev S4x352x1024 : Shape := ⟨3, ![4, 352, 1024]⟩
abbrev S352x1024 : Shape := ⟨2, ![352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S4x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S4x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Slabs.lean ====
abbrev S8x528x1024 : Shape := ⟨3, ![8, 528, 1024]⟩
abbrev S528x1024 : Shape := ⟨2, ![528, 1024]⟩
abbrev S1x528x1024 : Shape := ⟨3, ![1, 528, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x528x1024, .bf16⟩
  | .hbm, ⟨1, _⟩ => ⟨S528x1024, .f32⟩
  | .local _ .vmem, ⟨0, _⟩ => ⟨S8x528x1024, .bf16⟩
  | .local _ .vmem, ⟨1, _⟩ => ⟨S528x1024, .f32⟩
  | _, _ => ⟨S8x528x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x528x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S528x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SlabsRefIdeal.lean ====
abbrev S8x528x1024 : Shape := ⟨3, ![8, 528, 1024]⟩
abbrev S_ : Shape := ⟨0, ![]⟩
abbrev S528x1024 : Shape := ⟨2, ![528, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x528x1024, .bf16⟩
  | .hbm, ⟨1, _⟩ => ⟨S8x528x1024, .f32⟩
  | .hbm, ⟨2, _⟩ => ⟨S_, .f32⟩
  | .hbm, ⟨3, _⟩ => ⟨S528x1024, .f32⟩
  | _, _ => ⟨S8x528x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Disc.Value.lean ====
module

public import proofs.«01_k».proof.Proof.Gen.DiscKIdeal.Frame
public import proofs.«01_k».proof.Proof.Gen.DiscRIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DiscKIdeal.Value

open Cert.DiscKIdeal Cert.DiscKIdeal.Gen

variable (m : (ℓ : Loc nD τ sig) → Buf (Elt Ideal) ℓ)
variable (m' : (ℓ : Loc Cert.DiscRIdeal.nD Cert.DiscRIdeal.τ Cert.DiscRIdeal.sig) → Buf (Elt Ideal) ℓ)

/-- The reference's argument buffer `k` on device `c`. -/
abbrev rloc (c : Dev nD) (k : Ref Cert.DiscRIdeal.sig .tc) : Loc Cert.DiscRIdeal.nD Cert.DiscRIdeal.τ Cert.DiscRIdeal.sig :=
  (c.tc : Thread Cert.DiscRIdeal.nD Cert.DiscRIdeal.τ).loc k

/-! The shapes of the reference's argument buffers. -/

theorem sh0 (c : Dev nD) : (Loc.ty (rloc c Cert.DiscRIdeal.main_arg0)).shape = Cert.DiscRIdeal.S1x32x64 := rfl
theorem sh1 (c : Dev nD) : (Loc.ty (rloc c Cert.DiscRIdeal.main_arg1)).shape = Cert.DiscRIdeal.S1x32x64 := rfl
theorem sh2 (c : Dev nD) : (Loc.ty (rloc c Cert.DiscRIdeal.main_arg2)).shape = Cert.DiscRIdeal.S1x32 := rfl
theorem sh3 (c : Dev nD) : (Loc.ty (rloc c Cert.DiscRIdeal.main_arg3)).shape = Cert.DiscRIdeal.S1x32x64x16 := rfl
theorem sh4 (c : Dev nD) : (Loc.ty (rloc c Cert.DiscRIdeal.main_arg4)).shape = Cert.DiscRIdeal.S1x32x64x16 := rfl
theorem sh5 (c : Dev nD) : (Loc.ty (rloc c Cert.DiscRIdeal.main_arg5)).shape = Cert.DiscRIdeal.S32x64 := rfl
theorem sh6 (c : Dev nD) : (Loc.ty (rloc c Cert.DiscRIdeal.main_arg6)).shape = Cert.DiscRIdeal.S32x64 := rfl
theorem sh7 (c : Dev nD) : (Loc.ty (rloc c Cert.DiscRIdeal.main_arg7)).shape = Cert.DiscRIdeal.S32x16x64 := rfl
theorem sh8 (c : Dev nD) : (Loc.ty (rloc c Cert.DiscRIdeal.main_arg8)).shape = Cert.DiscRIdeal.S32x16x64 := rfl

/-- The nine blocks that the kernel's body loads. -/
structure Blocks where
  x0 : FVec Ideal S32x64 .f32
  x1 : FVec Ideal S32x64 .f32
  x2 : FVec Ideal S32x1 .f32
  x3 : FVec Ideal S32x16x64 .f32
  x4 : FVec Ideal S32x16x64 .f32
  x5 : FVec Ideal S32x64 .f32
  x6 : FVec Ideal S32x64 .f32
  x7 : FVec Ideal S32x16x64 .f32
  x8 : FVec Ideal S32x16x64 .f32

/-- The loaded blocks hold the reference's arguments, in the kernel's layout: the parameters of layer 0, the input
    matrix with its last two axes swapped, the cotangents as they are. -/
structure Blocks.Holds (b : Blocks) (c : Dev nD) : Prop where
  h0 : ∀ (g : Fin 32) (s : Fin 64), b.x0 (ix2 g s) = m' (rloc c Cert.DiscRIdeal.main_arg0) (ix3 0 g s)
  h1 : ∀ (g : Fin 32) (s : Fin 64), b.x1 (ix2 g s) = m' (rloc c Cert.DiscRIdeal.main_arg1) (ix3 0 g s)
  h2 : ∀ (g : Fin 32) (z : Fin 1), b.x2 (ix2 g z) = m' (rloc c Cert.DiscRIdeal.main_arg2) (ix2 0 g)
  h3 : ∀ (g : Fin 32) (p : Fin 16) (s : Fin 64), b.x3 (ix3 g p s) = m' (rloc c Cert.DiscRIdeal.main_arg3) (ix4 0 g s p)
  h4 : ∀ (g : Fin 32) (p : Fin 16) (s : Fin 64), b.x4 (ix3 g p s) = m' (rloc c Cert.DiscRIdeal.main_arg4) (ix4 0 g s p)
  h5 : ∀ (g : Fin 32) (s : Fin 64), b.x5 (ix2 g s) = m' (rloc c Cert.DiscRIdeal.main_arg5) (ix2 g s)
  h6 : ∀ (g : Fin 32) (s : Fin 64), b.x6 (ix2 g s) = m' (rloc c Cert.DiscRIdeal.main_arg6) (ix2 g s)
  h7 : ∀ (g : Fin 32) (p : Fin 16) (s : Fin 64), b.x7 (ix3 g p s) = m' (rloc c Cert.DiscRIdeal.main_arg7) (ix3 g p s)
  h8 : ∀ (g : Fin 32) (p : Fin 16) (s : Fin 64), b.x8 (ix3 g p s) = m' (rloc c Cert.DiscRIdeal.main_arg8) (ix3 g p s)

set_option maxHeartbeats 1600000 in
/-- At every index the body stores the gradient of the real part of B as the reference computes it. -/
theorem point12 (b : Blocks) (c : Dev nD) (h : b.Holds m' c) (j : S32x16x64.Idx) :
    out0_12 b.x0 b.x1 b.x2 b.x3 b.x4 b.x5 b.x6 b.x7 b.x8 j = (Cert.DiscRIdeal.Value.res_main_v148 m' c : FVec Ideal S32x16x64 .f32) j := by
  unfold_out out0_12; frame_out
  unfold Cert.DiscRIdeal.Value.res_main_v148
  dsimp only [sh0, sh1, sh2, sh3, sh4, sh5, sh6, sh7, sh8]
  idx_vars j
  pointwise! [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, h.h0, h.h1, h.h2, h.h3, h.h4, h.h5, h.h6, h.h7, h.h8, zero_sub, Fin.sum_univ_one]

set_option maxHeartbeats 1600000 in
/-- At every index the body stores the gradient of the imaginary part of B as the reference computes it. -/
theorem point13 (b : Blocks) (c : Dev nD) (h : b.Holds m' c) (j : S32x16x64.Idx) :
    out0_13 b.x0 b.x1 b.x2 b.x3 b.x4 b.x5 b.x6 b.x7 b.x8 j = (Cert.DiscRIdeal.Value.res_main_v149 m' c : FVec Ideal S32x16x64 .f32) j := by
  unfold_out out0_13; frame_out
  unfold Cert.DiscRIdeal.Value.res_main_v149
  dsimp only [sh0, sh1, sh2, sh3, sh4, sh5, sh6, sh7, sh8]
  idx_vars j
  pointwise! [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, h.h0, h.h1, h.h2, h.h3, h.h4, h.h5, h.h6, h.h7, h.h8, zero_sub, Fin.sum_univ_one]

set_option maxHeartbeats 1600000 in
/-- At every index the body stores the gradient of the real part of Λ as the reference computes it. -/
theorem point9 (b : Blocks) (c : Dev nD) (h : b.Holds m' c) (j : S32x64.Idx) :
    out0_9 b.x0 b.x1 b.x2 b.x3 b.x4 b.x5 b.x6 b.x7 b.x8 j = (Cert.DiscRIdeal.Value.res_main_v144 m' c : FVec Ideal S32x64 .f32) j := by
  unfold_out out0_9; frame_out
  unfold Cert.DiscRIdeal.Value.res_main_v144
  dsimp only [sh0, sh1, sh2, sh3, sh4, sh5, sh6, sh7, sh8]
  idx_vars j
  pointwise! [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, h.h0, h.h1, h.h2, h.h3, h.h4, h.h5, h.h6, h.h7, h.h8, zero_sub, Fin.sum_univ_one]

set_option maxHeartbeats 1600000 in
/-- At every index the body stores the gradient of the imaginary part of Λ as the reference computes it. -/
theorem point10 (b : Blocks) (c : Dev nD) (h : b.Holds m' c) (j : S32x64.Idx) :
    out0_10 b.x0 b.x1 b.x2 b.x3 b.x4 b.x5 b.x6 b.x7 b.x8 j = (Cert.DiscRIdeal.Value.res_main_v136 m' c : FVec Ideal S32x64 .f32) j := by
  unfold_out out0_10; frame_out
  unfold Cert.DiscRIdeal.Value.res_main_v136
  dsimp only [sh0, sh1, sh2, sh3, sh4, sh5, sh6, sh7, sh8]
  idx_vars j
  pointwise! [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, h.h0, h.h1, h.h2, h.h3, h.h4, h.h5, h.h6, h.h7, h.h8, zero_sub, Fin.sum_univ_one]

set_option maxHeartbeats 1600000 in
/-- At every index the body stores the gradient of log Δ as the reference computes it. -/
theorem point11 (b : Blocks) (c : Dev nD) (h : b.Holds m' c) (j : S32x1.Idx) :
    out0_11 b.x0 b.x1 b.x2 b.x3 b.x4 b.x5 b.x6 b.x7 b.x8 j = (Cert.DiscRIdeal.Value.res_main_v147 m' c : FVec Ideal S32x1 .f32) j := by
  unfold_out out0_11; frame_out
  unfold Cert.DiscRIdeal.Value.res_main_v147
  dsimp only [sh0, sh1, sh2, sh3, sh4, sh5, sh6, sh7, sh8]
  idx_vars j
  pointwise! [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, h.h0, h.h1, h.h2, h.h3, h.h4, h.h5, h.h6, h.h7, h.h8, zero_sub, Fin.sum_univ_one]

/-! ## From the launch to the blocks, and from the blocks to the result arrays -/

theorem idx : ∀ t : Fin cfg0.N, win0_0.index t = ![0, 0] ∧ win0_1.index t = ![0, 0] ∧ win0_2.index t = ![0, 0]
    ∧ win0_3.index t = ![0, 0, 0] ∧ win0_4.index t = ![0, 0, 0] ∧ win0_5.index t = ![0, 0] ∧ win0_6.index t = ![0, 0]
    ∧ win0_7.index t = ![0, 0, 0] ∧ win0_8.index t = ![0, 0, 0] ∧ win0_9.index t = ![0, 0] ∧ win0_10.index t = ![0, 0]
    ∧ win0_11.index t = ![0, 0] ∧ win0_12.index t = ![0, 0, 0] ∧ win0_13.index t = ![0, 0, 0] :=
  (by decide +kernel : ∀ t : Fin grid0.N, _)

/-- The two programs start from the same nine arguments on device `c`. -/
structure Same (c : Dev nD) : Prop where
  a0 : m' (rloc c Cert.DiscRIdeal.main_arg0) = m ((c.tc : Thread nD τ).loc main_arg0)
  a1 : m' (rloc c Cert.DiscRIdeal.main_arg1) = m ((c.tc : Thread nD τ).loc main_arg1)
  a2 : m' (rloc c Cert.DiscRIdeal.main_arg2) = m ((c.tc : Thread nD τ).loc main_arg2)
  a3 : m' (rloc c Cert.DiscRIdeal.main_arg3) = m ((c.tc : Thread nD τ).loc main_arg3)
  a4 : m' (rloc c Cert.DiscRIdeal.main_arg4) = m ((c.tc : Thread nD τ).loc main_arg4)
  a5 : m' (rloc c Cert.DiscRIdeal.main_arg5) = m ((c.tc : Thread nD τ).loc main_arg5)
  a6 : m' (rloc c Cert.DiscRIdeal.main_arg6) = m ((c.tc : Thread nD τ).loc main_arg6)
  a7 : m' (rloc c Cert.DiscRIdeal.main_arg7) = m ((c.tc : Thread nD τ).loc main_arg7)
  a8 : m' (rloc c Cert.DiscRIdeal.main_arg8) = m ((c.tc : Thread nD τ).loc main_arg8)

/-- What the body loads at the one grid point. -/
def blocks (c : Dev nD) : Blocks :=
  ⟨iblk m c 0 t0_0, iblk m c 1 t0_0, iblk m c 2 t0_0, iblk m c 3 t0_0, iblk m c 4 t0_0, iblk m c 5 t0_0,
    iblk m c 6 t0_0, iblk m c 7 t0_0, iblk m c 8 t0_0⟩

theorem blk0 (c : Dev nD) : iblk m c 0 t0_0 = V m c main_v0 := by blk_ext! [iblk, idx t0_0]
theorem blk1 (c : Dev nD) : iblk m c 1 t0_0 = V m c main_v1 := by blk_ext! [iblk, idx t0_0]
theorem blk2 (c : Dev nD) : iblk m c 2 t0_0 = V m c main_v3 := by blk_ext! [iblk, idx t0_0]
theorem blk3 (c : Dev nD) : iblk m c 3 t0_0 = V m c main_v5 := by blk_ext! [iblk, idx t0_0]
theorem blk4 (c : Dev nD) : iblk m c 4 t0_0 = V m c main_v7 := by blk_ext! [iblk, idx t0_0]
theorem blk5 (c : Dev nD) : iblk m c 5 t0_0 = m ((c.tc : Thread nD τ).loc main_arg5) := by blk_ext! [iblk, V, idx t0_0]
theorem blk6 (c : Dev nD) : iblk m c 6 t0_0 = m ((c.tc : Thread nD τ).loc main_arg6) := by blk_ext! [iblk, V, idx t0_0]
theorem blk7 (c : Dev nD) : iblk m c 7 t0_0 = m ((c.tc : Thread nD τ).loc main_arg7) := by blk_ext! [iblk, V, idx t0_0]
theorem blk8 (c : Dev nD) : iblk m c 8 t0_0 = m ((c.tc : Thread nD τ).loc main_arg8) := by blk_ext! [iblk, V, idx t0_0]

theorem holds (c : Dev nD) (h : Same m m' c) : (blocks m c).Holds m' c where
  h0 g s := by rw [h.a0]; dsimp only [blocks]; rw [blk0]; entry_read; pointwise
  h1 g s := by rw [h.a1]; dsimp only [blocks]; rw [blk1]; entry_read; pointwise
  h2 g z := by rw [h.a2]; dsimp only [blocks]; rw [blk2]; entry_read; pointwise
  h3 g p s := by rw [h.a3]; dsimp only [blocks]; rw [blk3]; entry_read; pointwise
  h4 g p s := by rw [h.a4]; dsimp only [blocks]; rw [blk4]; entry_read; pointwise
  h5 g s := by rw [h.a5]; dsimp only [blocks]; rw [blk5]
  h6 g s := by rw [h.a6]; dsimp only [blocks]; rw [blk6]
  h7 g p s := by rw [h.a7]; dsimp only [blocks]; rw [blk7]
  h8 g p s := by rw [h.a8]; dsimp only [blocks]; rw [blk8]

/-- The result arrays of the kernel are the reference's gradients: of the real parts of the poles, … -/
theorem final9 (c : Dev nD) (h : Same m m' c) : (dats m 0 c).arrAt 9 (cfgs 0).N = Cert.DiscRIdeal.Value.res_main_v144 m' c := by
  refine (dats m 0 c).arrAt_eq_of_after_last 9 t0_0 (by decide +kernel) _ fun j => ?_
  blk_simp; rw [after0_9]; exact point9 m' (blocks m c) c (holds m m' c h) j

/-- … of their imaginary parts, … -/
theorem final10 (c : Dev nD) (h : Same m m' c) : (dats m 0 c).arrAt 10 (cfgs 0).N = Cert.DiscRIdeal.Value.res_main_v136 m' c := by
  refine (dats m 0 c).arrAt_eq_of_after_last 10 t0_0 (by decide +kernel) _ fun j => ?_
  blk_simp; rw [after0_10]; exact point10 m' (blocks m c) c (holds m m' c h) j

/-- … of the step sizes' logarithms, … -/
theorem final11 (c : Dev nD) (h : Same m m' c) : (dats m 0 c).arrAt 11 (cfgs 0).N = Cert.DiscRIdeal.Value.res_main_v147 m' c := by
  refine (dats m 0 c).arrAt_eq_of_after_last 11 t0_0 (by decide +kernel) _ fun j => ?_
  blk_simp; rw [after0_11]; exact point11 m' (blocks m c) c (holds m m' c h) j

/-- … of the input matrix's real part … -/
theorem final12 (c : Dev nD) (h : Same m m' c) : (dats m 0 c).arrAt 12 (cfgs 0).N = Cert.DiscRIdeal.Value.res_main_v148 m' c := by
  refine (dats m 0 c).arrAt_eq_of_after_last 12 t0_0 (by decide +kernel) _ fun j => ?_
  blk_simp; rw [after0_12]; exact point12 m' (blocks m c) c (holds m m' c h) j

/-- … and of its imaginary part. -/
theorem final13 (c : Dev nD) (h : Same m m' c) : (dats m 0 c).arrAt 13 (cfgs 0).N = Cert.DiscRIdeal.Value.res_main_v149 m' c := by
  refine (dats m 0 c).arrAt_eq_of_after_last 13 t0_0 (by decide +kernel) _ fun j => ?_
  blk_simp; rw [after0_13]; exact point13 m' (blocks m c) c (holds m m' c h) j

end Cert.DiscKIdeal.Value

end
-- ==== Proof.Disc.Claims.lean ====
module

public import proofs.«01_k».proof.Defs
public import proofs.«01_k».proof.Proof.Disc.Value

@[expose] public section

noncomputable section

namespace Cert.Proof

open Idealize.ShloMosaic Idealize.SL.Sem

/-- The reference of the discretisation runs through, leaves its arguments, and declares no semaphore. -/
theorem disc_ref_frame : Cert.quiescent_DiscRIdeal (hDiscRIdeal := Cert.DiscRIdeal.Gen.facts) := by
  intro m ρ _
  refine (θ_run Cert.DiscRIdeal.defs _ _).mono ?_ (Cert.DiscRIdeal.Value.run (F := Ideal) m ρ)
  intro r h
  refine ⟨fun c => ?_, ?_⟩
  · obtain ⟨-, -, -, -, -, ra⟩ := h c
    exact ra
  · exact Idealize.ShloMosaic.sem_eq_zero_of_no_sems (by decide) r.2

set_option maxHeartbeats 1600000 in
/-- The gradients of the discretisation: every result of the kernel is the reference's, at any arguments. -/
theorem disc_value : Cert.algebraic_DiscKIdeal_DiscRIdeal (hDiscKIdeal := Cert.DiscKIdeal.Gen.facts) (hDiscRIdeal := Cert.DiscRIdeal.Gen.facts) := by
  pair_intro
  · run_from Cert.DiscKIdeal.Gen.run_main m g
  · refine (θ_run Cert.DiscRIdeal.defs _ _).mono ?_ (Cert.DiscRIdeal.Value.run (F := Ideal) m' g')
    intro r h c
    obtain ⟨r0, r1, r2, r3, r4, ra⟩ := h c
    have same : Cert.DiscKIdeal.Value.Same m m' c := by
      obtain ⟨h0, h1, h2, h3, h4, h5, h6, h7, h8⟩ := hagree c
      exact ⟨h0, h1, h2, h3, h4, h5, h6, h7, h8⟩
    refine ⟨?_, ?_, ?_, ?_, ?_, ra⟩
    · rw [r0]; exact (Cert.DiscKIdeal.Value.final9 m m' c same).symm
    · rw [r1]; exact (Cert.DiscKIdeal.Value.final10 m m' c same).symm
    · rw [r2]; exact (Cert.DiscKIdeal.Value.final11 m m' c same).symm
    · rw [r3]; exact (Cert.DiscKIdeal.Value.final12 m m' c same).symm
    · rw [r4]; exact (Cert.DiscKIdeal.Value.final13 m m' c same).symm

end Cert.Proof

end
-- ==== Proof.Norm.Finite.lean ====
module

public import Idealize.ShloMosaic.Lib.Pointwise
public import Idealize.ShloMosaic.Lib.ReduceAll
public import Idealize.ShloMosaic.Lib.Claim

@[expose] public section

noncomputable section

open Idealize.ShloMosaic

namespace Cert.Norm

/-- The extended real is a real number. -/
def IsReal (x : EReal) : Prop := ∃ r : ℝ, x = r

theorem IsReal.coe (r : ℝ) : IsReal (r : EReal) := ⟨r, rfl⟩

theorem IsReal.zero : IsReal 0 := ⟨0, rfl⟩

theorem IsReal.add {x y : EReal} : IsReal x → IsReal y → IsReal (x + y) := by
  rintro ⟨a, rfl⟩ ⟨b, rfl⟩; exact ⟨a + b, (EReal.coe_add a b).symm⟩

theorem IsReal.sub {x y : EReal} : IsReal x → IsReal y → IsReal (x - y) := by
  rintro ⟨a, rfl⟩ ⟨b, rfl⟩; exact ⟨a - b, (EReal.coe_sub a b).symm⟩

theorem IsReal.mul {x y : EReal} : IsReal x → IsReal y → IsReal (x * y) := by
  rintro ⟨a, rfl⟩ ⟨b, rfl⟩; exact ⟨a * b, (EReal.coe_mul a b).symm⟩

/-- A finite sum of real numbers is the real sum. -/
theorem coe_sum {ι : Type*} [Fintype ι] (f : ι → ℝ) : (∑ i, (f i : EReal)) = ((∑ i, f i : ℝ) : EReal) := by
  classical
  induction (Finset.univ : Finset ι) using Finset.induction_on with
  | empty => simp
  | insert a s ha ih => rw [Finset.sum_insert ha, Finset.sum_insert ha, ih, EReal.coe_add]

theorem IsReal.sum {ι : Type*} [Fintype ι] {f : ι → EReal} (h : ∀ i, IsReal (f i)) : IsReal (∑ i, f i) := by
  choose g hg using h
  exact ⟨∑ i, g i, by rw [← coe_sum]; exact Finset.sum_congr rfl fun i _ => hg i⟩

/-- The word of +∞. -/
theorem ofBits_inf : Ideal.ofBits .f32 0x7F800000#32 = ⊤ := by simp [Ideal.ofBits, Ideal.ieee]

/-- An absolute value below +∞ is that of a real number. -/
theorem IsReal.of_abs_lt {x : EReal} (h : max x (-x) < ⊤) : IsReal x := by
  induction x using EReal.rec with
  | bot => simp at h
  | top => simp at h
  | coe r => exact ⟨r, rfl⟩

/-- What the printed precondition says of one array: where the conjunction over all entries of `|x| < ∞` is true,
    every entry is a real number. -/
theorem isReal_of_all {s : Shape} (x : FVec Ideal s .f32)
    (hb : (⟨0, ![]⟩ : Shape).BroadcastsInDim s (![] : Fin 0 → Fin s.rank)) {ax : List (Fin s.rank)} (hr : s.ReducesTo ax ⟨0, ![]⟩)
    (hu : 0 < (⟨0, ![]⟩ : Shape).numel) (j : (⟨0, ![]⟩ : Shape).Idx)
    (h : Host.reduce IntOp.andi (cmpf .olt (Host.absf x) (broadcastInDim s ![] hb (constant (F := Ideal) ⟨0, ![]⟩ .f32 0x7F800000#32)))
      (constantI ⟨0, ![]⟩ 1 1#1) hr hu j = 1#1) (i : s.Idx) : IsReal (x i) := by
  have : Subsingleton (⟨0, ![]⟩ : Shape).Idx := ⟨fun a b => funext fun k => k.elim0⟩
  have e := Host.reduce_andi_all _ _ hr hu j h i
  have e' : Ideal.cmp .olt (max (x i) (-(x i))) (Ideal.ofBits .f32 0x7F800000#32) = 1#1 := e
  rw [ofBits_inf] at e'
  refine IsReal.of_abs_lt ?_
  by_contra hn
  simp [Ideal.cmp, hn] at e'

/-- A conjunction of two words of one bit is true where both are. -/
theorem and_true {s : Shape} {a b : IVec s 1} {j : s.Idx} (h : andi a b j = 1#1) : a j = 1#1 ∧ b j = 1#1 :=
  IntOp.andi_eq_one.mp h

end Cert.Norm

end
-- ==== Proof.Norm.Rms.lean ====
module

public import proofs.«01_k».proof.Proof.Norm.Finite

@[expose] public section

noncomputable section

open Idealize.ShloMosaic

namespace Cert.Norm

/-- The word of 1024. -/
theorem ofBits_1024 : Ideal.ofBits .f32 1149239296#32 = ((1024 : ℝ) : EReal) := by
  simp [Ideal.ofBits, Ideal.ieee]; rw [← EReal.coe_mul]; norm_num

/-- The word of ε is a positive real number. -/
theorem ofBits_eps : ∃ e : ℝ, 0 < e ∧ Ideal.ofBits .f32 897988541#32 = (e : EReal) := by
  refine ⟨8796093 * 2 ^ (-43 : ℤ), by positivity, ?_⟩
  simp [Ideal.ofBits, Ideal.ieee]

/-- The word of -1/2. -/
theorem ofBits_neg_half : Ideal.ofBits .f32 3204448256#32 = ((-(1 / 2) : ℝ) : EReal) := by
  simp [Ideal.ofBits, Ideal.ieee]; rw [← EReal.coe_mul]; norm_num

/-- The mean of the squares, with ε. -/
def meanSq {n : ℕ} (x : Fin n → EReal) : EReal :=
  Ideal.div (∑ j, x j * x j) (Ideal.ofBits .f32 1149239296#32) + Ideal.ofBits .f32 897988541#32

/-- The mean square of real numbers, with ε, is a positive real number. -/
theorem meanSq_pos {n : ℕ} (x : Fin n → EReal) (hx : ∀ j, IsReal (x j)) : ∃ s : ℝ, 0 < s ∧ meanSq x = (s : EReal) := by
  choose X hX using hx
  obtain ⟨e, he, h⟩ := ofBits_eps
  refine ⟨(∑ j, X j * X j) * (1 / 1024) + e, ?_, ?_⟩
  · have : 0 ≤ ∑ j, X j * X j := Finset.sum_nonneg fun j _ => mul_self_nonneg _
    positivity
  · have hs : (∑ j, x j * x j) = ((∑ j, X j * X j : ℝ) : EReal) := by
      rw [← coe_sum]; exact Finset.sum_congr rfl fun j _ => by rw [hX j, EReal.coe_mul]
    rw [meanSq, h, ofBits_1024, Ideal.div_coe (by norm_num), hs, ← EReal.coe_mul, ← EReal.coe_add]

/-- The reciprocal root of a positive real number. -/
theorem rsqrt_pos {s : ℝ} (h : 0 < s) : Ideal.rsqrt (s : EReal) = (((Real.sqrt s)⁻¹ : ℝ) : EReal) := by
  rw [Ideal.rsqrt_coe, if_neg (not_lt.mpr h.le), if_neg h.ne']

/-- THE GRADIENT OF THE NORM. Written out by hand, with the normalised row, it is what differentiating
    `x · rsqrt (mean x² + ε)` gives: the direct term and twice the term through the mean square. -/
theorem rms_grad {n : ℕ} (x y : Fin n → EReal) (hx : ∀ j, IsReal (x j)) (hy : ∀ j, IsReal (y j)) (i : Fin n) :
    Ideal.rsqrt (meanSq x) * (y i - x i * Ideal.rsqrt (meanSq x)
        * Ideal.div (∑ j, y j * (x j * Ideal.rsqrt (meanSq x))) (Ideal.ofBits .f32 1149239296#32))
      = y i * Ideal.rsqrt (meanSq x)
        + x i * Ideal.div ((∑ j, x j * y j) * (Ideal.ofBits .f32 3204448256#32 * Ideal.div (Ideal.rsqrt (meanSq x)) (meanSq x))) (Ideal.ofBits .f32 1149239296#32)
        + Ideal.div ((∑ j, x j * y j) * (Ideal.ofBits .f32 3204448256#32 * Ideal.div (Ideal.rsqrt (meanSq x)) (meanSq x))) (Ideal.ofBits .f32 1149239296#32) * x i := by
  obtain ⟨s, hs, hms⟩ := meanSq_pos x hx
  choose X hX using hx
  choose Y hY using hy
  rw [hms, rsqrt_pos hs, ofBits_1024, ofBits_neg_half]
  have h1 : (∑ j, y j * (x j * (((Real.sqrt s)⁻¹ : ℝ) : EReal))) = ((∑ j, Y j * (X j * (Real.sqrt s)⁻¹) : ℝ) : EReal) := by
    rw [← coe_sum]; exact Finset.sum_congr rfl fun j _ => by rw [hX j, hY j, EReal.coe_mul, EReal.coe_mul]
  have h2 : (∑ j, x j * y j) = ((∑ j, X j * Y j : ℝ) : EReal) := by
    rw [← coe_sum]; exact Finset.sum_congr rfl fun j _ => by rw [hX j, hY j, EReal.coe_mul]
  have h3 : (∑ j, Y j * (X j * (Real.sqrt s)⁻¹)) = (∑ j, X j * Y j) * (Real.sqrt s)⁻¹ := by
    rw [Finset.sum_mul]; exact Finset.sum_congr rfl fun j _ => by ring
  have hr : (Real.sqrt s)⁻¹ * (Real.sqrt s)⁻¹ = 1 / s := by
    rw [← mul_inv, Real.mul_self_sqrt hs.le, one_div]
  rw [h1, h2, h3, hX i, hY i]
  generalize (∑ j, X j * Y j) = S
  generalize (Real.sqrt s)⁻¹ = r at *
  rw [Ideal.div_coe (by norm_num), Ideal.div_coe hs.ne', Ideal.div_coe (by norm_num)]
  norm_cast
  have : r * (Y i - X i * r * (S * r * (1 / 1024))) = Y i * r - X i * S * r * (r * r) * (1 / 1024) := by ring
  rw [this, hr]
  ring

end Cert.Norm

end
-- ==== Proof.Norm.Pieces.lean ====
module

public import proofs.«01_k».proof.Proof.Norm.Finite

@[expose] public section

noncomputable section

namespace Cert.Norm

/-- A sum over `a + b` places is the sum over the first `a` and that over the `b` behind them. -/
theorem sum_two {n : ℕ} (a b : ℕ) (h : n = a + b) (f : Fin n → EReal) :
    ∑ x, f x = ∑ x : Fin a, f ⟨x.val, by omega⟩ + ∑ x : Fin b, f ⟨a + x.val, by omega⟩ := by
  subst h
  exact Fin.sum_univ_add f

end Cert.Norm

end
-- ==== Proof.Pre.Ref.lean ====
module

public import proofs.«01_k».proof.Proof.Gen.PreRefIdeal.Run
public import proofs.«01_k».proof.Proof.Norm.Rms
public import proofs.«01_k».proof.Proof.Norm.Pieces
public import Idealize.ShloMosaic.Lib.Pointwise
public import Idealize.ShloMosaic.Lib.Claim

@[expose] public section

set_option maxRecDepth 16384

noncomputable section

open Idealize.ShloMosaic Idealize.ShloMosaic.TcCoe Idealize.SL.Sem

/-! What the reference of the mixer's input gradient computes, row by row. -/

namespace Cert.Pre

open Cert.PreRefIdeal Cert.Norm

variable (m : (ℓ : Loc nD τ sig) → Buf (Elt Ideal) ℓ)

/-- The reference's buffer `k` on device `c`. -/
abbrev rloc (c : Dev nD) (k : Ref sig .tc) : Loc nD τ sig := (c.tc : Thread nD τ).loc k

/-! The shapes of the argument buffers. -/

theorem sh0 (c : Dev nD) : (Loc.ty (rloc c main_arg0)).shape = S4096x1024 := rfl
theorem sh1 (c : Dev nD) : (Loc.ty (rloc c main_arg1)).shape = S1x1024 := rfl
theorem sh2 (c : Dev nD) : (Loc.ty (rloc c main_arg2)).shape = S1024x4112 := rfl
theorem sh3 (c : Dev nD) : (Loc.ty (rloc c main_arg3)).shape = S4096x1024 := rfl
theorem sh4 (c : Dev nD) : (Loc.ty (rloc c main_arg4)).shape = S4096x512 := rfl
theorem sh5 (c : Dev nD) : (Loc.ty (rloc c main_arg5)).shape = S4096x256 := rfl
theorem sh6 (c : Dev nD) : (Loc.ty (rloc c main_arg6)).shape = S4096x256 := rfl
theorem sh7 (c : Dev nD) : (Loc.ty (rloc c main_arg7)).shape = S4096x512 := rfl
theorem sh8 (c : Dev nD) : (Loc.ty (rloc c main_arg8)).shape = S4096x512 := rfl
theorem sh9 (c : Dev nD) : (Loc.ty (rloc c main_arg9)).shape = S4096x16 := rfl
theorem sh10 (c : Dev nD) : (Loc.ty (rloc c main_arg10)).shape = S4096x1024 := rfl
theorem sh11 (c : Dev nD) : (Loc.ty (rloc c main_arg11)).shape = S4096x1024 := rfl

/-- The hidden states. -/
def H (c : Dev nD) (i : Fin 4096) (j : Fin 1024) : EReal := (m (rloc c main_arg0) : FVec Ideal S4096x1024 .f32) (ix2 i j)
/-- The norm's weights. -/
def G (c : Dev nD) (j : Fin 1024) : EReal := (m (rloc c main_arg1) : FVec Ideal S1x1024 .f32) (ix2 0 j)
/-- The input projection, an output's column on each row. -/
def Wt (c : Dev nD) (j : Fin 1024) (x : Fin 4112) : EReal := (m (rloc c main_arg2) : FVec Ideal S1024x4112 .f32) (ix2 j x)
/-- The cotangent of the hidden states behind the mixer. -/
abbrev D (c : Dev nD) (i : Fin 4096) (j : Fin 1024) : EReal := (m (rloc c main_arg3) : FVec Ideal S4096x1024 .f32) (ix2 i j)
/-! The cotangents of the projection's eight outputs. -/

abbrev Z0 (c : Dev nD) (i : Fin 4096) (x : Fin 512) : EReal := (m (rloc c main_arg4) : FVec Ideal S4096x512 .f32) (ix2 i x)
abbrev Z1 (c : Dev nD) (i : Fin 4096) (x : Fin 256) : EReal := (m (rloc c main_arg5) : FVec Ideal S4096x256 .bf16) (ix2 i x)
abbrev Z2 (c : Dev nD) (i : Fin 4096) (x : Fin 256) : EReal := (m (rloc c main_arg6) : FVec Ideal S4096x256 .bf16) (ix2 i x)
abbrev Z3 (c : Dev nD) (i : Fin 4096) (x : Fin 512) : EReal := (m (rloc c main_arg7) : FVec Ideal S4096x512 .bf16) (ix2 i x)
abbrev Z4 (c : Dev nD) (i : Fin 4096) (x : Fin 512) : EReal := (m (rloc c main_arg8) : FVec Ideal S4096x512 .bf16) (ix2 i x)
abbrev Z5 (c : Dev nD) (i : Fin 4096) (x : Fin 16) : EReal := (m (rloc c main_arg9) : FVec Ideal S4096x16 .bf16) (ix2 i x)
abbrev Z6 (c : Dev nD) (i : Fin 4096) (x : Fin 1024) : EReal := (m (rloc c main_arg10) : FVec Ideal S4096x1024 .bf16) (ix2 i x)
abbrev Z7 (c : Dev nD) (i : Fin 4096) (x : Fin 1024) : EReal := (m (rloc c main_arg11) : FVec Ideal S4096x1024 .bf16) (ix2 i x)
/-- The cotangents of the projection's eight outputs, side by side. -/
def dz (c : Dev nD) (i : Fin 4096) (x : Fin 4112) : EReal :=
  if h : x.val < 512 then Z0 m c i ⟨x.val, h⟩ else
  if h : x.val - 512 < 256 then Z1 m c i ⟨x.val - 512, h⟩ else
  if h : x.val - 512 - 256 < 256 then Z2 m c i ⟨x.val - 512 - 256, h⟩ else
  if h : x.val - 512 - 256 - 256 < 512 then Z3 m c i ⟨x.val - 512 - 256 - 256, h⟩ else
  if h : x.val - 512 - 256 - 256 - 512 < 512 then Z4 m c i ⟨x.val - 512 - 256 - 256 - 512, h⟩ else
  if h : x.val - 512 - 256 - 256 - 512 - 512 < 16 then Z5 m c i ⟨x.val - 512 - 256 - 256 - 512 - 512, h⟩ else
  if h : x.val - 512 - 256 - 256 - 512 - 512 - 16 < 1024 then Z6 m c i ⟨x.val - 512 - 256 - 256 - 512 - 512 - 16, h⟩ else
  Z7 m c i ⟨x.val - 512 - 256 - 256 - 512 - 512 - 16 - 1024, by omega⟩
/-- The cotangent of the normalised and weighted rows. -/
def du (c : Dev nD) (i : Fin 4096) (j : Fin 1024) : EReal := ∑ x, dz m c i x * Wt m c j x
/-- The gradient of the hidden states as the reference writes it. -/
def dh (c : Dev nD) (i : Fin 4096) (j : Fin 1024) : EReal :=
  D m c i j + du m c i j * G m c j * Ideal.rsqrt (meanSq (H m c i))
    + H m c i j * Ideal.div ((∑ x, H m c i x * (du m c i x * G m c x)) * (Ideal.ofBits .f32 3204448256#32 * Ideal.div (Ideal.rsqrt (meanSq (H m c i))) (meanSq (H m c i)))) (Ideal.ofBits .f32 1149239296#32)
    + Ideal.div ((∑ x, H m c i x * (du m c i x * G m c x)) * (Ideal.ofBits .f32 3204448256#32 * Ideal.div (Ideal.rsqrt (meanSq (H m c i))) (meanSq (H m c i)))) (Ideal.ofBits .f32 1149239296#32) * H m c i j
/-- The gradient of the norm's weights. -/
def dg (c : Dev nD) (j : Fin 1024) : EReal := ∑ i : Fin 4096, H m c i j * Ideal.rsqrt (meanSq (H m c i)) * du m c i j

/-- The product with all the projection's columns is the sum of the eight products with those of one output. -/
theorem du_pieces (c : Dev nD) (i : Fin 4096) (j : Fin 1024) : du m c i j =
    (∑ x : Fin 512, Z0 m c i x * Wt m c j ⟨x.val, by omega⟩)
      + (∑ x : Fin 256, Z1 m c i x * Wt m c j ⟨512 + x.val, by omega⟩)
      + (∑ x : Fin 256, Z2 m c i x * Wt m c j ⟨768 + x.val, by omega⟩)
      + (∑ x : Fin 512, Z3 m c i x * Wt m c j ⟨1024 + x.val, by omega⟩)
      + (∑ x : Fin 512, Z4 m c i x * Wt m c j ⟨1536 + x.val, by omega⟩)
      + (∑ x : Fin 16, Z5 m c i x * Wt m c j ⟨2048 + x.val, by omega⟩)
      + (∑ x : Fin 1024, Z6 m c i x * Wt m c j ⟨2064 + x.val, by omega⟩)
      + (∑ x : Fin 1024, Z7 m c i x * Wt m c j ⟨3088 + x.val, by omega⟩) := by
  unfold du
  rw [sum_two 3088 1024 rfl, sum_two 2064 1024 rfl, sum_two 2048 16 rfl, sum_two 1536 512 rfl, sum_two 1024 512 rfl, sum_two 768 256 rfl, sum_two 512 256 rfl]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  all_goals
    refine Finset.sum_congr rfl fun x _ => congrArg (· * _) ?_
    have hx := x.isLt
    unfold dz
    repeat (first | rw [dif_neg (by dsimp only; omega)] | rw [dif_pos (by dsimp only; omega)])
    try (refine congrArg (_ : Fin _ → EReal) (Fin.ext ?_); dsimp only; omega)

end Cert.Pre

end
-- ==== Proof.Pre.RefH.lean ====
module

public import proofs.«01_k».proof.Proof.Gen.PreRefIdeal.Run
public import proofs.«01_k».proof.Proof.Pre.Ref
public import Idealize.ShloMosaic.Lib.Pointwise
public import Idealize.ShloMosaic.Lib.Claim

@[expose] public section

set_option maxRecDepth 16384

noncomputable section

open Idealize.ShloMosaic Idealize.ShloMosaic.TcCoe Idealize.SL.Sem

/-! The reference's first result, the gradient of the hidden states, read at an index. -/

namespace Cert.Pre

open Cert.PreRefIdeal Cert.Norm

variable (m : (ℓ : Loc nD τ sig) → Buf (Elt Ideal) ℓ)

set_option maxHeartbeats 2000000 in
/-- The first result. -/
theorem v52 (c : Dev nD) (i : Fin 4096) (j : Fin 1024) : (Value.res_main_v52 m c : FVec Ideal S4096x1024 .f32) (ix2 i j) = dh m c i j := by
  unfold Value.res_main_v52
  dsimp only [sh0, sh1, sh2, sh3, sh4, sh5, sh6, sh7, sh8, sh9, sh10, sh11]
  pointwise [zero_sub, Fin.sum_univ_one]
  rfl

end Cert.Pre

end
-- ==== Proof.Pre.Value.lean ====
module

public import proofs.«01_k».proof.Proof.Gen.PreBwdIdeal.Frame
public import proofs.«01_k».proof.Proof.Pre.Ref
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! What the kernel of the mixer's input gradient computes, block by block. -/

namespace Cert.Pre

open Cert.PreBwdIdeal Cert.PreBwdIdeal.Gen Cert.Norm

variable (m : (ℓ : Loc nD τ sig) → Buf (Elt Ideal) ℓ)
variable (m' : (ℓ : Loc Cert.PreRefIdeal.nD Cert.PreRefIdeal.τ Cert.PreRefIdeal.sig) → Buf (Elt Ideal) ℓ)

/-- The two programs start from the same arguments on device `c`. -/
def Same (c : Dev nD) : Prop :=
  m' (rloc c Cert.PreRefIdeal.main_arg0) = m ((c.tc : Thread nD τ).loc main_arg0)
  ∧ m' (rloc c Cert.PreRefIdeal.main_arg1) = m ((c.tc : Thread nD τ).loc main_arg1)
  ∧ m' (rloc c Cert.PreRefIdeal.main_arg2) = m ((c.tc : Thread nD τ).loc main_arg2)
  ∧ m' (rloc c Cert.PreRefIdeal.main_arg3) = m ((c.tc : Thread nD τ).loc main_arg3)
  ∧ m' (rloc c Cert.PreRefIdeal.main_arg4) = m ((c.tc : Thread nD τ).loc main_arg4)
  ∧ m' (rloc c Cert.PreRefIdeal.main_arg5) = m ((c.tc : Thread nD τ).loc main_arg5)
  ∧ m' (rloc c Cert.PreRefIdeal.main_arg6) = m ((c.tc : Thread nD τ).loc main_arg6)
  ∧ m' (rloc c Cert.PreRefIdeal.main_arg7) = m ((c.tc : Thread nD τ).loc main_arg7)
  ∧ m' (rloc c Cert.PreRefIdeal.main_arg8) = m ((c.tc : Thread nD τ).loc main_arg8)
  ∧ m' (rloc c Cert.PreRefIdeal.main_arg9) = m ((c.tc : Thread nD τ).loc main_arg9)
  ∧ m' (rloc c Cert.PreRefIdeal.main_arg10) = m ((c.tc : Thread nD τ).loc main_arg10)
  ∧ m' (rloc c Cert.PreRefIdeal.main_arg11) = m ((c.tc : Thread nD τ).loc main_arg11)

/-- The place of row `r` of block `t` in the whole array. -/
def row (t : Fin cfg0.N) (r : Fin 512) : Fin 4096 := ⟨t.val * 512 + r.val, by have := t.isLt; have h : cfg0.N = 8 := rfl; have := r.isLt; omega⟩

theorem idx : ∀ t : Fin cfg0.N, win0_0.index t = ![t.val, 0] ∧ win0_1.index t = ![0, 0] ∧ win0_2.index t = ![0, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![t.val, 0]
    ∧ win0_9.index t = ![t.val, 0]
    ∧ win0_10.index t = ![t.val, 0]
    ∧ win0_11.index t = ![t.val, 0]
    ∧ win0_12.index t = ![t.val, 0] ∧ win0_13.index t = ![0, 0] :=
  (by decide +kernel : ∀ t : Fin grid0.N, _)

variable {m m'} {c : Dev nD}

theorem b0 (h : Same m m' c) (t : Fin cfg0.N) (r : Fin 512) (j : Fin 1024) : iblk m c 0 t (ix2 r j) = H m' c (row t r) j := by
  unfold H; rw [h.1]
  blk_point [iblk, V, row, idx t]
theorem b1 (h : Same m m' c) (t : Fin cfg0.N) (z : Fin 1) (j : Fin 1024) : iblk m c 1 t (ix2 z j) = G m' c j := by
  obtain rfl : z = 0 := Subsingleton.elim _ _
  unfold G; rw [h.2.1]
  blk_point [iblk, V, row, idx t]
theorem b2 (h : Same m m' c) (t : Fin cfg0.N) (x : Fin 4112) (j : Fin 1024) : iblk m c 2 t (ix2 x j) = Wt m' c j x := by
  unfold Wt; rw [h.2.2.1]
  have e : iblk m c 2 t = V m c main_v1 := by blk_ext! [iblk, idx t]
  rw [e]; entry_read; pointwise
theorem b3 (h : Same m m' c) (t : Fin cfg0.N) (r : Fin 512) (j : Fin 1024) : iblk m c 3 t (ix2 r j) = D m' c (row t r) j := by
  unfold D; rw [h.2.2.2.1]
  blk_point [iblk, V, row, idx t]
theorem b4 (h : Same m m' c) (t : Fin cfg0.N) (r : Fin 512) (x : Fin 512) : iblk m c 4 t (ix2 r x) = Z0 m' c (row t r) x := by
  unfold Z0; rw [h.2.2.2.2.1]
  blk_point [iblk, V, row, idx t]
theorem b5 (h : Same m m' c) (t : Fin cfg0.N) (r : Fin 512) (x : Fin 256) : iblk m c 5 t (ix2 r x) = Z1 m' c (row t r) x := by
  unfold Z1; rw [h.2.2.2.2.2.1]
  blk_point [iblk, V, row, idx t]
theorem b6 (h : Same m m' c) (t : Fin cfg0.N) (r : Fin 512) (x : Fin 256) : iblk m c 6 t (ix2 r x) = Z2 m' c (row t r) x := by
  unfold Z2; rw [h.2.2.2.2.2.2.1]
  blk_point [iblk, V, row, idx t]
theorem b7 (h : Same m m' c) (t : Fin cfg0.N) (r : Fin 512) (x : Fin 512) : iblk m c 7 t (ix2 r x) = Z3 m' c (row t r) x := by
  unfold Z3; rw [h.2.2.2.2.2.2.2.1]
  blk_point [iblk, V, row, idx t]
theorem b8 (h : Same m m' c) (t : Fin cfg0.N) (r : Fin 512) (x : Fin 512) : iblk m c 8 t (ix2 r x) = Z4 m' c (row t r) x := by
  unfold Z4; rw [h.2.2.2.2.2.2.2.2.1]
  blk_point [iblk, V, row, idx t]
theorem b9 (h : Same m m' c) (t : Fin cfg0.N) (r : Fin 512) (x : Fin 16) : iblk m c 9 t (ix2 r x) = Z5 m' c (row t r) x := by
  unfold Z5; rw [h.2.2.2.2.2.2.2.2.2.1]
  blk_point [iblk, V, row, idx t]
theorem b10 (h : Same m m' c) (t : Fin cfg0.N) (r : Fin 512) (x : Fin 1024) : iblk m c 10 t (ix2 r x) = Z6 m' c (row t r) x := by
  unfold Z6; rw [h.2.2.2.2.2.2.2.2.2.2.1]
  blk_point [iblk, V, row, idx t]
theorem b11 (h : Same m m' c) (t : Fin cfg0.N) (r : Fin 512) (x : Fin 1024) : iblk m c 11 t (ix2 r x) = Z7 m' c (row t r) x := by
  unfold Z7; rw [h.2.2.2.2.2.2.2.2.2.2.2]
  blk_point [iblk, V, row, idx t]

/-- The gradient of the hidden states as the kernel writes it. -/
def dhK (i : Fin 4096) (j : Fin 1024) : EReal :=
  D m' c i j + Ideal.rsqrt (meanSq (H m' c i)) * (du m' c i j * G m' c j - H m' c i j * Ideal.rsqrt (meanSq (H m' c i))
    * Ideal.div (∑ x, du m' c i x * G m' c x * (H m' c i x * Ideal.rsqrt (meanSq (H m' c i)))) (Ideal.ofBits .f32 1149239296#32))

set_option maxHeartbeats 1600000 in
/-- Each grid point writes its rows of the hidden states' gradient. -/
theorem point12 (h : Same m m' c) (t : Fin cfg0.N) (r : Fin 512) (j : Fin 1024) :
    (outsAt0 m c t.val t.isLt).1 (ix2 r j) = dhK (m' := m') (c := c) (row t r) j := by
  by_cases h0 : t.val % 8 = 0
  · rw [outsAt0_A m c t h0]
    dsimp only
    frame_out
    pointwise [k0_pay1, k0_pay2, k0_pay3, k0_pay4, k0_pay5, k0_pay6, k0_pay7, k0_pay8, k0_pay9, k0_pay10]
    unfold dhK meanSq
    simp only [b0 h, b1 h, b2 h, b3 h, b4 h, b5 h, b6 h, b7 h, b8 h, b9 h, b10 h, b11 h, du_pieces]
  · rw [outsAt0_B m c t h0]
    dsimp only
    frame_out
    pointwise [k0_pay1, k0_pay2, k0_pay3, k0_pay4, k0_pay5, k0_pay6, k0_pay7, k0_pay8, k0_pay9, k0_pay10]
    unfold dhK meanSq
    simp only [b0 h, b1 h, b2 h, b3 h, b4 h, b5 h, b6 h, b7 h, b8 h, b9 h, b10 h, b11 h, du_pieces]

/-- What grid point `t` adds to the gradient of the norm's weights. -/
def dgK (t : Fin cfg0.N) (j : Fin 1024) : EReal := ∑ r : Fin 512, du m' c (row t r) j * (H m' c (row t r) j * Ideal.rsqrt (meanSq (H m' c (row t r))))

set_option maxHeartbeats 1600000 in
/-- The first grid point starts the sum. -/
theorem point13A (h : Same m m' c) (t : Fin cfg0.N) (h0 : t.val % 8 = 0) (i : S1x1024.Idx) :
    (outsAt0 m c t.val t.isLt).2 i = 0 + dgK (m' := m') (c := c) t (i 1) := by
  rw [outsAt0_A m c t h0]
  dsimp only
  frame_out
  idx_vars i
  pointwise [k0_pay1, k0_pay2, k0_pay3, k0_pay4, k0_pay5, k0_pay6, k0_pay7, k0_pay8, k0_pay9, k0_pay10]
  simp only [b0 h, b1 h, b2 h, b3 h, b4 h, b5 h, b6 h, b7 h, b8 h, b9 h, b10 h, b11 h]
  simp only [← du_pieces]
  rfl

set_option maxHeartbeats 1600000 in
/-- Each later grid point adds its rows' part. -/
theorem point13B (h : Same m m' c) (t : Fin cfg0.N) (h0 : ¬t.val % 8 = 0) (i : S1x1024.Idx) :
    (outsAt0 m c t.val t.isLt).2 i = (outsAt0 m c (t.val - 1) (Nat.lt_of_le_of_lt (Nat.sub_le _ _) t.isLt)).2 i + dgK (m' := m') (c := c) t (i 1) := by
  rw [outsAt0_B m c t h0]
  dsimp only
  frame_out
  idx_vars i
  pointwise [k0_pay1, k0_pay2, k0_pay3, k0_pay4, k0_pay5, k0_pay6, k0_pay7, k0_pay8, k0_pay9, k0_pay10]
  simp only [b0 h, b1 h, b2 h, b3 h, b4 h, b5 h, b6 h, b7 h, b8 h, b9 h, b10 h, b11 h]
  simp only [← du_pieces]
  rfl

end Cert.Pre

end
-- ==== Proof.Pre.Finite.lean ====
module

public import proofs.«01_k».proof.Defs
public import proofs.«01_k».proof.Proof.Gen.Pre_pre_finite
public import proofs.«01_k».proof.Proof.Pre.RefH
public import proofs.«01_k».proof.Proof.Pre.Value

@[expose] public section

set_option maxRecDepth 16384

noncomputable section

open Idealize.ShloMosaic Idealize.ShloMosaic.TcCoe Idealize.SL.Sem
open Idealize.ShloMosaic.Pipeline (Dat)

/-! The kernel's two arrays are the reference's, at finite arguments. -/

namespace Cert.Pre

open Cert.PreBwdIdeal Cert.PreBwdIdeal.Gen Cert.Norm

variable {m : (ℓ : Loc nD τ sig) → Buf (Elt Ideal) ℓ}
variable {m' : (ℓ : Loc Cert.PreRefIdeal.nD Cert.PreRefIdeal.τ Cert.PreRefIdeal.sig) → Buf (Elt Ideal) ℓ}
variable {c : Dev nD}

/-- Every entry that the gradient reads, the residual's cotangent apart, is a real number. -/
structure Finite (m' : (ℓ : Loc Cert.PreRefIdeal.nD Cert.PreRefIdeal.τ Cert.PreRefIdeal.sig) → Buf (Elt Ideal) ℓ) (c : Dev nD) : Prop where
  h i j : IsReal (H m' c i j)
  g j : IsReal (G m' c j)
  w j x : IsReal (Wt m' c j x)
  z i x : IsReal (dz m' c i x)

/-- The cotangent of the normalised rows is a real number. -/
theorem Finite.du (f : Finite m' c) (i : Fin 4096) (j : Fin 1024) : IsReal (du m' c i j) :=
  IsReal.sum fun x => (f.z i x).mul (f.w j x)

set_option maxHeartbeats 200000 in
/-- The precondition says that. -/
theorem finite_of_pre (h : Same m m' c) (hp : Cert.Pre_PreBwdIdeal_pre_finite (hPre_pre_finite := Cert.Pre_pre_finite.Gen.facts) m) : Finite m' c := by
  have e := congrFun (hp c) (fun k => k.elim0)
  unfold Cert.Pre_pre_finite.fn Cert.Pre_pre_finite.fn_part1 Cert.Pre_pre_finite.fn_part2 Cert.Pre_pre_finite.fn_part3 at e
  obtain ⟨e, e10⟩ := and_true e
  obtain ⟨e, e9⟩ := and_true e
  obtain ⟨e, e8⟩ := and_true e
  obtain ⟨e, e7⟩ := and_true e
  obtain ⟨e, e6⟩ := and_true e
  obtain ⟨e, e5⟩ := and_true e
  obtain ⟨e, e4⟩ := and_true e
  obtain ⟨e, e3⟩ := and_true e
  obtain ⟨e, e2⟩ := and_true e
  obtain ⟨e0, e1⟩ := and_true e
  obtain ⟨h0, h1, h2, -, h4, h5, h6, h7, h8, h9, h10, h11⟩ := h
  refine ⟨fun i j => ?_, fun j => ?_, fun j x => ?_, fun i x => ?_⟩
  · unfold H; rw [h0]; exact isReal_of_all _ _ _ _ _ e0 _
  · unfold G; rw [h1]; exact isReal_of_all _ _ _ _ _ e1 _
  · unfold Wt; rw [h2]; exact isReal_of_all _ _ _ _ _ e2 _
  · unfold dz
    split
    · unfold Z0; rw [h4]; exact isReal_of_all _ _ _ _ _ e3 _
    split
    · unfold Z1; rw [h5]; exact isReal_of_all _ _ _ _ _ e4 _
    split
    · unfold Z2; rw [h6]; exact isReal_of_all _ _ _ _ _ e5 _
    split
    · unfold Z3; rw [h7]; exact isReal_of_all _ _ _ _ _ e6 _
    split
    · unfold Z4; rw [h8]; exact isReal_of_all _ _ _ _ _ e7 _
    split
    · unfold Z5; rw [h9]; exact isReal_of_all _ _ _ _ _ e8 _
    split
    · unfold Z6; rw [h10]; exact isReal_of_all _ _ _ _ _ e9 _
    · unfold Z7; rw [h11]; exact isReal_of_all _ _ _ _ _ e10 _

end Cert.Pre

end
-- ==== Proof.Pre.Final.lean ====
module

public import proofs.«01_k».proof.Defs
public import proofs.«01_k».proof.Proof.Gen.Pre_pre_finite
public import proofs.«01_k».proof.Proof.Pre.RefH
public import proofs.«01_k».proof.Proof.Pre.Finite

@[expose] public section

set_option maxRecDepth 16384

noncomputable section

open Idealize.ShloMosaic Idealize.ShloMosaic.TcCoe Idealize.SL.Sem
open Idealize.ShloMosaic.Pipeline (Dat)

/-! The kernel's two arrays are the reference's, at finite arguments. -/

namespace Cert.Pre

open Cert.PreBwdIdeal Cert.PreBwdIdeal.Gen Cert.Norm

variable {m : (ℓ : Loc nD τ sig) → Buf (Elt Ideal) ℓ}
variable {m' : (ℓ : Loc Cert.PreRefIdeal.nD Cert.PreRefIdeal.τ Cert.PreRefIdeal.sig) → Buf (Elt Ideal) ℓ}
variable {c : Dev nD}

/-- At real numbers the hand-written gradient is the reference's. -/
theorem dhK_eq (f : Finite m' c) (i : Fin 4096) (j : Fin 1024) : dhK (m' := m') (c := c) i j = dh m' c i j := by
  unfold dhK dh
  rw [rms_grad (H m' c i) (fun x => Cert.Pre.du m' c i x * G m' c x) (f.h i) (fun x => (f.du i x).mul (f.g x)) j]
  simp only [add_assoc]

/-- The kernel's first array is the reference's first result. -/
theorem final12 (h : Same m m' c) (f : Finite m' c) :
    (dats m 0 c).arrAt 12 (cfgs 0).N = Cert.PreRefIdeal.Value.res_main_v52 m' c := by
  refine (dats m 0 c).arrAt_eq_of_covers 12 _ (by decide +kernel) fun t _ y => ?_
  blk_simp
  rw [after0_12]
  idx_vars y
  rw [point12 h, dhK_eq f]
  refine (v52 m' c _ _).symm.trans (congrArg _ ?_)
  blk_ext! [row, idx t]

/-- The kernel's second array is the gradient of the norm's weights. -/
theorem final13 (h : Same m m' c) (i : S1x1024.Idx) :
    ((dats m 0 c).arrAt 13 (cfgs 0).N : FVec Ideal S1x1024 .f32) i = dg m' c (i 1) := by
  have e : (dats m 0 c).arrAt 13 (cfgs 0).N = (fun i => dg m' c (i 1) : FVec Ideal S1x1024 .f32) := by
    refine (dats m 0 c).arrAt_eq_of_after_last 13 t0_7 (by decide +kernel) _ fun j => ?_
    blk_simp
    rw [after0_13, Pipeline.eq_sum_fin_of_reset_step_apply_last (fun n h => (outsAt0 m c n h).2) 8 (fun _ => 0) _
      (point13A h) (point13B h) (le_of_eq N_0) t0_7 rfl, zero_add]
    unfold dg dgK
    refine Fin.sum_mul_add_congr fun s k hl => ?_
    exact mul_comm (_ : EReal) _
  exact congrFun e i

end Cert.Pre

end
-- ==== Proof.Pre.Claims.lean ====
module

public import proofs.«01_k».proof.Proof.Gen.PreBwd.Frame
public import proofs.«01_k».proof.Proof.Pre.Final

@[expose] public section

set_option maxRecDepth 16384

noncomputable section

open Idealize.ShloMosaic Idealize.ShloMosaic.TcCoe Idealize.SL.Sem

/-! The claims about the backward pass of the mixer's input. -/

namespace Cert.Pre

open Cert.Norm

/-- The reference leaves its arguments unchanged and no semaphore counted up. -/
theorem ref_frame : Cert.quiescent_PreRefIdeal (hPreRefIdeal := Cert.PreRefIdeal.Gen.facts) := by
  intro m ρ _
  refine (θ_run Cert.PreRefIdeal.defs _ _).mono ?_ (Cert.PreRefIdeal.Value.run (F := Ideal) m ρ)
  intro r h
  refine ⟨fun c => ?_, Idealize.ShloMosaic.sem_eq_zero_of_no_sems (by decide) r.2⟩
  obtain ⟨-, -, ra⟩ := h c
  exact ra

set_option maxHeartbeats 1600000 in
/-- At finite arguments the kernel computes the gradients of the hidden states and of the norm's weights. -/
theorem value : Cert.algebraic_PreBwdIdeal_PreRefIdeal_pre_pre_finite (hPreBwdIdeal := Cert.PreBwdIdeal.Gen.facts)
    (hPreRefIdeal := Cert.PreRefIdeal.Gen.facts) (hPre_pre_finite := Cert.Pre_pre_finite.Gen.facts) := by
  pair_intro
  · run_from Cert.PreBwdIdeal.Gen.run_main m g
  · refine (θ_run Cert.PreRefIdeal.defs _ _).mono ?_ (Cert.PreRefIdeal.Value.run (F := Ideal) m' g')
    intro r h c
    obtain ⟨r0, r1, ra⟩ := h c
    have same : Same m m' c := hagree c
    have fin : Finite m' c := finite_of_pre same hpre
    refine ⟨?_, ?_, ra⟩
    · rw [r0]; exact (final12 same fin).symm
    · rw [r1]
      funext j
      refine Eq.trans ?_ (final13 same j).symm
      dsimp only [sh0, sh1, sh2, sh3, sh4, sh5, sh6, sh7, sh8, sh9, sh10, sh11]
      idx_vars j
      pointwise
      rfl

end Cert.Pre

end
-- ==== Proof.Norm.Scale.lean ====
module

public import proofs.«01_k».proof.Proof.Norm.Rms

@[expose] public section

noncomputable section

open Idealize.ShloMosaic

namespace Cert.Norm

/-- The word of 1/2. -/
theorem ofBits_half : Ideal.ofBits .f32 1056964608#32 = ((1 / 2 : ℝ) : EReal) := by
  simp [Ideal.ofBits, Ideal.ieee]; rw [← EReal.coe_mul]; norm_num

/-- The word of 1. -/
theorem ofBits_one : Ideal.ofBits .f32 1065353216#32 = ((1 : ℝ) : EReal) := by
  simp [Ideal.ofBits, Ideal.ieee]; rw [← EReal.coe_mul]; norm_num

/-- The word of 2. -/
theorem ofBits_two : Ideal.ofBits .f32 1073741824#32 = ((2 : ℝ) : EReal) := by
  simp [Ideal.ofBits, Ideal.ieee]; rw [← EReal.coe_mul]; norm_num

/-- The word of 1/1024. -/
theorem ofBits_inv_1024 : Ideal.ofBits .f32 981467136#32 = ((1 / 1024 : ℝ) : EReal) := by
  simp [Ideal.ofBits, Ideal.ieee]; rw [← EReal.coe_mul]; norm_num

/-- The word of 1/2048. -/
theorem ofBits_inv_2048 : Ideal.ofBits .f32 973078528#32 = ((1 / 2048 : ℝ) : EReal) := by
  simp [Ideal.ofBits, Ideal.ieee]; rw [← EReal.coe_mul]; norm_num

/-- A real factor that is not negative distributes over a sum of any two values. -/
theorem scale_add {r : ℝ} (h : 0 ≤ r) (x y : EReal) : (r : EReal) * (x + y) = r * x + r * y :=
  EReal.left_distrib_of_nonneg_of_ne_top (EReal.coe_nonneg.mpr h) (EReal.coe_ne_top r) x y

/-- So it does over a finite sum. -/
theorem scale_sum {ι : Type*} {r : ℝ} (h : 0 ≤ r) (s : Finset ι) (f : ι → EReal) : (r : EReal) * ∑ i ∈ s, f i = ∑ i ∈ s, (r : EReal) * f i := by
  classical
  induction s using Finset.induction_on with
  | empty => simp
  | insert a s ha ih => rw [Finset.sum_insert ha, Finset.sum_insert ha, scale_add h, ih]

/-- Scaled parts, added one after another, are the scaled sum. -/
theorem foldl_scale {ι : Type*} {r : ℝ} (h : 0 ≤ r) (f : ι → EReal) (l : List ι) (x : EReal) :
    l.foldl (fun e s => e + (r : EReal) * f s) x = x + (r : EReal) * (l.map f).sum := by
  induction l generalizing x with
  | nil => simp
  | cons a l ih => rw [List.foldl_cons, ih, List.map_cons, List.sum_cons, scale_add h, add_assoc]

/-- The logistic function of a real number is a real number. -/
theorem IsReal.logistic {x : EReal} : IsReal x → IsReal (Ideal.div 1 (1 + Ideal.exp (-x))) := by
  rintro ⟨a, rfl⟩
  refine ⟨1 * (1 / (1 + Real.exp (-a))), ?_⟩
  rw [← EReal.coe_neg, Ideal.exp_coe, ← EReal.coe_one, ← EReal.coe_add, Ideal.div_coe (by positivity), EReal.coe_mul]

/-- The reciprocal root of a mean square is a real number. -/
theorem IsReal.rsqrt_meanSq {n : ℕ} {x : Fin n → EReal} (h : ∀ j, IsReal (x j)) : IsReal (Ideal.rsqrt (meanSq x)) := by
  obtain ⟨s, hs, e⟩ := meanSq_pos x h
  rw [e, rsqrt_pos hs]; exact ⟨_, rfl⟩

end Cert.Norm

end
-- ==== Proof.Head.Ref.lean ====
module

public import proofs.«01_k».proof.Proof.Gen.HeadRefIdeal.Run
public import proofs.«01_k».proof.Proof.Norm.Scale
public import Idealize.ShloMosaic.Lib.Pointwise
public import Idealize.ShloMosaic.Lib.Claim

@[expose] public section

set_option maxRecDepth 16384

noncomputable section

open Idealize.ShloMosaic Idealize.ShloMosaic.TcCoe Idealize.SL.Sem Idealize.ShloMosaic.StableHlo

/-! The loss and its gradient, the reference's results, in layers. -/

namespace Cert.Head

open Cert.HeadRefIdeal Cert.HeadRefIdeal.Gen Cert.Norm

/-- The rows' mean squares, with ε. -/
def ms (x : FVec Ideal S4096x1024 .f32) : FVec Ideal S4096x1 .f32 :=
  addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- The normalised and weighted rows. -/
def nrm (x : FVec Ideal S4096x1024 .f32) (g : FVec Ideal S1x1024 .f32) : FVec Ideal S4096x1024 .f32 :=
  mulf (mulf x (broadcastInDim S4096x1024 ![0, 1] bcast_S4096x1_S4096x1024_0_1 (Host.rsqrt (ms x)))) (broadcastInDim S4096x1024 ![0, 1] bcast_S1x1024_S4096x1024_0_1 g)

/-- The hidden states behind the feed-forward layer. -/
def hid (n x : FVec Ideal S4096x1024 .f32) (w1 w3 : FVec Ideal S1024x2816 .f32) (w2 : FVec Ideal S2816x1024 .f32) : FVec Ideal S4096x1024 .f32 :=
  addf x (mulf (broadcastInDim S4096x1024 ![] bcast_S_S4096x1024 (constant S_ .f32 0x3F000000#32)) (Host.dotGeneral dot_S4096x2816_S2816x1024_S4096x1024_1_0_0_1_n_n none (mulf (mulf (Host.dotGeneral dot_S4096x1024_S1024x2816_S4096x2816_1_0_0_1_n_n none n w1) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (Host.dotGeneral dot_S4096x1024_S1024x2816_S4096x2816_1_0_0_1_n_n none n w1)))))) (Host.dotGeneral dot_S4096x1024_S1024x2816_S4096x2816_1_0_0_1_n_n none n w3)) w2))

/-- The error of the normalised and weighted rows. -/
def er (h : FVec Ideal S4096x1024 .f32) (gf : FVec Ideal S1024 .f32) (t : FVec Ideal S4096x1024 .f32) : FVec Ideal S4096x1024 .f32 :=
  subf (mulf (mulf h (broadcastInDim S4096x1024 ![0, 1] bcast_S4096x1_S4096x1024_0_1 (Host.rsqrt (ms h)))) (broadcastInDim S4096x1024 ![0, 1] bcast_S1x1024_S4096x1024_0_1 (broadcastInDim S1x1024 ![1] bcast_S1024_S1x1024_1 gf))) t

/-- The cotangent of the normalised and weighted rows. -/
def dn (h : FVec Ideal S4096x1024 .f32) (gf : FVec Ideal S1024 .f32) (t : FVec Ideal S4096x1024 .f32) : FVec Ideal S4096x1024 .f32 :=
  mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (er h gf t))

/-- The cotangent of the normalised rows. -/
def yy (h : FVec Ideal S4096x1024 .f32) (gf : FVec Ideal S1024 .f32) (t : FVec Ideal S4096x1024 .f32) : FVec Ideal S4096x1024 .f32 :=
  mulf (dn h gf t) (broadcastInDim S4096x1024 ![0, 1] bcast_S1x1024_S4096x1024_0_1 (broadcastInDim S1x1024 ![1] bcast_S1024_S1x1024_1 gf))

/-- The factor of the term through the mean square. -/
def kk (y h : FVec Ideal S4096x1024 .f32) : FVec Ideal S4096x1024 .f32 :=
  broadcastInDim S4096x1024 ![0] bcast_S4096_S4096x1024_0 (Host.reduceAdd (Host.divf (mulf (shapeCast _ (Host.reduceAdd (mulf h y) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (ms h)) (ms h)))) (broadcastInDim S4096x1 ![] bcast_S_S4096x1 (constant S_ .f32 0x44800000#32))) (constant S_ .f32 0x00000000#32) reducesTo_S4096x1_S4096_d1 h_S_)

/-- The gradient of the hidden states. -/
def dh (h : FVec Ideal S4096x1024 .f32) (gf : FVec Ideal S1024 .f32) (t : FVec Ideal S4096x1024 .f32) : FVec Ideal S4096x1024 .f32 :=
  addf (addf (mulf (yy h gf t) (broadcastInDim S4096x1024 ![0, 1] bcast_S4096x1_S4096x1024_0_1 (Host.rsqrt (ms h)))) (mulf h (kk (yy h gf t) h))) (mulf (kk (yy h gf t) h) h)

/-- The loss. -/
def loss (h : FVec Ideal S4096x1024 .f32) (gf : FVec Ideal S1024 .f32) (t : FVec Ideal S4096x1024 .f32) : FVec Ideal S1x1 .f32 :=
  shapeCast _ (mulf (constant S_ .f32 0x3F000000#32) (Host.reduceAdd (Host.divf (Host.reduceAdd (mulf (er h gf t) (er h gf t)) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_)) shapeCasts_S_S1x1

/-- The gradient of the last norm's weights. -/
def dg (h : FVec Ideal S4096x1024 .f32) (gf : FVec Ideal S1024 .f32) (t : FVec Ideal S4096x1024 .f32) : FVec Ideal S1x1024 .f32 :=
  shapeCast _ (Host.reduceAdd (shapeCast _ (Host.reduceAdd (mulf (mulf h (broadcastInDim S4096x1024 ![0, 1] bcast_S4096x1_S4096x1024_0_1 (Host.rsqrt (ms h)))) (dn h gf t)) (constant S_ .f32 0x00000000#32) reducesTo_S4096x1024_S1024_d0 h_S_) shapeCasts_S1024_S1x1024) (constant S_ .f32 0x00000000#32) reducesTo_S1x1024_S1024_d0 h_S_) shapeCasts_S1024_S1x1024

section
variable (m : (ℓ : Loc nD τ sig) → Buf (Elt Ideal) ℓ)

/-- The hidden states that the reference computes on device `c`. -/
abbrev hidden (c : Dev nD) : FVec Ideal S4096x1024 .f32 :=
  hid (nrm (m (c.tc.loc main_arg0)) (m (c.tc.loc main_arg1))) (m (c.tc.loc main_arg0)) (m (c.tc.loc main_arg2)) (m (c.tc.loc main_arg3)) (m (c.tc.loc main_arg4))

theorem v70 (c : Dev nD) : Value.res_main_v70 m c = dh (hidden m c) (m (c.tc.loc main_arg5)) (m (c.tc.loc main_arg6)) := rfl
theorem v71 (c : Dev nD) : Value.res_main_v71 m c = loss (hidden m c) (m (c.tc.loc main_arg5)) (m (c.tc.loc main_arg6)) := rfl
theorem v72 (c : Dev nD) : Value.res_main_v72 m c = dg (hidden m c) (m (c.tc.loc main_arg5)) (m (c.tc.loc main_arg6)) := rfl

end

theorem ms_at (x : FVec Ideal S4096x1024 .f32) (i : Fin 4096) (z : Fin 1) : ms x (ix2 i z) = meanSq fun j => x (ix2 i j) := by
  unfold ms; pointwise; rfl

theorem nrm_at (x : FVec Ideal S4096x1024 .f32) (g : FVec Ideal S1x1024 .f32) (i : Fin 4096) (j : Fin 1024) :
    nrm x g (ix2 i j) = x (ix2 i j) * Ideal.rsqrt (meanSq fun j => x (ix2 i j)) * g (ix2 0 j) := by
  unfold nrm; pointwise; rw [ms_at]

/-- One gated unit of the feed-forward layer, from its two products. -/
def gated (a b : EReal) : EReal := a * Ideal.div 1 (1 + Ideal.exp (-a)) * b

theorem hid_at (n x : FVec Ideal S4096x1024 .f32) (w1 w3 : FVec Ideal S1024x2816 .f32) (w2 : FVec Ideal S2816x1024 .f32) (i : Fin 4096) (j : Fin 1024) :
    hid n x w1 w3 w2 (ix2 i j) = x (ix2 i j) + ((1 / 2 : ℝ) : EReal)
      * ∑ f : Fin 2816, gated (∑ k, n (ix2 i k) * w1 (ix2 k f)) (∑ k, n (ix2 i k) * w3 (ix2 k f)) * w2 (ix2 f j) := by
  unfold hid; pointwise; rw [ofBits_half]; rfl

theorem er_at (h t : FVec Ideal S4096x1024 .f32) (gf : FVec Ideal S1024 .f32) (i : Fin 4096) (j : Fin 1024) :
    er h gf t (ix2 i j) = h (ix2 i j) * Ideal.rsqrt (meanSq fun j => h (ix2 i j)) * gf (ix1 j) - t (ix2 i j) := by
  unfold er; pointwise; rw [ms_at]

/-- The constants of the loss's derivative cancel. -/
theorem dn_at (h t : FVec Ideal S4096x1024 .f32) (gf : FVec Ideal S1024 .f32) (i : Fin 4096) (j : Fin 1024) :
    dn h gf t (ix2 i j) = er h gf t (ix2 i j) * ((1 / 1024 : ℝ) : EReal) := by
  unfold dn; pointwise
  rw [ofBits_half, ofBits_1024, ofBits_two, Ideal.div_coe (by norm_num), ← EReal.coe_mul, ← mul_assoc, ← EReal.coe_mul, mul_comm]
  norm_num

theorem yy_at (h t : FVec Ideal S4096x1024 .f32) (gf : FVec Ideal S1024 .f32) (i : Fin 4096) (j : Fin 1024) :
    yy h gf t (ix2 i j) = er h gf t (ix2 i j) * ((1 / 1024 : ℝ) : EReal) * gf (ix1 j) := by
  unfold yy; pointwise; rw [dn_at]

/-- The gradient of the hidden states is the derivative of the norm, which the hand-written line computes too. -/
theorem dh_at (h t : FVec Ideal S4096x1024 .f32) (gf : FVec Ideal S1024 .f32) (hh : ∀ i j, IsReal (h (ix2 i j)))
    (hy : ∀ i j, IsReal (yy h gf t (ix2 i j))) (i : Fin 4096) (j : Fin 1024) :
    dh h gf t (ix2 i j) = Ideal.rsqrt (meanSq fun j => h (ix2 i j)) * (yy h gf t (ix2 i j) - h (ix2 i j) * Ideal.rsqrt (meanSq fun j => h (ix2 i j))
        * Ideal.div (∑ k, yy h gf t (ix2 i k) * (h (ix2 i k) * Ideal.rsqrt (meanSq fun j => h (ix2 i j)))) (Ideal.ofBits .f32 1149239296#32)) := by
  rw [rms_grad (fun j => h (ix2 i j)) (fun j => yy h gf t (ix2 i j)) (hh i) (hy i) j]
  unfold dh kk; pointwise [ms_at, Fin.sum_univ_one]

/-- The loss, with its two constants as one. -/
theorem loss_at (h t : FVec Ideal S4096x1024 .f32) (gf : FVec Ideal S1024 .f32) (i : S1x1.Idx) :
    loss h gf t i = ((1 / 2048 : ℝ) : EReal) * ∑ r : Fin 4096, ∑ j : Fin 1024, er h gf t (ix2 r j) * er h gf t (ix2 r j) := by
  unfold loss; idx_vars i; pointwise
  rw [ofBits_half, ofBits_1024, scale_sum (by norm_num), scale_sum (by norm_num)]
  refine Finset.sum_congr rfl fun r _ => ?_
  rw [Ideal.div_coe (by norm_num), mul_comm (_ : EReal) (((1 / 1024 : ℝ)) : EReal), ← mul_assoc, ← EReal.coe_mul]
  norm_num

theorem dg_at (h t : FVec Ideal S4096x1024 .f32) (gf : FVec Ideal S1024 .f32) (z : Fin 1) (j : Fin 1024) :
    dg h gf t (ix2 z j) = ∑ r : Fin 4096, er h gf t (ix2 r j) * ((1 / 1024 : ℝ) : EReal) * (h (ix2 r j) * Ideal.rsqrt (meanSq fun j => h (ix2 r j))) := by
  unfold dg; pointwise [Fin.sum_univ_one]
  exact Finset.sum_congr rfl fun r _ => by rw [dn_at, ms_at, mul_comm]

end Cert.Head

end
-- ==== Proof.FfnFwd.Ref.lean ====
module

public import proofs.«01_k».proof.Proof.Gen.FfnFrefIdeal.Run
public import proofs.«01_k».proof.Proof.Head.Ref

@[expose] public section

set_option maxRecDepth 16384

noncomputable section

open Idealize.ShloMosaic Idealize.ShloMosaic.TcCoe Idealize.SL.Sem Idealize.ShloMosaic.StableHlo
open Idealize.ShloMosaic.Pipeline (Dat)

/-! The feed-forward layer of the reference, whose rows and states are those in front of the loss. -/

namespace Cert.FfnFwd

open Cert.FfnFrefIdeal Cert.FfnFrefIdeal.Gen Cert.Norm

/-- One of the two products in front of the gate. -/
def prod (n : FVec Ideal S4096x1024 .f32) (w : FVec Ideal S1024x2816 .f32) : FVec Ideal S4096x2816 .f32 :=
  Host.dotGeneral dot_S4096x1024_S1024x2816_S4096x2816_1_0_0_1_n_n none n w

/-- A product in eleven tiles, in the kernel's order. -/
def tiles (v : FVec Ideal S4096x2816 .f32) : FVec Ideal S11x4096x256 .bf16 :=
  transpose S11x4096x256 [1, 0, 2] (shapeCast _ (truncf .bf16 v bitsLt_bf16_f32) shapeCasts_S4096x2816_S4096x11x256) transposes_S4096x11x256_S11x4096x256_1_0_2

theorem tiles_at (n : FVec Ideal S4096x1024 .f32) (w : FVec Ideal S1024x2816 .f32) (s : Fin 11) (i : Fin 4096) (k : Fin 256) :
    tiles (prod n w) (ix3 s i k) = ∑ l, n (ix2 i l) * w (ix2 l ⟨s.val * 256 + k.val, by omega⟩) := by
  unfold tiles prod; pointwise

end Cert.FfnFwd

end
-- ==== Proof.FfnFwd.Value.lean ====
module

public import proofs.«01_k».proof.Proof.Gen.FfnFwdIdeal.Frame
public import proofs.«01_k».proof.Proof.FfnFwd.Ref
public import Idealize.ShloMosaic.Lib.Pipeline.ValueKit

@[expose] public section

set_option maxRecDepth 16384

noncomputable section

open Idealize.ShloMosaic Idealize.ShloMosaic.TcCoe Idealize.SL.Sem Idealize.ShloMosaic.StableHlo
open Idealize.ShloMosaic.Pipeline (Dat)

/-! What a feed-forward layer's kernel computes, block by block. -/

namespace Cert.FfnFwd

open Cert.FfnFwdIdeal Cert.FfnFwdIdeal.Gen Cert.Norm
open Cert.Head (gated)

/-- The rows `s * 256 … s * 256 + 255` of a matrix of 2816 rows. -/
abbrev rows (w : Vec Ideal S2816x1024 .bf16) (s : Fin 11) : Vec Ideal S256x1024 .bf16 :=
  View.ld w (Rect.unit ![s.val * 256, 0] ![256, 1024] (by revert s; decide))

/-- What the kernel's step `s` makes of the accumulated rows. -/
def step (n : FVec Ideal S512x1024 .bf16) (w1 w3 w2 : Vec Ideal S2816x1024 .bf16) (acc : FVec Ideal S512x1024 .f32) (s : Fin 11) : FVec Ideal S512x1024 .f32 :=
  k0_pay2 (k0_pay61 n (rows w1 s)) (k0_pay62 n (rows w3 s)) acc (rows w2 s)

/-- The rows after all eleven steps. -/
def acc (n : FVec Ideal S512x1024 .bf16) (w1 w3 w2 : Vec Ideal S2816x1024 .bf16) (x : FVec Ideal S512x1024 .f32) : FVec Ideal S512x1024 .f32 :=
  [0, 1, 2, 3, 4, 5, 6, 7, 8, 9, 10].foldl (step n w1 w3 w2) x

/-- Step `s`'s part of the product, without its factor 1/2. -/
def part (n : FVec Ideal S512x1024 .bf16) (w1 w3 w2 : Vec Ideal S2816x1024 .bf16) (r : Fin 512) (j : Fin 1024) (s : Fin 11) : EReal := ∑ k : Fin 256,
  gated (∑ x, n (ix2 r x) * w1 (ix2 ⟨s.val * 256 + k.val, by omega⟩ x)) (∑ x, n (ix2 r x) * w3 (ix2 ⟨s.val * 256 + k.val, by omega⟩ x))
    * w2 (ix2 ⟨s.val * 256 + k.val, by omega⟩ j)

theorem step_at (n : FVec Ideal S512x1024 .bf16) (w1 w3 w2 : Vec Ideal S2816x1024 .bf16) (a : FVec Ideal S512x1024 .f32) (s : Fin 11) (r : Fin 512) (j : Fin 1024) :
    step n w1 w3 w2 a s (ix2 r j) = a (ix2 r j) + ((1 / 2 : ℝ) : EReal) * part n w1 w3 w2 r j s := by
  unfold step rows
  pointwise [k0_pay2, k0_pay61, k0_pay62]
  rw [ofBits_half]; rfl

/-- All steps together add the whole product. -/
theorem acc_at (n : FVec Ideal S512x1024 .bf16) (w1 w3 w2 : Vec Ideal S2816x1024 .bf16) (a : FVec Ideal S512x1024 .f32) (r : Fin 512) (j : Fin 1024) :
    acc n w1 w3 w2 a (ix2 r j) = a (ix2 r j) + ((1 / 2 : ℝ) : EReal) * ∑ f : Fin 2816,
      gated (∑ x, n (ix2 r x) * w1 (ix2 f x)) (∑ x, n (ix2 r x) * w3 (ix2 f x)) * w2 (ix2 f j) := by
  have e (l : List (Fin 11)) : ∀ b : FVec Ideal S512x1024 .f32, l.foldl (step n w1 w3 w2) b (ix2 r j)
      = l.foldl (fun e s => e + ((1 / 2 : ℝ) : EReal) * part n w1 w3 w2 r j s) (b (ix2 r j)) := by
    induction l with
    | nil => exact fun b => rfl
    | cons s l ih => exact fun b => by rw [List.foldl_cons, ih, step_at, List.foldl_cons]
  unfold acc
  rw [e, foldl_scale (by norm_num), show [(0 : Fin 11), 1, 2, 3, 4, 5, 6, 7, 8, 9, 10] = List.finRange 11 from rfl, ← Fin.sum_univ_def]
  refine congrArg (fun z : EReal => a (ix2 r j) + ((1 / 2 : ℝ) : EReal) * z) ?_
  exact Fin.sum_mul_add_congr fun s k hl => rfl

/-- The place of tile `s` among the eleven. -/
abbrev slot (s : Fin 11) : Rect S11x512x256 := Rect.unit ![s.val, 0, 0] ![1, 512, 256] (by revert s; decide)

/-- Eleven tiles, stored one after another. -/
def slots (w : Fin 11 → Vec Ideal S1x512x256 .bf16) : Vec Ideal S11x512x256 .bf16 :=
  View.canon (([10, 9, 8, 7, 6, 5, 4, 3, 2, 1, 0] : List (Fin 11)).map fun s => ⟨slot s, w s⟩)

theorem slots_at (w : Fin 11 → Vec Ideal S1x512x256 .bf16) (s : Fin 11) (r : Fin 512) (k : Fin 256) : slots w (ix3 s r k) = w s (ix3 0 r k) := by
  have e (g : Fin 11) (x : Fin 1) (y : Fin 512) (z : Fin 256) : (slot g).emb (ix3 x y z) = ix3 g y z := by blk_ext! []
  refine View.canon_apply_of_pieces (fun y : S11x512x256.Idx => w (y 0) (ix3 0 (y 1) (y 2))) _ (fun p hp x => ?_) _ ?_
  · obtain ⟨g, -, rfl⟩ := List.mem_map.mp hp
    idx_vars x
    rw [e]
    obtain rfl : x0 = 0 := Subsingleton.elim _ _
    rfl
  · refine ⟨⟨slot s, w s⟩, List.mem_map.mpr ⟨s, by revert s; decide, rfl⟩, ?_⟩
    rw [← e s 0, ← Rect.map_emb_univ]; exact Finset.mem_map_of_mem _ (Finset.mem_univ _)

/-- Tile `s` of each of the two products. -/
def aT (n : FVec Ideal S512x1024 .bf16) (w : Vec Ideal S2816x1024 .bf16) (s : Fin 11) : Vec Ideal S1x512x256 .bf16 := k0_pay63 n (rows w s)
def bT (n : FVec Ideal S512x1024 .bf16) (w : Vec Ideal S2816x1024 .bf16) (s : Fin 11) : Vec Ideal S1x512x256 .bf16 := k0_pay1 (k0_pay64 n (rows w s))

theorem aT_at (n : FVec Ideal S512x1024 .bf16) (w : Vec Ideal S2816x1024 .bf16) (s : Fin 11) (r : Fin 512) (k : Fin 256) :
    aT n w s (ix3 0 r k) = ∑ x, n (ix2 r x) * w (ix2 ⟨s.val * 256 + k.val, by omega⟩ x) := by
  unfold aT rows; pointwise [k0_pay61, k0_pay63]

theorem bT_at (n : FVec Ideal S512x1024 .bf16) (w : Vec Ideal S2816x1024 .bf16) (s : Fin 11) (r : Fin 512) (k : Fin 256) :
    bT n w s (ix3 0 r k) = ∑ x, n (ix2 r x) * w (ix2 ⟨s.val * 256 + k.val, by omega⟩ x) := by
  unfold bT rows; pointwise [k0_pay1, k0_pay62, k0_pay64]

variable (m : (ℓ : Loc nD τ sig) → Buf (Elt Ideal) ℓ) (c : Dev nD)

/-- The block's normalised and weighted rows. -/
abbrev nb (t : Fin cfg0.N) : FVec Ideal S512x1024 .bf16 := k0_pay3 (iblk m c 0 t) (iblk m c 1 t)

set_option maxHeartbeats 1600000 in
/-- What a grid point leaves in the four results' blocks. -/
theorem out5 (t : Fin cfg0.N) : (outsAt0 m c t).1 = acc (nb m c t) (iblk m c 2 t) (iblk m c 3 t) (iblk m c 4 t) (iblk m c 0 t) := by
  dsimp only [outsAt0]; unfold out0_A_5; frame_out; rfl

set_option maxHeartbeats 1600000 in
theorem out6 (t : Fin cfg0.N) : (outsAt0 m c t).2.1 = slots (aT (nb m c t) (iblk m c 2 t)) := by
  dsimp only [outsAt0]; unfold out0_A_6; frame_out; rfl

set_option maxHeartbeats 1600000 in
theorem out7 (t : Fin cfg0.N) : (outsAt0 m c t).2.2.1 = slots (bT (nb m c t) (iblk m c 3 t)) := by
  dsimp only [outsAt0]; unfold out0_A_7; frame_out; rfl

theorem out8 (t : Fin cfg0.N) : (outsAt0 m c t).2.2.2 = nb m c t := by
  dsimp only [outsAt0]; unfold out0_A_8; frame_out

end Cert.FfnFwd

end
-- ==== Proof.Head.Value.lean ====
module

public import proofs.«01_k».proof.Proof.Gen.HeadIdeal.Frame
public import proofs.«01_k».proof.Proof.FfnFwd.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! What the last feed-forward layer's kernel, with the loss and its gradient, computes, block by block. -/

namespace Cert.Head

open Cert.HeadIdeal Cert.HeadIdeal.Gen Cert.Norm
open Cert.FfnFwd (rows slots slots_at aT aT_at bT bT_at tiles tiles_at prod)

/-- What the kernel's step `s` makes of the accumulated rows. -/
def step (n : FVec Ideal S512x1024 .bf16) (w1 w3 w2 : Vec Ideal S2816x1024 .bf16) (a : FVec Ideal S512x1024 .f32) (s : Fin 11) : FVec Ideal S512x1024 .f32 :=
  k0_pay64 (k0_pay59 n (rows w1 s)) (k0_pay60 n (rows w3 s)) a (rows w2 s)

/-- It is the first layer's step. -/
theorem step_eq (n : FVec Ideal S512x1024 .bf16) (w1 w3 w2 : Vec Ideal S2816x1024 .bf16) : step n w1 w3 w2 = Cert.FfnFwd.step n w1 w3 w2 := by
  funext a s y
  idx_vars y
  refine Eq.trans ?_ (Cert.FfnFwd.step_at n w1 w3 w2 a s y0 y1).symm
  unfold step rows
  pointwise [k0_pay59, k0_pay60, k0_pay64]
  rw [ofBits_half]; rfl

/-- The rows after all eleven steps. -/
def acc (n : FVec Ideal S512x1024 .bf16) (w1 w3 w2 : Vec Ideal S2816x1024 .bf16) (x : FVec Ideal S512x1024 .f32) : FVec Ideal S512x1024 .f32 :=
  [0, 1, 2, 3, 4, 5, 6, 7, 8, 9, 10].foldl (step n w1 w3 w2) x

theorem acc_at (n : FVec Ideal S512x1024 .bf16) (w1 w3 w2 : Vec Ideal S2816x1024 .bf16) (a : FVec Ideal S512x1024 .f32) (r : Fin 512) (j : Fin 1024) :
    acc n w1 w3 w2 a (ix2 r j) = a (ix2 r j) + ((1 / 2 : ℝ) : EReal) * ∑ f : Fin 2816,
      gated (∑ x, n (ix2 r x) * w1 (ix2 f x)) (∑ x, n (ix2 r x) * w3 (ix2 f x)) * w2 (ix2 f j) := by
  unfold acc; rw [step_eq]; exact Cert.FfnFwd.acc_at ..

/-- The error of a block's normalised rows. -/
abbrev eb (h : FVec Ideal S512x1024 .f32) (g : FVec Ideal S1x1024 .f32) (t : FVec Ideal S512x1024 .f32) (r : Fin 512) (j : Fin 1024) : EReal :=
  h (ix2 r j) * Ideal.rsqrt (meanSq fun j => h (ix2 r j)) * g (ix2 0 j) - t (ix2 r j)

theorem pay73_at (h t : FVec Ideal S512x1024 .f32) (g : FVec Ideal S1x1024 .f32) (p : FVec Ideal S1x1 .f32) (i : S1x1.Idx) :
    k0_pay73 h (k0_pay65 g) t (k0_pay66 h) p i = p i + ((1 / 2048 : ℝ) : EReal) * ∑ r, ∑ j, eb h g t r j * eb h g t r j := by
  idx_vars i
  pointwise [k0_pay65, k0_pay66, k0_pay67, k0_pay68, k0_pay73]
  rw [ofBits_inv_2048]; rfl

theorem pay70_at (h t : FVec Ideal S512x1024 .f32) (g : FVec Ideal S1x1024 .f32) (r : Fin 512) (j : Fin 1024) :
    k0_pay70 (F := Ideal) h (k0_pay65 g) t (k0_pay66 h) (ix2 r j) = Ideal.rsqrt (meanSq fun j => h (ix2 r j)) * (eb h g t r j * ((1 / 1024 : ℝ) : EReal) * g (ix2 0 j)
      - h (ix2 r j) * Ideal.rsqrt (meanSq fun j => h (ix2 r j)) * Ideal.div (∑ k, eb h g t r k * ((1 / 1024 : ℝ) : EReal) * g (ix2 0 k)
        * (h (ix2 r k) * Ideal.rsqrt (meanSq fun j => h (ix2 r j)))) (Ideal.ofBits .f32 1149239296#32)) := by
  pointwise [k0_pay65, k0_pay66, k0_pay67, k0_pay68, k0_pay69, k0_pay70]
  rw [ofBits_inv_1024]; rfl

theorem pay74_at (h t : FVec Ideal S512x1024 .f32) (g p : FVec Ideal S1x1024 .f32) (z : Fin 1) (j : Fin 1024) :
    k0_pay74 (F := Ideal) h (k0_pay65 g) t (k0_pay66 h) p (ix2 z j) = p (ix2 z j) + ∑ r, eb h g t r j * ((1 / 1024 : ℝ) : EReal)
      * (h (ix2 r j) * Ideal.rsqrt (meanSq fun j => h (ix2 r j))) := by
  obtain rfl : z = 0 := Subsingleton.elim _ _
  pointwise [k0_pay65, k0_pay66, k0_pay67, k0_pay68, k0_pay69, k0_pay74]
  rw [ofBits_inv_1024]; rfl

theorem pay71_at (i : S1x1.Idx) : k0_pay71 (F := Ideal) i = 0 := by idx_vars i; pointwise [k0_pay71]
theorem pay72_at (i : S1x1024.Idx) : k0_pay72 (F := Ideal) i = 0 := by idx_vars i; pointwise [k0_pay72]

variable (m : (ℓ : Loc nD τ sig) → Buf (Elt Ideal) ℓ) (c : Dev nD)

/-- The block's normalised and weighted rows. -/
abbrev nb (t : Fin cfg0.N) : FVec Ideal S512x1024 .bf16 := k0_pay1 (iblk m c 0 t) (iblk m c 1 t)

/-- The block's hidden states. -/
abbrev hb (t : Fin cfg0.N) : FVec Ideal S512x1024 .f32 :=
  acc (nb m c t) (iblk m c 2 t) (iblk m c 3 t) (iblk m c 4 t) (k0_pay2 (iblk m c 0 t))

/-- What a grid point leaves in the three results' blocks, from the two sums before it. -/
abbrev outs (t : Fin cfg0.N) (l : FVec Ideal S1x1 .f32) (d : FVec Ideal S1x1024 .f32) (o : FVec Ideal S1x1 .f32 × FVec Ideal S512x1024 .f32 × FVec Ideal S1x1024 .f32 × Unit) : Prop :=
  o.1 = k0_pay73 (hb m c t) (k0_pay65 (iblk m c 5 t)) (iblk m c 6 t) (k0_pay66 (hb m c t)) l
  ∧ o.2.1 = k0_pay70 (hb m c t) (k0_pay65 (iblk m c 5 t)) (iblk m c 6 t) (k0_pay66 (hb m c t))
  ∧ o.2.2.1 = k0_pay74 (hb m c t) (k0_pay65 (iblk m c 5 t)) (iblk m c 6 t) (k0_pay66 (hb m c t)) d

set_option maxHeartbeats 1600000 in
/-- The first grid point starts both sums from zero. -/
theorem outsA (t : Fin cfg0.N) (h0 : t.val % 8 = 0) : outs m c t (k0_pay71 (F := Ideal)) (k0_pay72 (F := Ideal))
    ((outsAt0 m c t.val t.isLt).1, (outsAt0 m c t.val t.isLt).2.1, (outsAt0 m c t.val t.isLt).2.2.1, ()) := by
  rw [outsAt0_A m c t h0]
  refine ⟨?_, ?_, ?_⟩ <;> dsimp only <;> frame_out <;> rfl

set_option maxHeartbeats 1600000 in
/-- Each later grid point continues them. -/
theorem outsB (t : Fin cfg0.N) (h0 : ¬t.val % 8 = 0) :
    outs m c t (outsAt0 m c (t.val - 1) (Nat.lt_of_le_of_lt (Nat.sub_le _ _) t.isLt)).1 (outsAt0 m c (t.val - 1) (Nat.lt_of_le_of_lt (Nat.sub_le _ _) t.isLt)).2.2.1
      ((outsAt0 m c t.val t.isLt).1, (outsAt0 m c t.val t.isLt).2.1, (outsAt0 m c t.val t.isLt).2.2.1, ()) := by
  rw [outsAt0_B m c t h0]
  refine ⟨?_, ?_, ?_⟩ <;> dsimp only <;> frame_out <;> rfl

/-- What the second result's block holds does not depend on the sums. -/
theorem out8 (t : Fin cfg0.N) :
    (outsAt0 m c t.val t.isLt).2.1 = k0_pay70 (F := Ideal) (hb m c t) (k0_pay65 (iblk m c 5 t)) (iblk m c 6 t) (k0_pay66 (hb m c t)) := by
  by_cases h0 : t.val % 8 = 0
  · exact (outsA m c t h0).2.1
  · exact (outsB m c t h0).2.1

set_option maxHeartbeats 3200000 in
/-- What it leaves in the blocks of the three results that the gradient reads: they do not depend on the sums either. -/
theorem outsS (t : Fin cfg0.N) : (outsAt0 m c t.val t.isLt).2.2.2.1 = slots (aT (nb m c t) (iblk m c 2 t))
    ∧ (outsAt0 m c t.val t.isLt).2.2.2.2.1 = slots (bT (nb m c t) (iblk m c 3 t)) ∧ (outsAt0 m c t.val t.isLt).2.2.2.2.2 = nb m c t := by
  by_cases h0 : t.val % 8 = 0
  · rw [outsAt0_A m c t h0]
    refine ⟨?_, ?_, ?_⟩ <;> dsimp only <;> frame_out <;> rfl
  · rw [outsAt0_B m c t h0]
    refine ⟨?_, ?_, ?_⟩ <;> dsimp only <;> frame_out <;> rfl

end Cert.Head

end
-- ==== Proof.Head.Final.lean ====
module

public import proofs.«01_k».proof.Proof.Head.Value

@[expose] public section

set_option maxRecDepth 16384

noncomputable section

open Idealize.ShloMosaic Idealize.ShloMosaic.TcCoe Idealize.SL.Sem
open Idealize.ShloMosaic.Pipeline (Dat)

/-! The kernel's arrays are the reference's, at finite arguments. -/

namespace Cert.Head

open Cert.HeadIdeal Cert.HeadIdeal.Gen Cert.Norm
open Cert.FfnFwd (slots slots_at aT aT_at bT bT_at tiles tiles_at prod)

/-- The place of row `r` of block `t` in the whole array. -/
def row (t : Fin cfg0.N) (r : Fin 512) : Fin 4096 := ⟨t.val * 512 + r.val, by have := t.isLt; have h : cfg0.N = 8 := rfl; have := r.isLt; omega⟩

theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![t.val, 0] ∧ win0_7.index t = ![0, 0] ∧ win0_8.index t = ![t.val, 0]
    ∧ win0_9.index t = ![0, 0]
    ∧ win0_10.index t = ![0, t.val, 0] ∧ win0_11.index t = ![0, t.val, 0] ∧ win0_12.index t = ![t.val, 0] :=
  (by decide +kernel : ∀ t : Fin grid0.N, _)

section
variable (m : (ℓ : Loc nD τ sig) → Buf (Elt Ideal) ℓ) (c : Dev nD)

/-- The kernel's arguments on device `c`: the layer's input, the two norms' weights, the three matrices and the targets. -/
abbrev X : FVec Ideal S4096x1024 .f32 := m (c.tc.loc main_arg0)
abbrev G : FVec Ideal S1x1024 .f32 := m (c.tc.loc main_arg1)
abbrev W1 : FVec Ideal S1024x2816 .f32 := m (c.tc.loc main_arg2)
abbrev W3 : FVec Ideal S1024x2816 .f32 := m (c.tc.loc main_arg3)
abbrev W2 : FVec Ideal S2816x1024 .f32 := m (c.tc.loc main_arg4)
abbrev GF : FVec Ideal S1024 .f32 := m (c.tc.loc main_arg5)
abbrev T : FVec Ideal S4096x1024 .f32 := m (c.tc.loc main_arg6)

/-- The hidden states behind the layer. -/
abbrev HID : FVec Ideal S4096x1024 .f32 := hid (nrm (X m c) (G m c)) (X m c) (W1 m c) (W3 m c) (W2 m c)

/-- Every entry of the arguments is a real number. -/
structure Finite : Prop where
  x i : IsReal (X m c i)
  g i : IsReal (G m c i)
  w1 i : IsReal (W1 m c i)
  w3 i : IsReal (W3 m c i)
  w2 i : IsReal (W2 m c i)
  gf i : IsReal (GF m c i)
  t i : IsReal (T m c i)
end

variable {m : (ℓ : Loc nD τ sig) → Buf (Elt Ideal) ℓ} {c : Dev nD}

theorem Finite.nrm (f : Finite m c) (i : Fin 4096) (j : Fin 1024) : IsReal (Cert.Head.nrm (X m c) (G m c) (ix2 i j)) := by
  rw [nrm_at]; exact ((f.x _).mul (IsReal.rsqrt_meanSq fun j => f.x _)).mul (f.g _)

theorem Finite.hid (f : Finite m c) (i : Fin 4096) (j : Fin 1024) : IsReal (HID m c (ix2 i j)) := by
  unfold HID; rw [hid_at]
  have p (w : FVec Ideal S1024x2816 .f32) (hw : ∀ i, IsReal (w i)) (k : Fin 2816) : IsReal (∑ l, Cert.Head.nrm (X m c) (G m c) (ix2 i l) * w (ix2 l k)) :=
    IsReal.sum fun l => (f.nrm i l).mul (hw _)
  exact (f.x _).add ((IsReal.coe _).mul (IsReal.sum fun k => ((((p _ f.w1 k).mul (p _ f.w1 k).logistic).mul (p _ f.w3 k)).mul (f.w2 _))))

theorem Finite.yy (f : Finite m c) (i : Fin 4096) (j : Fin 1024) : IsReal (Cert.Head.yy (HID m c) (GF m c) (T m c) (ix2 i j)) := by
  rw [yy_at, er_at]
  exact ((((((f.hid i j).mul (IsReal.rsqrt_meanSq fun j => f.hid i j)).mul (f.gf _)).sub (f.t _)).mul (IsReal.coe _)).mul (f.gf _))

theorem b0 (t : Fin cfg0.N) (r : Fin 512) (j : Fin 1024) : iblk m c 0 t (ix2 r j) = X m c (ix2 (row t r) j) := by
  blk_point [iblk, V, row, idx t]
theorem b1 (t : Fin cfg0.N) (j : Fin 1024) : iblk m c 1 t (ix2 (0 : Fin 1) j) = G m c (ix2 0 j) := by
  blk_point [iblk, V, idx t]
theorem b2 (t : Fin cfg0.N) (k : Fin 2816) (j : Fin 1024) : iblk m c 2 t (ix2 k j) = W1 m c (ix2 j k) := by
  have e : iblk m c 2 t = V m c main_v1 := by blk_ext! [iblk, idx t]
  rw [e]; entry_read; pointwise
theorem b3 (t : Fin cfg0.N) (k : Fin 2816) (j : Fin 1024) : iblk m c 3 t (ix2 k j) = W3 m c (ix2 j k) := by
  have e : iblk m c 3 t = V m c main_v3 := by blk_ext! [iblk, idx t]
  rw [e]; entry_read; pointwise
theorem b4 (t : Fin cfg0.N) (k : Fin 2816) (j : Fin 1024) : iblk m c 4 t (ix2 k j) = W2 m c (ix2 k j) := by
  have e : iblk m c 4 t = V m c main_v4 := by blk_ext! [iblk, idx t]
  rw [e]; entry_read; pointwise
theorem b5 (t : Fin cfg0.N) (j : Fin 1024) : iblk m c 5 t (ix2 (0 : Fin 1) j) = GF m c (ix1 j) := by
  have e : iblk m c 5 t = V m c main_v5 := by blk_ext! [iblk, idx t]
  rw [e]; entry_read; pointwise
theorem b6 (t : Fin cfg0.N) (r : Fin 512) (j : Fin 1024) : iblk m c 6 t (ix2 r j) = T m c (ix2 (row t r) j) := by
  blk_point [iblk, V, row, idx t]

/-- A block's normalised rows are the array's. -/
theorem nb_at (t : Fin cfg0.N) (r : Fin 512) (k : Fin 1024) : nb m c t (ix2 r k) = Cert.Head.nrm (X m c) (G m c) (ix2 (row t r) k) := by
  rw [nrm_at]
  unfold nb
  pointwise [k0_pay1]
  simp only [b0, b1]; rfl

/-- A block's hidden states are the array's. -/
theorem hb_at (t : Fin cfg0.N) (r : Fin 512) (j : Fin 1024) : hb m c t (ix2 r j) = HID m c (ix2 (row t r) j) := by
  unfold HID; rw [hid_at, hb, acc_at]
  simp only [nb_at, b2, b3, b4]
  congr 1
  pointwise [k0_pay2]
  exact b0 t r j

/-- A block's errors are the array's. -/
theorem eb_eq (t : Fin cfg0.N) (r : Fin 512) (j : Fin 1024) :
    eb (hb m c t) (iblk m c 5 t) (iblk m c 6 t) r j = er (HID m c) (GF m c) (T m c) (ix2 (row t r) j) := by
  rw [er_at]; unfold eb; rw [b5, b6]; simp only [hb_at]

/-- The kernel's second array is the gradient of the hidden states. -/
theorem final8 (f : Finite m c) : (dats m 0 c).arrAt 8 (cfgs 0).N = dh (HID m c) (GF m c) (T m c) := by
  refine (dats m 0 c).arrAt_eq_of_covers 8 _ (by decide +kernel) fun t _ y => ?_
  blk_simp
  rw [after0_8]
  rw [out8]
  idx_vars y
  rw [pay70_at]
  simp only [eb_eq, hb_at, b5, ← yy_at]
  refine (dh_at _ _ _ f.hid f.yy _ _).symm.trans (congrArg _ ?_)
  blk_ext! [row, idx t]

set_option maxHeartbeats 1600000 in
/-- The kernel's first array is the loss. -/
theorem final7 : (dats m 0 c).arrAt 7 (cfgs 0).N = loss (HID m c) (GF m c) (T m c) := by
  refine (dats m 0 c).arrAt_eq_of_after_last 7 t0_7 (by decide +kernel) _ fun j => ?_
  blk_simp
  rw [after0_7, Pipeline.eq_sum_fin_of_reset_step_apply_last (fun n h => (outsAt0 m c n h).1) 8 (fun _ => 0) (fun t _ => ((1 / 2048 : ℝ) : EReal) *
    ∑ r, ∑ j, eb (hb m c t) (iblk m c 5 t) (iblk m c 6 t) r j * eb (hb m c t) (iblk m c 5 t) (iblk m c 6 t) r j)
    (fun t h0 i => by rw [(outsA m c t h0).1, pay73_at, pay71_at])
    (fun t h0 i => by rw [(outsB m c t h0).1, pay73_at]) (le_of_eq N_0) t0_7 rfl, zero_add]
  rw [loss_at, ← scale_sum (by norm_num)]
  simp only [eb_eq]
  refine congrArg (fun z : EReal => ((1 / 2048 : ℝ) : EReal) * z) ?_
  exact Fin.sum_mul_add_congr fun s k hl => rfl

/-- The fourth and the fifth are the products in front of the gate, in tiles. -/
theorem final10 : (dats m 0 c).arrAt 10 (cfgs 0).N = tiles (prod (Cert.Head.nrm (X m c) (G m c)) (W1 m c)) := by
  refine (dats m 0 c).arrAt_eq_of_covers 10 _ (by decide +kernel) fun t _ y => ?_
  blk_simp
  rw [after0_10, (outsS m c t).1]
  idx_vars y
  rw [slots_at, aT_at]
  simp only [nb_at, b2]
  refine (tiles_at _ _ _ _ _).symm.trans (congrArg _ ?_)
  blk_ext! [row, idx t]

theorem final11 : (dats m 0 c).arrAt 11 (cfgs 0).N = tiles (prod (Cert.Head.nrm (X m c) (G m c)) (W3 m c)) := by
  refine (dats m 0 c).arrAt_eq_of_covers 11 _ (by decide +kernel) fun t _ y => ?_
  blk_simp
  rw [after0_11, (outsS m c t).2.1]
  idx_vars y
  rw [slots_at, bT_at]
  simp only [nb_at, b3]
  refine (tiles_at _ _ _ _ _).symm.trans (congrArg _ ?_)
  blk_ext! [row, idx t]

/-- The sixth is the normalised rows. -/
theorem final12 : (dats m 0 c).arrAt 12 (cfgs 0).N = Cert.Head.nrm (X m c) (G m c) := by
  refine (dats m 0 c).arrAt_eq_of_covers 12 _ (by decide +kernel) fun t _ y => ?_
  blk_simp
  rw [after0_12, (outsS m c t).2.2]
  idx_vars y
  rw [nb_at]
  refine congrArg (Cert.Head.nrm (X m c) (G m c)) (a₁ := ix2 (row t y0) y1) ?_
  blk_ext! [row, idx t]

end Cert.Head

end
-- ==== Proof.Head.Weights.lean ====
module

public import proofs.«01_k».proof.Proof.Head.Final

@[expose] public section

set_option maxRecDepth 16384

noncomputable section

open Idealize.ShloMosaic Idealize.ShloMosaic.TcCoe Idealize.SL.Sem
open Idealize.ShloMosaic.Pipeline (Dat)

/-! The kernel's three arrays are the reference's, at finite arguments. -/

namespace Cert.Head

open Cert.HeadIdeal Cert.HeadIdeal.Gen Cert.Norm

variable {m : (ℓ : Loc nD τ sig) → Buf (Elt Ideal) ℓ} {c : Dev nD}

/-- What grid point `t` adds to the gradient of the last norm's weights. -/
def dgK (m : (ℓ : Loc nD τ sig) → Buf (Elt Ideal) ℓ) (c : Dev nD) (t : Fin cfg0.N) (j : Fin 1024) : EReal :=
  ∑ r : Fin 512, er (HID m c) (GF m c) (T m c) (ix2 (row t r) j) * ((1 / 1024 : ℝ) : EReal)
    * (HID m c (ix2 (row t r) j) * Ideal.rsqrt (meanSq fun j => HID m c (ix2 (row t r) j)))

theorem out9A (t : Fin cfg0.N) (h0 : t.val % 8 = 0) (i : S1x1024.Idx) : (outsAt0 m c t.val t.isLt).2.2.1 i = 0 + dgK m c t (i 1) := by
  rw [(outsA m c t h0).2.2]
  idx_vars i
  rw [pay74_at, pay72_at]
  simp only [eb_eq, hb_at]; rfl

theorem out9B (t : Fin cfg0.N) (h0 : ¬t.val % 8 = 0) (i : S1x1024.Idx) :
    (outsAt0 m c t.val t.isLt).2.2.1 i = (outsAt0 m c (t.val - 1) (Nat.lt_of_le_of_lt (Nat.sub_le _ _) t.isLt)).2.2.1 i + dgK m c t (i 1) := by
  rw [(outsB m c t h0).2.2]
  idx_vars i
  rw [pay74_at]
  simp only [eb_eq, hb_at]; rfl

/-- The kernel's third array is the gradient of the last norm's weights. -/
theorem final9 : (dats m 0 c).arrAt 9 (cfgs 0).N = dg (HID m c) (GF m c) (T m c) := by
  have e : (dats m 0 c).arrAt 9 (cfgs 0).N = (fun i => ∑ r : Fin 4096, er (HID m c) (GF m c) (T m c) (ix2 r (i 1)) * ((1 / 1024 : ℝ) : EReal)
      * (HID m c (ix2 r (i 1)) * Ideal.rsqrt (meanSq fun j => HID m c (ix2 r j))) : FVec Ideal S1x1024 .f32) := by
    refine (dats m 0 c).arrAt_eq_of_after_last 9 t0_7 (by decide +kernel) _ fun j => ?_
    blk_simp
    rw [after0_9, Pipeline.eq_sum_fin_of_reset_step_apply_last (fun n h => (outsAt0 m c n h).2.2.1) 8 (fun _ => 0) _ out9A out9B (le_of_eq N_0) t0_7 rfl, zero_add]
    unfold dgK
    exact Fin.sum_mul_add_congr fun s k hl => rfl
  rw [e]
  funext i
  idx_vars i
  exact (dg_at _ _ _ _ _).symm

end Cert.Head

end
-- ==== Proof.Head.Claims.lean ====
module

public import proofs.«01_k».proof.Defs
public import proofs.«01_k».proof.Proof.Gen.Pre_head_finite
public import proofs.«01_k».proof.Proof.Head.Weights

@[expose] public section

set_option maxRecDepth 16384

noncomputable section

open Idealize.ShloMosaic Idealize.ShloMosaic.TcCoe Idealize.SL.Sem

/-! The claims about the last feed-forward layer with the loss and its gradient. -/

namespace Cert.Head

open Cert.Norm

/-- The reference leaves its arguments unchanged and no semaphore counted up. -/
theorem ref_frame : Cert.quiescent_HeadRefIdeal (hHeadRefIdeal := Cert.HeadRefIdeal.Gen.facts) := by
  intro m ρ _
  refine (θ_run Cert.HeadRefIdeal.defs _ _).mono ?_ (Cert.HeadRefIdeal.Value.run (F := Ideal) m ρ)
  intro r h
  refine ⟨fun c => ?_, Idealize.ShloMosaic.sem_eq_zero_of_no_sems (by decide) r.2⟩
  obtain ⟨-, -, -, -, -, -, ra⟩ := h c
  exact ra

/-- What the printed precondition says. -/
theorem finite_of_pre {m : (ℓ : Loc Cert.HeadIdeal.nD Cert.HeadIdeal.τ Cert.HeadIdeal.sig) → Buf (Elt Ideal) ℓ} {c : Dev Cert.HeadIdeal.nD}
    (hp : Cert.Pre_HeadIdeal_head_finite (hPre_head_finite := Cert.Pre_head_finite.Gen.facts) m) : Finite m c := by
  have e := congrFun (hp c) (fun k => k.elim0)
  unfold Cert.Pre_head_finite.fn Cert.Pre_head_finite.fn_part1 at e
  obtain ⟨e, e6⟩ := and_true e
  obtain ⟨e, e5⟩ := and_true e
  obtain ⟨e, e4⟩ := and_true e
  obtain ⟨e, e3⟩ := and_true e
  obtain ⟨e, e2⟩ := and_true e
  obtain ⟨e0, e1⟩ := and_true e
  exact ⟨isReal_of_all _ _ _ _ _ e0, isReal_of_all _ _ _ _ _ e1, isReal_of_all _ _ _ _ _ e2, isReal_of_all _ _ _ _ _ e3,
    isReal_of_all _ _ _ _ _ e4, isReal_of_all _ _ _ _ _ e5, isReal_of_all _ _ _ _ _ e6⟩

set_option maxHeartbeats 1600000 in
/-- At finite arguments the kernel computes the loss, the gradients of the hidden states and of the last norm's weights,
    and the values that the layer's own gradient reads. -/
theorem value : Cert.algebraic_HeadIdeal_HeadRefIdeal_pre_head_finite (hHeadIdeal := Cert.HeadIdeal.Gen.facts)
    (hHeadRefIdeal := Cert.HeadRefIdeal.Gen.facts) (hPre_head_finite := Cert.Pre_head_finite.Gen.facts) := by
  pair_intro
  · run_from Cert.HeadIdeal.Gen.run_main m g
  · refine (θ_run Cert.HeadRefIdeal.defs _ _).mono ?_ (Cert.HeadRefIdeal.Value.run (F := Ideal) m' g')
    intro r h c
    obtain ⟨r0, r1, r2, r3, r4, r5, ra⟩ := h c
    obtain ⟨a0, a1, a2, a3, a4, a5, a6⟩ := hagree c
    have fin : Finite m c := finite_of_pre hpre
    refine ⟨?_, ?_, ?_, ?_, ?_, ?_, ra⟩
    · rw [r0]; refine (v71 m' c).trans ?_; unfold hidden; rw [a0, a1, a2, a3, a4, a5, a6]; exact final7.symm
    · rw [r1]; refine (v70 m' c).trans ?_; unfold hidden; rw [a0, a1, a2, a3, a4, a5, a6]; exact (final8 fin).symm
    · rw [r2]; refine (v72 m' c).trans ?_; unfold hidden; rw [a0, a1, a2, a3, a4, a5, a6]; exact final9.symm
    · refine (r3.trans (rfl : _ = Cert.FfnFwd.tiles (Cert.FfnFwd.prod (Cert.Head.nrm (m' (c.tc.loc Cert.HeadRefIdeal.main_arg0)) (m' (c.tc.loc Cert.HeadRefIdeal.main_arg1))) (m' (c.tc.loc Cert.HeadRefIdeal.main_arg2))))).trans ?_
      rw [a0, a1, a2]; exact final10.symm
    · refine (r4.trans (rfl : _ = Cert.FfnFwd.tiles (Cert.FfnFwd.prod (Cert.Head.nrm (m' (c.tc.loc Cert.HeadRefIdeal.main_arg0)) (m' (c.tc.loc Cert.HeadRefIdeal.main_arg1))) (m' (c.tc.loc Cert.HeadRefIdeal.main_arg3))))).trans ?_
      rw [a0, a1, a3]; exact final11.symm
    · refine (r5.trans (rfl : _ = Cert.Head.nrm (m' (c.tc.loc Cert.HeadRefIdeal.main_arg0)) (m' (c.tc.loc Cert.HeadRefIdeal.main_arg1)))).trans ?_
      rw [a0, a1]; exact final12.symm

end Cert.Head

end
-- ==== Proof.Ffn.Ref.lean ====
module

public import proofs.«01_k».proof.Proof.Gen.FfnRefIdeal.Run
public import proofs.«01_k».proof.Proof.Norm.Scale
public import Idealize.ShloMosaic.Lib.Pointwise
public import Idealize.ShloMosaic.Lib.Claim

@[expose] public section

set_option maxRecDepth 16384

noncomputable section

open Idealize.ShloMosaic Idealize.ShloMosaic.TcCoe Idealize.SL.Sem Idealize.ShloMosaic.StableHlo

/-! The gradients of a feed-forward layer, the reference's results, in layers. -/

namespace Cert.Ffn

open Cert.FfnRefIdeal Cert.FfnRefIdeal.Gen Cert.Norm

/-- The rows' mean squares, with ε. -/
def ms (x : FVec Ideal S4096x1024 .f32) : FVec Ideal S4096x1 .f32 :=
  addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- The normalised rows. -/
def xh (x : FVec Ideal S4096x1024 .f32) : FVec Ideal S4096x1024 .f32 :=
  mulf x (broadcastInDim S4096x1024 ![0, 1] bcast_S4096x1_S4096x1024_0_1 (Host.rsqrt (ms x)))

/-- The normalised and weighted rows. -/
def nrm (x : FVec Ideal S4096x1024 .f32) (g : FVec Ideal S1x1024 .f32) : FVec Ideal S4096x1024 .f32 :=
  mulf (xh x) (broadcastInDim S4096x1024 ![0, 1] bcast_S1x1024_S4096x1024_0_1 g)

/-- One of the two products in front of the gate. -/
def pr (n : FVec Ideal S4096x1024 .f32) (w : FVec Ideal S1024x2816 .f32) : FVec Ideal S4096x2816 .f32 :=
  addf (Host.dotGeneral dot_S4096x1024_S1024x2816_S4096x2816_1_0_0_1_n_n none n w) (broadcastInDim S4096x2816 ![] bcast_S_S4096x2816 (constant S_ .f32 0x00000000#32))

/-- The logistic function. -/
def sg (a : FVec Ideal S4096x2816 .f32) : FVec Ideal S4096x2816 .f32 :=
  Host.divf (broadcastInDim S4096x2816 ![] bcast_S_S4096x2816 (constant S_ .f32 0x3F800000#32)) (addf (broadcastInDim S4096x2816 ![] bcast_S_S4096x2816 (constant S_ .f32 0x3F800000#32)) (Host.exp (Host.negf a)))

/-- The cotangent of the last product. -/
def dy (dh : FVec Ideal S4096x1024 .f32) : FVec Ideal S4096x1024 .f32 :=
  mulf (broadcastInDim S4096x1024 ![] bcast_S_S4096x1024 (constant S_ .f32 0x3F000000#32)) (shapeCast _ dh shapeCasts_S4096x1024_S4096x1024)

/-- The cotangent of the gated units. -/
def ds (dy : FVec Ideal S4096x1024 .f32) (w2 : FVec Ideal S2816x1024 .f32) : FVec Ideal S4096x2816 .f32 :=
  Host.dotGeneral dot_S4096x1024_S2816x1024_S4096x2816_1_1_0_0_n_n none dy w2

/-- The cotangent of the first product. -/
def da (a : FVec Ideal S4096x2816 .f32) (u : FVec Ideal S4096x2816 .f32) : FVec Ideal S4096x2816 .f32 :=
  addf (mulf u (sg a)) (mulf (mulf a u) (mulf (sg a) (subf (broadcastInDim S4096x2816 ![] bcast_S_S4096x2816 (constant S_ .f32 0x3F800000#32)) (sg a))))

/-- The cotangent of the second product. -/
def db (a : FVec Ideal S4096x2816 .f32) (s : FVec Ideal S4096x2816 .f32) : FVec Ideal S4096x2816 .f32 :=
  mulf (mulf a (sg a)) s

/-- The cotangent of the normalised and weighted rows. -/
def dn (da : FVec Ideal S4096x2816 .f32) (db : FVec Ideal S4096x2816 .f32) (w1 : FVec Ideal S1024x2816 .f32) (w3 : FVec Ideal S1024x2816 .f32) : FVec Ideal S4096x1024 .f32 :=
  addf (Host.dotGeneral dot_S4096x2816_S1024x2816_S4096x1024_1_1_0_0_n_n none db w3) (Host.dotGeneral dot_S4096x2816_S1024x2816_S4096x1024_1_1_0_0_n_n none da w1)

/-- The cotangent of the normalised rows. -/
def yy (d : FVec Ideal S4096x1024 .f32) (g : FVec Ideal S1x1024 .f32) : FVec Ideal S4096x1024 .f32 :=
  mulf d (broadcastInDim S4096x1024 ![0, 1] bcast_S1x1024_S4096x1024_0_1 g)

/-- The factor of the term through the mean square. -/
def kk (y : FVec Ideal S4096x1024 .f32) (x : FVec Ideal S4096x1024 .f32) : FVec Ideal S4096x1024 .f32 :=
  broadcastInDim S4096x1024 ![0] bcast_S4096_S4096x1024_0 (Host.reduceAdd (Host.divf (mulf (shapeCast _ (Host.reduceAdd (mulf x y) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (ms x)) (ms x)))) (broadcastInDim S4096x1 ![] bcast_S_S4096x1 (constant S_ .f32 0x44800000#32))) (constant S_ .f32 0x00000000#32) reducesTo_S4096x1_S4096_d1 h_S_)

/-- The gradient of the layer's input, of which the cotangent itself is a part. -/
def dx (dh y x : FVec Ideal S4096x1024 .f32) : FVec Ideal S4096x1024 .f32 :=
  addf (addf (addf dh (mulf y (broadcastInDim S4096x1024 ![0, 1] bcast_S4096x1_S4096x1024_0_1 (Host.rsqrt (ms x))))) (mulf x (kk y x))) (mulf (kk y x) x)

/-- The gradient of the norm's weights. -/
def dg (x d : FVec Ideal S4096x1024 .f32) : FVec Ideal S1x1024 .f32 :=
  shapeCast _ (Host.reduceAdd (mulf (xh x) d) (constant S_ .f32 0x00000000#32) reducesTo_S4096x1024_S1024_d0 h_S_) shapeCasts_S1024_S1x1024

/-- The gated units. -/
def un (a b : FVec Ideal S4096x2816 .f32) : FVec Ideal S4096x2816 .f32 := mulf (mulf a (sg a)) b

/-- An array of rows of 2816 in eleven tiles of 256 columns. -/
def tiles (v : FVec Ideal S4096x2816 .f32) : FVec Ideal S11x4096x256 .bf16 :=
  transpose S11x4096x256 [1, 0, 2] (shapeCast _ (truncf .bf16 v bitsLt_bf16_f32) shapeCasts_S4096x2816_S4096x11x256) transposes_S4096x11x256_S11x4096x256_1_0_2

section
variable (x : FVec Ideal S4096x1024 .f32) (g : FVec Ideal S1x1024 .f32) (w1 w3 : FVec Ideal S1024x2816 .f32) (w2 : FVec Ideal S2816x1024 .f32) (dh' : FVec Ideal S4096x1024 .f32)

/-- The layer's cotangents of its two products in front of the gate, and of its normalised and weighted rows. -/
abbrev dA : FVec Ideal S4096x2816 .f32 := da (pr (nrm x g) w1) (mulf (ds (dy dh') w2) (pr (nrm x g) w3))
abbrev dB : FVec Ideal S4096x2816 .f32 := db (pr (nrm x g) w1) (ds (dy dh') w2)
abbrev dN : FVec Ideal S4096x1024 .f32 := dn (dA x g w1 w3 w2 dh') (dB x g w1 w2 dh') w1 w3

end

section
variable (m : (ℓ : Loc nD τ sig) → Buf (Elt Ideal) ℓ) (c : Dev nD)

theorem v57 : Value.res_main_v57 m c = dx (m (c.tc.loc main_arg5)) (yy (dN (m (c.tc.loc main_arg0)) (m (c.tc.loc main_arg1)) (m (c.tc.loc main_arg2)) (m (c.tc.loc main_arg3)) (m (c.tc.loc main_arg4)) (m (c.tc.loc main_arg5))) (m (c.tc.loc main_arg1))) (m (c.tc.loc main_arg0)) := rfl
theorem v40 : Value.res_main_v40 m c = dg (m (c.tc.loc main_arg0)) (dN (m (c.tc.loc main_arg0)) (m (c.tc.loc main_arg1)) (m (c.tc.loc main_arg2)) (m (c.tc.loc main_arg3)) (m (c.tc.loc main_arg4)) (m (c.tc.loc main_arg5))) := rfl
theorem v60 : Value.res_main_v60 m c = tiles (dA (m (c.tc.loc main_arg0)) (m (c.tc.loc main_arg1)) (m (c.tc.loc main_arg2)) (m (c.tc.loc main_arg3)) (m (c.tc.loc main_arg4)) (m (c.tc.loc main_arg5))) := rfl

end

theorem ms_at (x : FVec Ideal S4096x1024 .f32) (i : Fin 4096) (z : Fin 1) : ms x (ix2 i z) = meanSq fun j => x (ix2 i j) := by
  unfold ms; pointwise; rfl

theorem xh_at (x : FVec Ideal S4096x1024 .f32) (i : Fin 4096) (j : Fin 1024) : xh x (ix2 i j) = x (ix2 i j) * Ideal.rsqrt (meanSq fun j => x (ix2 i j)) := by
  unfold xh; pointwise; rw [ms_at]

theorem nrm_at (x : FVec Ideal S4096x1024 .f32) (g : FVec Ideal S1x1024 .f32) (i : Fin 4096) (j : Fin 1024) :
    nrm x g (ix2 i j) = x (ix2 i j) * Ideal.rsqrt (meanSq fun j => x (ix2 i j)) * g (ix2 0 j) := by
  unfold nrm; pointwise; rw [xh_at]

theorem pr_at (n : FVec Ideal S4096x1024 .f32) (w : FVec Ideal S1024x2816 .f32) (i : Fin 4096) (f : Fin 2816) : pr n w (ix2 i f) = ∑ k, n (ix2 i k) * w (ix2 k f) := by
  unfold pr; pointwise

/-- The logistic function of a number. -/
abbrev lg (a : EReal) : EReal := Ideal.div 1 (1 + Ideal.exp (-a))

theorem sg_at (a : FVec Ideal S4096x2816 .f32) (i : Fin 4096) (f : Fin 2816) : sg a (ix2 i f) = lg (a (ix2 i f)) := by
  unfold sg; pointwise

theorem ds_at (dh : FVec Ideal S4096x1024 .f32) (w2 : FVec Ideal S2816x1024 .f32) (i : Fin 4096) (f : Fin 2816) : ds (dy dh) w2 (ix2 i f) = ∑ k, ((1 / 2 : ℝ) : EReal) * dh (ix2 i k) * w2 (ix2 f k) := by
  unfold ds dy; pointwise; simp only [ofBits_half]

theorem da_at (a u : FVec Ideal S4096x2816 .f32) (i : Fin 4096) (f : Fin 2816) :
    da a u (ix2 i f) = u (ix2 i f) * lg (a (ix2 i f)) + a (ix2 i f) * u (ix2 i f) * (lg (a (ix2 i f)) * (1 - lg (a (ix2 i f)))) := by
  unfold da; pointwise; rw [sg_at]

theorem db_at (a s : FVec Ideal S4096x2816 .f32) (i : Fin 4096) (f : Fin 2816) : db a s (ix2 i f) = a (ix2 i f) * lg (a (ix2 i f)) * s (ix2 i f) := by
  unfold db; pointwise; rw [sg_at]

theorem un_at (a b : FVec Ideal S4096x2816 .f32) (i : Fin 4096) (f : Fin 2816) : un a b (ix2 i f) = a (ix2 i f) * lg (a (ix2 i f)) * b (ix2 i f) := by
  unfold un; pointwise; rw [sg_at]

theorem dn_at (da db : FVec Ideal S4096x2816 .f32) (w1 w3 : FVec Ideal S1024x2816 .f32) (i : Fin 4096) (j : Fin 1024) :
    dn da db w1 w3 (ix2 i j) = ∑ f, (da (ix2 i f) * w1 (ix2 j f) + db (ix2 i f) * w3 (ix2 j f)) := by
  unfold dn; pointwise; rw [add_comm, Finset.sum_add_distrib]

theorem yy_at (d : FVec Ideal S4096x1024 .f32) (g : FVec Ideal S1x1024 .f32) (i : Fin 4096) (j : Fin 1024) : yy d g (ix2 i j) = d (ix2 i j) * g (ix2 0 j) := by
  unfold yy; pointwise

theorem tiles_at (v : FVec Ideal S4096x2816 .f32) (f : Fin 11) (i : Fin 4096) (k : Fin 256) : tiles v (ix3 f i k) = v (ix2 i ⟨f.val * 256 + k.val, by omega⟩) := by
  unfold tiles; pointwise

/-- The gradient of the rows is the derivative of the norm, which the hand-written line computes too. -/
theorem dx_at (dh y x : FVec Ideal S4096x1024 .f32) (hx : ∀ i j, IsReal (x (ix2 i j))) (hy : ∀ i j, IsReal (y (ix2 i j))) (i : Fin 4096) (j : Fin 1024) :
    dx dh y x (ix2 i j) = dh (ix2 i j) + Ideal.rsqrt (meanSq fun j => x (ix2 i j)) * (y (ix2 i j) - x (ix2 i j) * Ideal.rsqrt (meanSq fun j => x (ix2 i j))
        * Ideal.div (∑ k, y (ix2 i k) * (x (ix2 i k) * Ideal.rsqrt (meanSq fun j => x (ix2 i j)))) (Ideal.ofBits .f32 1149239296#32)) := by
  rw [rms_grad (fun j => x (ix2 i j)) (fun j => y (ix2 i j)) (hx i) (hy i) j]
  unfold dx kk; pointwise [ms_at, Fin.sum_univ_one]
  simp only [add_assoc]

theorem dg_at (x d : FVec Ideal S4096x1024 .f32) (z : Fin 1) (j : Fin 1024) :
    dg x d (ix2 z j) = ∑ r : Fin 4096, x (ix2 r j) * Ideal.rsqrt (meanSq fun j => x (ix2 r j)) * d (ix2 r j) := by
  unfold dg; pointwise; simp only [xh_at]

end Cert.Ffn

end
-- ==== Proof.Ffn.Value.lean ====
module

public import proofs.«01_k».proof.Proof.Gen.FfnBwdIdeal.Frame
public import proofs.«01_k».proof.Proof.Ffn.Ref
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! What the kernel of a feed-forward layer's gradient computes, block by block. -/

namespace Cert.Ffn

open Cert.FfnBwdIdeal Cert.FfnBwdIdeal.Gen Cert.Norm

/-- The rows `f * 256 … f * 256 + 255` of a matrix of 2816 rows. -/
abbrev rows (w : Vec Ideal S2816x1024 .bf16) (f : Fin 11) : Vec Ideal S256x1024 .bf16 :=
  View.ld w (Rect.unit ![f.val * 256, 0] ![256, 1024] (by revert f; decide))

/-- The place of tile `f` among the eleven. -/
abbrev slot (f : Fin 11) : Rect S11x256x256 := Rect.unit ![f.val, 0, 0] ![1, 256, 256] (by revert f; decide)

/-- Eleven tiles, stored one after another. -/
def slots (w : Fin 11 → Vec Ideal S1x256x256 .bf16) : Vec Ideal S11x256x256 .bf16 :=
  View.canon (([10, 9, 8, 7, 6, 5, 4, 3, 2, 1, 0] : List (Fin 11)).map fun f => ⟨slot f, w f⟩)

theorem slots_at (w : Fin 11 → Vec Ideal S1x256x256 .bf16) (f : Fin 11) (i k : Fin 256) : slots w (ix3 f i k) = w f (ix3 0 i k) := by
  refine View.canon_apply_of_pieces (fun y : S11x256x256.Idx => w (y 0) (ix3 0 (y 1) (y 2))) _ ?_ _ ?_
  · intro p hp x
    obtain ⟨g, -, rfl⟩ := List.mem_map.mp hp
    idx_vars x
    have e : (slot g).emb (ix3 x0 x1 x2) = ix3 g x1 x2 := by blk_ext! []
    rw [e]
    obtain rfl : x0 = 0 := Subsingleton.elim _ _
    rfl
  · refine ⟨⟨slot f, w f⟩, List.mem_map.mpr ⟨f, by revert f; decide, rfl⟩, ?_⟩
    have e : (slot f).emb (ix3 0 i k) = ix3 f i k := by blk_ext! []
    rw [← e]
    rw [← Rect.map_emb_univ]; exact Finset.mem_map_of_mem _ (Finset.mem_univ _)

/-- The gradients of one tile of the two products in front of the gate, and the gated units themselves. -/
def daT (dh : Vec Ideal S256x1024 .f32) (a b : Vec Ideal S11x256x256 .bf16) (w2 : Vec Ideal S2816x1024 .bf16) (f : Fin 11) : Vec Ideal S1x256x256 .bf16 :=
  k0_pay15 (k0_pay8 (View.ld a (slot f))) (k0_pay10 (View.ld a (slot f))) (k0_pay13 dh (rows w2 f) (View.ld b (slot f)))
def dbT (dh : Vec Ideal S256x1024 .f32) (a : Vec Ideal S11x256x256 .bf16) (w2 : Vec Ideal S2816x1024 .bf16) (f : Fin 11) : Vec Ideal S1x256x256 .bf16 :=
  k0_pay16 (k0_pay11 (View.ld a (slot f))) (k0_pay12 dh (rows w2 f))
def sT (a b : Vec Ideal S11x256x256 .bf16) (f : Fin 11) : Vec Ideal S1x256x256 .bf16 :=
  k0_pay14 (k0_pay9 (View.ld b (slot f))) (k0_pay11 (View.ld a (slot f)))

/-- The cotangent of the normalised rows after all eleven tiles. -/
def acc (da db : Fin 11 → Vec Ideal S1x256x256 .bf16) (w1 w3 : Vec Ideal S2816x1024 .bf16) : FVec Ideal S256x1024 .f32 :=
  ([0, 1, 2, 3, 4, 5, 6, 7, 8, 9, 10] : List (Fin 11)).foldl (fun a f => k0_pay120 a (da f) (rows w1 f) (db f) (rows w3 f)) (k0_pay7 (F := Ideal))

section
variable (dh : Vec Ideal S256x1024 .f32) (a b : Vec Ideal S11x256x256 .bf16) (w2 : Vec Ideal S2816x1024 .bf16) (f : Fin 11) (r k : Fin 256)

/-- The cotangent of one gated unit. -/
abbrev dsT : EReal := ∑ x, ((1 / 2 : ℝ) : EReal) * dh (ix2 r x) * w2 (ix2 ⟨f.val * 256 + k.val, by omega⟩ x)

theorem daT_at : daT dh a b w2 f (ix3 0 r k) = dsT dh w2 f r k * b (ix3 f r k) * lg (a (ix3 f r k)) * (1 + a (ix3 f r k) * (1 - lg (a (ix3 f r k)))) := by
  unfold daT rows slot
  pointwise [k0_pay6, k0_pay8, k0_pay9, k0_pay10, k0_pay12, k0_pay13, k0_pay15]
  rw [ofBits_half]; rfl

theorem dbT_at : dbT dh a w2 f (ix3 0 r k) = dsT dh w2 f r k * (a (ix3 f r k) * lg (a (ix3 f r k))) := by
  unfold dbT rows slot
  pointwise [k0_pay6, k0_pay8, k0_pay10, k0_pay11, k0_pay12, k0_pay16]
  rw [ofBits_half]; rfl

theorem sT_at : sT a b f (ix3 0 r k) = a (ix3 f r k) * lg (a (ix3 f r k)) * b (ix3 f r k) := by
  unfold sT slot
  pointwise [k0_pay8, k0_pay9, k0_pay10, k0_pay11, k0_pay14]
  rfl

end

/-- Tile `f`'s part of the cotangent of the normalised rows. -/
def part (da db : Fin 11 → Vec Ideal S1x256x256 .bf16) (w1 w3 : Vec Ideal S2816x1024 .bf16) (r : Fin 256) (j : Fin 1024) (f : Fin 11) : EReal :=
  ∑ k : Fin 256, (da f (ix3 0 r k) * w1 (ix2 ⟨f.val * 256 + k.val, by omega⟩ j) + db f (ix3 0 r k) * w3 (ix2 ⟨f.val * 256 + k.val, by omega⟩ j))

theorem step_at (da db : Fin 11 → Vec Ideal S1x256x256 .bf16) (w1 w3 : Vec Ideal S2816x1024 .bf16) (a : FVec Ideal S256x1024 .f32) (f : Fin 11) (r : Fin 256) (j : Fin 1024) :
    k0_pay120 a (da f) (rows w1 f) (db f) (rows w3 f) (ix2 r j) = a (ix2 r j) + part da db w1 w3 r j f := by
  unfold part rows
  pointwise [k0_pay120]
  rw [Finset.sum_add_distrib]

/-- All tiles together give the whole products. -/
theorem acc_at (da db : Fin 11 → Vec Ideal S1x256x256 .bf16) (w1 w3 : Vec Ideal S2816x1024 .bf16) (r : Fin 256) (j : Fin 1024) (A B : Fin 2816 → EReal)
    (hA : ∀ (f : Fin 11) (k : Fin 256), da f (ix3 0 r k) = A ⟨f.val * 256 + k.val, by omega⟩)
    (hB : ∀ (f : Fin 11) (k : Fin 256), db f (ix3 0 r k) = B ⟨f.val * 256 + k.val, by omega⟩) :
    acc da db w1 w3 (ix2 r j) = ∑ f, (A f * w1 (ix2 f j) + B f * w3 (ix2 f j)) := by
  have e (l : List (Fin 11)) : ∀ b : FVec Ideal S256x1024 .f32, l.foldl (fun a f => k0_pay120 a (da f) (rows w1 f) (db f) (rows w3 f)) b (ix2 r j)
      = b (ix2 r j) + (l.map (part da db w1 w3 r j)).sum := by
    induction l with
    | nil => exact fun b => (add_zero _).symm
    | cons s l ih => exact fun b => by rw [List.foldl_cons, ih, step_at, List.map_cons, List.sum_cons, add_assoc]
  unfold acc
  rw [e, show [(0 : Fin 11), 1, 2, 3, 4, 5, 6, 7, 8, 9, 10] = List.finRange 11 from rfl, ← Fin.sum_univ_def]
  have z : k0_pay7 (F := Ideal) (ix2 r j) = 0 := by pointwise [k0_pay7]
  rw [z, zero_add]
  unfold part
  simp only [hA, hB]
  exact Fin.sum_mul_add_congr fun s k hl => rfl

theorem pay1_at (x dh d : FVec Ideal S256x1024 .f32) (g : FVec Ideal S1x1024 .f32) (r : Fin 256) (j : Fin 1024) :
    k0_pay1 (F := Ideal) g (k0_pay4 x) (k0_pay5 x) dh d (ix2 r j) = dh (ix2 r j) + Ideal.rsqrt (meanSq fun j => x (ix2 r j)) * (d (ix2 r j) * g (ix2 0 j)
      - x (ix2 r j) * Ideal.rsqrt (meanSq fun j => x (ix2 r j)) * Ideal.div (∑ k, d (ix2 r k) * g (ix2 0 k)
        * (x (ix2 r k) * Ideal.rsqrt (meanSq fun j => x (ix2 r j)))) (Ideal.ofBits .f32 1149239296#32)) := by
  pointwise [k0_pay1, k0_pay4, k0_pay5]
  rfl

theorem pay3_at (x d : FVec Ideal S256x1024 .f32) (p : FVec Ideal S1x1024 .f32) (z : Fin 1) (j : Fin 1024) :
    k0_pay3 (F := Ideal) (k0_pay5 x) d p (ix2 z j) = p (ix2 z j) + ∑ r, x (ix2 r j) * Ideal.rsqrt (meanSq fun j => x (ix2 r j)) * d (ix2 r j) := by
  obtain rfl : z = 0 := Subsingleton.elim _ _
  pointwise [k0_pay3, k0_pay4, k0_pay5]
  exact congrArg (fun e : EReal => p (ix2 0 j) + e) (Finset.sum_congr rfl fun r _ => mul_comm _ _)

theorem pay2_at (i : S1x1024.Idx) : k0_pay2 (F := Ideal) i = 0 := by idx_vars i; pointwise [k0_pay2]

theorem pay6_at (dh : FVec Ideal S256x1024 .f32) (r : Fin 256) (j : Fin 1024) : k0_pay6 (F := Ideal) dh (ix2 r j) = ((1 / 2 : ℝ) : EReal) * dh (ix2 r j) := by
  pointwise [k0_pay6]; rw [ofBits_half]

variable (m : (ℓ : Loc nD τ sig) → Buf (Elt Ideal) ℓ) (c : Dev nD)

abbrev DA (t : Fin cfg0.N) : Fin 11 → Vec Ideal S1x256x256 .bf16 := daT (iblk m c 1 t) (iblk m c 3 t) (iblk m c 4 t) (iblk m c 7 t)
abbrev DB (t : Fin cfg0.N) : Fin 11 → Vec Ideal S1x256x256 .bf16 := dbT (iblk m c 1 t) (iblk m c 3 t) (iblk m c 7 t)
abbrev ACC (t : Fin cfg0.N) : FVec Ideal S256x1024 .f32 := acc (DA m c t) (DB m c t) (iblk m c 5 t) (iblk m c 6 t)

/-- What a grid point leaves in the six results' blocks, from the sum before it. -/
structure Outs (t : Fin cfg0.N) (d : FVec Ideal S1x1024 .f32)
    (o : Vec Ideal S256x1024 .f32 × Vec Ideal S1x1024 .f32 × Vec Ideal S11x256x256 .bf16 × Vec Ideal S11x256x256 .bf16 × Vec Ideal S11x256x256 .bf16 × Vec Ideal S256x1024 .bf16) : Prop where
  dx : o.1 = k0_pay1 (iblk m c 2 t) (k0_pay4 (iblk m c 0 t)) (k0_pay5 (iblk m c 0 t)) (iblk m c 1 t) (ACC m c t)
  dg : o.2.1 = k0_pay3 (k0_pay5 (iblk m c 0 t)) (ACC m c t) d
  da : o.2.2.1 = slots (DA m c t)
  db : o.2.2.2.1 = slots (DB m c t)
  s : o.2.2.2.2.1 = slots (sT (iblk m c 3 t) (iblk m c 4 t))
  dhh : o.2.2.2.2.2 = k0_pay6 (iblk m c 1 t)

set_option maxHeartbeats 1600000 in
/-- The first grid point starts the sum from zero. -/
theorem outsA (t : Fin cfg0.N) (h0 : t.val % 16 = 0) : Outs m c t (k0_pay2 (F := Ideal)) (outsAt0 m c t.val t.isLt) := by
  rw [outsAt0_A m c t h0]
  constructor
  · dsimp only; frame_out
    simp (disch := decide) only [↓ View.readCov_skip, ↓ View.readCov_cons_toLoadRect]
    rfl
  · dsimp only; frame_out
    simp (disch := decide) only [↓ View.readCov_skip, ↓ View.readCov_cons_toLoadRect]
    rfl
  all_goals (dsimp only; frame_out)
  all_goals rfl

set_option maxHeartbeats 1600000 in
/-- Every later one adds to the sum before it. -/
theorem outsB (t : Fin cfg0.N) (h0 : ¬ t.val % 16 = 0) (z : t.val - 1 < cfg0.N) :
    Outs m c t (outsAt0 m c (t.val - 1) z).2.1 (outsAt0 m c t.val t.isLt) := by
  rw [outsAt0_B m c t h0]
  constructor
  · dsimp only; frame_out
    simp (disch := decide) only [↓ View.readCov_skip, ↓ View.readCov_cons_toLoadRect]
    rfl
  · dsimp only; frame_out
    simp (disch := decide) only [↓ View.readCov_skip, ↓ View.readCov_cons_toLoadRect]
    rfl
  all_goals (dsimp only; frame_out)
  all_goals rfl

end Cert.Ffn

end
-- ==== Proof.Ffn.Final.lean ====
module

public import proofs.«01_k».proof.Proof.Ffn.Value

@[expose] public section

set_option maxRecDepth 16384

noncomputable section

open Idealize.ShloMosaic Idealize.ShloMosaic.TcCoe Idealize.SL.Sem
open Idealize.ShloMosaic.Pipeline (Dat)

/-! The kernel's six arrays are the reference's, at finite arguments. -/

namespace Cert.Ffn

open Cert.FfnBwdIdeal Cert.FfnBwdIdeal.Gen Cert.Norm

/-- The place of row `r` of block `t` in the whole array. -/
def row (t : Fin cfg0.N) (r : Fin 256) : Fin 4096 := ⟨t.val * 256 + r.val, by have := t.isLt; have h : cfg0.N = 16 := rfl; have := r.isLt; omega⟩

theorem idx : ∀ t : Fin cfg0.N, win0_0.index t = ![t.val, 0] ∧ win0_1.index t = ![t.val, 0] ∧ win0_2.index t = ![0, 0] ∧ win0_3.index t = ![0, t.val, 0]
    ∧ win0_4.index t = ![0, t.val, 0] ∧ win0_5.index t = ![0, 0] ∧ win0_6.index t = ![0, 0] ∧ win0_7.index t = ![0, 0] ∧ win0_8.index t = ![t.val, 0]
    ∧ win0_9.index t = ![0, 0] ∧ win0_10.index t = ![0, t.val, 0] ∧ win0_11.index t = ![0, t.val, 0] ∧ win0_12.index t = ![0, t.val, 0] ∧ win0_13.index t = ![t.val, 0] :=
  (by decide +kernel : ∀ t : Fin grid0.N, _)

section
variable (m : (ℓ : Loc nD τ sig) → Buf (Elt Ideal) ℓ) (c : Dev nD)

/-- The arguments on device `c`: the layer's input, the norm's weights, the three matrices and the cotangent. -/
abbrev X : FVec Ideal S4096x1024 .f32 := m (c.tc.loc main_arg0)
abbrev G : FVec Ideal S1x1024 .f32 := m (c.tc.loc main_arg1)
abbrev W1 : FVec Ideal S1024x2816 .f32 := m (c.tc.loc main_arg2)
abbrev W3 : FVec Ideal S1024x2816 .f32 := m (c.tc.loc main_arg3)
abbrev W2 : FVec Ideal S2816x1024 .f32 := m (c.tc.loc main_arg4)
abbrev H : FVec Ideal S4096x1024 .f32 := m (c.tc.loc main_arg5)

/-- The two products in front of the gate, and the reference's cotangents. -/
abbrev PA : FVec Ideal S4096x2816 .f32 := pr (nrm (X m c) (G m c)) (W1 m c)
abbrev PB : FVec Ideal S4096x2816 .f32 := pr (nrm (X m c) (G m c)) (W3 m c)
abbrev SS : FVec Ideal S4096x2816 .f32 := ds (dy (H m c)) (W2 m c)
abbrev CA : FVec Ideal S4096x2816 .f32 := dA (X m c) (G m c) (W1 m c) (W3 m c) (W2 m c) (H m c)
abbrev CB : FVec Ideal S4096x2816 .f32 := dB (X m c) (G m c) (W1 m c) (W2 m c) (H m c)
abbrev CN : FVec Ideal S4096x1024 .f32 := dN (X m c) (G m c) (W1 m c) (W3 m c) (W2 m c) (H m c)

/-- Every entry of the arguments is a real number. -/
structure Finite : Prop where
  x i : IsReal (X m c i)
  g i : IsReal (G m c i)
  w1 i : IsReal (W1 m c i)
  w3 i : IsReal (W3 m c i)
  w2 i : IsReal (W2 m c i)
  h i : IsReal (H m c i)
end

variable {m : (ℓ : Loc nD τ sig) → Buf (Elt Ideal) ℓ} {c : Dev nD}

theorem Finite.pr (f : Finite m c) (w : FVec Ideal S1024x2816 .f32) (hw : ∀ i, IsReal (w i)) (i : Fin 4096) (k : Fin 2816) :
    IsReal (Cert.Ffn.pr (nrm (X m c) (G m c)) w (ix2 i k)) := by
  rw [pr_at]
  exact IsReal.sum fun l => (by rw [nrm_at]; exact ((f.x _).mul (IsReal.rsqrt_meanSq fun j => f.x _)).mul (f.g _) : IsReal (nrm (X m c) (G m c) (ix2 i l))).mul (hw _)

theorem Finite.ss (f : Finite m c) (i : Fin 4096) (k : Fin 2816) : IsReal (SS m c (ix2 i k)) := by
  unfold SS; rw [ds_at]
  exact IsReal.sum fun l => ((IsReal.coe _).mul (f.h _)).mul (f.w2 _)

/-- The two ways to write the derivative of the gate. -/
theorem gate_grad {s b a : EReal} (hs : IsReal s) (hb : IsReal b) (ha : IsReal a) :
    s * b * lg a * (1 + a * (1 - lg a)) = s * b * lg a + a * (s * b) * (lg a * (1 - lg a)) := by
  obtain ⟨l, e⟩ := ha.logistic
  unfold lg
  rw [e]
  obtain ⟨s, rfl⟩ := hs; obtain ⟨b, rfl⟩ := hb; obtain ⟨a, rfl⟩ := ha
  rw [← EReal.coe_one]
  simp only [← EReal.coe_mul, ← EReal.coe_add, ← EReal.coe_sub]
  exact congrArg _ (by ring)

theorem ca_at (f : Finite m c) (i : Fin 4096) (k : Fin 2816) : CA m c (ix2 i k)
    = SS m c (ix2 i k) * PB m c (ix2 i k) * lg (PA m c (ix2 i k)) * (1 + PA m c (ix2 i k) * (1 - lg (PA m c (ix2 i k)))) := by
  rw [gate_grad (f.ss i k) (f.pr _ f.w3 i k) (f.pr _ f.w1 i k)]
  unfold CA dA
  rw [da_at]; rfl

theorem Finite.cn (f : Finite m c) (i : Fin 4096) (j : Fin 1024) : IsReal (CN m c (ix2 i j)) := by
  unfold CN dN
  rw [dn_at]
  have l (k : Fin 2816) := (f.pr _ f.w1 i k).logistic
  refine IsReal.sum fun k => (IsReal.mul ?_ (f.w1 _)).add (IsReal.mul ?_ (f.w3 _))
  · unfold dA; rw [da_at]
    have u := (f.ss i k).mul (f.pr _ f.w3 i k)
    exact (u.mul (l k)).add (((f.pr _ f.w1 i k).mul u).mul ((l k).mul ((IsReal.coe 1).sub (l k))))
  · unfold dB; rw [db_at]
    exact ((f.pr _ f.w1 i k).mul (l k)).mul (f.ss i k)

theorem Finite.yy (f : Finite m c) (i : Fin 4096) (j : Fin 1024) : IsReal (Cert.Ffn.yy (CN m c) (G m c) (ix2 i j)) := by
  rw [yy_at]; exact (f.cn i j).mul (f.g _)

theorem b0 (t : Fin cfg0.N) (r : Fin 256) (j : Fin 1024) : iblk m c 0 t (ix2 r j) = X m c (ix2 (row t r) j) := by
  blk_point [iblk, V, row, idx t]
theorem b1 (t : Fin cfg0.N) (r : Fin 256) (j : Fin 1024) : iblk m c 1 t (ix2 r j) = H m c (ix2 (row t r) j) := by
  blk_point [iblk, V, row, idx t]
theorem b2 (t : Fin cfg0.N) (j : Fin 1024) : iblk m c 2 t (ix2 (0 : Fin 1) j) = G m c (ix2 0 j) := by
  blk_point [iblk, V, idx t]
theorem b3 (t : Fin cfg0.N) (f : Fin 11) (r k : Fin 256) : iblk m c 3 t (ix3 f r k) = PA m c (ix2 (row t r) ⟨f.val * 256 + k.val, by omega⟩) := by
  have e : iblk m c 3 t (ix3 f r k) = V m c main_v16 (ix3 f (row t r) k) := by blk_point [iblk, row, idx t]
  rw [e]; unfold PA; rw [pr_at]; simp only [nrm_at]; entry_read; pointwise; rfl
theorem b4 (t : Fin cfg0.N) (f : Fin 11) (r k : Fin 256) : iblk m c 4 t (ix3 f r k) = PB m c (ix2 (row t r) ⟨f.val * 256 + k.val, by omega⟩) := by
  have e : iblk m c 4 t (ix3 f r k) = V m c main_v19 (ix3 f (row t r) k) := by blk_point [iblk, row, idx t]
  rw [e]; unfold PB; rw [pr_at]; simp only [nrm_at]; entry_read; pointwise; rfl
theorem b5 (t : Fin cfg0.N) (k : Fin 2816) (j : Fin 1024) : iblk m c 5 t (ix2 k j) = W1 m c (ix2 j k) := by
  have e : iblk m c 5 t = V m c main_v21 := by blk_ext! [iblk, idx t]
  rw [e]; entry_read; pointwise
theorem b6 (t : Fin cfg0.N) (k : Fin 2816) (j : Fin 1024) : iblk m c 6 t (ix2 k j) = W3 m c (ix2 j k) := by
  have e : iblk m c 6 t = V m c main_v23 := by blk_ext! [iblk, idx t]
  rw [e]; entry_read; pointwise
theorem b7 (t : Fin cfg0.N) (k : Fin 2816) (j : Fin 1024) : iblk m c 7 t (ix2 k j) = W2 m c (ix2 k j) := by
  have e : iblk m c 7 t = V m c main_v24 := by blk_ext! [iblk, idx t]
  rw [e]; entry_read; pointwise

/-- A block's tiles are the arrays'. -/
theorem ds_blk (t : Fin cfg0.N) (f : Fin 11) (r k : Fin 256) :
    dsT (iblk m c 1 t) (iblk m c 7 t) f r k = SS m c (ix2 (row t r) ⟨f.val * 256 + k.val, by omega⟩) := by
  unfold SS dsT; rw [ds_at]; simp only [b1, b7]

theorem da_blk (F : Finite m c) (t : Fin cfg0.N) (f : Fin 11) (r k : Fin 256) : DA m c t f (ix3 0 r k) = CA m c (ix2 (row t r) ⟨f.val * 256 + k.val, by omega⟩) := by
  rw [ca_at F]; unfold DA; rw [daT_at, ds_blk, b3, b4]

theorem db_blk (t : Fin cfg0.N) (f : Fin 11) (r k : Fin 256) : DB m c t f (ix3 0 r k) = CB m c (ix2 (row t r) ⟨f.val * 256 + k.val, by omega⟩) := by
  unfold CB dB DB; rw [db_at, dbT_at, ds_blk, b3, mul_comm]

theorem acc_blk (F : Finite m c) (t : Fin cfg0.N) (r : Fin 256) (j : Fin 1024) : ACC m c t (ix2 r j) = CN m c (ix2 (row t r) j) := by
  unfold CN dN ACC
  rw [dn_at, acc_at _ _ _ _ r j (fun k => CA m c (ix2 (row t r) k)) (fun k => CB m c (ix2 (row t r) k)) (fun f k => da_blk F t f r k) fun f k => db_blk t f r k]
  simp only [b5, b6]

/-- What a grid point leaves in each block, whichever it is. -/
theorem outs (t : Fin cfg0.N) : ∃ d, Outs m c t d (outsAt0 m c t.val t.isLt) := by
  by_cases h0 : t.val % 16 = 0
  · exact ⟨_, outsA m c t h0⟩
  · exact ⟨_, outsB m c t h0 (Nat.lt_of_le_of_lt (Nat.sub_le _ _) t.isLt)⟩

theorem final8 (F : Finite m c) : (dats m 0 c).arrAt 8 (cfgs 0).N = dx (H m c) (yy (CN m c) (G m c)) (X m c) := by
  refine (dats m 0 c).arrAt_eq_of_covers 8 _ (by decide +kernel) fun t _ y => ?_
  blk_simp
  rw [after0_8]
  obtain ⟨_, o⟩ := outs (m := m) (c := c) t
  rw [o.dx]
  idx_vars y
  rw [pay1_at]
  simp only [b0, b1, b2, acc_blk F, ← yy_at]
  refine (dx_at _ _ _ (fun i j => F.x _) F.yy _ _).symm.trans (congrArg _ ?_)
  blk_ext! [row, idx t]

/-- The three arrays of tiles. -/
theorem final10 (F : Finite m c) : (dats m 0 c).arrAt 10 (cfgs 0).N = tiles (CA m c) := by
  refine (dats m 0 c).arrAt_eq_of_covers 10 _ (by decide +kernel) fun t _ y => ?_
  blk_simp
  rw [after0_10]
  obtain ⟨_, o⟩ := outs (m := m) (c := c) t
  rw [o.da]
  idx_vars y
  rw [slots_at, da_blk F]
  refine (tiles_at _ _ _ _).symm.trans (congrArg _ ?_)
  blk_ext! [row, idx t]

theorem final11 : (dats m 0 c).arrAt 11 (cfgs 0).N = tiles (CB m c) := by
  refine (dats m 0 c).arrAt_eq_of_covers 11 _ (by decide +kernel) fun t _ y => ?_
  blk_simp
  rw [after0_11]
  obtain ⟨_, o⟩ := outs (m := m) (c := c) t
  rw [o.db]
  idx_vars y
  rw [slots_at, db_blk]
  refine (tiles_at _ _ _ _).symm.trans (congrArg _ ?_)
  blk_ext! [row, idx t]

theorem final12 : (dats m 0 c).arrAt 12 (cfgs 0).N = tiles (un (PA m c) (PB m c)) := by
  refine (dats m 0 c).arrAt_eq_of_covers 12 _ (by decide +kernel) fun t _ y => ?_
  blk_simp
  rw [after0_12]
  obtain ⟨_, o⟩ := outs (m := m) (c := c) t
  rw [o.s]
  idx_vars y
  rw [slots_at, sT_at, b3, b4, ← un_at]
  refine (tiles_at _ _ _ _).symm.trans (congrArg _ ?_)
  blk_ext! [row, idx t]

/-- The cotangent of the last product. -/
theorem final13 : (dats m 0 c).arrAt 13 (cfgs 0).N = (truncf .bf16 (dy (H m c)) bitsLt_bf16_f32 : FVec Ideal S4096x1024 .bf16) := by
  refine (dats m 0 c).arrAt_eq_of_covers 13 _ (by decide +kernel) fun t _ y => ?_
  blk_simp
  rw [after0_13]
  obtain ⟨_, o⟩ := outs (m := m) (c := c) t
  rw [o.dhh]
  idx_vars y
  rw [pay6_at, b1]
  refine Eq.trans (b := (truncf .bf16 (dy (H m c)) bitsLt_bf16_f32 : FVec Ideal S4096x1024 .bf16) (ix2 (row t y0) y1)) ?_ (congrArg _ ?_)
  · unfold dy; pointwise; rw [ofBits_half]
  · blk_ext! [row, idx t]

/-- What grid point `t` adds to the gradient of the norm's weights. -/
def dgK (m : (ℓ : Loc nD τ sig) → Buf (Elt Ideal) ℓ) (c : Dev nD) (t : Fin cfg0.N) (j : Fin 1024) : EReal :=
  ∑ r : Fin 256, X m c (ix2 (row t r) j) * Ideal.rsqrt (meanSq fun j => X m c (ix2 (row t r) j)) * CN m c (ix2 (row t r) j)

theorem out9A (F : Finite m c) (t : Fin cfg0.N) (h0 : t.val % 16 = 0) (i : S1x1024.Idx) : (outsAt0 m c t.val t.isLt).2.1 i = 0 + dgK m c t (i 1) := by
  rw [(outsA m c t h0).dg]
  idx_vars i
  rw [pay3_at, pay2_at]
  simp only [b0, acc_blk F]; rfl

theorem out9B (F : Finite m c) (t : Fin cfg0.N) (h0 : ¬t.val % 16 = 0) (i : S1x1024.Idx) :
    (outsAt0 m c t.val t.isLt).2.1 i = (outsAt0 m c (t.val - 1) (Nat.lt_of_le_of_lt (Nat.sub_le _ _) t.isLt)).2.1 i + dgK m c t (i 1) := by
  rw [(outsB m c t h0 _).dg]
  idx_vars i
  rw [pay3_at]
  simp only [b0, acc_blk F]; rfl

set_option maxHeartbeats 1600000 in
/-- The kernel's second array is the gradient of the norm's weights. -/
theorem final9 (F : Finite m c) : (dats m 0 c).arrAt 9 (cfgs 0).N = dg (X m c) (CN m c) := by
  have e : (dats m 0 c).arrAt 9 (cfgs 0).N = (fun i => ∑ r : Fin 4096, X m c (ix2 r (i 1)) * Ideal.rsqrt (meanSq fun j => X m c (ix2 r j)) * CN m c (ix2 r (i 1))
      : FVec Ideal S1x1024 .f32) := by
    refine (dats m 0 c).arrAt_eq_of_after_last 9 t0_15 (by decide +kernel) _ fun j => ?_
    blk_simp
    rw [after0_9, Pipeline.eq_sum_fin_of_reset_step_apply_last (fun n h => (outsAt0 m c n h).2.1) 16 (fun _ => 0) _ (out9A F) (out9B F) (le_of_eq N_0) t0_15 rfl, zero_add]
    unfold dgK
    exact Fin.sum_mul_add_congr fun s k hl => rfl
  rw [e]
  funext i
  idx_vars i
  exact (dg_at _ _ _ _).symm

end Cert.Ffn

end
-- ==== Proof.Ffn.Claims.lean ====
module

public import proofs.«01_k».proof.Defs
public import proofs.«01_k».proof.Proof.Gen.Pre_ffn_finite
public import proofs.«01_k».proof.Proof.Ffn.Final

@[expose] public section

set_option maxRecDepth 16384

noncomputable section

open Idealize.ShloMosaic Idealize.ShloMosaic.TcCoe Idealize.SL.Sem

/-! The claims about the gradients of a feed-forward layer. -/

namespace Cert.Ffn

open Cert.Norm

/-- The reference leaves its arguments unchanged and no semaphore counted up. -/
theorem ref_frame : Cert.quiescent_FfnRefIdeal (hFfnRefIdeal := Cert.FfnRefIdeal.Gen.facts) := by
  intro m ρ _
  refine (θ_run Cert.FfnRefIdeal.defs _ _).mono ?_ (Cert.FfnRefIdeal.Value.run (F := Ideal) m ρ)
  intro r h
  refine ⟨fun c => ?_, Idealize.ShloMosaic.sem_eq_zero_of_no_sems (by decide) r.2⟩
  obtain ⟨-, -, -, -, -, -, ra⟩ := h c
  exact ra

/-- What the printed precondition says. -/
theorem finite_of_pre {m : (ℓ : Loc Cert.FfnBwdIdeal.nD Cert.FfnBwdIdeal.τ Cert.FfnBwdIdeal.sig) → Buf (Elt Ideal) ℓ} {c : Dev Cert.FfnBwdIdeal.nD}
    (hp : Cert.Pre_FfnBwdIdeal_ffn_finite (hPre_ffn_finite := Cert.Pre_ffn_finite.Gen.facts) m) : Finite m c := by
  have e := congrFun (hp c) (fun k => k.elim0)
  unfold Cert.Pre_ffn_finite.fn Cert.Pre_ffn_finite.fn_part1 at e
  obtain ⟨e, e5⟩ := and_true e
  obtain ⟨e, e4⟩ := and_true e
  obtain ⟨e, e3⟩ := and_true e
  obtain ⟨e, e2⟩ := and_true e
  obtain ⟨e0, e1⟩ := and_true e
  exact ⟨isReal_of_all _ _ _ _ _ e0, isReal_of_all _ _ _ _ _ e1, isReal_of_all _ _ _ _ _ e2, isReal_of_all _ _ _ _ _ e3,
    isReal_of_all _ _ _ _ _ e4, isReal_of_all _ _ _ _ _ e5⟩

set_option maxHeartbeats 1600000 in
/-- At finite arguments the kernel computes the layer's gradients and the arrays that its weights' gradients are products of. -/
theorem value : Cert.algebraic_FfnBwdIdeal_FfnRefIdeal_pre_ffn_finite (hFfnBwdIdeal := Cert.FfnBwdIdeal.Gen.facts)
    (hFfnRefIdeal := Cert.FfnRefIdeal.Gen.facts) (hPre_ffn_finite := Cert.Pre_ffn_finite.Gen.facts) := by
  pair_intro
  · run_from Cert.FfnBwdIdeal.Gen.run_main m g
  · refine (θ_run Cert.FfnRefIdeal.defs _ _).mono ?_ (Cert.FfnRefIdeal.Value.run (F := Ideal) m' g')
    intro r h c
    obtain ⟨r0, r1, r2, r3, r4, r5, ra⟩ := h c
    obtain ⟨a0, a1, a2, a3, a4, a5⟩ := hagree c
    have fin : Finite m c := finite_of_pre hpre
    refine ⟨?_, ?_, ?_, ?_, ?_, ?_, ra⟩
    · rw [r0]; refine (v57 m' c).trans ?_; rw [a0, a1, a2, a3, a4, a5]; exact (final8 fin).symm
    · rw [r1]; refine (v40 m' c).trans ?_; rw [a0, a1, a2, a3, a4, a5]; exact (final9 fin).symm
    · rw [r2]; refine (v60 m' c).trans ?_; rw [a0, a1, a2, a3, a4, a5]; exact (final10 fin).symm
    · rw [r3, a0, a1, a2, a4, a5]; exact (final11 (m := m) (c := c)).symm
    · rw [r4, a0, a1, a2, a3]; exact (final12 (m := m) (c := c)).symm
    · rw [r5, a5]; exact (final13 (m := m) (c := c)).symm

end Cert.Ffn

end
-- ==== Proof.S5Disc.Value.lean ====
module

public import proofs.«01_k».proof.Proof.Gen.S5DiscIdeal.Frame
public import proofs.«01_k».proof.Proof.Gen.S5DiscRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.S5DiscIdeal.Value

open Cert.S5DiscIdeal Cert.S5DiscIdeal.Gen

variable (m : (ℓ : Loc nD τ sig) → Buf (Elt Ideal) ℓ)
variable (m' : (ℓ : Loc Cert.S5DiscRefIdeal.nD Cert.S5DiscRefIdeal.τ Cert.S5DiscRefIdeal.sig) → Buf (Elt Ideal) ℓ)

/-- The reference's argument buffer `k` on device `c`. -/
abbrev rloc (c : Dev nD) (k : Ref Cert.S5DiscRefIdeal.sig .tc) : Loc Cert.S5DiscRefIdeal.nD Cert.S5DiscRefIdeal.τ Cert.S5DiscRefIdeal.sig :=
  (c.tc : Thread Cert.S5DiscRefIdeal.nD Cert.S5DiscRefIdeal.τ).loc k

/-! The shapes of the reference's argument buffers. -/

theorem sh0 (c : Dev nD) : (Loc.ty (rloc c Cert.S5DiscRefIdeal.main_arg0)).shape = Cert.S5DiscRefIdeal.S1x32x64 := rfl
theorem sh1 (c : Dev nD) : (Loc.ty (rloc c Cert.S5DiscRefIdeal.main_arg1)).shape = Cert.S5DiscRefIdeal.S1x32x64 := rfl
theorem sh2 (c : Dev nD) : (Loc.ty (rloc c Cert.S5DiscRefIdeal.main_arg2)).shape = Cert.S5DiscRefIdeal.S1x32 := rfl
theorem sh3 (c : Dev nD) : (Loc.ty (rloc c Cert.S5DiscRefIdeal.main_arg3)).shape = Cert.S5DiscRefIdeal.S1x32x64x16 := rfl
theorem sh4 (c : Dev nD) : (Loc.ty (rloc c Cert.S5DiscRefIdeal.main_arg4)).shape = Cert.S5DiscRefIdeal.S1x32x64x16 := rfl

/-- The five blocks that the kernel's body loads. -/
structure Blocks where
  x0 : FVec Ideal S32x64 .f32
  x1 : FVec Ideal S32x64 .f32
  x2 : FVec Ideal S32x1 .f32
  x3 : FVec Ideal S32x16x64 .f32
  x4 : FVec Ideal S32x16x64 .f32

/-- The loaded blocks hold the reference's arguments, in the kernel's layout: the parameters of layer 0, the input
    matrix with its last two axes swapped. -/
structure Blocks.Holds (b : Blocks) (c : Dev nD) : Prop where
  h0 : ∀ (g : Fin 32) (s : Fin 64), b.x0 (ix2 g s) = m' (rloc c Cert.S5DiscRefIdeal.main_arg0) (ix3 0 g s)
  h1 : ∀ (g : Fin 32) (s : Fin 64), b.x1 (ix2 g s) = m' (rloc c Cert.S5DiscRefIdeal.main_arg1) (ix3 0 g s)
  h2 : ∀ (g : Fin 32) (z : Fin 1), b.x2 (ix2 g z) = m' (rloc c Cert.S5DiscRefIdeal.main_arg2) (ix2 0 g)
  h3 : ∀ (g : Fin 32) (p : Fin 16) (s : Fin 64), b.x3 (ix3 g p s) = m' (rloc c Cert.S5DiscRefIdeal.main_arg3) (ix4 0 g s p)
  h4 : ∀ (g : Fin 32) (p : Fin 16) (s : Fin 64), b.x4 (ix3 g p s) = m' (rloc c Cert.S5DiscRefIdeal.main_arg4) (ix4 0 g s p)

/-- The reference's step size at every state, and its poles: exp(Re Λ · Δ) times a cosine or a sine of Im Λ · Δ. -/
def steps (c : Dev nD) : FVec Ideal Cert.S5DiscRefIdeal.S32x64 .f32 :=
  broadcastInDim Cert.S5DiscRefIdeal.S32x64 ![0, 1] Cert.S5DiscRefIdeal.Facts₀.bcast_S32x1_S32x64_0_1 (broadcastInDim Cert.S5DiscRefIdeal.S32x1 ![0] Cert.S5DiscRefIdeal.Facts₀.bcast_S32_S32x1_0
    (Host.exp (shapeCast _ (m' (rloc c Cert.S5DiscRefIdeal.main_arg2) : FVec Ideal Cert.S5DiscRefIdeal.S1x32 .f32) Cert.S5DiscRefIdeal.Facts₀.shapeCasts_S1x32_S32)))

def poleRe (c : Dev nD) : FVec Ideal Cert.S5DiscRefIdeal.S32x64 .f32 :=
  mulf (Host.exp (mulf (shapeCast _ (m' (rloc c Cert.S5DiscRefIdeal.main_arg0) : FVec Ideal Cert.S5DiscRefIdeal.S1x32x64 .f32) Cert.S5DiscRefIdeal.Facts₀.shapeCasts_S1x32x64_S32x64) (steps m' c)))
    (Host.cos (mulf (shapeCast _ (m' (rloc c Cert.S5DiscRefIdeal.main_arg1) : FVec Ideal Cert.S5DiscRefIdeal.S1x32x64 .f32) Cert.S5DiscRefIdeal.Facts₀.shapeCasts_S1x32x64_S32x64) (steps m' c)))

def poleIm (c : Dev nD) : FVec Ideal Cert.S5DiscRefIdeal.S32x64 .f32 :=
  mulf (Host.exp (mulf (shapeCast _ (m' (rloc c Cert.S5DiscRefIdeal.main_arg0) : FVec Ideal Cert.S5DiscRefIdeal.S1x32x64 .f32) Cert.S5DiscRefIdeal.Facts₀.shapeCasts_S1x32x64_S32x64) (steps m' c)))
    (Host.sin (mulf (shapeCast _ (m' (rloc c Cert.S5DiscRefIdeal.main_arg1) : FVec Ideal Cert.S5DiscRefIdeal.S1x32x64 .f32) Cert.S5DiscRefIdeal.Facts₀.shapeCasts_S1x32x64_S32x64) (steps m' c)))

set_option maxHeartbeats 1600000 in
/-- At every index the body stores the real part of the pole as the reference computes it. -/
theorem point5 (b : Blocks) (c : Dev nD) (h : b.Holds m' c) (j : S32x64.Idx) :
    out0_5 (F := Ideal) b.x0 b.x1 b.x2 b.x3 b.x4 j = (poleRe m' c : FVec Ideal S32x64 .f32) j := by
  unfold out0_5; frame_out
  unfold poleRe steps
  dsimp only [sh0, sh1, sh2, sh3, sh4]
  idx_vars j
  pointwise! [k0_pay1, k0_pay2, k0_pay3, k0_pay4, k0_pay5, k0_pay6, k0_pay7, k0_pay8, k0_pay9, k0_pay10, k0_pay11, k0_pay12, k0_pay13, k0_pay14, h.h0, h.h1, h.h2, h.h3, h.h4, zero_sub, Fin.sum_univ_one]

set_option maxHeartbeats 1600000 in
/-- At every index the body stores the imaginary part of the pole as the reference computes it. -/
theorem point6 (b : Blocks) (c : Dev nD) (h : b.Holds m' c) (j : S32x64.Idx) :
    out0_6 (F := Ideal) b.x0 b.x1 b.x2 b.x3 b.x4 j = (poleIm m' c : FVec Ideal S32x64 .f32) j := by
  unfold out0_6; frame_out
  unfold poleIm steps
  dsimp only [sh0, sh1, sh2, sh3, sh4]
  idx_vars j
  pointwise! [k0_pay1, k0_pay2, k0_pay3, k0_pay4, k0_pay5, k0_pay6, k0_pay7, k0_pay8, k0_pay9, k0_pay10, k0_pay11, k0_pay12, k0_pay13, k0_pay14, h.h0, h.h1, h.h2, h.h3, h.h4, zero_sub, Fin.sum_univ_one]

set_option maxHeartbeats 1600000 in
/-- At every index the body stores the real part of the input matrix as the reference computes it. -/
theorem point7 (b : Blocks) (c : Dev nD) (h : b.Holds m' c) (j : S32x16x64.Idx) :
    out0_7 b.x0 b.x1 b.x2 b.x3 b.x4 j = (Cert.S5DiscRefIdeal.Value.res_main_v45 m' c : FVec Ideal S32x16x64 .f32) j := by
  unfold out0_7; frame_out
  unfold Cert.S5DiscRefIdeal.Value.res_main_v45
  dsimp only [sh0, sh1, sh2, sh3, sh4]
  idx_vars j
  pointwise! [k0_pay1, k0_pay2, k0_pay3, k0_pay4, k0_pay5, k0_pay6, k0_pay7, k0_pay8, k0_pay9, k0_pay10, k0_pay11, k0_pay12, k0_pay13, k0_pay14, h.h0, h.h1, h.h2, h.h3, h.h4, zero_sub, Fin.sum_univ_one]

set_option maxHeartbeats 1600000 in
/-- At every index the body stores the imaginary part of the input matrix as the reference computes it. -/
theorem point8 (b : Blocks) (c : Dev nD) (h : b.Holds m' c) (j : S32x16x64.Idx) :
    out0_8 b.x0 b.x1 b.x2 b.x3 b.x4 j = (Cert.S5DiscRefIdeal.Value.res_main_v46 m' c : FVec Ideal S32x16x64 .f32) j := by
  unfold out0_8; frame_out
  unfold Cert.S5DiscRefIdeal.Value.res_main_v46
  dsimp only [sh0, sh1, sh2, sh3, sh4]
  idx_vars j
  pointwise! [k0_pay1, k0_pay2, k0_pay3, k0_pay4, k0_pay5, k0_pay6, k0_pay7, k0_pay8, k0_pay9, k0_pay10, k0_pay11, k0_pay12, k0_pay13, k0_pay14, h.h0, h.h1, h.h2, h.h3, h.h4, zero_sub, Fin.sum_univ_one]

/-! ## From the launch to the blocks, and from the blocks to the result arrays -/

theorem idx : ∀ t : Fin cfg0.N, win0_0.index t = ![0, 0] ∧ win0_1.index t = ![0, 0] ∧ win0_2.index t = ![0, 0] ∧ win0_3.index t = ![0, 0, 0] ∧
    win0_4.index t = ![0, 0, 0] ∧ win0_5.index t = ![0, 0] ∧ win0_6.index t = ![0, 0] ∧ win0_7.index t = ![0, 0, 0] ∧ win0_8.index t = ![0, 0, 0] :=
  (by decide +kernel : ∀ t : Fin grid0.N, _)

/-- The two programs start from the same five arguments on device `c`. -/
structure Same (c : Dev nD) : Prop where
  a0 : m' (rloc c Cert.S5DiscRefIdeal.main_arg0) = m ((c.tc : Thread nD τ).loc main_arg0)
  a1 : m' (rloc c Cert.S5DiscRefIdeal.main_arg1) = m ((c.tc : Thread nD τ).loc main_arg1)
  a2 : m' (rloc c Cert.S5DiscRefIdeal.main_arg2) = m ((c.tc : Thread nD τ).loc main_arg2)
  a3 : m' (rloc c Cert.S5DiscRefIdeal.main_arg3) = m ((c.tc : Thread nD τ).loc main_arg3)
  a4 : m' (rloc c Cert.S5DiscRefIdeal.main_arg4) = m ((c.tc : Thread nD τ).loc main_arg4)

/-- What the body loads at the one grid point. -/
def blocks (c : Dev nD) : Blocks := ⟨iblk m c 0 t0_0, iblk m c 1 t0_0, iblk m c 2 t0_0, iblk m c 3 t0_0, iblk m c 4 t0_0⟩

theorem blk0 (c : Dev nD) : iblk m c 0 t0_0 = V m c main_v0 := by blk_ext! [iblk, idx t0_0]
theorem blk1 (c : Dev nD) : iblk m c 1 t0_0 = V m c main_v1 := by blk_ext! [iblk, idx t0_0]
theorem blk2 (c : Dev nD) : iblk m c 2 t0_0 = V m c main_v3 := by blk_ext! [iblk, idx t0_0]
theorem blk3 (c : Dev nD) : iblk m c 3 t0_0 = V m c main_v5 := by blk_ext! [iblk, idx t0_0]
theorem blk4 (c : Dev nD) : iblk m c 4 t0_0 = V m c main_v7 := by blk_ext! [iblk, idx t0_0]

theorem holds (c : Dev nD) (h : Same m m' c) : (blocks m c).Holds m' c where
  h0 g s := by rw [h.a0]; dsimp only [blocks]; rw [blk0]; entry_read; pointwise
  h1 g s := by rw [h.a1]; dsimp only [blocks]; rw [blk1]; entry_read; pointwise
  h2 g z := by rw [h.a2]; dsimp only [blocks]; rw [blk2]; entry_read; pointwise
  h3 g p s := by rw [h.a3]; dsimp only [blocks]; rw [blk3]; entry_read; pointwise
  h4 g p s := by rw [h.a4]; dsimp only [blocks]; rw [blk4]; entry_read; pointwise

/-- The result arrays of the kernel are the reference's: the real parts of the poles, … -/
theorem final5 (c : Dev nD) (h : Same m m' c) : (dats m 0 c).arrAt 5 (cfgs 0).N = poleRe m' c := by
  refine (dats m 0 c).arrAt_eq_of_after_last 5 t0_0 (by decide +kernel) _ fun j => ?_
  blk_simp; rw [after0_5]; exact point5 m' (blocks m c) c (holds m m' c h) j

/-- … their imaginary parts, … -/
theorem final6 (c : Dev nD) (h : Same m m' c) : (dats m 0 c).arrAt 6 (cfgs 0).N = poleIm m' c := by
  refine (dats m 0 c).arrAt_eq_of_after_last 6 t0_0 (by decide +kernel) _ fun j => ?_
  blk_simp; rw [after0_6]; exact point6 m' (blocks m c) c (holds m m' c h) j

/-- … the real part of the input matrix … -/
theorem final7 (c : Dev nD) (h : Same m m' c) : (dats m 0 c).arrAt 7 (cfgs 0).N = Cert.S5DiscRefIdeal.Value.res_main_v45 m' c := by
  refine (dats m 0 c).arrAt_eq_of_after_last 7 t0_0 (by decide +kernel) _ fun j => ?_
  blk_simp; rw [after0_7]; exact point7 m' (blocks m c) c (holds m m' c h) j

/-- … and its imaginary part. -/
theorem final8 (c : Dev nD) (h : Same m m' c) : (dats m 0 c).arrAt 8 (cfgs 0).N = Cert.S5DiscRefIdeal.Value.res_main_v46 m' c := by
  refine (dats m 0 c).arrAt_eq_of_after_last 8 t0_0 (by decide +kernel) _ fun j => ?_
  blk_simp; rw [after0_8]; exact point8 m' (blocks m c) c (holds m m' c h) j

end Cert.S5DiscIdeal.Value

end
-- ==== Proof.S5Disc.Claims.lean ====
module

public import proofs.«01_k».proof.Defs
public import proofs.«01_k».proof.Proof.S5Disc.Value

@[expose] public section

noncomputable section

namespace Cert.Proof

open Idealize.ShloMosaic Idealize.SL.Sem

/-- The reference of the forward discretisation runs through, leaves its arguments, and declares no semaphore. -/
theorem s5_disc_ref_frame : Cert.quiescent_S5DiscRefIdeal (hS5DiscRefIdeal := Cert.S5DiscRefIdeal.Gen.facts) := by
  intro m ρ _
  refine (θ_run Cert.S5DiscRefIdeal.defs _ _).mono ?_ (Cert.S5DiscRefIdeal.Value.run (F := Ideal) m ρ)
  intro r h
  refine ⟨fun c => ?_, ?_⟩
  · obtain ⟨-, -, -, -, ra⟩ := h c
    exact ra
  · exact Idealize.ShloMosaic.sem_eq_zero_of_no_sems (by decide) r.2

set_option maxHeartbeats 1600000 in
/-- The discretisation: every result of the kernel is the reference's, at any arguments. -/
theorem s5_disc_value : Cert.algebraic_S5DiscIdeal_S5DiscRefIdeal (hS5DiscIdeal := Cert.S5DiscIdeal.Gen.facts) (hS5DiscRefIdeal := Cert.S5DiscRefIdeal.Gen.facts) := by
  pair_intro
  · run_from Cert.S5DiscIdeal.Gen.run_main m g
  · refine (θ_run Cert.S5DiscRefIdeal.defs _ _).mono ?_ (Cert.S5DiscRefIdeal.Value.run (F := Ideal) m' g')
    intro r h c
    obtain ⟨r0, r1, r2, r3, ra⟩ := h c
    have same : Cert.S5DiscIdeal.Value.Same m m' c := by
      obtain ⟨h0, h1, h2, h3, h4⟩ := hagree c
      exact ⟨h0, h1, h2, h3, h4⟩
    refine ⟨?_, ?_, ?_, ?_, ra⟩
    · rw [r0]; exact (Cert.S5DiscIdeal.Value.final5 m m' c same).symm
    · rw [r1]; exact (Cert.S5DiscIdeal.Value.final6 m m' c same).symm
    · rw [r2]; exact (Cert.S5DiscIdeal.Value.final7 m m' c same).symm
    · rw [r3]; exact (Cert.S5DiscIdeal.Value.final8 m m' c same).symm

end Cert.Proof

end
-- ==== Proof.PreFwd.Value.lean ====
module

public import proofs.«01_k».proof.Proof.Gen.PreFwdIdeal.Frame
public import proofs.«01_k».proof.Proof.Gen.PreFrefIdeal.Run
public import proofs.«01_k».proof.Proof.Norm.Rms
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The mixer's normalised input and its eight projections. -/

namespace Cert.PreFwd

open Cert.PreFwdIdeal Cert.PreFwdIdeal.Gen Cert.Norm

variable (m : (ℓ : Loc nD τ sig) → Buf (Elt Ideal) ℓ)
variable (m' : (ℓ : Loc Cert.PreFrefIdeal.nD Cert.PreFrefIdeal.τ Cert.PreFrefIdeal.sig) → Buf (Elt Ideal) ℓ)

/-- The reference's buffer `k` on device `c`. -/
abbrev rloc (c : Dev nD) (k : Ref Cert.PreFrefIdeal.sig .tc) : Loc Cert.PreFrefIdeal.nD Cert.PreFrefIdeal.τ Cert.PreFrefIdeal.sig :=
  (c.tc : Thread Cert.PreFrefIdeal.nD Cert.PreFrefIdeal.τ).loc k

theorem sh0 (c : Dev nD) : (Loc.ty (rloc c Cert.PreFrefIdeal.main_arg0)).shape = Cert.PreFrefIdeal.S4096x1024 := rfl
theorem sh1 (c : Dev nD) : (Loc.ty (rloc c Cert.PreFrefIdeal.main_arg1)).shape = Cert.PreFrefIdeal.S1x1024 := rfl
theorem sh2 (c : Dev nD) : (Loc.ty (rloc c Cert.PreFrefIdeal.main_arg2)).shape = Cert.PreFrefIdeal.S1024x4112 := rfl

/-- The hidden states. -/
def H (c : Dev nD) (i : Fin 4096) (j : Fin 1024) : EReal := (m' (rloc c Cert.PreFrefIdeal.main_arg0) : FVec Ideal S4096x1024 .f32) (ix2 i j)
/-- The norm's weights. -/
def G (c : Dev nD) (j : Fin 1024) : EReal := (m' (rloc c Cert.PreFrefIdeal.main_arg1) : FVec Ideal S1x1024 .f32) (ix2 0 j)
/-- The input projection. -/
def W (c : Dev nD) (j : Fin 1024) (x : Fin 4112) : EReal := (m' (rloc c Cert.PreFrefIdeal.main_arg2) : FVec Ideal Cert.PreFrefIdeal.S1024x4112 .f32) (ix2 j x)
/-- The normalised states. -/
def U (c : Dev nD) (i : Fin 4096) (j : Fin 1024) : EReal := H m' c i j * Ideal.rsqrt (meanSq (H m' c i)) * G m' c j
/-- A column of their projection. -/
def P (c : Dev nD) (i : Fin 4096) (x : Fin 4112) : EReal := ∑ j : Fin 1024, U m' c i j * W m' c j x

/-- The two programs start from the same arguments on device `c`. -/
def Same (c : Dev nD) : Prop :=
  m' (rloc c Cert.PreFrefIdeal.main_arg0) = m ((c.tc : Thread nD τ).loc main_arg0)
  ∧ m' (rloc c Cert.PreFrefIdeal.main_arg1) = m ((c.tc : Thread nD τ).loc main_arg1)
  ∧ m' (rloc c Cert.PreFrefIdeal.main_arg2) = m ((c.tc : Thread nD τ).loc main_arg2)

/-- The place of row `r` of block `t` in the whole array. -/
def row (t : Fin cfg0.N) (r : Fin 512) : Fin 4096 := ⟨t.val * 512 + r.val, by have := t.isLt; have h : cfg0.N = 8 := rfl; have := r.isLt; omega⟩

theorem idx : ∀ t : Fin cfg0.N, win0_0.index t = ![t.val, 0] ∧ win0_1.index t = ![0, 0] ∧ win0_2.index t = ![0, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![t.val, 0]
    ∧ win0_9.index t = ![t.val, 0]
    ∧ win0_10.index t = ![t.val, 0]
    ∧ win0_11.index t = ![t.val, 0] :=
  (by decide +kernel : ∀ t : Fin grid0.N, _)

variable {m m'} {c : Dev nD}

theorem b0 (h : Same m m' c) (t : Fin cfg0.N) (r : Fin 512) (j : Fin 1024) : iblk m c 0 t (ix2 r j) = H m' c (row t r) j := by
  unfold H; rw [h.1]
  blk_point [iblk, V, row, idx t]
theorem b1 (h : Same m m' c) (t : Fin cfg0.N) (z : Fin 1) (j : Fin 1024) : iblk m c 1 t (ix2 z j) = G m' c j := by
  obtain rfl : z = 0 := Subsingleton.elim _ _
  unfold G; rw [h.2.1]
  blk_point [iblk, V, row, idx t]
theorem b2 (h : Same m m' c) (t : Fin cfg0.N) (x : Fin 4112) (j : Fin 1024) : iblk m c 2 t (ix2 x j) = W m' c j x := by
  unfold W; rw [h.2.2]
  have e : iblk m c 2 t = V m c main_v1 := by blk_ext! [iblk, idx t]
  rw [e]; entry_read; pointwise

set_option maxHeartbeats 1600000 in
/-- Each grid point writes its rows of the normalised states … -/
theorem point3 (h : Same m m' c) (t : Fin cfg0.N) (r : Fin 512) (j : Fin 1024) :
    out0_3 (F := Ideal) (iblk m c 0 t) (iblk m c 1 t) (iblk m c 2 t) (ix2 r j) = U m' c (row t r) j := by
  unfold out0_3
  frame_out
  pointwise [k0_pay6]
  simp only [b0 h, b1 h]
  rfl

/-! … and of each projection. -/

set_option maxHeartbeats 1600000 in
theorem point4 (h : Same m m' c) (t : Fin cfg0.N) (r : Fin 512) (x : Fin 512) :
    out0_4 (F := Ideal) (iblk m c 0 t) (iblk m c 1 t) (iblk m c 2 t) (ix2 r x) = P m' c (row t r) ⟨0 + x.val, by omega⟩ := by
  unfold out0_4
  frame_out
  pointwise [k0_pay7, k0_pay6]
  simp only [b0 h, b1 h, b2 h]
  rfl

set_option maxHeartbeats 1600000 in
theorem point5 (h : Same m m' c) (t : Fin cfg0.N) (r : Fin 512) (x : Fin 256) :
    out0_5 (F := Ideal) (iblk m c 0 t) (iblk m c 1 t) (iblk m c 2 t) (ix2 r x) = P m' c (row t r) ⟨512 + x.val, by omega⟩ := by
  unfold out0_5
  frame_out
  pointwise [k0_pay8, k0_pay6]
  simp only [b0 h, b1 h, b2 h]
  rfl

set_option maxHeartbeats 1600000 in
theorem point6 (h : Same m m' c) (t : Fin cfg0.N) (r : Fin 512) (x : Fin 256) :
    out0_6 (F := Ideal) (iblk m c 0 t) (iblk m c 1 t) (iblk m c 2 t) (ix2 r x) = P m' c (row t r) ⟨768 + x.val, by omega⟩ := by
  unfold out0_6
  frame_out
  pointwise [k0_pay9, k0_pay6]
  simp only [b0 h, b1 h, b2 h]
  rfl

set_option maxHeartbeats 1600000 in
theorem point7 (h : Same m m' c) (t : Fin cfg0.N) (r : Fin 512) (x : Fin 512) :
    out0_7 (F := Ideal) (iblk m c 0 t) (iblk m c 1 t) (iblk m c 2 t) (ix2 r x) = P m' c (row t r) ⟨1024 + x.val, by omega⟩ := by
  unfold out0_7 k0_pay10
  frame_out
  pointwise [k0_pay1, k0_pay6]
  simp only [b0 h, b1 h, b2 h]
  rfl

set_option maxHeartbeats 1600000 in
theorem point8 (h : Same m m' c) (t : Fin cfg0.N) (r : Fin 512) (x : Fin 512) :
    out0_8 (F := Ideal) (iblk m c 0 t) (iblk m c 1 t) (iblk m c 2 t) (ix2 r x) = P m' c (row t r) ⟨1536 + x.val, by omega⟩ := by
  unfold out0_8 k0_pay10
  frame_out
  pointwise [k0_pay2, k0_pay6]
  simp only [b0 h, b1 h, b2 h]
  rfl

set_option maxHeartbeats 1600000 in
theorem point9 (h : Same m m' c) (t : Fin cfg0.N) (r : Fin 512) (x : Fin 16) :
    out0_9 (F := Ideal) (iblk m c 0 t) (iblk m c 1 t) (iblk m c 2 t) (ix2 r x) = P m' c (row t r) ⟨2048 + x.val, by omega⟩ := by
  unfold out0_9 k0_pay10
  frame_out
  pointwise [k0_pay3, k0_pay6]
  simp only [b0 h, b1 h, b2 h]
  rfl

set_option maxHeartbeats 1600000 in
theorem point10 (h : Same m m' c) (t : Fin cfg0.N) (r : Fin 512) (x : Fin 1024) :
    out0_10 (F := Ideal) (iblk m c 0 t) (iblk m c 1 t) (iblk m c 2 t) (ix2 r x) = P m' c (row t r) ⟨2064 + x.val, by omega⟩ := by
  unfold out0_10 k0_pay10
  frame_out
  pointwise [k0_pay4, k0_pay6]
  simp only [b0 h, b1 h, b2 h]
  rfl

set_option maxHeartbeats 1600000 in
theorem point11 (h : Same m m' c) (t : Fin cfg0.N) (r : Fin 512) (x : Fin 1024) :
    out0_11 (F := Ideal) (iblk m c 0 t) (iblk m c 1 t) (iblk m c 2 t) (ix2 r x) = P m' c (row t r) ⟨3088 + x.val, by omega⟩ := by
  unfold out0_11 k0_pay10
  frame_out
  pointwise [k0_pay5, k0_pay6]
  simp only [b0 h, b1 h, b2 h]
  rfl

/-! The result arrays. -/

/-- Result 0: the normalised states. -/
def res3 (m' : (ℓ : Loc Cert.PreFrefIdeal.nD Cert.PreFrefIdeal.τ Cert.PreFrefIdeal.sig) → Buf (Elt Ideal) ℓ) (c : Dev nD) : FVec Ideal S4096x1024 .bf16 :=
  fun i => U m' c (i 0) (i 1)

theorem final3 (h : Same m m' c) : (dats m 0 c).arrAt 3 (cfgs 0).N = res3 m' c := by
  refine (dats m 0 c).arrAt_eq_of_covers 3 _ (by decide +kernel) fun t _ y => ?_
  blk_simp
  rw [after0_3]
  idx_vars y
  rw [point3 h]
  refine congrArg (res3 m' c) (a₁ := ix2 (row t y0) y1) ?_
  blk_ext! [row, idx t]

/-- Result 1: the S5 input. -/
def res4 (m' : (ℓ : Loc Cert.PreFrefIdeal.nD Cert.PreFrefIdeal.τ Cert.PreFrefIdeal.sig) → Buf (Elt Ideal) ℓ) (c : Dev nD) : FVec Ideal S4096x512 .f32 :=
  fun i => P m' c (i 0) ⟨0 + (i 1).val, by have : (i 1).val < 512 := (i 1).isLt; omega⟩

theorem final4 (h : Same m m' c) : (dats m 0 c).arrAt 4 (cfgs 0).N = res4 m' c := by
  refine (dats m 0 c).arrAt_eq_of_covers 4 _ (by decide +kernel) fun t _ y => ?_
  blk_simp
  rw [after0_4]
  idx_vars y
  rw [point4 h]
  refine congrArg (res4 m' c) (a₁ := ix2 (row t y0) y1) ?_
  blk_ext! [row, idx t]

/-- Result 2: the queries. -/
def res5 (m' : (ℓ : Loc Cert.PreFrefIdeal.nD Cert.PreFrefIdeal.τ Cert.PreFrefIdeal.sig) → Buf (Elt Ideal) ℓ) (c : Dev nD) : FVec Ideal S4096x256 .f32 :=
  fun i => P m' c (i 0) ⟨512 + (i 1).val, by have : (i 1).val < 256 := (i 1).isLt; omega⟩

theorem final5 (h : Same m m' c) : (dats m 0 c).arrAt 5 (cfgs 0).N = res5 m' c := by
  refine (dats m 0 c).arrAt_eq_of_covers 5 _ (by decide +kernel) fun t _ y => ?_
  blk_simp
  rw [after0_5]
  idx_vars y
  rw [point5 h]
  refine congrArg (res5 m' c) (a₁ := ix2 (row t y0) y1) ?_
  blk_ext! [row, idx t]

/-- Result 3: the keys. -/
def res6 (m' : (ℓ : Loc Cert.PreFrefIdeal.nD Cert.PreFrefIdeal.τ Cert.PreFrefIdeal.sig) → Buf (Elt Ideal) ℓ) (c : Dev nD) : FVec Ideal S4096x256 .f32 :=
  fun i => P m' c (i 0) ⟨768 + (i 1).val, by have : (i 1).val < 256 := (i 1).isLt; omega⟩

theorem final6 (h : Same m m' c) : (dats m 0 c).arrAt 6 (cfgs 0).N = res6 m' c := by
  refine (dats m 0 c).arrAt_eq_of_covers 6 _ (by decide +kernel) fun t _ y => ?_
  blk_simp
  rw [after0_6]
  idx_vars y
  rw [point6 h]
  refine congrArg (res6 m' c) (a₁ := ix2 (row t y0) y1) ?_
  blk_ext! [row, idx t]

/-- Result 4: the values. -/
def res7 (m' : (ℓ : Loc Cert.PreFrefIdeal.nD Cert.PreFrefIdeal.τ Cert.PreFrefIdeal.sig) → Buf (Elt Ideal) ℓ) (c : Dev nD) : FVec Ideal S4096x512 .f32 :=
  fun i => P m' c (i 0) ⟨1024 + (i 1).val, by have : (i 1).val < 512 := (i 1).isLt; omega⟩

theorem final7 (h : Same m m' c) : (dats m 0 c).arrAt 7 (cfgs 0).N = res7 m' c := by
  refine (dats m 0 c).arrAt_eq_of_covers 7 _ (by decide +kernel) fun t _ y => ?_
  blk_simp
  rw [after0_7]
  idx_vars y
  rw [point7 h]
  refine congrArg (res7 m' c) (a₁ := ix2 (row t y0) y1) ?_
  blk_ext! [row, idx t]

/-- Result 5: the output gate. -/
def res8 (m' : (ℓ : Loc Cert.PreFrefIdeal.nD Cert.PreFrefIdeal.τ Cert.PreFrefIdeal.sig) → Buf (Elt Ideal) ℓ) (c : Dev nD) : FVec Ideal S4096x512 .f32 :=
  fun i => P m' c (i 0) ⟨1536 + (i 1).val, by have : (i 1).val < 512 := (i 1).isLt; omega⟩

theorem final8 (h : Same m m' c) : (dats m 0 c).arrAt 8 (cfgs 0).N = res8 m' c := by
  refine (dats m 0 c).arrAt_eq_of_covers 8 _ (by decide +kernel) fun t _ y => ?_
  blk_simp
  rw [after0_8]
  idx_vars y
  rw [point8 h]
  refine congrArg (res8 m' c) (a₁ := ix2 (row t y0) y1) ?_
  blk_ext! [row, idx t]

/-- Result 6: the low-rank decay. -/
def res9 (m' : (ℓ : Loc Cert.PreFrefIdeal.nD Cert.PreFrefIdeal.τ Cert.PreFrefIdeal.sig) → Buf (Elt Ideal) ℓ) (c : Dev nD) : FVec Ideal S4096x16 .f32 :=
  fun i => P m' c (i 0) ⟨2048 + (i 1).val, by have : (i 1).val < 16 := (i 1).isLt; omega⟩

theorem final9 (h : Same m m' c) : (dats m 0 c).arrAt 9 (cfgs 0).N = res9 m' c := by
  refine (dats m 0 c).arrAt_eq_of_covers 9 _ (by decide +kernel) fun t _ y => ?_
  blk_simp
  rw [after0_9]
  idx_vars y
  rw [point9 h]
  refine congrArg (res9 m' c) (a₁ := ix2 (row t y0) y1) ?_
  blk_ext! [row, idx t]

/-- Result 7: the gate of the S5 branch. -/
def res10 (m' : (ℓ : Loc Cert.PreFrefIdeal.nD Cert.PreFrefIdeal.τ Cert.PreFrefIdeal.sig) → Buf (Elt Ideal) ℓ) (c : Dev nD) : FVec Ideal S4096x1024 .f32 :=
  fun i => P m' c (i 0) ⟨2064 + (i 1).val, by have : (i 1).val < 1024 := (i 1).isLt; omega⟩

theorem final10 (h : Same m m' c) : (dats m 0 c).arrAt 10 (cfgs 0).N = res10 m' c := by
  refine (dats m 0 c).arrAt_eq_of_covers 10 _ (by decide +kernel) fun t _ y => ?_
  blk_simp
  rw [after0_10]
  idx_vars y
  rw [point10 h]
  refine congrArg (res10 m' c) (a₁ := ix2 (row t y0) y1) ?_
  blk_ext! [row, idx t]

/-- Result 8: the gate of the attention branch. -/
def res11 (m' : (ℓ : Loc Cert.PreFrefIdeal.nD Cert.PreFrefIdeal.τ Cert.PreFrefIdeal.sig) → Buf (Elt Ideal) ℓ) (c : Dev nD) : FVec Ideal S4096x1024 .f32 :=
  fun i => P m' c (i 0) ⟨3088 + (i 1).val, by have : (i 1).val < 1024 := (i 1).isLt; omega⟩

theorem final11 (h : Same m m' c) : (dats m 0 c).arrAt 11 (cfgs 0).N = res11 m' c := by
  refine (dats m 0 c).arrAt_eq_of_covers 11 _ (by decide +kernel) fun t _ y => ?_
  blk_simp
  rw [after0_11]
  idx_vars y
  rw [point11 h]
  refine congrArg (res11 m' c) (a₁ := ix2 (row t y0) y1) ?_
  blk_ext! [row, idx t]

end Cert.PreFwd

end
-- ==== Proof.PreFwd.Claims.lean ====
module

public import proofs.«01_k».proof.Defs
public import proofs.«01_k».proof.Proof.PreFwd.Value

@[expose] public section

set_option maxRecDepth 16384

noncomputable section

open Idealize.ShloMosaic Idealize.ShloMosaic.TcCoe Idealize.SL.Sem

/-! The mixer's input: its claims. -/

namespace Cert.PreFwd

open Cert.Norm

/-- The reference runs through, leaves its arguments, and declares no semaphore. -/
theorem ref_frame : Cert.quiescent_PreFrefIdeal (hPreFrefIdeal := Cert.PreFrefIdeal.Gen.facts) := by
  intro m ρ _
  refine (θ_run Cert.PreFrefIdeal.defs _ _).mono ?_ (Cert.PreFrefIdeal.Value.run (F := Ideal) m ρ)
  intro r h
  refine ⟨fun c => ?_, Idealize.ShloMosaic.sem_eq_zero_of_no_sems (by decide) r.2⟩
  obtain ⟨-, -, -, -, -, -, -, -, -, ra⟩ := h c
  exact ra

set_option maxHeartbeats 1600000 in
/-- At any arguments the kernel computes the normalised states and their eight projections. -/
theorem value : Cert.algebraic_PreFwdIdeal_PreFrefIdeal (hPreFwdIdeal := Cert.PreFwdIdeal.Gen.facts)
    (hPreFrefIdeal := Cert.PreFrefIdeal.Gen.facts) := by
  pair_intro
  · run_from Cert.PreFwdIdeal.Gen.run_main m g
  · refine (θ_run Cert.PreFrefIdeal.defs _ _).mono ?_ (Cert.PreFrefIdeal.Value.run (F := Ideal) m' g')
    intro r h c
    obtain ⟨r0, r1, r2, r3, r4, r5, r6, r7, r8, ra⟩ := h c
    have same : Same m m' c := hagree c
    refine ⟨?_, ?_, ?_, ?_, ?_, ?_, ?_, ?_, ?_, ra⟩
    · rw [r0]; funext j
      rw [final3 same]; unfold res3
      dsimp only [sh0, sh1, sh2]; idx_vars j; pointwise; rfl
    · rw [r1]; funext j
      rw [final4 same]; unfold res4
      dsimp only [sh0, sh1, sh2]; idx_vars j; pointwise; rfl
    · rw [r2]; funext j
      rw [final5 same]; unfold res5
      dsimp only [sh0, sh1, sh2]; idx_vars j; pointwise; rfl
    · rw [r3]; funext j
      rw [final6 same]; unfold res6
      dsimp only [sh0, sh1, sh2]; idx_vars j; pointwise; rfl
    · rw [r4]; funext j
      rw [final7 same]; unfold res7
      dsimp only [sh0, sh1, sh2]; idx_vars j; pointwise; rfl
    · rw [r5]; funext j
      rw [final8 same]; unfold res8
      dsimp only [sh0, sh1, sh2]; idx_vars j; pointwise; rfl
    · rw [r6]; funext j
      rw [final9 same]; unfold res9
      dsimp only [sh0, sh1, sh2]; idx_vars j; pointwise; rfl
    · rw [r7]; funext j
      rw [final10 same]; unfold res10
      dsimp only [sh0, sh1, sh2]; idx_vars j; pointwise; rfl
    · rw [r8]; funext j
      rw [final11 same]; unfold res11
      dsimp only [sh0, sh1, sh2]; idx_vars j; pointwise; rfl

end Cert.PreFwd

end
-- ==== Proof.PostFwd.Ref.lean ====
module

public import proofs.«01_k».proof.Proof.Gen.PostFrefIdeal.Run
public import Idealize.ShloMosaic.Lib.Pointwise
public import Idealize.ShloMosaic.Lib.Claim

@[expose] public section

set_option maxRecDepth 16384

noncomputable section

open Idealize.ShloMosaic Idealize.ShloMosaic.TcCoe Idealize.SL.Sem Idealize.ShloMosaic.StableHlo

/-! One row of the branches behind the mixers, as numbers, and the reference's result, in layers. -/

namespace Cert.PostFwd

/-- The logistic function of a number. -/
abbrev lg (a : EReal) : EReal := Ideal.div 1 (1 + Ideal.exp (-a))

/-- The words of 1/2, of √(2/π) and of gelu's coefficient. -/
abbrev hb : EReal := Ideal.ofBits .f32 0x3F000000#32
abbrev kb : EReal := Ideal.ofBits .f32 0x3F4C422A#32
abbrev cb : EReal := Ideal.ofBits .f32 0x3D372713#32

/-- The head of column `j`, and head `h`'s column `k`. -/
abbrev hd (j : Fin 512) : Fin 4 := ⟨j.val / 128, by omega⟩
abbrev hcol (h : Fin 4) (k : Fin 128) : Fin 512 := ⟨h.val * 128 + k.val, by omega⟩

theorem hcol_hd (j : Fin 512) : hcol (hd j) ⟨j.val % 128, by omega⟩ = j := Fin.ext (by dsimp only; omega)
theorem hcol_zero (k : Fin 128) : hcol 0 k = ⟨k.val, by omega⟩ := Fin.ext (by simp)

/-- The mean square of a head, with ε. -/
def ms (f : Fin 128 → EReal) : EReal := Ideal.div (∑ k, f k * f k) (Ideal.ofBits .f32 0x43000000#32) + Ideal.ofBits .f32 0x358637BD#32

/-- A row's values, and the weights. -/
@[ext] structure Row where
  y : Fin 512 → EReal
  o : Fin 512 → EReal
  r : Fin 512 → EReal
  gs : Fin 1024 → EReal
  gl : Fin 1024 → EReal
  h1 : Fin 1024 → EReal
  wg : Fin 512 → Fin 512 → EReal
  bg : Fin 512 → EReal
  gn : Fin 512 → EReal
  ps : Fin 512 → Fin 1024 → EReal
  pg : Fin 512 → Fin 1024 → EReal
  wo : Fin 1024 → Fin 1024 → EReal

namespace Row
variable (ρ : Row)

/-- Gelu, by the hyperbolic tangent; the gate; the normalised heads. -/
def th (j : Fin 512) : EReal := Ideal.tanh (kb * (ρ.y j + cb * ρ.y j * (ρ.y j * ρ.y j)))
def z (j : Fin 512) : EReal := hb * ρ.y j * (1 + ρ.th j)
def gate (j : Fin 512) : EReal := lg ((∑ k, ρ.z k * ρ.wg k j) + ρ.bg j)
def on (j : Fin 512) : EReal := ρ.o j * Ideal.rsqrt (ms fun k => ρ.o (hcol (hd j) k))
def sw (j : Fin 512) : EReal := ρ.r j * lg (ρ.r j)
def y5 (j : Fin 512) : EReal := ρ.z j * ρ.gate j
def yl (j : Fin 512) : EReal := ρ.on j * ρ.gn j * ρ.sw j
/-- The merged branches, and the new states. -/
def mrg (j : Fin 1024) : EReal := lg (ρ.gs j) * (∑ k, ρ.y5 k * ρ.ps k j) + lg (ρ.gl j) * ∑ k, ρ.yl k * ρ.pg k j
def h2 (j : Fin 1024) : EReal := ρ.h1 j + ∑ k, ρ.mrg k * ρ.wo k j

end Row

open Cert.PostFrefIdeal Cert.PostFrefIdeal.Gen

/-- The arguments. -/
structure In where
  y : FVec Ideal S4096x512 .f32
  o : FVec Ideal S4096x512 .f32
  r : FVec Ideal S4096x512 .f32
  gs : FVec Ideal S4096x1024 .f32
  gl : FVec Ideal S4096x1024 .f32
  h1 : FVec Ideal S4096x1024 .f32
  wg : FVec Ideal S512x512 .f32
  bg : FVec Ideal S1x512 .f32
  gn : FVec Ideal S1x512 .f32
  ps : FVec Ideal S512x1024 .f32
  pg : FVec Ideal S512x1024 .f32
  wo : FVec Ideal S1024x1024 .f32

namespace In

/-- The hyperbolic tangent in gelu. -/
def th (a : In) : FVec Ideal S4096x512 .f32 :=
  Host.tanh (mulf (broadcastInDim S4096x512 ![] bcast_S_S4096x512 (constant S_ .f32 0x3F4C422A#32)) (addf a.y (mulf (broadcastInDim S4096x512 ![] bcast_S_S4096x512 (constant S_ .f32 0x3D372713#32)) (mulf (mulf a.y a.y) a.y))))

/-- Gelu's factor. -/
def cdf (a : In) : FVec Ideal S4096x512 .f32 :=
  mulf (broadcastInDim S4096x512 ![] bcast_S_S4096x512 (constant S_ .f32 0x3F000000#32)) (addf (broadcastInDim S4096x512 ![] bcast_S_S4096x512 (constant S_ .f32 0x3F800000#32)) (th a))

/-- Gelu. -/
def z (a : In) : FVec Ideal S4096x512 .f32 :=
  mulf a.y (cdf a)

/-- The gate's logistic function. -/
def gate (a : In) : FVec Ideal S4096x512 .f32 :=
  Host.divf (broadcastInDim S4096x512 ![] bcast_S_S4096x512 (constant S_ .f32 0x3F800000#32)) (addf (broadcastInDim S4096x512 ![] bcast_S_S4096x512 (constant S_ .f32 0x3F800000#32)) (Host.exp (Host.negf (addf (Host.dotGeneral dot_S4096x512_S512x512_S4096x512_1_0_0_1_n_n none (z a) a.wg) (broadcastInDim S4096x512 ![0, 1] bcast_S1x512_S4096x512_0_1 a.bg)))))

/-- The rows of the heads. -/
def oh (a : In) : FVec Ideal S4096x4x128 .f32 :=
  shapeCast _ a.o shapeCasts_S4096x512_S4096x4x128

/-- The heads' mean squares, with ε. -/
def ms (a : In) : FVec Ideal S4096x4x1 .f32 :=
  addf (Host.divf (broadcastInDim S4096x4x1 ![0, 1] bcast_S4096x4_S4096x4x1_0_1 (Host.reduceAdd (mulf (oh a) (oh a)) (constant S_ .f32 0x00000000#32) reducesTo_S4096x4x128_S4096x4_d2 h_S_)) (broadcastInDim S4096x4x1 ![] bcast_S_S4096x4x1 (constant S_ .f32 0x43000000#32))) (broadcastInDim S4096x4x1 ![] bcast_S_S4096x4x1 (constant S_ .f32 0x358637BD#32))

def rs (a : In) : FVec Ideal S4096x4x1 .f32 :=
  Host.rsqrt (ms a)

/-- The normalised heads. -/
def on (a : In) : FVec Ideal S4096x512 .f32 :=
  shapeCast _ (mulf (oh a) (broadcastInDim S4096x4x128 ![0, 1, 2] bcast_S4096x4x1_S4096x4x128_0_1_2 (rs a))) shapeCasts_S4096x4x128_S4096x512

/-- … with their weights. -/
def og (a : In) : FVec Ideal S4096x512 .f32 :=
  mulf (on a) (broadcastInDim S4096x512 ![0, 1] bcast_S1x512_S4096x512_0_1 a.gn)

def sr (a : In) : FVec Ideal S4096x512 .f32 :=
  Host.divf (broadcastInDim S4096x512 ![] bcast_S_S4096x512 (constant S_ .f32 0x3F800000#32)) (addf (broadcastInDim S4096x512 ![] bcast_S_S4096x512 (constant S_ .f32 0x3F800000#32)) (Host.exp (Host.negf a.r)))

/-- The swish of their gate. -/
def sw (a : In) : FVec Ideal S4096x512 .f32 :=
  mulf a.r (sr a)

/-- The branches' gates and products. -/
def s5 (a : In) : FVec Ideal S4096x1024 .f32 :=
  Host.divf (broadcastInDim S4096x1024 ![] bcast_S_S4096x1024 (constant S_ .f32 0x3F800000#32)) (addf (broadcastInDim S4096x1024 ![] bcast_S_S4096x1024 (constant S_ .f32 0x3F800000#32)) (Host.exp (Host.negf a.gs)))

def p5 (a : In) : FVec Ideal S4096x1024 .f32 :=
  Host.dotGeneral dot_S4096x512_S512x1024_S4096x1024_1_0_0_1_n_n none (mulf (z a) (gate a)) a.ps

def sl (a : In) : FVec Ideal S4096x1024 .f32 :=
  Host.divf (broadcastInDim S4096x1024 ![] bcast_S_S4096x1024 (constant S_ .f32 0x3F800000#32)) (addf (broadcastInDim S4096x1024 ![] bcast_S_S4096x1024 (constant S_ .f32 0x3F800000#32)) (Host.exp (Host.negf a.gl)))

def pl (a : In) : FVec Ideal S4096x1024 .f32 :=
  Host.dotGeneral dot_S4096x512_S512x1024_S4096x1024_1_0_0_1_n_n none (mulf (og a) (sw a)) a.pg

def mrg (a : In) : FVec Ideal S4096x1024 .f32 :=
  addf (mulf (s5 a) (p5 a)) (mulf (sl a) (pl a))

/-- The new states. -/
def h2 (a : In) : FVec Ideal S4096x1024 .f32 :=
  addf a.h1 (Host.dotGeneral dot_S4096x1024_S1024x1024_S4096x1024_1_0_0_1_n_n none (mrg a) a.wo)

/-- Row `i` of the arguments. -/
def row (a : In) (i : Fin 4096) : Row where
  y j := a.y (ix2 i j)
  o j := a.o (ix2 i j)
  r j := a.r (ix2 i j)
  gs j := a.gs (ix2 i j)
  gl j := a.gl (ix2 i j)
  h1 j := a.h1 (ix2 i j)
  wg k j := a.wg (ix2 k j)
  bg j := a.bg (ix2 0 j)
  gn j := a.gn (ix2 0 j)
  ps k j := a.ps (ix2 k j)
  pg k j := a.pg (ix2 k j)
  wo k j := a.wo (ix2 k j)

section
variable (a : In) (i : Fin 4096)

theorem th_at (j : Fin 512) : th a (ix2 i j) = (a.row i).th j := by
  unfold th; pointwise; rw [mul_assoc (a.y _), ← mul_assoc]; rfl
theorem cdf_at (j : Fin 512) : cdf a (ix2 i j) = hb * (1 + (a.row i).th j) := by
  unfold cdf; pointwise; rw [th_at]
theorem z_at (j : Fin 512) : z a (ix2 i j) = (a.row i).z j := by
  unfold z; pointwise; rw [cdf_at, ← mul_assoc, mul_comm (a.y _)]; rfl
theorem gate_at (j : Fin 512) : gate a (ix2 i j) = (a.row i).gate j := by
  unfold gate; pointwise; simp only [z_at]; rfl
theorem oh_at (h : Fin 4) (k : Fin 128) : oh a (ix3 i h k) = (a.row i).o (hcol h k) := by
  unfold oh; pointwise; rfl
theorem ms_at (h : Fin 4) (z : Fin 1) : ms a (ix3 i h z) = Cert.PostFwd.ms fun k => (a.row i).o (hcol h k) := by
  unfold ms; pointwise; simp only [oh_at]; rfl
theorem on_at (j : Fin 512) : on a (ix2 i j) = (a.row i).on j := by
  unfold on rs; pointwise; rw [oh_at, ms_at, hcol_hd]; rfl
theorem og_at (j : Fin 512) : og a (ix2 i j) = (a.row i).on j * (a.row i).gn j := by
  unfold og; pointwise; rw [on_at]; rfl
theorem sw_at (j : Fin 512) : sw a (ix2 i j) = (a.row i).sw j := by
  unfold sw sr; pointwise; rfl
theorem mrg_at (j : Fin 1024) : mrg a (ix2 i j) = (a.row i).mrg j := by
  unfold mrg s5 sl p5 pl; pointwise; simp only [z_at, gate_at, og_at, sw_at]; rfl
theorem h2_at (j : Fin 1024) : h2 a (ix2 i j) = (a.row i).h2 j := by
  unfold h2; pointwise; simp only [mrg_at]; rfl

end

end In

end Cert.PostFwd

end
-- ==== Proof.PostFwd.Value.lean ====
module

public import proofs.«01_k».proof.Proof.Gen.PostFwdIdeal.Frame
public import proofs.«01_k».proof.Proof.PostFwd.Ref
public import Idealize.ShloMosaic.Lib.Pipeline.ValueKit

@[expose] public section

set_option maxRecDepth 16384

noncomputable section

open Idealize.ShloMosaic Idealize.ShloMosaic.TcCoe Idealize.SL.Sem Idealize.ShloMosaic.StableHlo
open Idealize.ShloMosaic.Pipeline (Dat)

/-! The kernel's new states are the reference's. -/

namespace Cert.PostFwd

open Cert.PostFwdIdeal Cert.PostFwdIdeal.Gen

/-- The place of row `r` of block `t` in the whole array. -/
def row (t : Fin cfg0.N) (r : Fin 512) : Fin 4096 := ⟨t.val * 512 + r.val, by have := t.isLt; have h : cfg0.N = 8 := rfl; have := r.isLt; omega⟩

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![t.val, 0] :=
  (by decide +kernel : ∀ t : Fin grid0.N, _)

/-- The blocks of a grid point. -/
structure Blk where
  y : Vec Ideal S512x512 .f32
  o : Vec Ideal S512x512 .f32
  r : Vec Ideal S512x512 .f32
  gs : Vec Ideal S512x1024 .f32
  gl : Vec Ideal S512x1024 .f32
  h1 : Vec Ideal S512x1024 .f32
  wg : Vec Ideal S512x512 .bf16
  bg : Vec Ideal S1x512 .f32
  gn : Vec Ideal S1x512 .f32
  ps : Vec Ideal S1024x512 .bf16
  pg : Vec Ideal S1024x512 .bf16
  wo : Vec Ideal S1024x1024 .bf16

namespace Blk
variable (b : Blk) (r : Fin 512)

/-- Row `i` of a grid point's blocks. -/
def row (i : Fin 512) : Row where
  y j := b.y (ix2 i j)
  o j := b.o (ix2 i j)
  r j := b.r (ix2 i j)
  gs j := b.gs (ix2 i j)
  gl j := b.gl (ix2 i j)
  h1 j := b.h1 (ix2 i j)
  wg k j := b.wg (ix2 k j)
  bg j := b.bg (ix2 0 j)
  gn j := b.gn (ix2 0 j)
  ps k j := b.ps (ix2 j k)
  pg k j := b.pg (ix2 j k)
  wo k j := b.wo (ix2 k j)

theorem y5_at (j : Fin 512) : k0_pay4 (F := Ideal) b.y b.wg b.bg (ix2 r j) = (b.row r).y5 j := by
  pointwise [k0_pay4]; rfl

theorem yl_at (j : Fin 512) : k0_pay7 (F := Ideal) b.o b.r b.gn (k0_pay5 b.o) (k0_pay6 b.o) (ix2 r j) = (b.row r).yl j := by
  have e (v w : EReal) (h : v = (b.row r).on j) : v * b.gn (ix2 0 j) * w = (b.row r).on j * b.gn (ix2 0 j) * w := by rw [h]
  pointwise [k0_pay7, k0_pay6, k0_pay5]
  refine e _ _ ?_
  by_cases h0 : j.val < 128
  · rw [dif_pos h0]
    have e : hd j = 0 := Fin.ext (show j.val / 128 = 0 by omega)
    unfold Row.on; rw [e]; simp only [hcol_zero]; rfl
  rw [dif_neg h0]
  by_cases h1 : j.val - 128 < 128
  · rw [dif_pos h1]
    have e : hd j = 1 := Fin.ext (show j.val / 128 = 1 by omega)
    have e' : (⟨128 + (j.val - 128), by omega⟩ : Fin 512) = j := Fin.ext (by dsimp only; omega)
    unfold Row.on; rw [e, e']; rfl
  rw [dif_neg h1]
  by_cases h2 : j.val - 128 - 128 < 128
  · rw [dif_pos h2]
    have e : hd j = 2 := Fin.ext (show j.val / 128 = 2 by omega)
    have e' : (⟨256 + (j.val - 128 - 128), by omega⟩ : Fin 512) = j := Fin.ext (by dsimp only; omega)
    unfold Row.on; rw [e, e']; rfl
  rw [dif_neg h2]
  have e : hd j = 3 := Fin.ext (show j.val / 128 = 3 by omega)
  have e' : (⟨384 + (j.val - 128 - 128 - 128), by omega⟩ : Fin 512) = j := Fin.ext (by dsimp only; omega)
  unfold Row.on; rw [e, e']; rfl

theorem h2_at (j : Fin 1024) : k0_pay1 (F := Ideal) b.gs b.gl (k0_pay2 b.ps) (k0_pay3 b.pg) (k0_pay4 b.y b.wg b.bg)
    (k0_pay7 b.o b.r b.gn (k0_pay5 b.o) (k0_pay6 b.o)) b.h1 b.wo (ix2 r j) = (b.row r).h2 j := by
  pointwise [k0_pay1, k0_pay2, k0_pay3]; simp only [y5_at, yl_at]; rfl

end Blk

section
variable (m : (ℓ : Loc nD τ sig) → Buf (Elt Ideal) ℓ) (c : Dev nD)

abbrev B (t : Fin cfg0.N) : Blk := ⟨iblk m c 0 t, iblk m c 1 t, iblk m c 2 t, iblk m c 3 t, iblk m c 4 t, iblk m c 5 t, iblk m c 6 t, iblk m c 7 t,
  iblk m c 8 t, iblk m c 9 t, iblk m c 10 t, iblk m c 11 t⟩

/-- The arguments on device `c`. -/
abbrev inp : In := ⟨m (c.tc.loc main_arg0), m (c.tc.loc main_arg1), m (c.tc.loc main_arg2), m (c.tc.loc main_arg3), m (c.tc.loc main_arg4), m (c.tc.loc main_arg5),
  m (c.tc.loc main_arg6), m (c.tc.loc main_arg7), m (c.tc.loc main_arg8), m (c.tc.loc main_arg9), m (c.tc.loc main_arg10), m (c.tc.loc main_arg11)⟩
end

variable {m : (ℓ : Loc nD τ sig) → Buf (Elt Ideal) ℓ} {c : Dev nD}

theorem b0 (t : Fin cfg0.N) (r : Fin 512) (j : Fin 512) : iblk m c 0 t (ix2 r j) = (inp m c).y (ix2 (row t r) j) := by
  blk_point [iblk, V, row, idx t]
theorem b1 (t : Fin cfg0.N) (r : Fin 512) (j : Fin 512) : iblk m c 1 t (ix2 r j) = (inp m c).o (ix2 (row t r) j) := by
  blk_point [iblk, V, row, idx t]
theorem b2 (t : Fin cfg0.N) (r : Fin 512) (j : Fin 512) : iblk m c 2 t (ix2 r j) = (inp m c).r (ix2 (row t r) j) := by
  blk_point [iblk, V, row, idx t]
theorem b3 (t : Fin cfg0.N) (r : Fin 512) (j : Fin 1024) : iblk m c 3 t (ix2 r j) = (inp m c).gs (ix2 (row t r) j) := by
  blk_point [iblk, V, row, idx t]
theorem b4 (t : Fin cfg0.N) (r : Fin 512) (j : Fin 1024) : iblk m c 4 t (ix2 r j) = (inp m c).gl (ix2 (row t r) j) := by
  blk_point [iblk, V, row, idx t]
theorem b5 (t : Fin cfg0.N) (r : Fin 512) (j : Fin 1024) : iblk m c 5 t (ix2 r j) = (inp m c).h1 (ix2 (row t r) j) := by
  blk_point [iblk, V, row, idx t]
theorem b7 (t : Fin cfg0.N) (j : Fin 512) : iblk m c 7 t (ix2 (0 : Fin 1) j) = (inp m c).bg (ix2 0 j) := by
  blk_point [iblk, V, idx t]
theorem b8 (t : Fin cfg0.N) (j : Fin 512) : iblk m c 8 t (ix2 (0 : Fin 1) j) = (inp m c).gn (ix2 0 j) := by
  blk_point [iblk, V, idx t]
theorem b6 (t : Fin cfg0.N) (k : Fin 512) (j : Fin 512) : iblk m c 6 t (ix2 k j) = (inp m c).wg (ix2 k j) := by
  have e : iblk m c 6 t = V m c main_v0 := by blk_ext! [iblk, idx t]
  rw [e]; entry_read; pointwise
theorem b9 (t : Fin cfg0.N) (k : Fin 1024) (j : Fin 512) : iblk m c 9 t (ix2 k j) = (inp m c).ps (ix2 j k) := by
  have e : iblk m c 9 t = V m c main_v2 := by blk_ext! [iblk, idx t]
  rw [e]; entry_read; pointwise
theorem b10 (t : Fin cfg0.N) (k : Fin 1024) (j : Fin 512) : iblk m c 10 t (ix2 k j) = (inp m c).pg (ix2 j k) := by
  have e : iblk m c 10 t = V m c main_v4 := by blk_ext! [iblk, idx t]
  rw [e]; entry_read; pointwise
theorem b11 (t : Fin cfg0.N) (k : Fin 1024) (j : Fin 1024) : iblk m c 11 t (ix2 k j) = (inp m c).wo (ix2 k j) := by
  have e : iblk m c 11 t = V m c main_v5 := by blk_ext! [iblk, idx t]
  rw [e]; entry_read; pointwise

/-- A row of a grid point's blocks is a row of the arguments. -/
theorem row_eq (t : Fin cfg0.N) (r : Fin 512) : (B m c t).row r = (inp m c).row (row t r) :=
  Row.ext (funext fun j => b0 t r j) (funext fun j => b1 t r j) (funext fun j => b2 t r j) (funext fun j => b3 t r j) (funext fun j => b4 t r j)
    (funext fun j => b5 t r j) (funext fun k => funext fun j => b6 t k j) (funext fun j => b7 t j) (funext fun j => b8 t j)
    (funext fun k => funext fun j => b9 t j k) (funext fun k => funext fun j => b10 t j k) (funext fun k => funext fun j => b11 t k j)

theorem point (t : Fin cfg0.N) (r : Fin 512) (j : Fin 1024) :
    out0_12 (F := Ideal) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (ix2 r j) = (inp m c).h2 (ix2 (row t r) j) := by
  unfold out0_12
  frame_out
  exact ((B m c t).h2_at r j).trans (by rw [row_eq, In.h2_at])

theorem final12 : (dats m 0 c).arrAt 12 (cfgs 0).N = (inp m c).h2 := by
  refine (dats m 0 c).arrAt_eq_of_covers 12 _ (by decide +kernel) fun t _ y => ?_
  blk_simp
  rw [after0_12]
  idx_vars y
  rw [point]
  refine congrArg (inp m c).h2 (a₁ := ix2 (row t y0) y1) ?_
  blk_ext! [row, idx t]

end Cert.PostFwd

end
-- ==== Proof.PostFwd.Claims.lean ====
module

public import proofs.«01_k».proof.Defs
public import proofs.«01_k».proof.Proof.PostFwd.Value

@[expose] public section

set_option maxRecDepth 16384

noncomputable section

open Idealize.ShloMosaic Idealize.ShloMosaic.TcCoe Idealize.SL.Sem Idealize.ShloMosaic.StableHlo

/-! The branches behind the mixers: their claims. -/

namespace Cert.PostFwd

/-- The reference runs through, leaves its arguments, and declares no semaphore. -/
theorem ref_frame : Cert.quiescent_PostFrefIdeal (hPostFrefIdeal := Cert.PostFrefIdeal.Gen.facts) := by
  intro m ρ _
  refine (θ_run Cert.PostFrefIdeal.defs _ _).mono ?_ (Cert.PostFrefIdeal.Value.run (F := Ideal) m ρ)
  intro r h
  refine ⟨fun c => ?_, Idealize.ShloMosaic.sem_eq_zero_of_no_sems (by decide) r.2⟩
  obtain ⟨-, ra⟩ := h c
  exact ra

/-- The reference's arguments on device `c`. -/
abbrev inpR (m : (ℓ : Loc Cert.PostFrefIdeal.nD Cert.PostFrefIdeal.τ Cert.PostFrefIdeal.sig) → Buf (Elt Ideal) ℓ) (c : Dev Cert.PostFrefIdeal.nD) : In :=
  ⟨m (c.tc.loc Cert.PostFrefIdeal.main_arg0), m (c.tc.loc Cert.PostFrefIdeal.main_arg1), m (c.tc.loc Cert.PostFrefIdeal.main_arg2), m (c.tc.loc Cert.PostFrefIdeal.main_arg3), m (c.tc.loc Cert.PostFrefIdeal.main_arg4), m (c.tc.loc Cert.PostFrefIdeal.main_arg5), m (c.tc.loc Cert.PostFrefIdeal.main_arg6), m (c.tc.loc Cert.PostFrefIdeal.main_arg7), m (c.tc.loc Cert.PostFrefIdeal.main_arg8), m (c.tc.loc Cert.PostFrefIdeal.main_arg9), m (c.tc.loc Cert.PostFrefIdeal.main_arg10), m (c.tc.loc Cert.PostFrefIdeal.main_arg11)⟩

set_option maxHeartbeats 3200000 in
/-- At any arguments the kernel computes the new states. -/
theorem value : Cert.algebraic_PostFwdIdeal_PostFrefIdeal (hPostFwdIdeal := Cert.PostFwdIdeal.Gen.facts)
    (hPostFrefIdeal := Cert.PostFrefIdeal.Gen.facts) := by
  pair_intro
  · run_from Cert.PostFwdIdeal.Gen.run_main m g
  · refine (θ_run Cert.PostFrefIdeal.defs _ _).mono ?_ (Cert.PostFrefIdeal.Value.run (F := Ideal) m' g')
    intro r h c
    obtain ⟨r0, ra⟩ := h c
    obtain ⟨a0, a1, a2, a3, a4, a5, a6, a7, a8, a9, a10, a11⟩ := hagree c
    refine ⟨?_, ra⟩
    refine (r0.trans (rfl : _ = In.h2 (inpR m' c))).trans ?_
    unfold inpR; rw [a0, a1, a2, a3, a4, a5, a6, a7, a8, a9, a10, a11]; exact final12.symm

end Cert.PostFwd

end
-- ==== Proof.Gla.Math.lean ====
module

public import proofs.«01_k».proof.Proof.Norm.Finite

@[expose] public section

noncomputable section

open Finset

/-! The gated linear attention over the real numbers: the sum over all earlier tokens, and its form by 64 tokens with a state. -/

namespace Cert.Gla

/-- The logarithm of the sigmoid, divided by 16. -/
def lsig (x : ℝ) : ℝ := -Real.log (1 + Real.exp (-x)) / 16

/-- The last `d` entries of a sequence up to place `t`, summed. -/
def win (d : ℕ) (g : ℕ → ℝ) (t : ℕ) : ℝ := ∑ i ∈ range d, if i ≤ t then g (t - i) else 0

theorem win_one (g : ℕ → ℝ) (t : ℕ) : win 1 g t = g t := by simp [win]

/-- Twice the length: the sum, and the same sum `d` places earlier. -/
theorem win_add (d : ℕ) (g : ℕ → ℝ) (t : ℕ) : win (d + d) g t = win d g t + if d ≤ t then win d g (t - d) else 0 := by
  unfold win
  rw [sum_range_add]
  congr 1
  split_ifs with h
  · refine sum_congr rfl fun i _ => ?_
    by_cases hi : i ≤ t - d
    · rw [if_pos (by omega), if_pos hi, show t - (d + i) = t - d - i by omega]
    · rw [if_neg (by omega), if_neg hi]
  · exact sum_eq_zero fun i _ => if_neg (by omega)

/-- A long enough window holds everything. -/
theorem win_all {d t : ℕ} (h : t < d) (g : ℕ → ℝ) : win d g t = ∑ i ∈ range (t + 1), g i := by
  unfold win
  obtain ⟨e, rfl⟩ := Nat.exists_eq_add_of_le (show t + 1 ≤ d from h)
  rw [sum_range_add, sum_eq_zero (s := range e) fun i _ => if_neg (by omega), add_zero, ← sum_range_reflect g (t + 1)]
  exact sum_congr rfl fun i hi => by
    rw [if_pos (by have := mem_range.mp hi; omega), show t + 1 - 1 - i = t - i by omega]

/-- The head of a key column, the value column of a head's column, and the key column of a head's column. -/
def head (κ : Fin 256) : Fin 4 := ⟨κ.val / 64, by omega⟩
def vcol (h : Fin 4) (e : Fin 128) : Fin 512 := ⟨h.val * 128 + e.val, by omega⟩
def kcol (h : Fin 4) (d : Fin 64) : Fin 256 := ⟨h.val * 64 + d.val, by omega⟩

theorem head_kcol (h : Fin 4) (d : Fin 64) : head (kcol h d) = h := Fin.ext (by unfold head kcol; dsimp only; omega)

/-- One for the columns of head `h`, else zero. -/
def msk (h : Fin 4) (κ : Fin 256) : ℝ := if h.val * 64 ≤ κ.val ∧ κ.val < h.val * 64 + 64 then 1 else 0

theorem msk_eq (h : Fin 4) (κ : Fin 256) : msk h κ = if head κ = h then 1 else 0 := by
  unfold msk
  congr 1
  rw [Fin.ext_iff]; unfold head; dsimp only
  exact propext ⟨fun _ => by omega, fun _ => by omega⟩

/-- A masked sum over all columns is the sum over the head's columns. -/
theorem sum_msk (h : Fin 4) (f : Fin 256 → ℝ) : ∑ κ, msk h κ * f κ = ∑ d, f (kcol h d) := by
  simp only [msk_eq, ite_mul, one_mul, zero_mul]
  rw [← sum_filter]
  refine (sum_nbij' (fun d => kcol h d) (fun κ => ⟨κ.val % 64, by omega⟩) ?_ ?_ ?_ ?_ ?_).symm
  · exact fun d _ => mem_filter.mpr ⟨mem_univ _, head_kcol h d⟩
  · exact fun _ _ => mem_univ _
  · exact fun d _ => Fin.ext (by unfold kcol; dsimp only; omega)
  · intro κ hκ
    obtain rfl := (mem_filter.mp hκ).2
    exact Fin.ext (by unfold kcol head; dsimp only; omega)
  · exact fun _ _ => rfl

/-- The queries, keys, logarithms of the decays, and values, by token. -/
structure Data where
  q : ℕ → Fin 256 → ℝ
  k : ℕ → Fin 256 → ℝ
  la : ℕ → Fin 256 → ℝ
  v : ℕ → Fin 512 → ℝ

namespace Data
variable (D : Data)

/-- The summed logarithms of the first `n` tokens, the keys and queries scaled with them. -/
def P (n : ℕ) (κ : Fin 256) : ℝ := ∑ σ ∈ range n, D.la σ κ
def kt (σ : ℕ) (κ : Fin 256) : ℝ := D.k σ κ * Real.exp (-D.P (σ + 1) κ)
def qt (τ : ℕ) (κ : Fin 256) : ℝ := D.q τ κ * (1 / 8) * Real.exp (D.P (τ + 1) κ)

/-- The state in front of token `n`, and the output at token `τ`. -/
def st (n : ℕ) (e : Fin 128) (κ : Fin 256) : ℝ := (∑ σ ∈ range n, D.v σ (vcol (head κ) e) * D.kt σ κ) * Real.exp (D.P n κ)
def out (τ : ℕ) (h : Fin 4) (e : Fin 128) : ℝ := ∑ σ ∈ range (τ + 1), (∑ κ, msk h κ * (D.qt τ κ * D.kt σ κ)) * D.v σ (vcol h e)

/-- The logarithms summed from token `n` on, up to its `s`th successor. -/
def cum (n s : ℕ) (κ : Fin 256) : ℝ := ∑ i ∈ range (s + 1), D.la (n + i) κ

theorem P_add (n s : ℕ) (κ : Fin 256) : D.P (n + s + 1) κ = D.P n κ + D.cum n s κ := by
  unfold P cum; rw [add_assoc, sum_range_add]

theorem st_zero (e : Fin 128) (κ : Fin 256) : D.st 0 e κ = 0 := by simp [st]

/-- The state after 64 more tokens. -/
theorem st_step (n : ℕ) (e : Fin 128) (κ : Fin 256) : D.st (n + 64) e κ = Real.exp (D.cum n 63 κ) * D.st n e κ
    + ∑ s : Fin 64, D.v (n + s.val) (vcol (head κ) e) * (D.k (n + s.val) κ * Real.exp (D.cum n 63 κ - D.cum n s.val κ)) := by
  have hP : D.P (n + 64) κ = D.P n κ + D.cum n 63 κ := D.P_add n 63 κ
  unfold st
  rw [sum_range_add, add_mul, hP, Real.exp_add]
  congr 1
  · ring
  · rw [sum_mul, ← Fin.sum_univ_eq_sum_range (fun s => D.v (n + s) (vcol (head κ) e) * D.kt (n + s) κ * (Real.exp (D.P n κ) * Real.exp (D.cum n 63 κ))) 64]
    refine sum_congr rfl fun s _ => ?_
    unfold kt
    rw [D.P_add n s.val κ, sub_eq_add_neg, neg_add, Real.exp_add, Real.exp_add]
    have h1 : Real.exp (-D.P n κ) * Real.exp (D.P n κ) = 1 := by rw [← Real.exp_add]; simp
    linear_combination (D.v (n + s.val) (vcol (head κ) e) * D.k (n + s.val) κ * Real.exp (-D.cum n s.val κ) * Real.exp (D.cum n 63 κ)) * h1

/-- The output at the `t`th of 64 tokens, from these and the state in front of them. -/
theorem out_step (n : ℕ) (t : Fin 64) (h : Fin 4) (e : Fin 128) : D.out (n + t.val) h e
    = (∑ s : Fin 64, (if s.val ≤ t.val then 1 else 0)
        * (∑ κ, D.q (n + t.val) κ * (1 / 8) * Real.exp (D.cum n t.val κ) * msk h κ * (D.k (n + s.val) κ * Real.exp (0 - D.cum n s.val κ)))
        * D.v (n + s.val) (vcol h e))
      + ∑ κ, D.q (n + t.val) κ * (1 / 8) * Real.exp (D.cum n t.val κ) * msk h κ * D.st n e κ := by
  have hq (κ : Fin 256) : D.qt (n + t.val) κ = D.q (n + t.val) κ * (1 / 8) * Real.exp (D.cum n t.val κ) * Real.exp (D.P n κ) := by
    unfold qt; rw [D.P_add, Real.exp_add]; ring
  have hk (s : ℕ) (κ : Fin 256) : D.kt (n + s) κ = D.k (n + s) κ * Real.exp (0 - D.cum n s κ) * Real.exp (-D.P n κ) := by
    unfold kt; rw [D.P_add, neg_add, Real.exp_add, zero_sub]; ring
  have h1 (κ : Fin 256) : Real.exp (-D.P n κ) * Real.exp (D.P n κ) = 1 := by rw [← Real.exp_add]; simp
  unfold out
  rw [add_assoc, sum_range_add, add_comm]
  congr 1
  · rw [← Fin.sum_univ_eq_sum_range (fun s => (∑ κ, msk h κ * (D.qt (n + t.val) κ * D.kt (n + s) κ)) * D.v (n + s) (vcol h e)) (t.val + 1)]
    rw [Fin.sum_univ_eq_sum_range (fun s => (∑ κ, msk h κ * (D.qt (n + t.val) κ * D.kt (n + s) κ)) * D.v (n + s) (vcol h e)) (t.val + 1),
      Fin.sum_univ_eq_sum_range (fun s => (if s ≤ t.val then 1 else 0)
        * (∑ κ, D.q (n + t.val) κ * (1 / 8) * Real.exp (D.cum n t.val κ) * msk h κ * (D.k (n + s) κ * Real.exp (0 - D.cum n s κ)))
        * D.v (n + s) (vcol h e)) 64]
    obtain ⟨d, hd⟩ := Nat.exists_eq_add_of_le (show t.val + 1 ≤ 64 from t.isLt)
    rw [congrArg range hd, sum_range_add _ (t.val + 1) d, sum_eq_zero (s := range d) fun i _ => by rw [if_neg (by omega), zero_mul, zero_mul], add_zero]
    refine sum_congr rfl fun s hs => ?_
    rw [if_pos (by have := mem_range.mp hs; omega), one_mul]
    congr 1
    refine sum_congr rfl fun κ _ => ?_
    rw [hq, hk]
    linear_combination (msk h κ * (D.q (n + t.val) κ * (1 / 8) * Real.exp (D.cum n t.val κ) * (D.k (n + s) κ * Real.exp (0 - D.cum n s κ)))) * h1 κ
  · have e1 (κ : Fin 256) : D.q (n + t.val) κ * (1 / 8) * Real.exp (D.cum n t.val κ) * msk h κ * D.st n e κ
        = ∑ σ ∈ range n, msk h κ * (D.qt (n + t.val) κ * D.kt σ κ) * D.v σ (vcol h e) := by
      unfold st
      by_cases hh : head κ = h
      · rw [hh, hq, sum_mul, mul_sum]
        exact sum_congr rfl fun σ _ => by ring
      · simp [msk_eq, hh]
    simp only [e1]
    rw [sum_comm]
    exact sum_congr rfl fun σ _ => sum_mul _ _ _

end Data

end Cert.Gla

end
-- ==== Proof.Gla.Chunk.lean ====
module

public import proofs.«01_k».proof.Proof.Gen.GlaFwdIdeal.Skeleton
public import proofs.«01_k».proof.Proof.Gla.Math
public import proofs.«01_k».proof.Proof.Norm.Scale
public import Idealize.ShloMosaic.Lib.Pointwise
public import Idealize.ShloMosaic.Lib.WordCmp
public import Idealize.ShloMosaic.Lib.KernelVsHost
public import Idealize.ShloMosaic.Lib.Claim

@[expose] public section

set_option maxRecDepth 16384

noncomputable section

open Idealize.ShloMosaic Idealize.ShloMosaic.TcCoe Idealize.SL.Sem

/-! What the kernel does with 64 tokens. -/

namespace Cert.Gla

open Cert.GlaFwdIdeal Cert.GlaFwdIdeal.Gen Cert.Norm

/-- The arrays the kernel works on: queries, keys, gates' inputs, the gates' matrix and bias, the four heads' values, the state. -/
structure Chunk where
  q : Vec Ideal S64x256 .f32
  k : Vec Ideal S64x256 .f32
  al : Vec Ideal S64x16 .f32
  w : Vec Ideal S16x256 .f32
  b : Vec Ideal S1x256 .f32
  v0 : Vec Ideal S64x128 .f32
  v1 : Vec Ideal S64x128 .f32
  v2 : Vec Ideal S64x128 .f32
  v3 : Vec Ideal S64x128 .f32
  s : Vec Ideal S128x256 .f32

theorem ofBits_tau : Ideal.ofBits .f32 0x3D800000#32 = ((1 / 16 : ℝ) : EReal) := by
  simp [Ideal.ofBits, Ideal.ieee]; rw [← EReal.coe_mul]; norm_num
theorem ofBits_eighth : Ideal.ofBits .f32 0x3E000000#32 = ((1 / 8 : ℝ) : EReal) := by
  simp [Ideal.ofBits, Ideal.ieee]; rw [← EReal.coe_mul]; norm_num

/-- The sigmoid's logarithm, as the kernel computes it. -/
theorem lsig_eq (x : ℝ) : (min (x : EReal) 0 - Ideal.log (((1 : ℝ) : EReal) + Ideal.exp (0 - max (x : EReal) (-x)))) * ((1 / 16 : ℝ) : EReal) = (lsig x : EReal) := by
  have h (y : ℝ) : Ideal.log (((1 : ℝ) : EReal) + Ideal.exp (y : EReal)) = ((Real.log (1 + Real.exp y) : ℝ) : EReal) := by
    rw [Ideal.exp_coe, ← EReal.coe_add, Ideal.log_coe, if_neg (not_le.mpr (by positivity))]
  rw [← EReal.coe_zero, ← EReal.coe_neg]
  rcases le_total 0 x with hx | hx
  · rw [min_eq_right (EReal.coe_le_coe_iff.mpr hx), max_eq_left (EReal.coe_le_coe_iff.mpr (by linarith)), ← EReal.coe_sub, h, ← EReal.coe_sub, ← EReal.coe_mul]
    congr 1; unfold lsig; rw [zero_sub, zero_sub]; ring
  · rw [min_eq_left (EReal.coe_le_coe_iff.mpr hx), max_eq_right (EReal.coe_le_coe_iff.mpr (by linarith)), ← EReal.coe_sub, h, ← EReal.coe_sub, ← EReal.coe_mul]
    congr 1; unfold lsig; rw [zero_sub, neg_neg]
    have : Real.log (1 + Real.exp (-x)) = Real.log (1 + Real.exp x) - x := by
      rw [show 1 + Real.exp (-x) = (1 + Real.exp x) * Real.exp (-x) by rw [add_mul, ← Real.exp_add]; simp [add_comm],
        Real.log_mul (by positivity) (by positivity), Real.log_exp]; ring
    rw [this]; ring

/-- One step of the scan along the tokens: what came `d` tokens before is added. -/
theorem scan_at {d : ℕ} (hd : d < 64) (g : ℕ → ℝ) (x : FVec Ideal S64x256 .f32) (κ : Fin 256) (h : ∀ s : Fin 64, x (ix2 s κ) = ((win d g s.val : ℝ) : EReal)) (s : Fin 64) :
    addf x (select (cmpi .sge (iota .tc S64x256 32 [0] iota_S64x256_d0_w32) (broadcast S64x256 (BitVec.ofNat 32 d)))
      (dynamicRotate 0 (BitVec.ofNat 32 d) none x rotates_S64x256_d0) (broadcast S64x256 (Scalar.ofBits (F := Ideal) .f32 0x00000000#32))) (ix2 s κ)
      = ((win (d + d) g s.val : ℝ) : EReal) := by
  have hr (hs : d ≤ s.val) : dynamicRotate 0 (BitVec.ofNat 32 d) none x rotates_S64x256_d0 (ix2 s κ) = x (ix2 ⟨s.val - d, by omega⟩ κ) := by
    refine dynamicRotate_apply 0 _ x _ _ _ fun b => ?_
    have hn : (BitVec.ofNat 32 d).toNat = d := by rw [BitVec.toNat_ofNat]; omega
    rw [hn]
    match b with
    | ⟨0, _⟩ => show s.val - d = (s.val + 64 - d % 64) % 64; omega
    | ⟨1, _⟩ => rfl
  have hc : cmpi .sge (iota .tc S64x256 32 [0] iota_S64x256_d0_w32) (broadcast S64x256 (BitVec.ofNat 32 d)) (ix2 s κ) = BitVec.ofBool (decide (d ≤ s.val)) := by
    have e : cmpi .sge (iota .tc S64x256 32 [0] iota_S64x256_d0_w32) (broadcast S64x256 (BitVec.ofNat 32 d)) (ix2 s κ) = IntOp.cmpi .sge (BitVec.ofNat 32 s.val) (BitVec.ofNat 32 d) := by
      pointwise
    rw [e]
    exact WordCmp.cmpi_sge_ofNat (by omega) (by omega)
  show x (ix2 s κ) + (if cmpi .sge (iota .tc S64x256 32 [0] iota_S64x256_d0_w32) (broadcast S64x256 (BitVec.ofNat 32 d)) (ix2 s κ) = 1#1
    then dynamicRotate 0 (BitVec.ofNat 32 d) none x rotates_S64x256_d0 (ix2 s κ) else Ideal.ofBits .f32 0x00000000#32) = _
  rw [hc, win_add]
  by_cases hs : d ≤ s.val
  · rw [hr hs, h, h]; simp [hs]
  · rw [h]; simp [hs, Ideal.ofBits, Ideal.ieee]

namespace Chunk
variable (c : Chunk)

/-- The kernel's values on the way. -/
def la : FVec Ideal S64x256 .f32 := k0_pay3 c.w c.b c.al
def bc : FVec Ideal S64x256 .f32 := k0_pay8 c.la (iota .tc S64x256 32 [0] iota_S64x256_d0_w32) k0_pay5 (k0_pay6 c.w c.b c.al) (k0_pay7 (F := Ideal))
def bl : FVec Ideal S1x256 .f32 := k0_pay9 c.la (iota .tc S64x256 32 [0] iota_S64x256_d0_w32) k0_pay5 (k0_pay6 c.w c.b c.al) (k0_pay7 (F := Ideal))
def en : FVec Ideal S64x256 .f32 := k0_pay10 c.la (iota .tc S64x256 32 [0] iota_S64x256_d0_w32) k0_pay5 (k0_pay6 c.w c.b c.al) (k0_pay7 (F := Ideal))
def ee : FVec Ideal S64x256 .f32 := k0_pay11 c.la (iota .tc S64x256 32 [0] iota_S64x256_d0_w32) k0_pay5 (k0_pay6 c.w c.b c.al) (k0_pay7 (F := Ideal))
def qt : FVec Ideal S64x256 .f32 := k0_pay12 c.q c.la (iota .tc S64x256 32 [0] iota_S64x256_d0_w32) k0_pay5 (k0_pay6 c.w c.b c.al) (k0_pay7 (F := Ideal))
def ke : FVec Ideal S64x256 .f32 := k0_pay13 c.k c.ee

/-- The outputs of the four heads, and the state behind the 64 tokens. -/
def o0 : FVec Ideal S64x128 .f32 := k0_pay26 (k0_pay4 (F := Ideal)) (k0_pay20 c.s) (k0_pay23 c.qt) (k0_pay24 c.v0) (k0_pay25 c.k c.en c.qt)
def o1 : FVec Ideal S64x128 .f32 := k0_pay28 (k0_pay4 (F := Ideal)) c.qt (k0_pay15 (F := Ideal)) (k0_pay20 c.s) (k0_pay21 c.k c.en) c.v1
def o2 : FVec Ideal S64x128 .f32 := k0_pay31 (k0_pay4 (F := Ideal)) c.qt (k0_pay16 (F := Ideal)) (k0_pay20 c.s) (k0_pay21 c.k c.en) c.v2
def o3 : FVec Ideal S64x128 .f32 := k0_pay33 (k0_pay4 (F := Ideal)) c.qt (k0_pay17 (F := Ideal)) (k0_pay20 c.s) (k0_pay21 c.k c.en) c.v3
def s' : FVec Ideal S128x256 .f32 := k0_pay34 c.s c.ke (k0_pay16 (F := Ideal)) (k0_pay17 (F := Ideal)) (k0_pay18 c.bl)
  (k0_pay29 c.ke (k0_pay14 (F := Ideal)) (k0_pay15 (F := Ideal)) (k0_pay22 (F := Ideal)) (k0_pay24 c.v0) c.v1) (k0_pay30 c.v2) c.v3

/-- The arrays hold the tokens from `n` on, and the state in front of them. -/
structure Is (D : Data) (n : ℕ) : Prop where
  q (s : Fin 64) κ : c.q (ix2 s κ) = (D.q (n + s.val) κ : EReal)
  k (s : Fin 64) κ : c.k (ix2 s κ) = (D.k (n + s.val) κ : EReal)
  la (s : Fin 64) κ : c.la (ix2 s κ) = (D.la (n + s.val) κ : EReal)
  v0 (s : Fin 64) e : c.v0 (ix2 s e) = (D.v (n + s.val) (vcol 0 e) : EReal)
  v1 (s : Fin 64) e : c.v1 (ix2 s e) = (D.v (n + s.val) (vcol 1 e) : EReal)
  v2 (s : Fin 64) e : c.v2 (ix2 s e) = (D.v (n + s.val) (vcol 2 e) : EReal)
  v3 (s : Fin 64) e : c.v3 (ix2 s e) = (D.v (n + s.val) (vcol 3 e) : EReal)
  s e κ : c.s (ix2 e κ) = (D.st n e κ : EReal)

theorem la_at (s : Fin 64) (κ : Fin 256) (a : Fin 16 → ℝ) (w : Fin 16 → ℝ) (b : ℝ) (ha : ∀ r, c.al (ix2 s r) = (a r : EReal))
    (hw : ∀ r, c.w (ix2 r κ) = (w r : EReal)) (hb : c.b (ix2 0 κ) = (b : EReal)) : c.la (ix2 s κ) = (lsig (∑ r, a r * w r + b) : EReal) := by
  unfold la
  pointwise [k0_pay3]
  simp only [ha, hw, hb, ← EReal.coe_mul, coe_sum, ← EReal.coe_add, ofBits_one, ofBits_tau]
  exact lsig_eq _

variable {c} {D : Data} {n : ℕ}

theorem Is.bc (h : c.Is D n) (s : Fin 64) (κ : Fin 256) : c.bc (ix2 s κ) = (D.cum n s.val κ : EReal) := by
  have e := win_all s.isLt (fun i => D.la (n + i) κ)
  unfold Data.cum
  rw [← e]
  have s1 := scan_at (d := 1) (by omega) (fun i => D.la (n + i) κ) c.la κ fun s => by rw [win_one]; exact h.la s κ
  have s2 := scan_at (d := 2) (by omega) _ _ κ s1
  have s4 := scan_at (d := 4) (by omega) _ _ κ s2
  have s8 := scan_at (d := 8) (by omega) _ _ κ s4
  have s16 := scan_at (d := 16) (by omega) _ _ κ s8
  exact scan_at (d := 32) (by omega) _ _ κ s16 s

theorem Is.bl (h : c.Is D n) (κ : Fin 256) : c.bl (ix2 0 κ) = (D.cum n 63 κ : EReal) := by
  refine Eq.trans ?_ (h.bc 63 κ)
  unfold Chunk.bl; pointwise [k0_pay9]; rfl

theorem Is.en (h : c.Is D n) (s : Fin 64) (κ : Fin 256) : c.en (ix2 s κ) = (Real.exp (0 - D.cum n s.val κ) : EReal) := by
  have e : c.en (ix2 s κ) = Ideal.exp (Ideal.ofBits .f32 0x00000000#32 - c.bc (ix2 s κ)) := rfl
  rw [e, h.bc, Ideal.ofBits_zero, ← EReal.coe_zero, ← EReal.coe_sub, Ideal.exp_coe]

theorem Is.ee (h : c.Is D n) (s : Fin 64) (κ : Fin 256) : c.ee (ix2 s κ) = (Real.exp (D.cum n 63 κ - D.cum n s.val κ) : EReal) := by
  have e : c.ee (ix2 s κ) = Ideal.exp (c.bl (ix2 0 κ) - c.bc (ix2 s κ)) := by
    unfold Chunk.ee Chunk.bl Chunk.bc; pointwise [k0_pay11]
  rw [e, h.bc, h.bl, ← EReal.coe_sub, Ideal.exp_coe]

theorem Is.qt (h : c.Is D n) (s : Fin 64) (κ : Fin 256) : c.qt (ix2 s κ) = (D.q (n + s.val) κ * (1 / 8) * Real.exp (D.cum n s.val κ) : ℝ) := by
  have e : c.qt (ix2 s κ) = c.q (ix2 s κ) * Ideal.ofBits .f32 0x3E000000#32 * Ideal.exp (c.bc (ix2 s κ)) := rfl
  rw [e, h.q, h.bc, ofBits_eighth, Ideal.exp_coe, ← EReal.coe_mul, ← EReal.coe_mul]

theorem Is.ke (h : c.Is D n) (s : Fin 64) (κ : Fin 256) : c.ke (ix2 s κ) = (D.k (n + s.val) κ * Real.exp (D.cum n 63 κ - D.cum n s.val κ) : ℝ) := by
  have e : c.ke (ix2 s κ) = c.k (ix2 s κ) * c.ee (ix2 s κ) := rfl
  rw [e, h.k, h.ee, ← EReal.coe_mul]

theorem tril_at (s t : Fin 64) : k0_pay4 (F := Ideal) (ix2 s t) = ((if t.val ≤ s.val then 1 else 0 : ℝ) : EReal) := by
  pointwise [k0_pay4]
  rw [WordCmp.cmpi_sge_ofNat (by omega) (by omega)]
  by_cases h : t.val ≤ s.val
  · simp only [h, decide_true, if_true]
    show (((1#32).toInt : ℝ) : EReal) = _; norm_num
  · simp only [h, decide_false, if_false]
    show (((0#32).toInt : ℝ) : EReal) = _; norm_num

/-- A column is one of head `h`'s. -/
theorem mask_word (h : Fin 4) (κ : Fin 256) : BitVec.setWidth 32 (IntOp.andi (IntOp.cmpi .sge (BitVec.ofNat 32 κ.val) (BitVec.ofNat 32 (h.val * 64)))
    (IntOp.cmpi .slt (BitVec.ofNat 32 κ.val) (BitVec.ofNat 32 (h.val * 64 + 64)))) = if h.val * 64 ≤ κ.val ∧ κ.val < h.val * 64 + 64 then 1#32 else 0#32 := by
  revert h κ; decide +kernel

theorem mask_at (h : Fin 4) (κ : Fin 256) : (FloatOps.sitofp .f32 (BitVec.setWidth 32 (IntOp.andi (IntOp.cmpi .sge (BitVec.ofNat 32 κ.val) (BitVec.ofNat 32 (h.val * 64)))
    (IntOp.cmpi .slt (BitVec.ofNat 32 κ.val) (BitVec.ofNat 32 (h.val * 64 + 64))))) : Ideal .f32) = (msk h κ : EReal) := by
  rw [mask_word]
  unfold msk
  split_ifs
  · show (((1#32).toInt : ℝ) : EReal) = _; norm_num
  · show (((0#32).toInt : ℝ) : EReal) = _; norm_num

theorem m0_at (κ : Fin 256) : k0_pay14 (F := Ideal) (ix2 0 κ) = (msk 0 κ : EReal) := by
  pointwise [k0_pay14]; exact mask_at 0 κ
theorem m1_at (κ : Fin 256) : k0_pay15 (F := Ideal) (ix2 0 κ) = (msk 1 κ : EReal) := by
  pointwise [k0_pay15]; exact mask_at 1 κ
theorem m2_at (κ : Fin 256) : k0_pay16 (F := Ideal) (ix2 0 κ) = (msk 2 κ : EReal) := by
  pointwise [k0_pay16]; exact mask_at 2 κ
theorem m3_at (κ : Fin 256) : k0_pay17 (F := Ideal) (ix2 0 κ) = (msk 3 κ : EReal) := by
  pointwise [k0_pay17]; exact mask_at 3 κ

theorem Is.o0 (h : c.Is D n) (t : Fin 64) (e : Fin 128) : c.o0 (ix2 t e) = (D.out (n + t.val) 0 e : EReal) := by
  unfold Chunk.o0
  pointwise [k0_pay20, k0_pay21, k0_pay23, k0_pay24, k0_pay25, k0_pay26]
  simp only [tril_at, m0_at, h.qt, h.k, h.en, h.v0, h.s, ← EReal.coe_mul, coe_sum, ← EReal.coe_add]
  rw [D.out_step]
theorem Is.o1 (h : c.Is D n) (t : Fin 64) (e : Fin 128) : c.o1 (ix2 t e) = (D.out (n + t.val) 1 e : EReal) := by
  unfold Chunk.o1
  pointwise [k0_pay20, k0_pay21, k0_pay27, k0_pay28]
  simp only [tril_at, m1_at, h.qt, h.k, h.en, h.v1, h.s, ← EReal.coe_mul, coe_sum, ← EReal.coe_add]
  rw [D.out_step]
theorem Is.o2 (h : c.Is D n) (t : Fin 64) (e : Fin 128) : c.o2 (ix2 t e) = (D.out (n + t.val) 2 e : EReal) := by
  unfold Chunk.o2
  pointwise [k0_pay20, k0_pay21, k0_pay30, k0_pay31]
  simp only [tril_at, m2_at, h.qt, h.k, h.en, h.v2, h.s, ← EReal.coe_mul, coe_sum, ← EReal.coe_add]
  rw [D.out_step]
theorem Is.o3 (h : c.Is D n) (t : Fin 64) (e : Fin 128) : c.o3 (ix2 t e) = (D.out (n + t.val) 3 e : EReal) := by
  unfold Chunk.o3
  pointwise [k0_pay20, k0_pay21, k0_pay32, k0_pay33]
  simp only [tril_at, m3_at, h.qt, h.k, h.en, h.v3, h.s, ← EReal.coe_mul, coe_sum, ← EReal.coe_add]
  rw [D.out_step]

/-- The four heads' parts of the update are one sum: each column belongs to one head. -/
theorem update_eq (a : Fin 4 → Fin 64 → ℝ) (b : Fin 64 → ℝ) (κ : Fin 256) :
    ∑ s, a 0 s * (b s * msk 0 κ) + ∑ s, a 1 s * (b s * msk 1 κ) + ∑ s, a 2 s * (b s * msk 2 κ) + ∑ s, a 3 s * (b s * msk 3 κ)
      = ∑ s, a (head κ) s * b s := by
  simp only [msk_eq]
  generalize head κ = h
  fin_cases h <;> simp

theorem Is.s' (h : c.Is D n) (e : Fin 128) (κ : Fin 256) : c.s' (ix2 e κ) = (D.st (n + 64) e κ : EReal) := by
  unfold Chunk.s'
  pointwise [k0_pay18, k0_pay22, k0_pay24, k0_pay27, k0_pay29, k0_pay30, k0_pay32, k0_pay34]
  simp only [m0_at, m1_at, m2_at, m3_at, h.bl, h.ke, h.v0, h.v1, h.v2, h.v3, h.s, Ideal.exp_coe, ← EReal.coe_mul, coe_sum, ← EReal.coe_add]
  rw [D.st_step]
  refine congrArg _ (congrArg _ ?_)
  exact update_eq (fun h s => D.v (n + s.val) (vcol h e)) _ κ

end Chunk

end Cert.Gla

end
-- ==== Proof.Gla.Same.lean ====
module

public import proofs.«01_k».proof.Proof.Gla.Chunk

@[expose] public section

set_option maxRecDepth 16384

noncomputable section

open Idealize.ShloMosaic Idealize.ShloMosaic.TcCoe Idealize.SL.Sem

/-! The second, third and fourth 64 tokens of a block are treated as the first are. -/

namespace Cert.Gla.Chunk

open Cert.GlaFwdIdeal Cert.GlaFwdIdeal.Gen

variable (c : Chunk)

def o0_1 : FVec Ideal S64x128 .f32 := k0_pay55 c.s (k0_pay38 (F := Ideal)) (k0_pay42 c.q (iota .tc S64x256 32 [0] iota_S64x256_d0_w32) (k0_pay39 (k0_pay36 c.w c.b c.al) (k0_pay37 c.w c.b c.al))) (k0_pay43 c.k (iota .tc S64x256 32 [0] iota_S64x256_d0_w32) (k0_pay39 (k0_pay36 c.w c.b c.al) (k0_pay37 c.w c.b c.al))) (k0_pay45 (F := Ideal)) c.v0
def o1_1 : FVec Ideal S64x128 .f32 := k0_pay58 c.s (k0_pay38 (F := Ideal)) (k0_pay42 c.q (iota .tc S64x256 32 [0] iota_S64x256_d0_w32) (k0_pay39 (k0_pay36 c.w c.b c.al) (k0_pay37 c.w c.b c.al))) (k0_pay43 c.k (iota .tc S64x256 32 [0] iota_S64x256_d0_w32) (k0_pay39 (k0_pay36 c.w c.b c.al) (k0_pay37 c.w c.b c.al))) (k0_pay46 (F := Ideal)) c.v1
def o2_1 : FVec Ideal S64x128 .f32 := k0_pay61 (k0_pay38 (F := Ideal)) (k0_pay42 c.q (iota .tc S64x256 32 [0] iota_S64x256_d0_w32) (k0_pay39 (k0_pay36 c.w c.b c.al) (k0_pay37 c.w c.b c.al))) (k0_pay47 (F := Ideal)) (k0_pay52 c.s) (k0_pay53 (k0_pay43 c.k (iota .tc S64x256 32 [0] iota_S64x256_d0_w32) (k0_pay39 (k0_pay36 c.w c.b c.al) (k0_pay37 c.w c.b c.al)))) c.v2
def o3_1 : FVec Ideal S64x128 .f32 := k0_pay63 (k0_pay38 (F := Ideal)) (k0_pay42 c.q (iota .tc S64x256 32 [0] iota_S64x256_d0_w32) (k0_pay39 (k0_pay36 c.w c.b c.al) (k0_pay37 c.w c.b c.al))) (k0_pay49 (F := Ideal) k0_pay48) (k0_pay52 c.s) (k0_pay53 (k0_pay43 c.k (iota .tc S64x256 32 [0] iota_S64x256_d0_w32) (k0_pay39 (k0_pay36 c.w c.b c.al) (k0_pay37 c.w c.b c.al)))) c.v3
def s_1 : FVec Ideal S128x256 .f32 := k0_pay64 c.s (k0_pay44 c.k (iota .tc S64x256 32 [0] iota_S64x256_d0_w32) (k0_pay39 (k0_pay36 c.w c.b c.al) (k0_pay37 c.w c.b c.al))) (k0_pay47 (F := Ideal)) (k0_pay49 (F := Ideal) k0_pay48) (k0_pay50 (k0_pay41 (iota .tc S64x256 32 [0] iota_S64x256_d0_w32) (k0_pay39 (k0_pay36 c.w c.b c.al) (k0_pay37 c.w c.b c.al)))) (k0_pay56 (k0_pay44 c.k (iota .tc S64x256 32 [0] iota_S64x256_d0_w32) (k0_pay39 (k0_pay36 c.w c.b c.al) (k0_pay37 c.w c.b c.al))) (k0_pay45 (F := Ideal)) c.v0) (k0_pay57 c.v1) (k0_pay59 (k0_pay46 (F := Ideal))) c.v2 c.v3
def o0_2 : FVec Ideal S64x128 .f32 := k0_pay85 c.s (k0_pay65 (F := Ideal)) (k0_pay71 c.q (iota .tc S64x256 32 [0] iota_S64x256_d0_w32) (k0_pay66 c.w c.b c.al) k0_pay67 (k0_pay68 c.w c.b c.al)) (k0_pay72 c.k (iota .tc S64x256 32 [0] iota_S64x256_d0_w32) (k0_pay66 c.w c.b c.al) k0_pay67 (k0_pay68 c.w c.b c.al)) (k0_pay74 (F := Ideal)) c.v0
def o1_2 : FVec Ideal S64x128 .f32 := k0_pay88 (k0_pay65 (F := Ideal)) (k0_pay71 c.q (iota .tc S64x256 32 [0] iota_S64x256_d0_w32) (k0_pay66 c.w c.b c.al) k0_pay67 (k0_pay68 c.w c.b c.al)) (k0_pay76 (F := Ideal) (iota .tc S1x256 32 [1] iota_S1x256_d1_w32) k0_pay75 128#32) (k0_pay81 c.s) (k0_pay82 (k0_pay72 c.k (iota .tc S64x256 32 [0] iota_S64x256_d0_w32) (k0_pay66 c.w c.b c.al) k0_pay67 (k0_pay68 c.w c.b c.al))) c.v1
def o2_2 : FVec Ideal S64x128 .f32 := k0_pay90 (k0_pay65 (F := Ideal)) (k0_pay71 c.q (iota .tc S64x256 32 [0] iota_S64x256_d0_w32) (k0_pay66 c.w c.b c.al) k0_pay67 (k0_pay68 c.w c.b c.al)) (k0_pay77 (F := Ideal) (iota .tc S1x256 32 [1] iota_S1x256_d1_w32)) (k0_pay81 c.s) (k0_pay82 (k0_pay72 c.k (iota .tc S64x256 32 [0] iota_S64x256_d0_w32) (k0_pay66 c.w c.b c.al) k0_pay67 (k0_pay68 c.w c.b c.al))) c.v2
def o3_2 : FVec Ideal S64x128 .f32 := k0_pay94 (k0_pay65 (F := Ideal)) (k0_pay81 c.s) (k0_pay82 (k0_pay72 c.k (iota .tc S64x256 32 [0] iota_S64x256_d0_w32) (k0_pay66 c.w c.b c.al) k0_pay67 (k0_pay68 c.w c.b c.al))) (k0_pay92 (k0_pay71 c.q (iota .tc S64x256 32 [0] iota_S64x256_d0_w32) (k0_pay66 c.w c.b c.al) k0_pay67 (k0_pay68 c.w c.b c.al)) (k0_pay78 (F := Ideal) (iota .tc S1x256 32 [1] iota_S1x256_d1_w32))) (k0_pay93 c.v3)
def s_2 : FVec Ideal S128x256 .f32 := k0_pay95 c.s (k0_pay73 c.k (iota .tc S64x256 32 [0] iota_S64x256_d0_w32) (k0_pay66 c.w c.b c.al) k0_pay67 (k0_pay68 c.w c.b c.al)) (k0_pay78 (F := Ideal) (iota .tc S1x256 32 [1] iota_S1x256_d1_w32)) (k0_pay79 (k0_pay70 (iota .tc S64x256 32 [0] iota_S64x256_d0_w32) (k0_pay66 c.w c.b c.al) k0_pay67 (k0_pay68 c.w c.b c.al))) (k0_pay91 (k0_pay73 c.k (iota .tc S64x256 32 [0] iota_S64x256_d0_w32) (k0_pay66 c.w c.b c.al) k0_pay67 (k0_pay68 c.w c.b c.al)) (k0_pay76 (F := Ideal) (iota .tc S1x256 32 [1] iota_S1x256_d1_w32) k0_pay75 128#32) (k0_pay77 (F := Ideal) (iota .tc S1x256 32 [1] iota_S1x256_d1_w32)) (k0_pay83 (F := Ideal)) (k0_pay86 (k0_pay73 c.k (iota .tc S64x256 32 [0] iota_S64x256_d0_w32) (k0_pay66 c.w c.b c.al) k0_pay67 (k0_pay68 c.w c.b c.al)) (k0_pay74 (F := Ideal)) c.v0) c.v1 c.v2) (k0_pay93 c.v3)
def o0_3 : FVec Ideal S64x128 .f32 := k0_pay116 (k0_pay97 (F := Ideal)) (k0_pay111 c.s) (k0_pay112 c.k (k0_pay101 (k0_pay96 c.w c.b c.al) (iota .tc S64x256 32 [0] iota_S64x256_d0_w32) 1#32)) (k0_pay114 c.q (k0_pay100 (k0_pay96 c.w c.b c.al) (iota .tc S64x256 32 [0] iota_S64x256_d0_w32) 1#32)) c.v0
def o1_3 : FVec Ideal S64x128 .f32 := k0_pay118 (k0_pay97 (F := Ideal)) (k0_pay103 c.q (k0_pay100 (k0_pay96 c.w c.b c.al) (iota .tc S64x256 32 [0] iota_S64x256_d0_w32) 1#32)) (k0_pay106 (F := Ideal)) (k0_pay111 c.s) (k0_pay112 c.k (k0_pay101 (k0_pay96 c.w c.b c.al) (iota .tc S64x256 32 [0] iota_S64x256_d0_w32) 1#32)) c.v1
def o2_3 : FVec Ideal S64x128 .f32 := k0_pay123 (k0_pay111 c.s) (k0_pay120 (k0_pay103 c.q (k0_pay100 (k0_pay96 c.w c.b c.al) (iota .tc S64x256 32 [0] iota_S64x256_d0_w32) 1#32)) (k0_pay107 (F := Ideal))) (k0_pay121 c.v2) (k0_pay122 (k0_pay97 (F := Ideal)) (k0_pay103 c.q (k0_pay100 (k0_pay96 c.w c.b c.al) (iota .tc S64x256 32 [0] iota_S64x256_d0_w32) 1#32)) (k0_pay107 (F := Ideal)) (k0_pay112 c.k (k0_pay101 (k0_pay96 c.w c.b c.al) (iota .tc S64x256 32 [0] iota_S64x256_d0_w32) 1#32)))
def o3_3 : FVec Ideal S64x128 .f32 := k0_pay125 (k0_pay97 (F := Ideal)) (k0_pay103 c.q (k0_pay100 (k0_pay96 c.w c.b c.al) (iota .tc S64x256 32 [0] iota_S64x256_d0_w32) 1#32)) (k0_pay108 (F := Ideal)) (k0_pay111 c.s) (k0_pay112 c.k (k0_pay101 (k0_pay96 c.w c.b c.al) (iota .tc S64x256 32 [0] iota_S64x256_d0_w32) 1#32)) c.v3
def s_3 : FVec Ideal S128x256 .f32 := k0_pay1 (k0_pay126 (k0_pay104 c.k (k0_pay98 (k0_pay96 c.w c.b c.al) (iota .tc S64x256 32 [0] iota_S64x256_d0_w32) 1#32) (k0_pay102 (k0_pay96 c.w c.b c.al) (iota .tc S64x256 32 [0] iota_S64x256_d0_w32) 1#32)) (k0_pay107 (F := Ideal)) (k0_pay108 (F := Ideal)) (k0_pay119 (k0_pay104 c.k (k0_pay98 (k0_pay96 c.w c.b c.al) (iota .tc S64x256 32 [0] iota_S64x256_d0_w32) 1#32) (k0_pay102 (k0_pay96 c.w c.b c.al) (iota .tc S64x256 32 [0] iota_S64x256_d0_w32) 1#32)) (k0_pay105 (F := Ideal)) (k0_pay106 (F := Ideal)) (k0_pay113 (F := Ideal)) c.v0 c.v1) (k0_pay121 c.v2) c.v3) (k0_pay127 c.s (k0_pay109 (k0_pay99 (k0_pay96 c.w c.b c.al) (iota .tc S64x256 32 [0] iota_S64x256_d0_w32) 1#32)))
theorem o0_1_eq : c.o0_1 = c.o0 := rfl
theorem o1_1_eq : c.o1_1 = c.o1 := rfl
theorem o2_1_eq : c.o2_1 = c.o2 := rfl
theorem o3_1_eq : c.o3_1 = c.o3 := rfl
theorem s_1_eq : c.s_1 = c.s' := rfl
theorem o0_2_eq : c.o0_2 = c.o0 := rfl
theorem o1_2_eq : c.o1_2 = c.o1 := rfl
theorem o2_2_eq : c.o2_2 = c.o2 := rfl
theorem o3_2_eq : c.o3_2 = c.o3 := rfl
theorem s_2_eq : c.s_2 = c.s' := rfl
theorem o0_3_eq : c.o0_3 = c.o0 := rfl
theorem o1_3_eq : c.o1_3 = c.o1 := rfl
theorem o2_3_eq : c.o2_3 = c.o2 := rfl
theorem o3_3_eq : c.o3_3 = c.o3 := rfl
theorem pay1_eq (a b : FVec Ideal S128x256 .f32) : k0_pay1 a b = addf b a := by
  funext i; idx_vars i; pointwise [k0_pay1]
theorem s_3_eq : c.s_3 = c.s' := by
  unfold s_3
  rw [pay1_eq]
  rfl

end Cert.Gla.Chunk

end
-- ==== Proof.Gla.Value.lean ====
module

public import proofs.«01_k».proof.Proof.Gen.GlaFwdIdeal.Frame
public import proofs.«01_k».proof.Proof.Gla.Same
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! What the kernel does with a block of 256 tokens: four times 64 of them, one after another. -/

namespace Cert.Gla

open Cert.GlaFwdIdeal Cert.GlaFwdIdeal.Gen Cert.Norm

/-- The rows of the `j`-th 64 tokens, and in them the columns of head `h`'s values. -/
abbrev toks (j : Fin 4) : Rect S256x256 := Rect.unit ![j.val * 64, 0] ![64, 256] (by revert j; decide)
abbrev toksA (j : Fin 4) : Rect S256x16 := Rect.unit ![j.val * 64, 0] ![64, 16] (by revert j; decide)
abbrev toksV (j h : Fin 4) : Rect S256x512 := Rect.unit ![j.val * 64, h.val * 128] ![64, 128] (by revert j h; decide)
abbrev slotS (j : Fin 4) : Rect S4x128x256 := Rect.unit ![j.val, 0, 0] ![1, 128, 256] (by revert j; decide)

/-- What the block's four times 64 tokens work on, given the states in front of them. -/
def part (q k : Vec Ideal S256x256 .f32) (v : Vec Ideal S256x512 .f32) (al : Vec Ideal S256x16 .f32) (w : Vec Ideal S16x256 .f32) (b : Vec Ideal S1x256 .f32)
    (j : Fin 4) (s : Vec Ideal S128x256 .f32) : Chunk :=
  ⟨View.ld q (toks j), View.ld k (toks j), View.ld al (toksA j), w, b, View.ld v (toksV j 0), View.ld v (toksV j 1), View.ld v (toksV j 2), View.ld v (toksV j 3), s⟩

variable (m : (ℓ : Loc nD τ sig) → Buf (Elt Ideal) ℓ) (c : Dev nD)

/-- The four parts of a grid point's block, from the state in front of it. -/
abbrev part' (t : Fin cfg0.N) : Fin 4 → Vec Ideal S128x256 .f32 → Chunk := part (iblk m c 0 t) (iblk m c 1 t) (iblk m c 2 t) (iblk m c 3 t) (iblk m c 4 t) (iblk m c 5 t)
def c0 (t : Fin cfg0.N) (s : Vec Ideal S128x256 .f32) : Chunk := part' m c t 0 s
def c1 (t : Fin cfg0.N) (s : Vec Ideal S128x256 .f32) : Chunk := part' m c t 1 (c0 m c t s).s'
def c2 (t : Fin cfg0.N) (s : Vec Ideal S128x256 .f32) : Chunk := part' m c t 2 (c1 m c t s).s_1
def c3 (t : Fin cfg0.N) (s : Vec Ideal S128x256 .f32) : Chunk := part' m c t 3 (c2 m c t s).s_2

/-- The outputs and the states of the four parts, each in its place. -/
def outs (a b d e : Chunk) : Vec Ideal S256x512 .f32 :=
  View.canon [⟨toksV 3 3, e.o3_3⟩, ⟨toksV 3 2, e.o2_3⟩, ⟨toksV 3 1, e.o1_3⟩, ⟨toksV 3 0, e.o0_3⟩, ⟨toksV 2 3, d.o3_2⟩, ⟨toksV 2 2, d.o2_2⟩, ⟨toksV 2 1, d.o1_2⟩, ⟨toksV 2 0, d.o0_2⟩,
    ⟨toksV 1 3, b.o3_1⟩, ⟨toksV 1 2, b.o2_1⟩, ⟨toksV 1 1, b.o1_1⟩, ⟨toksV 1 0, b.o0_1⟩, ⟨toksV 0 3, a.o3⟩, ⟨toksV 0 2, a.o2⟩, ⟨toksV 0 1, a.o1⟩, ⟨toksV 0 0, a.o0⟩]
def sts (a b d e : Chunk) : Vec Ideal S4x128x256 .f32 :=
  View.canon [⟨slotS 3, k0_pay110 (F := Ideal) e.s⟩, ⟨slotS 2, k0_pay80 (F := Ideal) d.s⟩, ⟨slotS 1, k0_pay51 (F := Ideal) b.s⟩, ⟨slotS 0, k0_pay19 (F := Ideal) a.s⟩]

/-- What a grid point leaves in the two results' blocks and in the carried state, from the state before it. -/
structure Outs (t : Fin cfg0.N) (s : Vec Ideal S128x256 .f32) (o : Vec Ideal S256x512 .f32 × Vec Ideal S4x128x256 .f32 × Vec Ideal S128x256 .f32) : Prop where
  st : o.2.2 = (c3 m c t s).s_3
  ss : o.2.1 = sts (c0 m c t s) (c1 m c t s) (c2 m c t s) (c3 m c t s)
  o : o.1 = outs (c0 m c t s) (c1 m c t s) (c2 m c t s) (c3 m c t s)

end Cert.Gla

end
-- ==== Proof.Gla.ValueA.lean ====
module

public import proofs.«01_k».proof.Proof.Gla.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The first grid point starts from the zero state. -/

namespace Cert.Gla

open Cert.GlaFwdIdeal Cert.GlaFwdIdeal.Gen Cert.Norm

variable (m : (ℓ : Loc nD τ sig) → Buf (Elt Ideal) ℓ) (c : Dev nD)

set_option maxHeartbeats 1600000 in
theorem outsA (t : Fin cfg0.N) (h0 : t.val % 16 = 0) : Outs m c t (k0_pay2 (F := Ideal)) (outsAt0 m c t.val t.isLt) := by
  rw [outsAt0_A m c t h0]
  constructor <;> (dsimp only; frame_out; rfl)

end Cert.Gla

end
-- ==== Proof.Gla.ValueB.lean ====
module

public import proofs.«01_k».proof.Proof.Gla.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! Every later grid point starts from the state the one before it left. -/

namespace Cert.Gla

open Cert.GlaFwdIdeal Cert.GlaFwdIdeal.Gen Cert.Norm

variable (m : (ℓ : Loc nD τ sig) → Buf (Elt Ideal) ℓ) (c : Dev nD)

set_option maxHeartbeats 1600000 in
theorem outsB (t : Fin cfg0.N) (h0 : ¬ t.val % 16 = 0) (z : t.val - 1 < cfg0.N) :
    Outs m c t (outsAt0 m c (t.val - 1) z).2.2 (outsAt0 m c t.val t.isLt) := by
  rw [outsAt0_B m c t h0]
  generalize (outsAt0 m c (t.val - 1) z).2.2 = s
  constructor <;> dsimp only <;> frame_out <;> rw [show View.read (Elt Ideal) (View.whole cc0_scratch0) _ = s from Memref.IsWhole.read_unread _ _] <;> rfl

end Cert.Gla

end
-- ==== Proof.Gla.Ref.lean ====
module

public import proofs.«01_k».proof.Proof.Gen.GlaFrefIdeal.Run
public import proofs.«01_k».proof.Proof.Gla.Math
public import proofs.«01_k».proof.Proof.Norm.Scale
public import Idealize.ShloMosaic.Lib.Pointwise
public import Idealize.ShloMosaic.Lib.WordCmp
public import Idealize.ShloMosaic.Lib.Claim

@[expose] public section

set_option maxRecDepth 16384

noncomputable section

open Idealize.ShloMosaic Idealize.ShloMosaic.TcCoe Idealize.SL.Sem Idealize.ShloMosaic.StableHlo

/-! The gated linear attention, the reference's results, in layers. -/

namespace Cert.Gla

open Cert.GlaFrefIdeal Cert.GlaFrefIdeal.Gen Cert.Norm

/-- The arguments. -/
structure In where
  q : FVec Ideal S4096x256 .f32
  k : FVec Ideal S4096x256 .f32
  v : FVec Ideal S4096x512 .f32
  al : FVec Ideal S4096x16 .f32
  w : FVec Ideal S16x256 .f32
  b : FVec Ideal S1x256 .f32

namespace In

/-- One where a token is not after another, and where a token is before the first of 64. -/
def upto : FVec Ideal S4096x4096 .f32 :=
  uitofp .f32 (cmpi .sge (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0))))
def before : FVec Ideal S64x4096 .f32 :=
  uitofp .f32 (cmpi .sgt (broadcastInDim S64x4096 ![0, 1] bcast_S64x1_S64x4096_0_1 (broadcastInDim S64x1 ![0] bcast_S64_S64x1_0 (addi (broadcastInDim S64 ![] bcast_S_S64 (constantI S_ 32 0#32)) (muli (broadcastInDim S64 ![] bcast_S_S64 (constantI S_ 32 64#32)) (iotaInDim S64 32 0))))) (broadcastInDim S64x4096 ![0, 1] bcast_S1x4096_S64x4096_0_1 (broadcastInDim S1x4096 ![1] bcast_S4096_S1x4096_1 (iotaInDim S4096 32 0))))

variable (a : In)

/-- The logarithms of the decays, summed to each token and to each first of 64. -/
def la : FVec Ideal S4096x256 .f32 :=
  Host.divf (Host.negf (Host.log (addf (broadcastInDim S4096x256 ![] bcast_S_S4096x256 (constant S_ .f32 0x3F800000#32)) (Host.exp (Host.negf (addf (Host.dotGeneral (F := Ideal) (φ₁ := .f32) (φ₂ := .f32) dot_S4096x16_S16x256_S4096x256_1_0_0_1_n_n none a.al a.w) (broadcastInDim S4096x256 ![0, 1] bcast_S1x256_S4096x256_0_1 a.b))))))) (broadcastInDim S4096x256 ![] bcast_S_S4096x256 (constant S_ .f32 0x41800000#32))
def bb : FVec Ideal S4096x256 .f32 := Host.dotGeneral dot_S4096x4096_S4096x256_S4096x256_1_0_0_1_n_n none upto a.la
def b0 : FVec Ideal S64x256 .f32 := Host.dotGeneral dot_S64x4096_S4096x256_S64x256_1_0_0_1_n_n none before a.la

/-- The scaled queries and keys by head, the values by head. -/
def qt : FVec Ideal S4096x4x64 .f32 :=
  shapeCast _ (mulf (mulf a.q (broadcastInDim S4096x256 ![] bcast_S_S4096x256 (constant S_ .f32 0x3E000000#32))) (Host.exp a.bb)) shapeCasts_S4096x256_S4096x4x64
def kt : FVec Ideal S4096x4x64 .f32 := shapeCast _ (mulf a.k (Host.exp (Host.negf a.bb))) shapeCasts_S4096x256_S4096x4x64
def vh : FVec Ideal S4096x4x128 .f32 := shapeCast _ a.v shapeCasts_S4096x512_S4096x4x128

/-- The scores, the output, the states. -/
def sc : FVec Ideal S4x4096x4096 .f32 :=
  mulf (Host.dotGeneral dot_S4096x4x64_S4096x4x64_S4x4096x4096_2_2_0_0_1_1 none a.qt a.kt) (broadcastInDim S4x4096x4096 ![0, 1, 2] bcast_S1x4096x4096_S4x4096x4096_0_1_2 (broadcastInDim S1x4096x4096 ![1, 2] bcast_S4096x4096_S1x4096x4096_1_2 upto))
def o : FVec Ideal S4096x512 .f32 :=
  shapeCast _ (transpose S4096x4x128 [2, 0, 1] (Host.dotGeneral dot_S4096x4x128_S4x4096x4096_S4x128x4096_0_2_2_1_1_0 none a.vh a.sc) transposes_S4x128x4096_S4096x4x128_2_0_1) shapeCasts_S4096x4x128_S4096x512
def kept : FVec Ideal S64x4x64x4096 .f32 :=
  transpose S64x4x64x4096 [0, 2, 3, 1] (mulf (broadcastInDim S64x4096x4x64 ![0, 1, 2, 3] bcast_S64x4096x1x1_S64x4096x4x64_0_1_2_3 (broadcastInDim S64x4096x1x1 ![0, 1] bcast_S64x4096_S64x4096x1x1_0_1 before)) (broadcastInDim S64x4096x4x64 ![0, 1, 2, 3] bcast_S1x4096x4x64_S64x4096x4x64_0_1_2_3 (broadcastInDim S1x4096x4x64 ![1, 2, 3] bcast_S4096x4x64_S1x4096x4x64_1_2_3 a.kt))) transposes_S64x4096x4x64_S64x4x64x4096_0_2_3_1
def ss : FVec Ideal S64x128x256 .f32 :=
  mulf (shapeCast _ (transpose S64x128x4x64 [2, 1, 0, 3] (Host.dotGeneral dot_S4096x4x128_S64x4x64x4096_S4x128x64x64_0_3_2_02_1_1 none a.vh a.kept) transposes_S4x128x64x64_S64x128x4x64_2_1_0_3) shapeCasts_S64x128x4x64_S64x128x256) (broadcastInDim S64x128x256 ![0, 1, 2] bcast_S64x1x256_S64x128x256_0_1_2 (broadcastInDim S64x1x256 ![0, 2] bcast_S64x256_S64x1x256_0_2 (Host.exp a.b0)))

/-- Every entry of the arguments is a real number. -/
structure Finite : Prop where
  q i : IsReal (a.q i)
  k i : IsReal (a.k i)
  v i : IsReal (a.v i)
  al i : IsReal (a.al i)
  w i : IsReal (a.w i)
  b i : IsReal (a.b i)

/-- The arguments as real numbers, by token. -/
def tok (σ : ℕ) : Fin 4096 := ⟨min σ 4095, by omega⟩
def data : Data where
  q σ κ := (a.q (ix2 (tok σ) κ)).toReal
  k σ κ := (a.k (ix2 (tok σ) κ)).toReal
  la σ κ := lsig (∑ r, (a.al (ix2 (tok σ) r)).toReal * (a.w (ix2 r κ)).toReal + (a.b (ix2 0 κ)).toReal)
  v σ j := (a.v (ix2 (tok σ) j)).toReal

theorem tok_val (i : Fin 4096) : tok i.val = i := Fin.ext (by unfold tok; dsimp only; omega)

theorem ofBits_16 : Ideal.ofBits .f32 0x41800000#32 = ((16 : ℝ) : EReal) := by
  simp [Ideal.ofBits, Ideal.ieee]; rw [← EReal.coe_mul]; norm_num
theorem ofBits_eighth : Ideal.ofBits .f32 0x3E000000#32 = ((1 / 8 : ℝ) : EReal) := by
  simp [Ideal.ofBits, Ideal.ieee]; rw [← EReal.coe_mul]; norm_num

theorem real {x : EReal} (h : IsReal x) : x = (x.toReal : EReal) := by obtain ⟨r, rfl⟩ := h; rfl

theorem bit_at (p : Prop) [Decidable p] : (FloatOps.uitofp .f32 (BitVec.ofBool (decide p)) : Ideal .f32) = ((if p then 1 else 0 : ℝ) : EReal) := by
  by_cases h : p
  · simp only [h, decide_true, if_true]
    show (((1#1).toNat : ℝ) : EReal) = _; norm_num
  · simp only [h, decide_false, if_false]
    show (((0#1).toNat : ℝ) : EReal) = _; norm_num

theorem upto_at (i j : Fin 4096) : upto (ix2 i j) = ((if j.val ≤ i.val then 1 else 0 : ℝ) : EReal) := by
  unfold upto; pointwise
  rw [WordCmp.cmpi_sge_ofNat (by omega) (by omega), bit_at]

theorem before_at (i : Fin 64) (j : Fin 4096) : before (ix2 i j) = ((if j.val < i.val * 64 then 1 else 0 : ℝ) : EReal) := by
  unfold before; pointwise
  rw [show IntOp.muli 64#32 (BitVec.ofNat 32 i.val) = BitVec.ofNat 32 (64 * i.val) from WordCmp.muli_ofNat 64 i.val,
    show IntOp.addi 0#32 (BitVec.ofNat 32 (64 * i.val)) = BitVec.ofNat 32 (64 * i.val) from BitVec.zero_add _,
    WordCmp.cmpi_sgt_ofNat (by omega) (by omega), bit_at, mul_comm]

/-- A masked sum over all tokens is the sum over the first ones. -/
theorem sum_first {N m : ℕ} (h : m ≤ N) (f : ℕ → ℝ) : ∑ j : Fin N, (if j.val < m then 1 else 0) * f j.val = ∑ σ ∈ Finset.range m, f σ := by
  rw [Fin.sum_univ_eq_sum_range (fun j => (if j < m then 1 else 0) * f j) N]
  obtain ⟨d, rfl⟩ := Nat.exists_eq_add_of_le h
  rw [Finset.sum_range_add, Finset.sum_eq_zero (s := Finset.range d) fun i _ => by rw [if_neg (by omega), zero_mul], add_zero]
  exact Finset.sum_congr rfl fun i hi => by rw [if_pos (Finset.mem_range.mp hi), one_mul]

variable {a} (f : a.Finite)
include f

theorem la_at (i : Fin 4096) (κ : Fin 256) : a.la (ix2 i κ) = (a.data.la i.val κ : EReal) := by
  unfold la; pointwise
  have e : ∑ r, a.al (ix2 i r) * a.w (ix2 r κ) + a.b (ix2 0 κ)
      = ((∑ r, (a.al (ix2 i r)).toReal * (a.w (ix2 r κ)).toReal + (a.b (ix2 0 κ)).toReal : ℝ) : EReal) := by
    rw [EReal.coe_add, ← coe_sum, ← real (f.b _)]
    congr 1
    exact Finset.sum_congr rfl fun r _ => by rw [EReal.coe_mul, ← real (f.al _), ← real (f.w _)]
  rw [e, ofBits_16, ← EReal.coe_neg, Ideal.exp_coe, show (1 : EReal) = ((1 : ℝ) : EReal) from rfl, ← EReal.coe_add, Ideal.log_coe, if_neg (not_le.mpr (by positivity)), ← EReal.coe_neg,
    Ideal.div_coe (by norm_num), ← EReal.coe_mul]
  unfold data lsig; dsimp only; rw [tok_val, mul_one_div]

theorem bb_at (i : Fin 4096) (κ : Fin 256) : a.bb (ix2 i κ) = (a.data.P (i.val + 1) κ : EReal) := by
  unfold bb; pointwise
  simp only [upto_at, la_at f, ← EReal.coe_mul, coe_sum, ← Nat.lt_succ_iff]
  rw [sum_first (by omega) (fun σ => a.data.la σ κ)]; rfl

theorem b0_at (i : Fin 64) (κ : Fin 256) : a.b0 (ix2 i κ) = (a.data.P (i.val * 64) κ : EReal) := by
  unfold b0; pointwise
  simp only [before_at, la_at f, ← EReal.coe_mul, coe_sum]
  rw [sum_first (by omega) (fun σ => a.data.la σ κ)]; rfl

theorem qt_at (i : Fin 4096) (h : Fin 4) (d : Fin 64) : a.qt (ix3 i h d) = (a.data.qt i.val (kcol h d) : EReal) := by
  unfold qt; pointwise
  rw [bb_at f, Ideal.exp_coe, ofBits_eighth, real (f.q _), ← EReal.coe_mul, ← EReal.coe_mul]
  unfold Data.qt data; dsimp only; rw [tok_val]; rfl

theorem kt_at (i : Fin 4096) (h : Fin 4) (d : Fin 64) : a.kt (ix3 i h d) = (a.data.kt i.val (kcol h d) : EReal) := by
  unfold kt; pointwise
  rw [bb_at f, ← EReal.coe_neg, Ideal.exp_coe, real (f.k _), ← EReal.coe_mul]
  unfold Data.kt data; dsimp only; rw [tok_val]; rfl

theorem vh_at (i : Fin 4096) (h : Fin 4) (e : Fin 128) : a.vh (ix3 i h e) = (a.data.v i.val (vcol h e) : EReal) := by
  unfold vh; pointwise
  rw [real (f.v _)]
  unfold data; dsimp only; rw [tok_val]; rfl

theorem sc_at (h : Fin 4) (t s : Fin 4096) : a.sc (ix3 h t s)
    = ((∑ d, a.data.qt t.val (kcol h d) * a.data.kt s.val (kcol h d)) * (if s.val ≤ t.val then 1 else 0) : ℝ) := by
  unfold sc; pointwise
  simp only [qt_at f, kt_at f, upto_at, ← EReal.coe_mul, coe_sum]

theorem o_at (i : Fin 4096) (h : Fin 4) (e : Fin 128) : a.o (ix2 i (vcol h e)) = (a.data.out i.val h e : EReal) := by
  unfold o; pointwise
  have e1 : (⟨(vcol h e).val / 128, by omega⟩ : Fin 4) = h := Fin.ext (by unfold vcol; dsimp only; omega)
  have e2 : (⟨(vcol h e).val % 128, by omega⟩ : Fin 128) = e := Fin.ext (by unfold vcol; dsimp only; omega)
  simp only [e1, e2, vh_at f, sc_at f, ← EReal.coe_mul, coe_sum]
  congr 1
  unfold Data.out
  rw [← sum_first (N := 4096) (by omega) (fun σ => (∑ κ, msk h κ * (a.data.qt i.val κ * a.data.kt σ κ)) * a.data.v σ (vcol h e))]
  refine Finset.sum_congr rfl fun s _ => ?_
  rw [sum_msk h (fun κ => a.data.qt i.val κ * a.data.kt s.val κ)]
  simp only [Nat.lt_succ_iff]
  ring

theorem ss_at (i : Fin 64) (e : Fin 128) (κ : Fin 256) : a.ss (ix3 i e κ) = (a.data.st (i.val * 64) e κ : EReal) := by
  unfold ss kept; pointwise
  have e2 : kcol ⟨κ.val / 64, by omega⟩ ⟨κ.val % 64, by omega⟩ = κ := Fin.ext (by unfold kcol; dsimp only; omega)
  simp only [vh_at f, kt_at f, before_at, e2, b0_at f, Ideal.exp_coe, ← EReal.coe_mul, coe_sum]
  congr 1
  unfold Data.st
  rw [← sum_first (N := 4096) (by omega) (fun σ => a.data.v σ (vcol (head κ) e) * a.data.kt σ κ)]
  congr 1
  exact Finset.sum_congr rfl fun s _ => mul_left_comm _ _ _

end In

end Cert.Gla

end
-- ==== Proof.Gla.Final.lean ====
module

public import proofs.«01_k».proof.Proof.Gla.ValueA
public import proofs.«01_k».proof.Proof.Gla.ValueB
public import proofs.«01_k».proof.Proof.Gla.Ref

@[expose] public section

set_option maxRecDepth 16384

noncomputable section

open Idealize.ShloMosaic Idealize.ShloMosaic.TcCoe Idealize.SL.Sem
open Idealize.ShloMosaic.Pipeline (Dat)

/-! The kernel's two arrays are the reference's, at finite arguments. -/

namespace Cert.Gla

open Cert.GlaFwdIdeal Cert.GlaFwdIdeal.Gen Cert.Norm

theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![t.val, 0] ∧ win0_7.index t = ![t.val, 0, 0] :=
  (by decide +kernel : ∀ t : Fin grid0.N, _)

/-- A token of block `t`: the `s`-th of the `j`-th 64. -/
def at_ (t : Fin cfg0.N) (j : Fin 4) (s : Fin 64) : Fin 4096 := ⟨t.val * 256 + j.val * 64 + s.val, by have := t.isLt; have h : cfg0.N = 16 := rfl; omega⟩

section
variable (m : (ℓ : Loc nD τ sig) → Buf (Elt Ideal) ℓ) (c : Dev nD)

/-- The arguments on device `c`. -/
abbrev args : In := ⟨m (c.tc.loc main_arg0), m (c.tc.loc main_arg1), m (c.tc.loc main_arg2), m (c.tc.loc main_arg3), m (c.tc.loc main_arg4), m (c.tc.loc main_arg5)⟩
end

variable {m : (ℓ : Loc nD τ sig) → Buf (Elt Ideal) ℓ} {c : Dev nD}

section
variable (t : Fin cfg0.N) (j : Fin 4) (s : Fin 64)
theorem b0 (κ : Fin 256) : View.ld (iblk m c 0 t) (toks j) (ix2 s κ) = (args m c).q (ix2 (at_ t j s) κ) := by
  blk_point [iblk, V, toks, at_, idx t]
theorem b1 (κ : Fin 256) : View.ld (iblk m c 1 t) (toks j) (ix2 s κ) = (args m c).k (ix2 (at_ t j s) κ) := by
  blk_point [iblk, V, toks, at_, idx t]
theorem b2 (h : Fin 4) (e : Fin 128) : View.ld (iblk m c 2 t) (toksV j h) (ix2 s e) = (args m c).v (ix2 (at_ t j s) (vcol h e)) := by
  blk_point [iblk, V, toksV, at_, vcol, idx t]
theorem b3 (r : Fin 16) : View.ld (iblk m c 3 t) (toksA j) (ix2 s r) = (args m c).al (ix2 (at_ t j s) r) := by
  blk_point [iblk, V, toksA, at_, idx t]
theorem b4 (r : Fin 16) (κ : Fin 256) : iblk m c 4 t (ix2 r κ) = (args m c).w (ix2 r κ) := by
  blk_point [iblk, V, idx t]
theorem b5 (κ : Fin 256) : iblk m c 5 t (ix2 (0 : Fin 1) κ) = (args m c).b (ix2 0 κ) := by
  blk_point [iblk, V, idx t]
end

/-- What each part of a block works on, in real numbers. -/
theorem part_is (f : (args m c).Finite) (t : Fin cfg0.N) (j : Fin 4) (s : Vec Ideal S128x256 .f32) (n : ℕ) (hn : t.val * 256 + j.val * 64 = n)
    (hs : ∀ e κ, s (ix2 e κ) = ((args m c).data.st n e κ : EReal)) : (part' m c t j s).Is (args m c).data n := by
  subst hn
  have hv (h : Fin 4) (u : Fin 64) (e : Fin 128) : View.ld (iblk m c 2 t) (toksV j h) (ix2 u e) = ((args m c).data.v (t.val * 256 + j.val * 64 + u.val) (vcol h e) : EReal) := by
    rw [b2, In.real (f.v _)]; unfold In.data; dsimp only; rw [show t.val * 256 + j.val * 64 + u.val = (at_ t j u).val from rfl, In.tok_val]
  refine ⟨fun u κ => ?_, fun u κ => ?_, fun u κ => ?_, hv 0, hv 1, hv 2, hv 3, hs⟩
  · refine (b0 t j u κ).trans ?_
    rw [In.real (f.q _)]; unfold In.data; dsimp only; rw [show t.val * 256 + j.val * 64 + u.val = (at_ t j u).val from rfl, In.tok_val]
  · refine (b1 t j u κ).trans ?_
    rw [In.real (f.k _)]; unfold In.data; dsimp only; rw [show t.val * 256 + j.val * 64 + u.val = (at_ t j u).val from rfl, In.tok_val]
  · refine (Chunk.la_at _ u κ _ _ _ (fun r => (b3 t j u r).trans (In.real (f.al _))) (fun r => (b4 t r κ).trans (In.real (f.w _))) ((b5 t κ).trans (In.real (f.b _)))).trans ?_
    unfold In.data; dsimp only; rw [show t.val * 256 + j.val * 64 + u.val = (at_ t j u).val from rfl, In.tok_val]

/-- One output's place in the block. -/
theorem piece_at (D : Data) (n : ℕ) (j h : Fin 4) (w : Vec Ideal S64x128 .f32) (hw : ∀ s e, w (ix2 s e) = (D.out (n + j.val * 64 + s.val) h e : EReal)) (x : S64x128.Idx) :
    w x = ((fun y : S256x512.Idx => ((D.out (n + (y 0).val) ⟨(y 1).val / 128, by have : (y 1).val < 512 := (y 1).isLt; omega⟩ ⟨(y 1).val % 128, by omega⟩ : ℝ) : EReal)) ((toksV j h).emb x)) := by
  idx_vars x
  have e : (toksV j h).emb (ix2 x0 x1) = ix2 ⟨j.val * 64 + x0.val, by omega⟩ ⟨h.val * 128 + x1.val, by omega⟩ := by blk_ext! []
  rw [e, hw]
  congr 2
  · show n + j.val * 64 + x0.val = n + (j.val * 64 + x0.val); omega
  · refine Fin.ext ?_; show h.val = (h.val * 128 + x1.val) / 128; omega
  · refine Fin.ext ?_; show x1.val = (h.val * 128 + x1.val) % 128; omega

theorem save_at (D : Data) (n : ℕ) (j : Fin 4) (w : Vec Ideal S1x128x256 .f32) (hw : ∀ e κ, w (ix3 0 e κ) = (D.st (n + j.val * 64) e κ : EReal)) (x : S1x128x256.Idx) :
    w x = ((fun y : S4x128x256.Idx => ((D.st (n + (y 0).val * 64) (y 1) (y 2) : ℝ) : EReal)) ((slotS j).emb x)) := by
  idx_vars x
  have e : (slotS j).emb (ix3 x0 x1 x2) = ix3 j x1 x2 := by blk_ext! []
  rw [e]
  obtain rfl : x0 = 0 := Subsingleton.elim _ _
  exact hw _ _

section
variable {D : Data} {n : ℕ} {a b d e : Chunk} (ha : a.Is D (n + (0 : Fin 4).val * 64)) (hb : b.Is D (n + (1 : Fin 4).val * 64))
  (hd : d.Is D (n + (2 : Fin 4).val * 64)) (he : e.Is D (n + (3 : Fin 4).val * 64))
include ha hb hd he

theorem outs_at (r : Fin 256) (j : Fin 512) : outs a b d e (ix2 r j) = (D.out (n + r.val) ⟨j.val / 128, by omega⟩ ⟨j.val % 128, by omega⟩ : EReal) := by
  unfold outs
  rw [e.o3_3_eq, e.o2_3_eq, e.o1_3_eq, e.o0_3_eq, d.o3_2_eq, d.o2_2_eq, d.o1_2_eq, d.o0_2_eq, b.o3_1_eq, b.o2_1_eq, b.o1_1_eq, b.o0_1_eq]
  refine View.canon_apply_of_pieces (Val := Elt Ideal) (e := .f32) (fun y => ((D.out (n + (y 0).val) ⟨(y 1).val / 128, by have : (y 1).val < 512 := (y 1).isLt; omega⟩ ⟨(y 1).val % 128, by omega⟩ : ℝ) : EReal) : Vec Ideal S256x512 .f32) _ ?_ _ ?_
  · simp only [List.forall_mem_cons]
    exact ⟨piece_at D n 3 3 _ he.o3, piece_at D n 3 2 _ he.o2, piece_at D n 3 1 _ he.o1, piece_at D n 3 0 _ he.o0,
      piece_at D n 2 3 _ hd.o3, piece_at D n 2 2 _ hd.o2, piece_at D n 2 1 _ hd.o1, piece_at D n 2 0 _ hd.o0,
      piece_at D n 1 3 _ hb.o3, piece_at D n 1 2 _ hb.o2, piece_at D n 1 1 _ hb.o1, piece_at D n 1 0 _ hb.o0,
      piece_at D n 0 3 _ ha.o3, piece_at D n 0 2 _ ha.o2, piece_at D n 0 1 _ ha.o1, piece_at D n 0 0 _ ha.o0, fun _ h => absurd h List.not_mem_nil⟩
  · exact View.cover_of_tiledL (Val := Elt Ideal) (s := S256x512) (e := .f32) _ S64x128.size (by sl_kernel_rfl) _

theorem sts_at (j : Fin 4) (x : Fin 128) (κ : Fin 256) : sts a b d e (ix3 j x κ) = (D.st (n + j.val * 64) x κ : EReal) := by
  unfold sts
  refine View.canon_apply_of_pieces (Val := Elt Ideal) (e := .f32) (fun y => ((D.st (n + (y 0).val * 64) (y 1) (y 2) : ℝ) : EReal) : Vec Ideal S4x128x256 .f32) _ ?_ _ ?_
  · simp only [List.forall_mem_cons]
    refine ⟨save_at D n 3 _ fun x κ => ?_, save_at D n 2 _ fun x κ => ?_, save_at D n 1 _ fun x κ => ?_, save_at D n 0 _ fun x κ => ?_, fun _ h => absurd h List.not_mem_nil⟩
    · pointwise [k0_pay110]; exact he.s x κ
    · pointwise [k0_pay80]; exact hd.s x κ
    · pointwise [k0_pay51]; exact hb.s x κ
    · pointwise [k0_pay19]; exact ha.s x κ
  · exact View.cover_of_tiledL (Val := Elt Ideal) (s := S4x128x256) (e := .f32) _ S1x128x256.size (by sl_kernel_rfl) _

end

/-- The four parts of a block, from the state in front of it. -/
structure Parts (f : (args m c).Finite) (t : Fin cfg0.N) (s : Vec Ideal S128x256 .f32) : Prop where
  a : (c0 m c t s).Is (args m c).data (t.val * 256 + (0 : Fin 4).val * 64)
  b : (c1 m c t s).Is (args m c).data (t.val * 256 + (1 : Fin 4).val * 64)
  d : (c2 m c t s).Is (args m c).data (t.val * 256 + (2 : Fin 4).val * 64)
  e : (c3 m c t s).Is (args m c).data (t.val * 256 + (3 : Fin 4).val * 64)

theorem parts (f : (args m c).Finite) (t : Fin cfg0.N) (s : Vec Ideal S128x256 .f32) (hs : ∀ e κ, s (ix2 e κ) = ((args m c).data.st (t.val * 256) e κ : EReal)) : Parts f t s := by
  have a : (c0 m c t s).Is (args m c).data (t.val * 256 + (0 : Fin 4).val * 64) := part_is f t 0 s _ rfl hs
  have b : (c1 m c t s).Is (args m c).data (t.val * 256 + (1 : Fin 4).val * 64) := part_is f t 1 _ _ rfl fun e κ => a.s' e κ
  have d : (c2 m c t s).Is (args m c).data (t.val * 256 + (2 : Fin 4).val * 64) := part_is f t 2 _ _ rfl fun e κ => by rw [Chunk.s_1_eq]; exact b.s' e κ
  have e : (c3 m c t s).Is (args m c).data (t.val * 256 + (3 : Fin 4).val * 64) := part_is f t 3 _ _ rfl fun e κ => by rw [Chunk.s_2_eq]; exact d.s' e κ
  exact ⟨a, b, d, e⟩

/-- In front of every block the carried state is the sum over the tokens before it. -/
theorem state (f : (args m c).Finite) : ∀ (n : ℕ) (hn : n < cfg0.N), ∃ s, Outs m c ⟨n, hn⟩ s (outsAt0 m c n hn) ∧ Parts f ⟨n, hn⟩ s
  | 0, hn => ⟨_, outsA m c ⟨0, hn⟩ rfl, parts f _ _ fun e κ => by
      rw [Nat.zero_mul, Data.st_zero]; pointwise [k0_pay2]; exact EReal.coe_zero.symm⟩
  | n + 1, hn => by
      obtain ⟨s, o, p⟩ := state f n (Nat.lt_of_succ_lt hn)
      have h : cfg0.N = 16 := rfl
      refine ⟨_, outsB m c ⟨n + 1, hn⟩ (by show ¬ (n + 1) % 16 = 0; omega) (Nat.lt_of_succ_lt hn), parts f _ _ fun e κ => ?_⟩
      show (outsAt0 m c n _).2.2 (ix2 e κ) = _
      rw [o.st, Chunk.s_3_eq, p.e.s' e κ]
      refine congrArg (fun k => (((args m c).data.st k e κ : ℝ) : EReal)) ?_
      show n * 256 + 3 * 64 + 64 = (n + 1) * 256
      omega

theorem final6 (f : (args m c).Finite) : (dats m 0 c).arrAt 6 (cfgs 0).N = (args m c).o := by
  refine (dats m 0 c).arrAt_eq_of_covers 6 _ (by decide +kernel) fun t _ y => ?_
  blk_simp
  rw [after0_6]
  obtain ⟨s, o, p⟩ := state f t.val t.isLt
  rw [o.o]
  idx_vars y
  rw [outs_at p.a p.b p.d p.e]
  have h : cfg0.N = 16 := rfl
  have ht : t.val < 16 := lt_of_lt_of_eq t.isLt h
  refine ((args m c).o_at f ⟨t.val * 256 + y0.val, by omega⟩ ⟨y1.val / 128, by omega⟩ ⟨y1.val % 128, by omega⟩).symm.trans (congrArg _ ?_)
  blk_ext! [vcol, idx t]

theorem final7 (f : (args m c).Finite) : (dats m 0 c).arrAt 7 (cfgs 0).N = (args m c).ss := by
  refine (dats m 0 c).arrAt_eq_of_covers 7 _ (by decide +kernel) fun t _ y => ?_
  blk_simp
  rw [after0_7]
  obtain ⟨s, o, p⟩ := state f t.val t.isLt
  rw [o.ss]
  idx_vars y
  rw [sts_at p.a p.b p.d p.e]
  have h : cfg0.N = 16 := rfl
  have ht : t.val < 16 := lt_of_lt_of_eq t.isLt h
  rw [show t.val * 256 + y0.val * 64 = (t.val * 4 + y0.val) * 64 by omega]
  refine ((args m c).ss_at f ⟨t.val * 4 + y0.val, by omega⟩ y1 y2).symm.trans (congrArg _ ?_)
  blk_ext! [idx t]

end Cert.Gla

end
-- ==== Proof.Gla.Claims.lean ====
module

public import proofs.«01_k».proof.Defs
public import proofs.«01_k».proof.Proof.Gen.Pre_gla_finite
public import proofs.«01_k».proof.Proof.Gla.Final

@[expose] public section

set_option maxRecDepth 16384

noncomputable section

open Idealize.ShloMosaic Idealize.ShloMosaic.TcCoe Idealize.SL.Sem

/-! The claims about the gated linear attention. -/

namespace Cert.Gla

open Cert.Norm

/-- The reference leaves its arguments unchanged and no semaphore counted up. -/
theorem ref_frame : Cert.quiescent_GlaFrefIdeal (hGlaFrefIdeal := Cert.GlaFrefIdeal.Gen.facts) := by
  intro m ρ _
  refine (θ_run Cert.GlaFrefIdeal.defs _ _).mono ?_ (Cert.GlaFrefIdeal.Value.run (F := Ideal) m ρ)
  intro r h
  refine ⟨fun c => ?_, Idealize.ShloMosaic.sem_eq_zero_of_no_sems (by decide) r.2⟩
  obtain ⟨-, -, ra⟩ := h c
  exact ra

/-- What the printed precondition says. -/
theorem finite_of_pre {m : (ℓ : Loc Cert.GlaFwdIdeal.nD Cert.GlaFwdIdeal.τ Cert.GlaFwdIdeal.sig) → Buf (Elt Ideal) ℓ} {c : Dev Cert.GlaFwdIdeal.nD}
    (hp : Cert.Pre_GlaFwdIdeal_gla_finite (hPre_gla_finite := Cert.Pre_gla_finite.Gen.facts) m) : (args m c).Finite := by
  have e := congrFun (hp c) (fun k => k.elim0)
  unfold Cert.Pre_gla_finite.fn Cert.Pre_gla_finite.fn_part1 at e
  obtain ⟨e, e5⟩ := and_true e
  obtain ⟨e, e4⟩ := and_true e
  obtain ⟨e, e3⟩ := and_true e
  obtain ⟨e, e2⟩ := and_true e
  obtain ⟨e0, e1⟩ := and_true e
  exact ⟨isReal_of_all _ _ _ _ _ e0, isReal_of_all _ _ _ _ _ e1, isReal_of_all _ _ _ _ _ e2, isReal_of_all _ _ _ _ _ e3,
    isReal_of_all _ _ _ _ _ e4, isReal_of_all _ _ _ _ _ e5⟩

/-- At finite arguments the kernel computes the attention's output and the states in front of every 64 tokens. -/
theorem value : Cert.algebraic_GlaFwdIdeal_GlaFrefIdeal_pre_gla_finite (hGlaFwdIdeal := Cert.GlaFwdIdeal.Gen.facts)
    (hGlaFrefIdeal := Cert.GlaFrefIdeal.Gen.facts) (hPre_gla_finite := Cert.Pre_gla_finite.Gen.facts) := by
  pair_intro
  · run_from Cert.GlaFwdIdeal.Gen.run_main m g
  · refine (θ_run Cert.GlaFrefIdeal.defs _ _).mono ?_ (Cert.GlaFrefIdeal.Value.run (F := Ideal) m' g')
    intro r h c
    obtain ⟨r0, r1, ra⟩ := h c
    obtain ⟨a0, a1, a2, a3, a4, a5⟩ := hagree c
    have fin : (args m c).Finite := finite_of_pre hpre
    refine ⟨?_, ?_, ra⟩
    · rw [r0, a0, a1, a2, a3, a4, a5]; exact (final6 fin).symm
    · rw [r1, a1, a2, a3, a4, a5]; exact (final7 fin).symm

end Cert.Gla

end
-- ==== Proof.FfnFwd.Final.lean ====
module

public import proofs.«01_k».proof.Proof.FfnFwd.Value

@[expose] public section

set_option maxRecDepth 16384

noncomputable section

open Idealize.ShloMosaic Idealize.ShloMosaic.TcCoe Idealize.SL.Sem Idealize.ShloMosaic.StableHlo
open Idealize.ShloMosaic.Pipeline (Dat)

/-! The kernel's four arrays are the reference's. -/

namespace Cert.FfnFwd

open Cert.FfnFwdIdeal Cert.FfnFwdIdeal.Gen Cert.Norm
open Cert.Head (hid nrm hid_at nrm_at)

/-- The place of row `r` of block `t` in the whole array. -/
def row (t : Fin cfg0.N) (r : Fin 512) : Fin 4096 := ⟨t.val * 512 + r.val, by have := t.isLt; have h : cfg0.N = 8 := rfl; have := r.isLt; omega⟩

theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val, 0] ∧ win0_6.index t = ![0, t.val, 0] ∧ win0_7.index t = ![0, t.val, 0] ∧ win0_8.index t = ![t.val, 0] :=
  (by decide +kernel : ∀ t : Fin grid0.N, _)

section
variable (m : (ℓ : Loc nD τ sig) → Buf (Elt Ideal) ℓ) (c : Dev nD)

/-- The kernel's arguments on device `c`: the layer's input, the norm's weights and the three matrices. -/
abbrev X : FVec Ideal S4096x1024 .f32 := m (c.tc.loc main_arg0)
abbrev G : FVec Ideal S1x1024 .f32 := m (c.tc.loc main_arg1)
abbrev W1 : FVec Ideal S1024x2816 .f32 := m (c.tc.loc main_arg2)
abbrev W3 : FVec Ideal S1024x2816 .f32 := m (c.tc.loc main_arg3)
abbrev W2 : FVec Ideal S2816x1024 .f32 := m (c.tc.loc main_arg4)
end

variable {m : (ℓ : Loc nD τ sig) → Buf (Elt Ideal) ℓ} {c : Dev nD}

theorem b0 (t : Fin cfg0.N) (r : Fin 512) (j : Fin 1024) : iblk m c 0 t (ix2 r j) = X m c (ix2 (row t r) j) := by
  blk_point [iblk, V, row, idx t]
theorem b1 (t : Fin cfg0.N) (j : Fin 1024) : iblk m c 1 t (ix2 (0 : Fin 1) j) = G m c (ix2 0 j) := by
  blk_point [iblk, V, idx t]
theorem b2 (t : Fin cfg0.N) (k : Fin 2816) (j : Fin 1024) : iblk m c 2 t (ix2 k j) = W1 m c (ix2 j k) := by
  have e : iblk m c 2 t = V m c main_v1 := by blk_ext! [iblk, idx t]
  rw [e]; entry_read; pointwise
theorem b3 (t : Fin cfg0.N) (k : Fin 2816) (j : Fin 1024) : iblk m c 3 t (ix2 k j) = W3 m c (ix2 j k) := by
  have e : iblk m c 3 t = V m c main_v3 := by blk_ext! [iblk, idx t]
  rw [e]; entry_read; pointwise
theorem b4 (t : Fin cfg0.N) (k : Fin 2816) (j : Fin 1024) : iblk m c 4 t (ix2 k j) = W2 m c (ix2 k j) := by
  have e : iblk m c 4 t = V m c main_v4 := by blk_ext! [iblk, idx t]
  rw [e]; entry_read; pointwise
/-- A block's normalised rows are the array's. -/
theorem nb_at (t : Fin cfg0.N) (r : Fin 512) (k : Fin 1024) : nb m c t (ix2 r k) = nrm (X m c) (G m c) (ix2 (row t r) k) := by
  rw [nrm_at]
  unfold nb
  pointwise [k0_pay3]
  simp only [b0, b1]; rfl

/-- The kernel's first array is the hidden states. -/
theorem final5 : (dats m 0 c).arrAt 5 (cfgs 0).N = hid (nrm (X m c) (G m c)) (X m c) (W1 m c) (W3 m c) (W2 m c) := by
  refine (dats m 0 c).arrAt_eq_of_covers 5 _ (by decide +kernel) fun t _ y => ?_
  blk_simp
  rw [after0_5, out5]
  idx_vars y
  rw [acc_at]
  simp only [nb_at, b0, b2, b3, b4]
  refine (hid_at _ _ _ _ _ _ _).symm.trans (congrArg _ ?_)
  blk_ext! [row, idx t]

/-- Its second and third are the products in front of the gate, in tiles. -/
theorem final6 : (dats m 0 c).arrAt 6 (cfgs 0).N = tiles (prod (nrm (X m c) (G m c)) (W1 m c)) := by
  refine (dats m 0 c).arrAt_eq_of_covers 6 _ (by decide +kernel) fun t _ y => ?_
  blk_simp
  rw [after0_6, out6]
  idx_vars y
  rw [slots_at, aT_at]
  simp only [nb_at, b2]
  refine (tiles_at _ _ _ _ _).symm.trans (congrArg _ ?_)
  blk_ext! [row, idx t]

theorem final7 : (dats m 0 c).arrAt 7 (cfgs 0).N = tiles (prod (nrm (X m c) (G m c)) (W3 m c)) := by
  refine (dats m 0 c).arrAt_eq_of_covers 7 _ (by decide +kernel) fun t _ y => ?_
  blk_simp
  rw [after0_7, out7]
  idx_vars y
  rw [slots_at, bT_at]
  simp only [nb_at, b3]
  refine (tiles_at _ _ _ _ _).symm.trans (congrArg _ ?_)
  blk_ext! [row, idx t]

/-- Its fourth is the normalised rows. -/
theorem final8 : (dats m 0 c).arrAt 8 (cfgs 0).N = nrm (X m c) (G m c) := by
  refine (dats m 0 c).arrAt_eq_of_covers 8 _ (by decide +kernel) fun t _ y => ?_
  blk_simp
  rw [after0_8, out8]
  idx_vars y
  rw [nb_at]
  refine congrArg (nrm (X m c) (G m c)) (a₁ := ix2 (row t y0) y1) ?_
  blk_ext! [row, idx t]

end Cert.FfnFwd

end
-- ==== Proof.FfnFwd.Claims.lean ====
module

public import proofs.«01_k».proof.Defs
public import proofs.«01_k».proof.Proof.FfnFwd.Final

@[expose] public section

set_option maxRecDepth 16384

noncomputable section

open Idealize.ShloMosaic Idealize.ShloMosaic.TcCoe Idealize.SL.Sem Idealize.ShloMosaic.StableHlo

/-! The feed-forward layer: its claims. -/

namespace Cert.FfnFwd

/-- The reference runs through, leaves its arguments, and declares no semaphore. -/
theorem ref_frame : Cert.quiescent_FfnFrefIdeal (hFfnFrefIdeal := Cert.FfnFrefIdeal.Gen.facts) := by
  intro m ρ _
  refine (θ_run Cert.FfnFrefIdeal.defs _ _).mono ?_ (Cert.FfnFrefIdeal.Value.run (F := Ideal) m ρ)
  intro r h
  refine ⟨fun c => ?_, Idealize.ShloMosaic.sem_eq_zero_of_no_sems (by decide) r.2⟩
  obtain ⟨-, -, -, -, ra⟩ := h c
  exact ra

set_option maxHeartbeats 3200000 in
/-- At any arguments the kernel computes the layer's output and the values that its gradient reads. -/
theorem value : Cert.algebraic_FfnFwdIdeal_FfnFrefIdeal (hFfnFwdIdeal := Cert.FfnFwdIdeal.Gen.facts)
    (hFfnFrefIdeal := Cert.FfnFrefIdeal.Gen.facts) := by
  pair_intro
  · run_from Cert.FfnFwdIdeal.Gen.run_main m g
  · refine (θ_run Cert.FfnFrefIdeal.defs _ _).mono ?_ (Cert.FfnFrefIdeal.Value.run (F := Ideal) m' g')
    intro r h c
    obtain ⟨r0, r1, r2, r3, ra⟩ := h c
    obtain ⟨a0, a1, a2, a3, a4⟩ := hagree c
    refine ⟨?_, ?_, ?_, ?_, ra⟩
    · refine (r0.trans (rfl : _ = Cert.Head.hid (Cert.Head.nrm (m' (c.tc.loc Cert.FfnFrefIdeal.main_arg0)) (m' (c.tc.loc Cert.FfnFrefIdeal.main_arg1)))
        (m' (c.tc.loc Cert.FfnFrefIdeal.main_arg0)) (m' (c.tc.loc Cert.FfnFrefIdeal.main_arg2)) (m' (c.tc.loc Cert.FfnFrefIdeal.main_arg3))
        (m' (c.tc.loc Cert.FfnFrefIdeal.main_arg4)))).trans ?_
      rw [a0, a1, a2, a3, a4]; exact final5.symm
    · refine (r1.trans (rfl : _ = tiles (prod (Cert.Head.nrm (m' (c.tc.loc Cert.FfnFrefIdeal.main_arg0)) (m' (c.tc.loc Cert.FfnFrefIdeal.main_arg1)))
        (m' (c.tc.loc Cert.FfnFrefIdeal.main_arg2))))).trans ?_
      rw [a0, a1, a2]; exact final6.symm
    · refine (r2.trans (rfl : _ = tiles (prod (Cert.Head.nrm (m' (c.tc.loc Cert.FfnFrefIdeal.main_arg0)) (m' (c.tc.loc Cert.FfnFrefIdeal.main_arg1)))
        (m' (c.tc.loc Cert.FfnFrefIdeal.main_arg3))))).trans ?_
      rw [a0, a1, a3]; exact final7.symm
    · refine (r3.trans (rfl : _ = Cert.Head.nrm (m' (c.tc.loc Cert.FfnFrefIdeal.main_arg0)) (m' (c.tc.loc Cert.FfnFrefIdeal.main_arg1)))).trans ?_
      rw [a0, a1]; exact final8.symm

end Cert.FfnFwd

end
-- ==== Proof.Dw.Sum.lean ====
module

public import Idealize.ShloMosaic.Lib.Pipeline.ValueKit

@[expose] public section

/-! Adding parts one after another. -/

namespace Cert.Dw

/-- Where each step adds its part to what `f` reads, all steps add the parts' sum. -/
theorem foldl_add {ι β : Type*} (F : β → ι → β) (f : β → EReal) (p : ι → EReal) (h : ∀ e s, f (F e s) = f e + p s) (l : List ι) (x : β) :
    f (l.foldl F x) = f x + (l.map p).sum := by
  induction l generalizing x with
  | nil => simp
  | cons s l ih => rw [List.foldl_cons, ih, h, List.map_cons, List.sum_cons, add_assoc]

end Cert.Dw
-- ==== Proof.Dw.Value.lean ====
module

public import proofs.«01_k».proof.Proof.Gen.DwIdeal.Frame
public import proofs.«01_k».proof.Proof.Dw.Sum

@[expose] public section

set_option maxRecDepth 16384

noncomputable section

open Idealize.ShloMosaic Idealize.ShloMosaic.TcCoe Idealize.SL.Sem Idealize.ShloMosaic.StableHlo
open Idealize.ShloMosaic.Pipeline (Dat)

/-! What the product of a weight's gradient leaves in its array: block by block, then whole. -/

namespace Cert.Dw

open Cert.DwIdeal Cert.DwIdeal.Gen

/-- Rows `s * 512 … s * 512 + 511` of a tile of the cotangent, and of the layer's rows. -/
abbrev ct (a : Vec Ideal S1x4096x256 .bf16) (s : Fin 8) : Vec Ideal S1x512x256 .bf16 :=
  View.ld a (Rect.unit ![0, s.val * 512, 0] ![1, 512, 256] (by revert s; decide))
abbrev rows (b : Vec Ideal S4096x1024 .bf16) (s : Fin 8) : Vec Ideal S512x1024 .bf16 :=
  View.ld b (Rect.unit ![s.val * 512, 0] ![512, 1024] (by revert s; decide))

/-- The kernel's step `s`. -/
def step (a : Vec Ideal S1x4096x256 .bf16) (b : Vec Ideal S4096x1024 .bf16) (e : FVec Ideal S256x1024 .f32) (s : Fin 8) : FVec Ideal S256x1024 .f32 :=
  k0_pay2 (ct a s) e (rows b s)

/-- All eight steps, from zero. -/
def acc (a : Vec Ideal S1x4096x256 .bf16) (b : Vec Ideal S4096x1024 .bf16) : FVec Ideal S256x1024 .f32 :=
  [0, 1, 2, 3, 4, 5, 6, 7].foldl (step a b) (k0_pay4 (F := Ideal))

theorem step_at (a : Vec Ideal S1x4096x256 .bf16) (b : Vec Ideal S4096x1024 .bf16) (e : FVec Ideal S256x1024 .f32) (s : Fin 8) (i : Fin 256) (j : Fin 1024) :
    step a b e s (ix2 i j) = e (ix2 i j) + ∑ k : Fin 512, a (ix3 0 ⟨s.val * 512 + k.val, by omega⟩ i) * b (ix2 ⟨s.val * 512 + k.val, by omega⟩ j) := by
  unfold step ct rows
  pointwise [k0_pay2]

/-- The eight steps sum over all rows. -/
theorem acc_at (a : Vec Ideal S1x4096x256 .bf16) (b : Vec Ideal S4096x1024 .bf16) (i : Fin 256) (j : Fin 1024) :
    acc a b (ix2 i j) = ∑ r : Fin 4096, a (ix3 0 r i) * b (ix2 r j) := by
  have z : k0_pay4 (F := Ideal) (ix2 i j) = 0 := by pointwise [k0_pay4]
  unfold acc
  rw [foldl_add _ (· (ix2 i j)) _ fun e s => step_at a b e s i j, z, zero_add, show [(0 : Fin 8), 1, 2, 3, 4, 5, 6, 7] = List.finRange 8 from rfl, ← Fin.sum_univ_def]
  exact Fin.sum_mul_add_congr fun s k hl => rfl

section
variable (m : (ℓ : Loc nD τ sig) → Buf (Elt Ideal) ℓ) (c : Dev nD)

set_option maxHeartbeats 1600000 in
/-- What a grid point leaves in the result's block. -/
theorem out2 (t : Fin cfg0.N) : outsAt0 m c t = acc (iblk m c 0 t) (iblk m c 1 t) := by
  dsimp only [outsAt0]; unfold out0_A_2; frame_out; rfl

/-- The kernel's arguments on device `c`: the layer's normalised rows and the product's cotangent. -/
abbrev X : FVec Ideal S4096x1024 .f32 := m (c.tc.loc main_arg0)
abbrev D : FVec Ideal S4096x2816 .f32 := m (c.tc.loc main_arg1)
end

/-- The gradient: the sum over the rows. -/
def grad (x : FVec Ideal S4096x1024 .f32) (d : FVec Ideal S4096x2816 .f32) : FVec Ideal S2816x1024 .bf16 :=
  fun i => ∑ r : Fin 4096, d (ix2 r (i 0)) * x (ix2 r (i 1))

/-- The place of column `i` of tile `t` in the whole array. -/
def col (t : Fin cfg0.N) (i : Fin 256) : Fin 2816 := ⟨t.val * 256 + i.val, by have := t.isLt; have h : cfg0.N = 11 := rfl; have := i.isLt; omega⟩

theorem idx : ∀ t : Fin cfg0.N, win0_0.index t = ![t.val, 0, 0] ∧ win0_1.index t = ![0, 0] ∧ win0_2.index t = ![t.val, 0] :=
  (by decide +kernel : ∀ t : Fin grid0.N, _)

variable {m : (ℓ : Loc nD τ sig) → Buf (Elt Ideal) ℓ} {c : Dev nD}

theorem b0 (t : Fin cfg0.N) (r : Fin 4096) (i : Fin 256) : iblk m c 0 t (ix3 (0 : Fin 1) r i) = D m c (ix2 r (col t i)) := by
  have e : iblk m c 0 t (ix3 (0 : Fin 1) r i) = V m c main_v2 (ix3 (⟨t.val, t.isLt⟩ : Fin 11) r i) := by blk_point [iblk, idx t]
  rw [e]; entry_read; pointwise; rfl
theorem b1 (t : Fin cfg0.N) (r : Fin 4096) (j : Fin 1024) : iblk m c 1 t (ix2 r j) = X m c (ix2 r j) := by
  have e : iblk m c 1 t = V m c main_v3 := by blk_ext! [iblk, idx t]
  rw [e]; entry_read; pointwise

/-- The kernel's array is the gradient. -/
theorem final2 : (dats m 0 c).arrAt 2 (cfgs 0).N = grad (X m c) (D m c) := by
  refine (dats m 0 c).arrAt_eq_of_covers 2 _ (by decide +kernel) fun t _ y => ?_
  blk_simp
  rw [after0_2, out2]
  idx_vars y
  rw [acc_at]
  simp only [b0, b1]
  refine congrArg (grad (X m c) (D m c)) (a₁ := ix2 (col t y0) y1) ?_
  blk_ext! [col, idx t]

end Cert.Dw

end
-- ==== Proof.Dw.Claims.lean ====
module

public import proofs.«01_k».proof.Defs
public import proofs.«01_k».proof.Proof.Gen.DwRefIdeal.Run
public import proofs.«01_k».proof.Proof.Dw.Value

@[expose] public section

set_option maxRecDepth 16384

noncomputable section

open Idealize.ShloMosaic Idealize.ShloMosaic.TcCoe Idealize.SL.Sem Idealize.ShloMosaic.StableHlo

/-! The gradient of a weight: its claims. -/

namespace Cert.Dw

/-- The reference runs through, leaves its arguments, and declares no semaphore. -/
theorem ref_frame : Cert.quiescent_DwRefIdeal (hDwRefIdeal := Cert.DwRefIdeal.Gen.facts) := by
  intro m ρ _
  refine (θ_run Cert.DwRefIdeal.defs _ _).mono ?_ (Cert.DwRefIdeal.Value.run (F := Ideal) m ρ)
  intro r h
  exact ⟨fun c => (h c).2, Idealize.ShloMosaic.sem_eq_zero_of_no_sems (by decide) r.2⟩

open Cert.DwRefIdeal Cert.DwRefIdeal.Gen in
/-- What the reference computes is the sum over the rows. -/
theorem ref_grad (x : FVec Ideal S4096x1024 .f32) (d : FVec Ideal S4096x2816 .f32) :
    (truncf .bf16 (transpose S2816x1024 [1, 0] (transpose S1024x2816 [1, 0] (Host.dotGeneral dot_S4096x2816_S4096x1024_S2816x1024_0_0_1_1_n_n none d x : FVec Ideal S2816x1024 .f32)
      transposes_S2816x1024_S1024x2816_1_0) transposes_S1024x2816_S2816x1024_1_0) bitsLt_bf16_f32 : FVec Ideal S2816x1024 .bf16) = grad x d := by
  funext y
  idx_vars y
  unfold grad
  pointwise

/-- At any arguments the kernel computes the gradient of the layer's first matrix. -/
theorem value : Cert.algebraic_DwIdeal_DwRefIdeal (hDwIdeal := Cert.DwIdeal.Gen.facts) (hDwRefIdeal := Cert.DwRefIdeal.Gen.facts) := by
  pair_intro
  · run_from Cert.DwIdeal.Gen.run_main m g
  · refine (θ_run Cert.DwRefIdeal.defs _ _).mono ?_ (Cert.DwRefIdeal.Value.run (F := Ideal) m' g')
    intro r h c
    obtain ⟨r0, ra⟩ := h c
    obtain ⟨a0, a1⟩ := hagree c
    refine ⟨?_, ra⟩
    refine r0.trans ((ref_grad _ _).trans ?_)
    rw [a0, a1]; exact final2.symm

end Cert.Dw

end
-- ==== Proof.Dwin.Ref.lean ====
module

public import proofs.«01_k».proof.Proof.Gen.DwinRefIdeal.Run
public import Idealize.ShloMosaic.Lib.Pipeline.ValueKit

@[expose] public section

set_option maxRecDepth 16384

noncomputable section

open Idealize.ShloMosaic Idealize.ShloMosaic.TcCoe Idealize.SL.Sem Idealize.ShloMosaic.StableHlo

/-! The gradient of the input projection: the cotangents side by side, and what the reference makes of them. -/

namespace Cert.Dwin

open Cert.DwinRefIdeal Cert.DwinRefIdeal.Gen

variable (d0 : FVec Ideal S4096x512 .f32) (d1 d2 : FVec Ideal S4096x256 .bf16) (d3 d4 : FVec Ideal S4096x512 .bf16) (d5 d6 : FVec Ideal S4096x1024 .bf16)

/-- The seven cotangents side by side. -/
def cat : FVec Ideal S4096x4096 .f32 :=
  concatenate S4096x4096 1 [⟨S4096x512, d0⟩, ⟨S4096x256, extf .f32 d1 bitsLt_bf16_f32⟩, ⟨S4096x256, extf .f32 d2 bitsLt_bf16_f32⟩,
    ⟨S4096x512, extf .f32 d3 bitsLt_bf16_f32⟩, ⟨S4096x512, extf .f32 d4 bitsLt_bf16_f32⟩, ⟨S4096x1024, extf .f32 d5 bitsLt_bf16_f32⟩,
    ⟨S4096x1024, extf .f32 d6 bitsLt_bf16_f32⟩] concatenates_S4096x512_S4096x256_S4096x256_S4096x512_S4096x512_S4096x1024_S4096x1024_S4096x4096_d1

/-- A column of them, read. -/
theorem cat0 (r : Fin 4096) (i : Fin 512) (q : Fin 4096) (h : q.val = 0 + i.val) : cat d0 d1 d2 d3 d4 d5 d6 (ix2 r q) = d0 (ix2 r i) := by
  unfold cat; pointwise; try (simp (disch := omega) only [dif_neg, dif_pos]; exact congrArg (fun i => d0 (ix2 r i)) (Fin.ext (by dsimp only; omega)))
theorem cat1 (r : Fin 4096) (i : Fin 256) (q : Fin 4096) (h : q.val = 512 + i.val) : cat d0 d1 d2 d3 d4 d5 d6 (ix2 r q) = d1 (ix2 r i) := by
  unfold cat; pointwise; try (simp (disch := omega) only [dif_neg, dif_pos]; exact congrArg (fun i => d1 (ix2 r i)) (Fin.ext (by dsimp only; omega)))
theorem cat2 (r : Fin 4096) (i : Fin 256) (q : Fin 4096) (h : q.val = 768 + i.val) : cat d0 d1 d2 d3 d4 d5 d6 (ix2 r q) = d2 (ix2 r i) := by
  unfold cat; pointwise; try (simp (disch := omega) only [dif_neg, dif_pos]; exact congrArg (fun i => d2 (ix2 r i)) (Fin.ext (by dsimp only; omega)))
theorem cat3 (r : Fin 4096) (i : Fin 512) (q : Fin 4096) (h : q.val = 1024 + i.val) : cat d0 d1 d2 d3 d4 d5 d6 (ix2 r q) = d3 (ix2 r i) := by
  unfold cat; pointwise; try (simp (disch := omega) only [dif_neg, dif_pos]; exact congrArg (fun i => d3 (ix2 r i)) (Fin.ext (by dsimp only; omega)))
theorem cat4 (r : Fin 4096) (i : Fin 512) (q : Fin 4096) (h : q.val = 1536 + i.val) : cat d0 d1 d2 d3 d4 d5 d6 (ix2 r q) = d4 (ix2 r i) := by
  unfold cat; pointwise; try (simp (disch := omega) only [dif_neg, dif_pos]; exact congrArg (fun i => d4 (ix2 r i)) (Fin.ext (by dsimp only; omega)))
theorem cat5 (r : Fin 4096) (i : Fin 1024) (q : Fin 4096) (h : q.val = 2048 + i.val) : cat d0 d1 d2 d3 d4 d5 d6 (ix2 r q) = d5 (ix2 r i) := by
  unfold cat; pointwise; try (simp (disch := omega) only [dif_neg, dif_pos]; exact congrArg (fun i => d5 (ix2 r i)) (Fin.ext (by dsimp only; omega)))
theorem cat6 (r : Fin 4096) (i : Fin 1024) (q : Fin 4096) (h : q.val = 3072 + i.val) : cat d0 d1 d2 d3 d4 d5 d6 (ix2 r q) = d6 (ix2 r i) := by
  unfold cat; pointwise; try (simp (disch := omega) only [dif_neg, dif_pos]; exact congrArg (fun i => d6 (ix2 r i)) (Fin.ext (by dsimp only; omega)))

/-- The gradient: the sum over the rows. -/
def grad (x : FVec Ideal S4096x1024 .f32) : FVec Ideal S4096x1024 .bf16 :=
  fun y => ∑ r : Fin 4096, cat d0 d1 d2 d3 d4 d5 d6 (ix2 r (y 0)) * x (ix2 r (y 1))

/-- The reference computes it. -/
theorem ref_grad (x : FVec Ideal S4096x1024 .f32) :
    (truncf .bf16 (transpose S4096x1024 [1, 0] (transpose S1024x4096 [1, 0] (Host.dotGeneral dot_S4096x4096_S4096x1024_S4096x1024_0_0_1_1_n_n none
      (cat d0 d1 d2 d3 d4 d5 d6) x : FVec Ideal S4096x1024 .f32) transposes_S4096x1024_S1024x4096_1_0) transposes_S1024x4096_S4096x1024_1_0)
      bitsLt_bf16_f32 : FVec Ideal S4096x1024 .bf16) = grad d0 d1 d2 d3 d4 d5 d6 x := by
  funext y
  idx_vars y
  unfold grad
  pointwise

end Cert.Dwin

end
-- ==== Proof.Dwin.Value.lean ====
module

public import proofs.«01_k».proof.Proof.Gen.DwinIdeal.Frame
public import proofs.«01_k».proof.Proof.Dwin.Ref
public import proofs.«01_k».proof.Proof.Dw.Sum

@[expose] public section

set_option maxRecDepth 16384

noncomputable section

open Idealize.ShloMosaic Idealize.ShloMosaic.TcCoe Idealize.SL.Sem Idealize.ShloMosaic.StableHlo
open Idealize.ShloMosaic.Pipeline (Dat)

/-! What the product of the input projection's gradient leaves in its array: block by block, then whole. -/

namespace Cert.Dwin

open Cert.DwinIdeal Cert.DwinIdeal.Gen
open Cert.Dw (foldl_add)

/-- Rows `s * 512 … s * 512 + 511` of 256 columns of the cotangents, and of the layer's rows. -/
abbrev ct (a : Vec Ideal S4096x256 .bf16) (s : Fin 8) : Vec Ideal S512x256 .bf16 :=
  View.ld a (Rect.unit ![s.val * 512, 0] ![512, 256] (by revert s; decide))
abbrev rows (b : Vec Ideal S4096x1024 .bf16) (s : Fin 8) : Vec Ideal S512x1024 .bf16 :=
  View.ld b (Rect.unit ![s.val * 512, 0] ![512, 1024] (by revert s; decide))

/-- The kernel's step `s`. -/
def step (a : Vec Ideal S4096x256 .bf16) (b : Vec Ideal S4096x1024 .bf16) (e : FVec Ideal S256x1024 .f32) (s : Fin 8) : FVec Ideal S256x1024 .f32 :=
  k0_pay14 e (ct a s) (rows b s)

/-- All eight steps, from zero. -/
def acc (a : Vec Ideal S4096x256 .bf16) (b : Vec Ideal S4096x1024 .bf16) : FVec Ideal S256x1024 .f32 :=
  [0, 1, 2, 3, 4, 5, 6, 7].foldl (step a b) (k0_pay3 (F := Ideal))

theorem step_at (a : Vec Ideal S4096x256 .bf16) (b : Vec Ideal S4096x1024 .bf16) (e : FVec Ideal S256x1024 .f32) (s : Fin 8) (i : Fin 256) (j : Fin 1024) :
    step a b e s (ix2 i j) = e (ix2 i j) + ∑ k : Fin 512, a (ix2 ⟨s.val * 512 + k.val, by omega⟩ i) * b (ix2 ⟨s.val * 512 + k.val, by omega⟩ j) := by
  unfold step ct rows
  pointwise [k0_pay14]

/-- The eight steps sum over all rows. -/
theorem acc_at (a : Vec Ideal S4096x256 .bf16) (b : Vec Ideal S4096x1024 .bf16) (i : Fin 256) (j : Fin 1024) :
    acc a b (ix2 i j) = ∑ r : Fin 4096, a (ix2 r i) * b (ix2 r j) := by
  have z : k0_pay3 (F := Ideal) (ix2 i j) = 0 := by pointwise [k0_pay3]
  unfold acc
  rw [foldl_add _ (· (ix2 i j)) _ fun e s => step_at a b e s i j, z, zero_add, show [(0 : Fin 8), 1, 2, 3, 4, 5, 6, 7] = List.finRange 8 from rfl, ← Fin.sum_univ_def]
  exact Fin.sum_mul_add_congr fun s k hl => rfl

section
variable (m : (ℓ : Loc nD τ sig) → Buf (Elt Ideal) ℓ) (c : Dev nD)

/-- The 256 columns of the cotangents that grid point `t` takes. -/
def blk (t : Fin cfg0.N) : FVec Ideal S4096x256 .bf16 :=
  if t.val < 2 then (truncf .bf16 (iblk m c 0 t : FVec Ideal S4096x256 .f32) bitsLt_bf16_f32 : FVec Ideal S4096x256 .bf16) else if t.val < 3 then iblk m c 1 t else if t.val < 4 then iblk m c 2 t else if t.val < 6 then iblk m c 3 t else if t.val < 8 then iblk m c 4 t else if t.val < 12 then iblk m c 5 t else iblk m c 6 t

set_option maxHeartbeats 3200000 in
/-- What a grid point leaves in the result's block. -/
theorem out8 (t : Fin cfg0.N) : outsAt0 m c t.val t.isLt = acc (blk m c t) (iblk m c 7 t) := by
  have ht : t.val < 16 := t.isLt
  unfold blk
  split_ifs
  · rw [outsAt0_A m c t (by omega) (by omega) (by omega) (by omega) (by omega) (by omega) (by omega)]; unfold out0_A_8; frame_out; rfl
  · rw [outsAt0_B m c t (by omega) (by omega) (by omega) (by omega) (by omega) (by omega) (by omega)]; unfold out0_B_8; frame_out; rfl
  · rw [outsAt0_C m c t (by omega) (by omega) (by omega) (by omega) (by omega) (by omega) (by omega)]; unfold out0_C_8; frame_out; rfl
  · rw [outsAt0_D m c t (by omega) (by omega) (by omega) (by omega) (by omega) (by omega) (by omega)]; unfold out0_D_8; frame_out; rfl
  · rw [outsAt0_E m c t (by omega) (by omega) (by omega) (by omega) (by omega) (by omega) (by omega)]; unfold out0_E_8; frame_out; rfl
  · rw [outsAt0_F m c t (by omega) (by omega) (by omega) (by omega) (by omega) (by omega) (by omega)]; unfold out0_F_8; frame_out; rfl
  · rw [outsAt0_G m c t (by omega) (by omega) (by omega) (by omega) (by omega) (by omega) (by omega)]; unfold out0_G_8; frame_out; rfl

/-- The kernel's arguments on device `c`: the normalised rows, then the seven cotangents. -/
abbrev X : FVec Ideal S4096x1024 .f32 := m (c.tc.loc main_arg0)
abbrev C := cat (m (c.tc.loc main_arg1)) (m (c.tc.loc main_arg2)) (m (c.tc.loc main_arg3)) (m (c.tc.loc main_arg4))
  (m (c.tc.loc main_arg5)) (m (c.tc.loc main_arg6)) (m (c.tc.loc main_arg7))
end

/-- The place of column `i` of block `t` in the whole array. -/
def col (t : Fin cfg0.N) (i : Fin 256) : Fin 4096 := ⟨t.val * 256 + i.val, by have := t.isLt; have h : cfg0.N = 16 := rfl; have := i.isLt; omega⟩

theorem idx : ∀ t : Fin cfg0.N, win0_0.index t = ![0, min (t.val - 0) 1] ∧ win0_1.index t = ![0, min (t.val - 2) 0] ∧ win0_2.index t = ![0, min (t.val - 3) 0] ∧ win0_3.index t = ![0, min (t.val - 4) 1] ∧ win0_4.index t = ![0, min (t.val - 6) 1] ∧ win0_5.index t = ![0, min (t.val - 8) 3] ∧ win0_6.index t = ![0, min (t.val - 12) 3] ∧ win0_7.index t = ![0, 0] ∧ win0_8.index t = ![t.val, 0] :=
  (by decide +kernel : ∀ t : Fin grid0.N, _)

variable {m : (ℓ : Loc nD τ sig) → Buf (Elt Ideal) ℓ} {c : Dev nD}

/-- They are the columns from `t * 256` on. -/
theorem blk_at (t : Fin cfg0.N) (r : Fin 4096) (i : Fin 256) : blk m c t (ix2 r i) = C m c (ix2 r (col t i)) := by
  have ht : t.val < 16 := t.isLt
  unfold blk
  split_ifs
  · refine Eq.trans ?_ (cat0 _ _ _ _ _ _ _ r ⟨min (t.val - 0) 1 * 256 + i.val, by omega⟩ (col t i) (by dsimp only [col]; omega)).symm
    show iblk m c 0 t (ix2 r i) = _; blk_point [iblk, V, idx t]
  · refine Eq.trans ?_ (cat1 _ _ _ _ _ _ _ r ⟨min (t.val - 2) 0 * 256 + i.val, by omega⟩ (col t i) (by dsimp only [col]; omega)).symm
    blk_point [iblk, V, idx t]
  · refine Eq.trans ?_ (cat2 _ _ _ _ _ _ _ r ⟨min (t.val - 3) 0 * 256 + i.val, by omega⟩ (col t i) (by dsimp only [col]; omega)).symm
    blk_point [iblk, V, idx t]
  · refine Eq.trans ?_ (cat3 _ _ _ _ _ _ _ r ⟨min (t.val - 4) 1 * 256 + i.val, by omega⟩ (col t i) (by dsimp only [col]; omega)).symm
    blk_point [iblk, V, idx t]
  · refine Eq.trans ?_ (cat4 _ _ _ _ _ _ _ r ⟨min (t.val - 6) 1 * 256 + i.val, by omega⟩ (col t i) (by dsimp only [col]; omega)).symm
    blk_point [iblk, V, idx t]
  · refine Eq.trans ?_ (cat5 _ _ _ _ _ _ _ r ⟨min (t.val - 8) 3 * 256 + i.val, by omega⟩ (col t i) (by dsimp only [col]; omega)).symm
    blk_point [iblk, V, idx t]
  · refine Eq.trans ?_ (cat6 _ _ _ _ _ _ _ r ⟨min (t.val - 12) 3 * 256 + i.val, by omega⟩ (col t i) (by dsimp only [col]; omega)).symm
    blk_point [iblk, V, idx t]

theorem b7 (t : Fin cfg0.N) (r : Fin 4096) (j : Fin 1024) : iblk m c 7 t (ix2 r j) = X m c (ix2 r j) := by
  have e : iblk m c 7 t = V m c main_v0 := by blk_ext! [iblk, idx t]
  rw [e]; entry_read; pointwise

/-- The kernel's array is the gradient. -/
theorem final8 : (dats m 0 c).arrAt 8 (cfgs 0).N = grad (m (c.tc.loc main_arg1)) (m (c.tc.loc main_arg2)) (m (c.tc.loc main_arg3)) (m (c.tc.loc main_arg4))
    (m (c.tc.loc main_arg5)) (m (c.tc.loc main_arg6)) (m (c.tc.loc main_arg7)) (X m c) := by
  refine (dats m 0 c).arrAt_eq_of_covers 8 _ (by decide +kernel) fun t _ y => ?_
  blk_simp
  rw [after0_8, out8]
  idx_vars y
  rw [acc_at]
  simp only [blk_at, b7]
  refine congrArg (grad _ _ _ _ _ _ _ (X m c)) (a₁ := ix2 (col t y0) y1) ?_
  blk_ext! [col, idx t]

end Cert.Dwin

end
-- ==== Proof.Dwin.Claims.lean ====
module

public import proofs.«01_k».proof.Defs
public import proofs.«01_k».proof.Proof.Dwin.Value

@[expose] public section

set_option maxRecDepth 16384

noncomputable section

open Idealize.ShloMosaic Idealize.ShloMosaic.TcCoe Idealize.SL.Sem Idealize.ShloMosaic.StableHlo

/-! The gradient of the input projection: its claims. -/

namespace Cert.Dwin

/-- The reference runs through, leaves its arguments, and declares no semaphore. -/
theorem ref_frame : Cert.quiescent_DwinRefIdeal (hDwinRefIdeal := Cert.DwinRefIdeal.Gen.facts) := by
  intro m ρ _
  refine (θ_run Cert.DwinRefIdeal.defs _ _).mono ?_ (Cert.DwinRefIdeal.Value.run (F := Ideal) m ρ)
  intro r h
  exact ⟨fun c => (h c).2, Idealize.ShloMosaic.sem_eq_zero_of_no_sems (by decide) r.2⟩

/-- At any arguments the kernel computes the gradient of the input projection. -/
theorem value : Cert.algebraic_DwinIdeal_DwinRefIdeal (hDwinIdeal := Cert.DwinIdeal.Gen.facts) (hDwinRefIdeal := Cert.DwinRefIdeal.Gen.facts) := by
  pair_intro
  · run_from Cert.DwinIdeal.Gen.run_main m g
  · refine (θ_run Cert.DwinRefIdeal.defs _ _).mono ?_ (Cert.DwinRefIdeal.Value.run (F := Ideal) m' g')
    intro r h c
    obtain ⟨r0, ra⟩ := h c
    obtain ⟨a0, a1, a2, a3, a4, a5, a6, a7⟩ := hagree c
    refine ⟨?_, ra⟩
    refine r0.trans ((ref_grad _ _ _ _ _ _ _ _).trans ?_)
    rw [a0, a1, a2, a3, a4, a5, a6, a7]; exact final8.symm

end Cert.Dwin

end
-- ==== Proof.Adam.Ref.lean ====
module

public import proofs.«01_k».proof.Proof.Gen.AdamRefIdeal.Run
public import Idealize.ShloMosaic.Lib.Pipeline.ValueKit

@[expose] public section

set_option maxRecDepth 16384

noncomputable section

open Idealize.ShloMosaic Idealize.ShloMosaic.TcCoe Idealize.SL.Sem Idealize.ShloMosaic.StableHlo

/-! The optimiser of the reference: the summed gradient, the two moments and the step. -/

namespace Cert.Adam

open Cert.AdamRefIdeal Cert.AdamRefIdeal.Gen

variable (l : FVec Ideal S4x352x1024 .bf16) (w m v : FVec Ideal S352x1024 .f32)

/-- The sum of the four parts of the gradient. -/
def sm : FVec Ideal S352x1024 .f32 :=
  Host.reduceAdd (extf .f32 l bitsLt_bf16_f32) (constant S_ .f32 0x00000000#32) reducesTo_S4x352x1024_S352x1024_d0 h_S_

/-- The new moments. -/
def nm : FVec Ideal S352x1024 .f32 :=
  addf (mulf (broadcastInDim S352x1024 ![] bcast_S_S352x1024 (constant S_ .f32 0x3F666666#32)) m) (mulf (broadcastInDim S352x1024 ![] bcast_S_S352x1024 (constant S_ .f32 0x3DCCCCCD#32)) (sm l))
def nv : FVec Ideal S352x1024 .f32 :=
  addf (mulf (broadcastInDim S352x1024 ![] bcast_S_S352x1024 (constant S_ .f32 0x3F7FBE77#32)) v) (mulf (broadcastInDim S352x1024 ![] bcast_S_S352x1024 (constant S_ .f32 0x3A83126F#32)) (mulf (sm l) (sm l)))

/-- The step. -/
def dl : FVec Ideal S352x1024 .f32 :=
  mulf (broadcastInDim S352x1024 ![] bcast_S_S352x1024 (constant S_ .f32 0xBA83126F#32)) (addf (Host.divf (Host.divf (nm l m) (broadcastInDim S352x1024 ![] bcast_S_S352x1024 (constant S_ .f32 0x3F26BD02#32))) (addf (Host.sqrt (Host.divf (nv l v) (broadcastInDim S352x1024 ![] bcast_S_S352x1024 (constant S_ .f32 0x3C231ACC#32)))) (broadcastInDim S352x1024 ![] bcast_S_S352x1024 (constant S_ .f32 0x322BCC77#32)))) (mulf (broadcastInDim S352x1024 ![] bcast_S_S352x1024 (constant S_ .f32 0x3C23D70A#32)) w))

theorem sm_at (r : Fin 352) (j : Fin 1024) : sm l (ix2 r j) = l (ix3 0 r j) + l (ix3 1 r j) + l (ix3 2 r j) + l (ix3 3 r j) := by
  unfold sm; pointwise; rw [Fin.sum_univ_four]

end Cert.Adam

end
-- ==== Proof.Adam.Value.lean ====
module

public import proofs.«01_k».proof.Proof.Gen.AdamIdeal.Frame
public import proofs.«01_k».proof.Proof.Adam.Ref

@[expose] public section

set_option maxRecDepth 16384

noncomputable section

open Idealize.ShloMosaic Idealize.ShloMosaic.TcCoe Idealize.SL.Sem Idealize.ShloMosaic.StableHlo
open Idealize.ShloMosaic.Pipeline (Dat)

/-! The optimiser's kernel: block by block, then whole. -/

namespace Cert.Adam

open Cert.AdamIdeal Cert.AdamIdeal.Gen

/-- The place of row `r` of block `t` in the whole array. -/
def row (t : Fin cfg0.N) (r : Fin 32) : Fin 352 := ⟨t.val * 32 + r.val, by have := t.isLt; have h : cfg0.N = 11 := rfl; have := r.isLt; omega⟩

theorem idx : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

section
variable (m : (ℓ : Loc nD τ sig) → Buf (Elt Ideal) ℓ) (c : Dev nD)

/-- The kernel's arguments on device `c`: the four parts of the gradient, the matrix and the two moments. -/
abbrev L : FVec Ideal S4x352x1024 .bf16 := m (c.tc.loc main_arg0)
abbrev W : FVec Ideal S352x1024 .f32 := m (c.tc.loc main_arg1)
abbrev M : FVec Ideal S352x1024 .f32 := m (c.tc.loc main_arg2)
abbrev U : FVec Ideal S352x1024 .f32 := m (c.tc.loc main_arg3)
end

variable {m : (ℓ : Loc nD τ sig) → Buf (Elt Ideal) ℓ} {c : Dev nD}

theorem b0 (t : Fin cfg0.N) (s : Fin 4) (r : Fin 32) (j : Fin 1024) : iblk m c 0 t (ix3 s r j) = L m c (ix3 s (row t r) j) := by
  blk_point [iblk, V, row, idx t]
theorem b1 (t : Fin cfg0.N) (r : Fin 32) (j : Fin 1024) : iblk m c 1 t (ix2 r j) = W m c (ix2 (row t r) j) := by
  blk_point [iblk, V, row, idx t]
theorem b2 (t : Fin cfg0.N) (r : Fin 32) (j : Fin 1024) : iblk m c 2 t (ix2 r j) = M m c (ix2 (row t r) j) := by
  blk_point [iblk, V, row, idx t]
theorem b3 (t : Fin cfg0.N) (r : Fin 32) (j : Fin 1024) : iblk m c 3 t (ix2 r j) = U m c (ix2 (row t r) j) := by
  blk_point [iblk, V, row, idx t]

/-- What a grid point leaves in the four results' blocks. -/
theorem out4 (t : Fin cfg0.N) (r : Fin 32) (j : Fin 1024) :
    out0_4 (iblk m c 0 t) (iblk m c 1 t) (iblk m c 2 t) (iblk m c 3 t) (ix2 r j) = sm (L m c) (ix2 (row t r) j) := by
  unfold_out out0_4; frame_out
  rw [sm_at]
  pointwise [k0_pay2]
  simp only [b0]

theorem out6 (t : Fin cfg0.N) (r : Fin 32) (j : Fin 1024) :
    out0_6 (iblk m c 0 t) (iblk m c 1 t) (iblk m c 2 t) (iblk m c 3 t) (ix2 r j) = nm (L m c) (M m c) (ix2 (row t r) j) := by
  unfold_out out0_6; frame_out
  unfold nm
  pointwise [k0_pay3, k0_pay2]
  simp only [b0, b2, sm_at]

theorem out7 (t : Fin cfg0.N) (r : Fin 32) (j : Fin 1024) :
    out0_7 (iblk m c 0 t) (iblk m c 1 t) (iblk m c 2 t) (iblk m c 3 t) (ix2 r j) = nv (L m c) (U m c) (ix2 (row t r) j) := by
  unfold_out out0_7; frame_out
  unfold nv
  pointwise [k0_pay4, k0_pay2]
  simp only [b0, b3, sm_at]

theorem out5 (t : Fin cfg0.N) (r : Fin 32) (j : Fin 1024) :
    out0_5 (iblk m c 0 t) (iblk m c 1 t) (iblk m c 2 t) (iblk m c 3 t) (ix2 r j) = dl (L m c) (W m c) (M m c) (U m c) (ix2 (row t r) j) := by
  unfold_out out0_5; frame_out
  unfold dl nm nv
  pointwise [k0_pay1, k0_pay5, k0_pay3, k0_pay4, k0_pay2]
  simp only [b0, b1, b2, b3, sm_at]

/-- The kernel's arrays are the reference's. -/
theorem final4 : (dats m 0 c).arrAt 4 (cfgs 0).N = sm (L m c) := by
  refine (dats m 0 c).arrAt_eq_of_covers 4 _ (by decide +kernel) fun t _ y => ?_
  blk_simp; rw [after0_4]; idx_vars y; rw [out4]
  refine congrArg (sm (L m c)) (a₁ := ix2 (row t y0) y1) ?_
  blk_ext! [row, idx t]
theorem final5 : (dats m 0 c).arrAt 5 (cfgs 0).N = dl (L m c) (W m c) (M m c) (U m c) := by
  refine (dats m 0 c).arrAt_eq_of_covers 5 _ (by decide +kernel) fun t _ y => ?_
  blk_simp; rw [after0_5]; idx_vars y; rw [out5]
  refine congrArg (dl (L m c) (W m c) (M m c) (U m c)) (a₁ := ix2 (row t y0) y1) ?_
  blk_ext! [row, idx t]
theorem final6 : (dats m 0 c).arrAt 6 (cfgs 0).N = nm (L m c) (M m c) := by
  refine (dats m 0 c).arrAt_eq_of_covers 6 _ (by decide +kernel) fun t _ y => ?_
  blk_simp; rw [after0_6]; idx_vars y; rw [out6]
  refine congrArg (nm (L m c) (M m c)) (a₁ := ix2 (row t y0) y1) ?_
  blk_ext! [row, idx t]
theorem final7 : (dats m 0 c).arrAt 7 (cfgs 0).N = nv (L m c) (U m c) := by
  refine (dats m 0 c).arrAt_eq_of_covers 7 _ (by decide +kernel) fun t _ y => ?_
  blk_simp; rw [after0_7]; idx_vars y; rw [out7]
  refine congrArg (nv (L m c) (U m c)) (a₁ := ix2 (row t y0) y1) ?_
  blk_ext! [row, idx t]

end Cert.Adam

end
-- ==== Proof.Adam.Claims.lean ====
module

public import proofs.«01_k».proof.Defs
public import proofs.«01_k».proof.Proof.Adam.Value

@[expose] public section

set_option maxRecDepth 16384

noncomputable section

open Idealize.ShloMosaic Idealize.ShloMosaic.TcCoe Idealize.SL.Sem Idealize.ShloMosaic.StableHlo

/-! The optimiser: its claims. -/

namespace Cert.Adam

/-- The reference runs through, leaves its arguments, and declares no semaphore. -/
theorem ref_frame : Cert.quiescent_AdamRefIdeal (hAdamRefIdeal := Cert.AdamRefIdeal.Gen.facts) := by
  intro m ρ _
  refine (θ_run Cert.AdamRefIdeal.defs _ _).mono ?_ (Cert.AdamRefIdeal.Value.run (F := Ideal) m ρ)
  intro r h
  refine ⟨fun c => ?_, Idealize.ShloMosaic.sem_eq_zero_of_no_sems (by decide) r.2⟩
  obtain ⟨-, -, -, -, ra⟩ := h c
  exact ra

/-- At any arguments the kernel computes the summed gradient, the step and the new moments. -/
theorem value : Cert.algebraic_AdamIdeal_AdamRefIdeal (hAdamIdeal := Cert.AdamIdeal.Gen.facts) (hAdamRefIdeal := Cert.AdamRefIdeal.Gen.facts) := by
  pair_intro
  · run_from Cert.AdamIdeal.Gen.run_main m g
  · refine (θ_run Cert.AdamRefIdeal.defs _ _).mono ?_ (Cert.AdamRefIdeal.Value.run (F := Ideal) m' g')
    intro r h c
    obtain ⟨r0, r1, r2, r3, ra⟩ := h c
    obtain ⟨a0, a1, a2, a3⟩ := hagree c
    refine ⟨?_, ?_, ?_, ?_, ra⟩
    · refine (r0.trans (rfl : _ = sm (m' (c.tc.loc Cert.AdamRefIdeal.main_arg0)))).trans ?_
      rw [a0]; exact final4.symm
    · refine (r1.trans (rfl : _ = dl (m' (c.tc.loc Cert.AdamRefIdeal.main_arg0)) (m' (c.tc.loc Cert.AdamRefIdeal.main_arg1))
        (m' (c.tc.loc Cert.AdamRefIdeal.main_arg2)) (m' (c.tc.loc Cert.AdamRefIdeal.main_arg3)))).trans ?_
      rw [a0, a1, a2, a3]; exact final5.symm
    · refine (r2.trans (rfl : _ = nm (m' (c.tc.loc Cert.AdamRefIdeal.main_arg0)) (m' (c.tc.loc Cert.AdamRefIdeal.main_arg2)))).trans ?_
      rw [a0, a2]; exact final6.symm
    · refine (r3.trans (rfl : _ = nv (m' (c.tc.loc Cert.AdamRefIdeal.main_arg0)) (m' (c.tc.loc Cert.AdamRefIdeal.main_arg3)))).trans ?_
      rw [a0, a3]; exact final7.symm

end Cert.Adam

end
-- ==== Proof.Slabs.Value.lean ====
module

public import proofs.«01_k».proof.Proof.Gen.SlabsIdeal.Frame
public import proofs.«01_k».proof.Proof.Gen.SlabsRefIdeal.Run
public import Idealize.ShloMosaic.Lib.Pipeline.ValueKit

@[expose] public section

set_option maxRecDepth 16384

noncomputable section

open Idealize.ShloMosaic Idealize.ShloMosaic.TcCoe Idealize.SL.Sem Idealize.ShloMosaic.StableHlo
open Idealize.ShloMosaic.Pipeline (Dat)

/-! The sum of the eight devices' parts of a gradient: the reference's, and the kernel's. -/

namespace Cert.Slabs

section
open Cert.SlabsRefIdeal Cert.SlabsRefIdeal.Gen

/-- The sum over the parts. -/
def total (l : FVec Ideal S8x528x1024 .bf16) : FVec Ideal S528x1024 .f32 :=
  Host.reduceAdd (extf .f32 l bitsLt_bf16_f32) (constant S_ .f32 0x00000000#32) reducesTo_S8x528x1024_S528x1024_d0 h_S_

theorem total_at (l : FVec Ideal S8x528x1024 .bf16) (r : Fin 528) (j : Fin 1024) : total l (ix2 r j) = ∑ s : Fin 8, l (ix3 s r j) := by
  unfold total; pointwise
end

open Cert.SlabsIdeal Cert.SlabsIdeal.Gen

variable {m : (ℓ : Loc nD τ sig) → Buf (Elt Ideal) ℓ} {c : Dev nD}

theorem idx : ∀ t : Fin cfg0.N, win0_0.index t = ![0, 0, 0] ∧ win0_1.index t = ![0, 0] :=
  (by decide +kernel : ∀ t : Fin grid0.N, _)

theorem b0 (t : Fin cfg0.N) (s : Fin 8) (r : Fin 528) (j : Fin 1024) : iblk m c 0 t (ix3 s r j) = m (c.tc.loc main_arg0) (ix3 s r j) := by
  blk_point [iblk, V, idx t]

/-- What the kernel leaves in its block. -/
theorem out1 (t : Fin cfg0.N) (r : Fin 528) (j : Fin 1024) :
    out0_1 (iblk m c 0 t) (ix2 r j) = total (m (c.tc.loc main_arg0)) (ix2 r j) := by
  unfold out0_1; frame_out
  rw [total_at, Fin.sum_univ_eight]
  pointwise [k0_pay1]
  simp only [b0]

/-- The kernel's array is the sum. -/
theorem final1 : (dats m 0 c).arrAt 1 (cfgs 0).N = total (m (c.tc.loc main_arg0)) := by
  refine (dats m 0 c).arrAt_eq_of_covers 1 _ (by decide +kernel) fun t _ y => ?_
  blk_simp; rw [after0_1]; idx_vars y; rw [out1]
  refine congrArg (total (m (c.tc.loc main_arg0))) (a₁ := ix2 y0 y1) ?_
  blk_ext! [idx t]

end Cert.Slabs

end
-- ==== Proof.Slabs.Claims.lean ====
module

public import proofs.«01_k».proof.Defs
public import proofs.«01_k».proof.Proof.Slabs.Value

@[expose] public section

set_option maxRecDepth 16384

noncomputable section

open Idealize.ShloMosaic Idealize.ShloMosaic.TcCoe Idealize.SL.Sem Idealize.ShloMosaic.StableHlo

/-! The sum of the parts: its claims. -/

namespace Cert.Slabs

/-- The reference runs through, leaves its arguments, and declares no semaphore. -/
theorem ref_frame : Cert.quiescent_SlabsRefIdeal (hSlabsRefIdeal := Cert.SlabsRefIdeal.Gen.facts) := by
  intro m ρ _
  refine (θ_run Cert.SlabsRefIdeal.defs _ _).mono ?_ (Cert.SlabsRefIdeal.Value.run (F := Ideal) m ρ)
  intro r h
  refine ⟨fun c => ?_, Idealize.ShloMosaic.sem_eq_zero_of_no_sems (by decide) r.2⟩
  obtain ⟨-, ra⟩ := h c
  exact ra

/-- At any arguments the kernel computes the sum. -/
theorem value : Cert.algebraic_SlabsIdeal_SlabsRefIdeal (hSlabsIdeal := Cert.SlabsIdeal.Gen.facts) (hSlabsRefIdeal := Cert.SlabsRefIdeal.Gen.facts) := by
  pair_intro
  · run_from Cert.SlabsIdeal.Gen.run_main m g
  · refine (θ_run Cert.SlabsRefIdeal.defs _ _).mono ?_ (Cert.SlabsRefIdeal.Value.run (F := Ideal) m' g')
    intro r h c
    obtain ⟨r0, ra⟩ := h c
    have a0 := hagree c
    refine ⟨?_, ra⟩
    refine (r0.trans (rfl : _ = total (m' (c.tc.loc Cert.SlabsRefIdeal.main_arg0)))).trans ?_
    rw [a0]; exact final1.symm

end Cert.Slabs

end
-- ==== Proof.lean ====
module

public import proofs.«01_k».proof.Defs
public import proofs.«01_k».proof.Proof.Gen.DiscK
public import proofs.«01_k».proof.Proof.Gen.DiscK.Skeleton
public import proofs.«01_k».proof.Proof.Gen.DiscK.Launch
public import proofs.«01_k».proof.Proof.Gen.DiscK.Points
public import proofs.«01_k».proof.Proof.Gen.DiscK.Frame
public import proofs.«01_k».proof.Proof.Gen.DiscKIdeal
public import proofs.«01_k».proof.Proof.Gen.DiscKIdeal.Skeleton
public import proofs.«01_k».proof.Proof.Gen.DiscKIdeal.Launch
public import proofs.«01_k».proof.Proof.Gen.DiscKIdeal.Points
public import proofs.«01_k».proof.Proof.Gen.DiscKIdeal.Frame
public import proofs.«01_k».proof.Proof.Gen.DiscRIdeal.Run
public import proofs.«01_k».proof.Proof.Disc.Claims
public import proofs.«01_k».proof.Proof.Gen.DiscRIdeal
public import proofs.«01_k».proof.Proof.Gen.PreBwd
public import proofs.«01_k».proof.Proof.Gen.PreBwd.Skeleton
public import proofs.«01_k».proof.Proof.Gen.PreBwd.Launch
public import proofs.«01_k».proof.Proof.Gen.PreBwd.Points
public import proofs.«01_k».proof.Proof.Gen.PreBwd.Frame
public import proofs.«01_k».proof.Proof.Gen.PreBwdIdeal
public import proofs.«01_k».proof.Proof.Gen.PreBwdIdeal.Skeleton
public import proofs.«01_k».proof.Proof.Gen.PreBwdIdeal.Launch
public import proofs.«01_k».proof.Proof.Gen.PreBwdIdeal.Points
public import proofs.«01_k».proof.Proof.Gen.PreBwdIdeal.Frame
public import proofs.«01_k».proof.Proof.Gen.PreRefIdeal
public import proofs.«01_k».proof.Proof.Gen.Pre_pre_finite
public import proofs.«01_k».proof.Proof.Gen.PreRefIdeal.Run
public import proofs.«01_k».proof.Proof.Pre.Claims
public import Idealize.ShloMosaic.Lib.Claim
public import Idealize.ShloMosaic.Adequacy
public import Idealize.ShloMosaic.Init
public import proofs.«01_k».proof.Proof.Gen.Pre_head_finite
public import proofs.«01_k».proof.Proof.Gen.Head
public import proofs.«01_k».proof.Proof.Gen.Head.Skeleton
public import proofs.«01_k».proof.Proof.Gen.Head.Launch
public import proofs.«01_k».proof.Proof.Gen.Head.Points
public import proofs.«01_k».proof.Proof.Gen.Head.Frame
public import proofs.«01_k».proof.Proof.Gen.HeadIdeal
public import proofs.«01_k».proof.Proof.Gen.HeadIdeal.Skeleton
public import proofs.«01_k».proof.Proof.Gen.HeadIdeal.Launch
public import proofs.«01_k».proof.Proof.Gen.HeadIdeal.Points
public import proofs.«01_k».proof.Proof.Gen.HeadIdeal.Frame
public import proofs.«01_k».proof.Proof.Gen.HeadRefIdeal
public import proofs.«01_k».proof.Proof.Gen.HeadRefIdeal.Run
public import proofs.«01_k».proof.Proof.Head.Claims
public import proofs.«01_k».proof.Proof.Gen.FfnBwd
public import proofs.«01_k».proof.Proof.Gen.FfnBwd.Skeleton
public import proofs.«01_k».proof.Proof.Gen.FfnBwd.Launch
public import proofs.«01_k».proof.Proof.Gen.FfnBwd.Points
public import proofs.«01_k».proof.Proof.Gen.FfnBwd.Frame
public import proofs.«01_k».proof.Proof.Gen.FfnBwdIdeal
public import proofs.«01_k».proof.Proof.Gen.FfnBwdIdeal.Skeleton
public import proofs.«01_k».proof.Proof.Gen.FfnBwdIdeal.Launch
public import proofs.«01_k».proof.Proof.Gen.FfnBwdIdeal.Points
public import proofs.«01_k».proof.Proof.Gen.FfnBwdIdeal.Frame
public import proofs.«01_k».proof.Proof.Gen.FfnRefIdeal
public import proofs.«01_k».proof.Proof.Gen.Pre_ffn_finite
public import proofs.«01_k».proof.Proof.Gen.FfnRefIdeal.Run
public import proofs.«01_k».proof.Proof.Ffn.Claims
public import proofs.«01_k».proof.Proof.Gen.S5Disc
public import proofs.«01_k».proof.Proof.Gen.S5Disc.Skeleton
public import proofs.«01_k».proof.Proof.Gen.S5Disc.Launch
public import proofs.«01_k».proof.Proof.Gen.S5Disc.Points
public import proofs.«01_k».proof.Proof.Gen.S5Disc.Frame
public import proofs.«01_k».proof.Proof.Gen.S5DiscIdeal
public import proofs.«01_k».proof.Proof.Gen.S5DiscIdeal.Skeleton
public import proofs.«01_k».proof.Proof.Gen.S5DiscIdeal.Launch
public import proofs.«01_k».proof.Proof.Gen.S5DiscIdeal.Points
public import proofs.«01_k».proof.Proof.Gen.S5DiscIdeal.Frame
public import proofs.«01_k».proof.Proof.Gen.S5DiscRefIdeal.Run
public import proofs.«01_k».proof.Proof.S5Disc.Claims
public import proofs.«01_k».proof.Proof.Gen.S5DiscRefIdeal
public import proofs.«01_k».proof.Proof.S5Disc.Claims
public import proofs.«01_k».proof.Proof.Gen.PreFwd
public import proofs.«01_k».proof.Proof.Gen.PreFwd.Skeleton
public import proofs.«01_k».proof.Proof.Gen.PreFwd.Launch
public import proofs.«01_k».proof.Proof.Gen.PreFwd.Points
public import proofs.«01_k».proof.Proof.Gen.PreFwd.Frame
public import proofs.«01_k».proof.Proof.Gen.PreFwdIdeal
public import proofs.«01_k».proof.Proof.Gen.PreFwdIdeal.Skeleton
public import proofs.«01_k».proof.Proof.Gen.PreFwdIdeal.Launch
public import proofs.«01_k».proof.Proof.Gen.PreFwdIdeal.Points
public import proofs.«01_k».proof.Proof.Gen.PreFwdIdeal.Frame
public import proofs.«01_k».proof.Proof.Gen.PreFrefIdeal
public import proofs.«01_k».proof.Proof.Gen.PreFrefIdeal.Run
public import proofs.«01_k».proof.Proof.PreFwd.Claims
public import proofs.«01_k».proof.Proof.Gen.PostFwd
public import proofs.«01_k».proof.Proof.Gen.PostFwd.Skeleton
public import proofs.«01_k».proof.Proof.Gen.PostFwd.Launch
public import proofs.«01_k».proof.Proof.Gen.PostFwd.Points
public import proofs.«01_k».proof.Proof.Gen.PostFwd.Frame
public import proofs.«01_k».proof.Proof.Gen.PostFwdIdeal
public import proofs.«01_k».proof.Proof.Gen.PostFwdIdeal.Skeleton
public import proofs.«01_k».proof.Proof.Gen.PostFwdIdeal.Launch
public import proofs.«01_k».proof.Proof.Gen.PostFwdIdeal.Points
public import proofs.«01_k».proof.Proof.Gen.PostFwdIdeal.Frame
public import proofs.«01_k».proof.Proof.Gen.PostFrefIdeal
public import proofs.«01_k».proof.Proof.Gen.PostFrefIdeal.Run
public import proofs.«01_k».proof.Proof.PostFwd.Claims
public import proofs.«01_k».proof.Proof.Gen.GlaBwd
public import proofs.«01_k».proof.Proof.Gen.GlaBwd.Skeleton
public import proofs.«01_k».proof.Proof.Gen.GlaBwd.Launch
public import proofs.«01_k».proof.Proof.Gen.GlaBwd.Points
public import proofs.«01_k».proof.Proof.Gen.GlaBwd.Frame
public import proofs.«01_k».proof.Proof.Gen.GlaBwdIdeal
public import proofs.«01_k».proof.Proof.Gen.GlaBwdIdeal.Skeleton
public import proofs.«01_k».proof.Proof.Gen.GlaBwdIdeal.Launch
public import proofs.«01_k».proof.Proof.Gen.GlaBwdIdeal.Points
public import proofs.«01_k».proof.Proof.Gen.GlaBwdIdeal.Frame
public import proofs.«01_k».proof.Proof.Gen.GlaFwd
public import proofs.«01_k».proof.Proof.Gen.GlaFwd.Skeleton
public import proofs.«01_k».proof.Proof.Gen.GlaFwd.Launch
public import proofs.«01_k».proof.Proof.Gen.GlaFwd.Points
public import proofs.«01_k».proof.Proof.Gen.GlaFwd.Frame
public import proofs.«01_k».proof.Proof.Gen.GlaFwdIdeal
public import proofs.«01_k».proof.Proof.Gen.GlaFwdIdeal.Skeleton
public import proofs.«01_k».proof.Proof.Gen.GlaFwdIdeal.Launch
public import proofs.«01_k».proof.Proof.Gen.GlaFwdIdeal.Points
public import proofs.«01_k».proof.Proof.Gen.GlaFwdIdeal.Frame
public import proofs.«01_k».proof.Proof.Gen.GlaFrefIdeal
public import proofs.«01_k».proof.Proof.Gen.Pre_gla_finite
public import proofs.«01_k».proof.Proof.Gen.GlaFrefIdeal.Run
public import proofs.«01_k».proof.Proof.Gla.Claims
public import proofs.«01_k».proof.Proof.Gen.FfnFwd
public import proofs.«01_k».proof.Proof.Gen.FfnFwd.Skeleton
public import proofs.«01_k».proof.Proof.Gen.FfnFwd.Launch
public import proofs.«01_k».proof.Proof.Gen.FfnFwd.Points
public import proofs.«01_k».proof.Proof.Gen.FfnFwd.Frame
public import proofs.«01_k».proof.Proof.Gen.FfnFwdIdeal
public import proofs.«01_k».proof.Proof.Gen.FfnFwdIdeal.Skeleton
public import proofs.«01_k».proof.Proof.Gen.FfnFwdIdeal.Launch
public import proofs.«01_k».proof.Proof.Gen.FfnFwdIdeal.Points
public import proofs.«01_k».proof.Proof.Gen.FfnFwdIdeal.Frame
public import proofs.«01_k».proof.Proof.Gen.FfnFrefIdeal
public import proofs.«01_k».proof.Proof.Gen.FfnFrefIdeal.Run
public import proofs.«01_k».proof.Proof.FfnFwd.Claims
public import proofs.«01_k».proof.Proof.Gen.Dw
public import proofs.«01_k».proof.Proof.Gen.Dw.Skeleton
public import proofs.«01_k».proof.Proof.Gen.Dw.Launch
public import proofs.«01_k».proof.Proof.Gen.Dw.Points
public import proofs.«01_k».proof.Proof.Gen.Dw.Frame
public import proofs.«01_k».proof.Proof.Gen.DwIdeal
public import proofs.«01_k».proof.Proof.Gen.DwIdeal.Skeleton
public import proofs.«01_k».proof.Proof.Gen.DwIdeal.Launch
public import proofs.«01_k».proof.Proof.Gen.DwIdeal.Points
public import proofs.«01_k».proof.Proof.Gen.DwIdeal.Frame
public import proofs.«01_k».proof.Proof.Gen.DwRefIdeal
public import proofs.«01_k».proof.Proof.Gen.DwRefIdeal.Run
public import proofs.«01_k».proof.Proof.Dw.Claims
public import proofs.«01_k».proof.Proof.Gen.Dwin
public import proofs.«01_k».proof.Proof.Gen.Dwin.Skeleton
public import proofs.«01_k».proof.Proof.Gen.Dwin.Launch
public import proofs.«01_k».proof.Proof.Gen.Dwin.Points
public import proofs.«01_k».proof.Proof.Gen.Dwin.Frame
public import proofs.«01_k».proof.Proof.Gen.DwinIdeal
public import proofs.«01_k».proof.Proof.Gen.DwinIdeal.Skeleton
public import proofs.«01_k».proof.Proof.Gen.DwinIdeal.Launch
public import proofs.«01_k».proof.Proof.Gen.DwinIdeal.Points
public import proofs.«01_k».proof.Proof.Gen.DwinIdeal.Frame
public import proofs.«01_k».proof.Proof.Gen.DwinRefIdeal
public import proofs.«01_k».proof.Proof.Gen.DwinRefIdeal.Run
public import proofs.«01_k».proof.Proof.Dwin.Claims
public import proofs.«01_k».proof.Proof.Gen.Adam
public import proofs.«01_k».proof.Proof.Gen.Adam.Skeleton
public import proofs.«01_k».proof.Proof.Gen.Adam.Launch
public import proofs.«01_k».proof.Proof.Gen.Adam.Points
public import proofs.«01_k».proof.Proof.Gen.Adam.Frame
public import proofs.«01_k».proof.Proof.Gen.AdamIdeal
public import proofs.«01_k».proof.Proof.Gen.AdamIdeal.Skeleton
public import proofs.«01_k».proof.Proof.Gen.AdamIdeal.Launch
public import proofs.«01_k».proof.Proof.Gen.AdamIdeal.Points
public import proofs.«01_k».proof.Proof.Gen.AdamIdeal.Frame
public import proofs.«01_k».proof.Proof.Gen.AdamRefIdeal
public import proofs.«01_k».proof.Proof.Gen.AdamRefIdeal.Run
public import proofs.«01_k».proof.Proof.Adam.Claims
public import proofs.«01_k».proof.Proof.Gen.SlabsRefIdeal.Run
public import proofs.«01_k».proof.Proof.Slabs.Claims
public import proofs.«01_k».proof.Proof.Gen.Slabs
public import proofs.«01_k».proof.Proof.Gen.Slabs.Skeleton
public import proofs.«01_k».proof.Proof.Gen.Slabs.Launch
public import proofs.«01_k».proof.Proof.Gen.Slabs.Points
public import proofs.«01_k».proof.Proof.Gen.Slabs.Frame
public import proofs.«01_k».proof.Proof.Gen.SlabsIdeal
public import proofs.«01_k».proof.Proof.Gen.SlabsIdeal.Skeleton
public import proofs.«01_k».proof.Proof.Gen.SlabsIdeal.Launch
public import proofs.«01_k».proof.Proof.Gen.SlabsIdeal.Points
public import proofs.«01_k».proof.Proof.Gen.SlabsIdeal.Frame
public import proofs.«01_k».proof.Proof.Gen.SlabsRefIdeal

@[expose] public section

noncomputable section

namespace Cert.Proof

open Idealize.ShloMosaic Idealize.SL.Sem Cert.DiscK

theorem claim : Cert.Claim := ⟨Cert.DiscK.Gen.facts, Cert.DiscKIdeal.Gen.facts, Cert.DiscRIdeal.Gen.facts, Cert.PreBwd.Gen.facts, Cert.PreBwdIdeal.Gen.facts, Cert.PreRefIdeal.Gen.facts, Cert.Head.Gen.facts, Cert.HeadIdeal.Gen.facts, Cert.HeadRefIdeal.Gen.facts, Cert.FfnBwd.Gen.facts, Cert.FfnBwdIdeal.Gen.facts, Cert.FfnRefIdeal.Gen.facts, Cert.GlaBwd.Gen.facts, Cert.GlaBwdIdeal.Gen.facts, Cert.GlaFwd.Gen.facts, Cert.GlaFwdIdeal.Gen.facts, Cert.GlaFrefIdeal.Gen.facts, Cert.S5Disc.Gen.facts, Cert.S5DiscIdeal.Gen.facts, Cert.S5DiscRefIdeal.Gen.facts, Cert.PreFwd.Gen.facts, Cert.PreFwdIdeal.Gen.facts, Cert.PreFrefIdeal.Gen.facts, Cert.PostFwd.Gen.facts, Cert.PostFwdIdeal.Gen.facts, Cert.PostFrefIdeal.Gen.facts, Cert.FfnFwd.Gen.facts, Cert.FfnFwdIdeal.Gen.facts, Cert.FfnFrefIdeal.Gen.facts, Cert.Dwin.Gen.facts, Cert.DwinIdeal.Gen.facts, Cert.DwinRefIdeal.Gen.facts, Cert.Dw.Gen.facts, Cert.DwIdeal.Gen.facts, Cert.DwRefIdeal.Gen.facts, Cert.Adam.Gen.facts, Cert.AdamIdeal.Gen.facts, Cert.AdamRefIdeal.Gen.facts, Cert.Slabs.Gen.facts, Cert.SlabsIdeal.Gen.facts, Cert.SlabsRefIdeal.Gen.facts, Cert.Pre_pre_finite.Gen.facts, Cert.Pre_head_finite.Gen.facts, Cert.Pre_ffn_finite.Gen.facts, Cert.Pre_gla_finite.Gen.facts,
  fun m ρ _ => Cert.DiscK.Gen.frame m ρ,
  fun m ρ _ => Cert.DiscKIdeal.Gen.frame m ρ,
  disc_ref_frame,
  fun m ρ _ => Cert.PreBwd.Gen.frame m ρ,
  fun m ρ _ => Cert.PreBwdIdeal.Gen.frame m ρ,
  fun m ρ _ => Cert.PreBwdIdeal.Gen.frame m ρ,
  Cert.Pre.ref_frame,
  fun m ρ _ => Cert.Pre.ref_frame m ρ trivial,
  fun m ρ _ => Cert.Head.Gen.frame m ρ,
  fun m ρ _ => Cert.HeadIdeal.Gen.frame m ρ,
  fun m ρ _ => Cert.HeadIdeal.Gen.frame m ρ,
  Cert.Head.ref_frame,
  fun m ρ _ => Cert.Head.ref_frame m ρ trivial,
  fun m ρ _ => Cert.FfnBwd.Gen.frame m ρ,
  fun m ρ _ => Cert.FfnBwdIdeal.Gen.frame m ρ,
  fun m ρ _ => Cert.FfnBwdIdeal.Gen.frame m ρ,
  Cert.Ffn.ref_frame,
  fun m ρ _ => Cert.Ffn.ref_frame m ρ trivial,
  fun m ρ _ => Cert.GlaBwd.Gen.frame m ρ,
  fun m ρ _ => Cert.GlaBwdIdeal.Gen.frame m ρ,
  fun m ρ _ => Cert.GlaFwd.Gen.frame m ρ,
  fun m ρ _ => Cert.GlaFwdIdeal.Gen.frame m ρ,
  fun m ρ _ => Cert.GlaFwdIdeal.Gen.frame m ρ,
  Cert.Gla.ref_frame,
  fun m ρ _ => Cert.Gla.ref_frame m ρ trivial,
  fun m ρ _ => Cert.S5Disc.Gen.frame m ρ,
  fun m ρ _ => Cert.S5DiscIdeal.Gen.frame m ρ,
  s5_disc_ref_frame,
  fun m ρ _ => Cert.PreFwd.Gen.frame m ρ,
  fun m ρ _ => Cert.PreFwdIdeal.Gen.frame m ρ,
  Cert.PreFwd.ref_frame,
  fun m ρ _ => Cert.PostFwd.Gen.frame m ρ,
  fun m ρ _ => Cert.PostFwdIdeal.Gen.frame m ρ,
  Cert.PostFwd.ref_frame,
  fun m ρ _ => Cert.FfnFwd.Gen.frame m ρ,
  fun m ρ _ => Cert.FfnFwdIdeal.Gen.frame m ρ,
  Cert.FfnFwd.ref_frame,
  fun m ρ _ => Cert.Dwin.Gen.frame m ρ,
  fun m ρ _ => Cert.DwinIdeal.Gen.frame m ρ,
  Cert.Dwin.ref_frame,
  fun m ρ _ => Cert.Dw.Gen.frame m ρ,
  fun m ρ _ => Cert.DwIdeal.Gen.frame m ρ,
  Cert.Dw.ref_frame,
  fun m ρ _ => Cert.Adam.Gen.frame m ρ,
  fun m ρ _ => Cert.AdamIdeal.Gen.frame m ρ,
  Cert.Adam.ref_frame,
  fun m ρ _ => Cert.Slabs.Gen.frame m ρ,
  fun m ρ _ => Cert.SlabsIdeal.Gen.frame m ρ,
  Cert.Slabs.ref_frame,
  trivial,
  disc_value,
  trivial,
  Cert.Pre.value,
  trivial,
  Cert.Head.value,
  trivial,
  Cert.Ffn.value,
  trivial,
  trivial,
  Cert.Gla.value,
  trivial,
  s5_disc_value,
  trivial,
  Cert.PreFwd.value,
  trivial,
  Cert.PostFwd.value,
  trivial,
  Cert.FfnFwd.value,
  trivial,
  Cert.Dwin.value,
  trivial,
  Cert.Dw.value,
  trivial,
  Cert.Adam.value,
  trivial,
  Cert.Slabs.value⟩

end Cert.Proof

end
